-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite27 [hPre_finite27 : Cert.Pre_finite27.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite27 [hPre_finite27 : Cert.Pre_finite27.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Kernel27Ideal_pre_finite27 [hKernel27Ideal : Cert.Kernel27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite27 m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Reference27Ideal_pre_finite27 [hReference27Ideal : Cert.Reference27Ideal.Facts] [hPre_finite27 : Cert.Pre_finite27.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite27 m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)) (v2 : (c : Dev Cert.Kernel5Ideal.nD) → Buf (Elt Ideal) ((c.tc : Thread Cert.Kernel5Ideal.nD Cert.Kernel5Ideal.τ).loc Cert.Kernel5Ideal.main_v15_2)) (v3 : (c : Dev Cert.Kernel5Ideal.nD) → Buf (Elt Ideal) ((c.tc : Thread Cert.Kernel5Ideal.nD Cert.Kernel5Ideal.τ).loc Cert.Kernel5Ideal.main_v15_3)) (v4 : (c : Dev Cert.Kernel5Ideal.nD) → Buf (Elt Ideal) ((c.tc : Thread Cert.Kernel5Ideal.nD Cert.Kernel5Ideal.τ).loc Cert.Kernel5Ideal.main_v15_4)) (v5 : (c : Dev Cert.Kernel5Ideal.nD) → Buf (Elt Ideal) ((c.tc : Thread Cert.Kernel5Ideal.nD Cert.Kernel5Ideal.τ).loc Cert.Kernel5Ideal.main_v15_5)) (v6 : (c : Dev Cert.Kernel5Ideal.nD) → Buf (Elt Ideal) ((c.tc : Thread Cert.Kernel5Ideal.nD Cert.Kernel5Ideal.τ).loc Cert.Kernel5Ideal.main_v15_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_v15_2) = v2 c
          ∧ r.2.mem ((c.tc : Thread Cert.Kernel5Ideal.nD Cert.Kernel5Ideal.τ).loc Cert.Kernel5Ideal.main_v15_3) = v3 c
          ∧ r.2.mem ((c.tc : Thread Cert.Kernel5Ideal.nD Cert.Kernel5Ideal.τ).loc Cert.Kernel5Ideal.main_v15_4) = v4 c
          ∧ r.2.mem ((c.tc : Thread Cert.Kernel5Ideal.nD Cert.Kernel5Ideal.τ).loc Cert.Kernel5Ideal.main_v15_5) = v5 c
          ∧ r.2.mem ((c.tc : Thread Cert.Kernel5Ideal.nD Cert.Kernel5Ideal.τ).loc Cert.Kernel5Ideal.main_v15_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v96) = v1 c
          ∧ r.2.mem ((c.tc : Thread Cert.Reference5Ideal.nD Cert.Reference5Ideal.τ).loc Cert.Reference5Ideal.main_v45) = v2 c
          ∧ r.2.mem ((c.tc : Thread Cert.Reference5Ideal.nD Cert.Reference5Ideal.τ).loc Cert.Reference5Ideal.main_v48) = v3 c
          ∧ r.2.mem ((c.tc : Thread Cert.Reference5Ideal.nD Cert.Reference5Ideal.τ).loc Cert.Reference5Ideal.main_v53) = v4 c
          ∧ r.2.mem ((c.tc : Thread Cert.Reference5Ideal.nD Cert.Reference5Ideal.τ).loc Cert.Reference5Ideal.main_v76) = v5 c
          ∧ r.2.mem ((c.tc : Thread Cert.Reference5Ideal.nD Cert.Reference5Ideal.τ).loc Cert.Reference5Ideal.main_v79) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v33) = v2 c
          ∧ r.2.mem ((c.tc : Thread Cert.Reference10Ideal.nD Cert.Reference10Ideal.τ).loc Cert.Reference10Ideal.main_v38) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v35) = v0 c
          ∧ r.2.mem ((c.tc : Thread Cert.Reference13Ideal.nD Cert.Reference13Ideal.τ).loc Cert.Reference13Ideal.main_v79) = v1 c
          ∧ r.2.mem ((c.tc : Thread Cert.Reference13Ideal.nD Cert.Reference13Ideal.τ).loc Cert.Reference13Ideal.main_v78) = v2 c
          ∧ r.2.mem ((c.tc : Thread Cert.Reference13Ideal.nD Cert.Reference13Ideal.τ).loc Cert.Reference13Ideal.main_v40) = v3 c
          ∧ r.2.mem ((c.tc : Thread Cert.Reference13Ideal.nD Cert.Reference13Ideal.τ).loc Cert.Reference13Ideal.main_v43) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_v2) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v36) = v1 c
          ∧ r.2.mem ((c.tc : Thread Cert.Reference15Ideal.nD Cert.Reference15Ideal.τ).loc Cert.Reference15Ideal.main_v37) = v2 c
          ∧ r.2.mem ((c.tc : Thread Cert.Reference15Ideal.nD Cert.Reference15Ideal.τ).loc Cert.Reference15Ideal.main_v38) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v21) = v0 c
          ∧ r.2.mem ((c.tc : Thread Cert.Reference18Ideal.nD Cert.Reference18Ideal.τ).loc Cert.Reference18Ideal.main_v22) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v39) = v0 c
          ∧ r.2.mem ((c.tc : Thread Cert.Reference26Ideal.nD Cert.Reference26Ideal.τ).loc Cert.Reference26Ideal.main_v22) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal_pre_finite27 [hKernel27Ideal : Cert.Kernel27Ideal.Facts] [hReference27Ideal : Cert.Reference27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite27 m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v40) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_v27) = v1 c
          ∧ r.2.mem ((c.tc : Thread Cert.Reference28Ideal.nD Cert.Reference28Ideal.τ).loc Cert.Reference28Ideal.main_v8) = v2 c
          ∧ r.2.mem ((c.tc : Thread Cert.Reference28Ideal.nD Cert.Reference28Ideal.τ).loc Cert.Reference28Ideal.main_v14) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_v0) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite2 : Cert.Pre_finite2.Facts) (hPre_finite5 : Cert.Pre_finite5.Facts) (hPre_finite10 : Cert.Pre_finite10.Facts) (hPre_finite13 : Cert.Pre_finite13.Facts) (hPre_finite26 : Cert.Pre_finite26.Facts) (hPre_finite27 : Cert.Pre_finite27.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ quiescent_Kernel27 (hKernel27 := hKernel27)
    ∧ quiescent_Kernel27Ideal (hKernel27Ideal := hKernel27Ideal)
    ∧ quiescent_Kernel27Ideal_pre_finite27 (hKernel27Ideal := hKernel27Ideal) (hPre_finite27 := hPre_finite27)
    ∧ quiescent_Reference27Ideal (hReference27Ideal := hReference27Ideal)
    ∧ quiescent_Reference27Ideal_pre_finite27 (hReference27Ideal := hReference27Ideal) (hPre_finite27 := hPre_finite27)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite26 (hKernel26Ideal := hKernel26Ideal) (hReference26Ideal := hReference26Ideal) (hPre_finite26 := hPre_finite26)
    ∧ preserves_Kernel27_Kernel27Ideal
    ∧ algebraic_Kernel27Ideal_Reference27Ideal_pre_finite27 (hKernel27Ideal := hKernel27Ideal) (hReference27Ideal := hReference27Ideal) (hPre_finite27 := hPre_finite27)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite10.lean ====
abbrev S2048x512 : Shape := ⟨2, ![2048, 512]⟩
abbrev S1024x1536 : Shape := ⟨2, ![1024, 1536]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_v4 : IVec S_ 1) (main_v9 : IVec S_ 1) (main_v14 : IVec S_ 1) (main_v19 : IVec S_ 1) (main_v23 : IVec S_ 1) (main_v27 : IVec S_ 1) (main_v31 : IVec S_ 1) (main_v32 : FVec F S1x1024 .f32) (main_cst_12 : FVec F S_ .f32) : IVec S_ 1 :=
  let main_v33 : FVec F S1x1024 .f32 := broadcastInDim S1x1024 ![] bcast_S_S1x1024 main_cst_12
  let main_v34 : IVec S1x1024 1 := cmpf .olt main_v32 main_v33
  let main_c_13 : IVec S_ 1 := constantI S_ 1 1#1
  let main_v35 : IVec S_ 1 := (fun x v => Host.reduce IntOp.andi x v reducesTo_S1x1024_S_d0_1 h_S_) main_v34 main_c_13
  let main_v36 : FVec F S1x1024 .f32 := Host.absf main_arg8
  let main_cst_14 : FVec F S_ .f32 := constant S_ .f32 0x7F800000#32
  let main_v37 : FVec F S1x1024 .f32 := broadcastInDim S1x1024 ![] bcast_S_S1x1024 main_cst_14
  let main_v38 : IVec S1x1024 1 := cmpf .olt main_v36 main_v37
  let main_c_15 : IVec S_ 1 := constantI S_ 1 1#1
  let main_v39 : IVec S_ 1 := (fun x v => Host.reduce IntOp.andi x v reducesTo_S1x1024_S_d0_1 h_S_) main_v38 main_c_15
  let main_v40 : IVec S_ 1 := andi main_v4 main_v9
  let main_v41 : IVec S_ 1 := andi main_v40 main_v14
  let main_v42 : IVec S_ 1 := andi main_v41 main_v19
  let main_v43 : IVec S_ 1 := andi main_v42 main_v23
  let main_v44 : IVec S_ 1 := andi main_v43 main_v27
  let main_v45 : IVec S_ 1 := andi main_v44 main_v31
  let main_v46 : IVec S_ 1 := andi main_v45 main_v35
  let main_v47 : IVec S_ 1 := andi main_v46 main_v39
  main_v47

def fn_part1 {F : FTy → Type} [FloatOps F] (main_arg4 : FVec F S2048x1024 .f32) (main_arg5 : FVec F S2048x1024 .f32) (main_arg6 : FVec F S2048x1024 .f32) (main_arg7 : FVec F S1x1024 .f32) (main_arg8 : FVec F S1x1024 .f32) (main_v4 : IVec S_ 1) (main_v9 : IVec S_ 1) (main_v14 : IVec S_ 1) (main_v16 : FVec F S1024x1536 .f32) (main_cst_4 : FVec F S_ .f32) : IVec S_ 1 :=
  let main_v17 : FVec F S1024x1536 .f32 := broadcastInDim S1024x1536 ![] bcast_S_S1024x1536 main_cst_4
  let main_v18 : IVec S1024x1536 1 := cmpf .olt main_v16 main_v17
  let main_c_5 : IVec S_ 1 := constantI S_ 1 1#1
  let main_v19 : IVec S_ 1 := (fun x v => Host.reduce IntOp.andi x v reducesTo_S1024x1536_S_d0_1 h_S_) main_v18 main_c_5
  let main_v20 : FVec F S2048x1024 .f32 := Host.absf main_arg4
  let main_cst_6 : FVec F S_ .f32 := constant S_ .f32 0x7F800000#32
  let main_v21 : FVec F S2048x1024 .f32 := broadcastInDim S2048x1024 ![] bcast_S_S2048x1024 main_cst_6
  let main_v22 : IVec S2048x1024 1 := cmpf .olt main_v20 main_v21
  let main_c_7 : IVec S_ 1 := constantI S_ 1 1#1
  let main_v23 : IVec S_ 1 := (fun x v => Host.reduce IntOp.andi x v reducesTo_S2048x1024_S_d0_1 h_S_) main_v22 main_c_7
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : FVec F S2048x1024 .f32 := Host.absf main_arg6
  let main_cst_10 : FVec F S_ .f32 := constant S_ .f32 0x7F800000#32
  let main_v29 : FVec F S2048x1024 .f32 := broadcastInDim S2048x1024 ![] bcast_S_S2048x1024 main_cst_10
  let main_v30 : IVec S2048x1024 1 := cmpf .olt main_v28 main_v29
  let main_c_11 : IVec S_ 1 := constantI S_ 1 1#1
  let main_v31 : IVec S_ 1 := (fun x v => Host.reduce IntOp.andi x v reducesTo_S2048x1024_S_d0_1 h_S_) main_v30 main_c_11
  let main_v32 : FVec F S1x1024 .f32 := Host.absf main_arg7
  let main_cst_12 : FVec F S_ .f32 := constant S_ .f32 0x7F800000#32
  fn_part2 (F := F) main_arg8 main_v4 main_v9 main_v14 main_v19 main_v23 main_v27 main_v31 main_v32 main_cst_12

def fn {F : FTy → Type} [FloatOps F] (main_arg0 : FVec F S2048x512 .bf16) (main_arg1 : FVec F S2048x512 .bf16) (main_arg2 : FVec F S2048x512 .bf16) (main_arg3 : FVec F S1024x1536 .bf16) (main_arg4 : FVec F S2048x1024 .f32) (main_arg5 : FVec F S2048x1024 .f32) (main_arg6 : FVec F S2048x1024 .f32) (main_arg7 : FVec F S1x1024 .f32) (main_arg8 : FVec F S1x1024 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : FVec F S2048x512 .f32 := (extf .f32 · bitsLt_bf16_f32) main_arg2
  let main_v11 : FVec F S2048x512 .f32 := Host.absf main_v10
  let main_cst_2 : FVec F S_ .f32 := constant S_ .f32 0x7F800000#32
  let main_v12 : FVec F S2048x512 .f32 := broadcastInDim S2048x512 ![] bcast_S_S2048x512 main_cst_2
  let main_v13 : IVec S2048x512 1 := cmpf .olt main_v11 main_v12
  let main_c_3 : IVec S_ 1 := constantI S_ 1 1#1
  let main_v14 : IVec S_ 1 := (fun x v => Host.reduce IntOp.andi x v reducesTo_S2048x512_S_d0_1 h_S_) main_v13 main_c_3
  let main_v15 : FVec F S1024x1536 .f32 := (extf .f32 · bitsLt_bf16_f32) main_arg3
  let main_v16 : FVec F S1024x1536 .f32 := Host.absf main_v15
  let main_cst_4 : FVec F S_ .f32 := constant S_ .f32 0x7F800000#32
  fn_part1 (F := F) main_arg4 main_arg5 main_arg6 main_arg7 main_arg8 main_v4 main_v9 main_v14 main_v16 main_cst_4
-- ==== Pre_finite13.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v4 : IVec S_ 1) (main_v9 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S2048x2816 .bf16) (main_arg1 : FVec F S2816x1024 .bf16) (main_arg2 : FVec F S2048x1024 .f32) (main_arg3 : FVec F S2048x1024 .f32) (main_arg4 : FVec F S1x1024 .f32) (main_arg5 : FVec F S1x1024 .f32) : IVec S_ 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_c : IVec S_ 1 := constantI S_ 1 1#1
  let main_v4 : IVec S_ 1 := (fun x v => Host.reduce IntOp.andi x v reducesTo_S2048x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v4 main_v9 main_v13 main_v16
-- ==== Pre_finite2.lean ====
abbrev S2048x1024 : Shape := ⟨2, ![2048, 1024]⟩
abbrev S2816x1024 : Shape := ⟨2, ![2816, 1024]⟩
abbrev S2048x5632 : Shape := ⟨2, ![2048, 5632]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x1024 .bf16) (main_arg1 : FVec F S2816x1024 .bf16) (main_arg2 : FVec F S2048x5632 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x5632 .f32 := (extf .f32 · bitsLt_bf16_f32) main_arg2
  let main_v12 : FVec F S2048x5632 .f32 := Host.absf main_v11
  let main_cst_2 : FVec F S_ .f32 := constant S_ .f32 0x7F800000#32
  let main_v13 : FVec F S2048x5632 .f32 := broadcastInDim S2048x5632 ![] bcast_S_S2048x5632 main_cst_2
  let main_v14 : IVec S2048x5632 1 := cmpf .olt main_v12 main_v13
  let main_c_3 : IVec S_ 1 := constantI S_ 1 1#1
  let main_v15 : IVec S_ 1 := (fun x v => Host.reduce IntOp.andi x v reducesTo_S2048x5632_S_d0_1 h_S_) main_v14 main_c_3
  let main_v16 : IVec S_ 1 := andi main_v10 main_v15
  main_v16
-- ==== Pre_finite26.lean ====
abbrev S2048x1024 : Shape := ⟨2, ![2048, 1024]⟩
abbrev S768x1024 : Shape := ⟨2, ![768, 1024]⟩
abbrev S2048x3200 : Shape := ⟨2, ![2048, 3200]⟩
abbrev S1x768 : Shape := ⟨2, ![1, 768]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S2048x3200 : S_.BroadcastsInDim S2048x3200 (![] : Fin 0 → Fin S2048x3200.rank)
  reducesTo_S2048x3200_S_d0_1 : S2048x3200.ReducesTo [0, 1] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v4 : IVec S_ 1) (main_v9 : IVec S_ 1) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v4 main_v9
  let main_v19 : IVec S_ 1 := andi main_v18 main_v13
  let main_v20 : IVec S_ 1 := andi main_v19 main_v17
  main_v20

def fn {F : FTy → Type} [FloatOps F] (main_arg0 : FVec F S2048x1024 .bf16) (main_arg1 : FVec F S768x1024 .bf16) (main_arg2 : FVec F S2048x3200 .f32) (main_arg3 : FVec F S1x768 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S768x1024 .f32 := (extf .f32 · bitsLt_bf16_f32) main_arg1
  let main_v6 : FVec F S768x1024 .f32 := Host.absf main_v5
  let main_cst_0 : FVec F S_ .f32 := constant S_ .f32 0x7F800000#32
  let main_v7 : FVec F S768x1024 .f32 := broadcastInDim S768x1024 ![] bcast_S_S768x1024 main_cst_0
  let main_v8 : IVec S768x1024 1 := cmpf .olt main_v6 main_v7
  let main_c_1 : IVec S_ 1 := constantI S_ 1 1#1
  let main_v9 : IVec S_ 1 := (fun x v => Host.reduce IntOp.andi x v reducesTo_S768x1024_S_d0_1 h_S_) main_v8 main_c_1
  let main_v10 : FVec F S2048x3200 .f32 := Host.absf main_arg2
  let main_cst_2 : FVec F S_ .f32 := constant S_ .f32 0x7F800000#32
  let main_v11 : FVec F S2048x3200 .f32 := broadcastInDim S2048x3200 ![] bcast_S_S2048x3200 main_cst_2
  let main_v12 : IVec S2048x3200 1 := cmpf .olt main_v10 main_v11
  let main_c_3 : IVec S_ 1 := constantI S_ 1 1#1
  let main_v13 : IVec S_ 1 := (fun x v => Host.reduce IntOp.andi x v reducesTo_S2048x3200_S_d0_1 h_S_) main_v12 main_c_3
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v4 main_v9 main_v13 main_v16
-- ==== Pre_finite27.lean ====
abbrev S2048x512 : Shape := ⟨2, ![2048, 512]⟩
abbrev S256x512 : Shape := ⟨2, ![256, 512]⟩
abbrev S2048x256 : Shape := ⟨2, ![2048, 256]⟩
abbrev S2048x3200 : Shape := ⟨2, ![2048, 3200]⟩
abbrev S1x256 : Shape := ⟨2, ![1, 256]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S2048x256 : S_.BroadcastsInDim S2048x256 (![] : Fin 0 → Fin S2048x256.rank)
  reducesTo_S2048x256_S_d0_1 : S2048x256.ReducesTo [0, 1] S_
  bcast_S_S2048x3200 : S_.BroadcastsInDim S2048x3200 (![] : Fin 0 → Fin S2048x3200.rank)
  reducesTo_S2048x3200_S_d0_1 : S2048x3200.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v4 : IVec S_ 1) (main_v9 : IVec S_ 1) (main_v13 : IVec S_ 1) (main_v16 : IVec S2048x3200 1) : IVec S_ 1 :=
  let main_c_5 : IVec S_ 1 := constantI S_ 1 1#1
  let main_v17 : IVec S_ 1 := (fun x v => Host.reduce IntOp.andi x v reducesTo_S2048x3200_S_d0_1 h_S_) main_v16 main_c_5
  let main_v18 : FVec F S1x256 .f32 := Host.absf main_arg4
  let main_cst_6 : FVec F S_ .f32 := constant S_ .f32 0x7F800000#32
  let main_v19 : FVec F S1x256 .f32 := broadcastInDim S1x256 ![] bcast_S_S1x256 main_cst_6
  let main_v20 : IVec S1x256 1 := cmpf .olt main_v18 main_v19
  let main_c_7 : IVec S_ 1 := constantI S_ 1 1#1
  let main_v21 : IVec S_ 1 := (fun x v => Host.reduce IntOp.andi x v reducesTo_S1x256_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S2048x512 .bf16) (main_arg1 : FVec F S256x512 .bf16) (main_arg2 : FVec F S2048x256 .f32) (main_arg3 : FVec F S2048x3200 .f32) (main_arg4 : FVec F S1x256 .f32) : IVec S_ 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : FVec F S2048x256 .f32 := Host.absf main_arg2
  let main_cst_2 : FVec F S_ .f32 := constant S_ .f32 0x7F800000#32
  let main_v11 : FVec F S2048x256 .f32 := broadcastInDim S2048x256 ![] bcast_S_S2048x256 main_cst_2
  let main_v12 : IVec S2048x256 1 := cmpf .olt main_v10 main_v11
  let main_c_3 : IVec S_ 1 := constantI S_ 1 1#1
  let main_v13 : IVec S_ 1 := (fun x v => Host.reduce IntOp.andi x v reducesTo_S2048x256_S_d0_1 h_S_) main_v12 main_c_3
  let main_v14 : FVec F S2048x3200 .f32 := Host.absf main_arg3
  let main_cst_4 : FVec F S_ .f32 := constant S_ .f32 0x7F800000#32
  let main_v15 : FVec F S2048x3200 .f32 := broadcastInDim S2048x3200 ![] bcast_S_S2048x3200 main_cst_4
  let main_v16 : IVec S2048x3200 1 := cmpf .olt main_v14 main_v15
  fn_part1 (F := F) main_arg4 main_v4 main_v9 main_v13 main_v16
-- ==== Pre_finite5.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_v4 : IVec S_ 1) (main_v9 : IVec S_ 1) (main_v13 : IVec S_ 1) (main_v17 : IVec S_ 1) (main_v21 : IVec S_ 1) (main_v25 : IVec S_ 1) (main_v29 : IVec S_ 1) (main_v32 : IVec S1x1024 1) : IVec S_ 1 :=
  let main_c_13 : IVec S_ 1 := constantI S_ 1 1#1
  let main_v33 : IVec S_ 1 := (fun x v => Host.reduce IntOp.andi x v reducesTo_S1x1024_S_d0_1 h_S_) main_v32 main_c_13
  let main_v34 : FVec F S1x1024 .f32 := Host.absf main_arg8
  let main_cst_14 : FVec F S_ .f32 := constant S_ .f32 0x7F800000#32
  let main_v35 : FVec F S1x1024 .f32 := broadcastInDim S1x1024 ![] bcast_S_S1x1024 main_cst_14
  let main_v36 : IVec S1x1024 1 := cmpf .olt main_v34 main_v35
  let main_c_15 : IVec S_ 1 := constantI S_ 1 1#1
  let main_v37 : IVec S_ 1 := (fun x v => Host.reduce IntOp.andi x v reducesTo_S1x1024_S_d0_1 h_S_) main_v36 main_c_15
  let main_v38 : IVec S_ 1 := andi main_v4 main_v9
  let main_v39 : IVec S_ 1 := andi main_v38 main_v13
  let main_v40 : IVec S_ 1 := andi main_v39 main_v17
  let main_v41 : IVec S_ 1 := andi main_v40 main_v21
  let main_v42 : IVec S_ 1 := andi main_v41 main_v25
  let main_v43 : IVec S_ 1 := andi main_v42 main_v29
  let main_v44 : IVec S_ 1 := andi main_v43 main_v33
  let main_v45 : IVec S_ 1 := andi main_v44 main_v37
  main_v45

def fn_part1 {F : FTy → Type} [FloatOps F] (main_arg4 : FVec F S2048x1024 .f32) (main_arg5 : FVec F S1x1024 .f32) (main_arg6 : FVec F S1x1024 .f32) (main_arg7 : FVec F S1x1024 .f32) (main_arg8 : FVec F S1x1024 .f32) (main_v4 : IVec S_ 1) (main_v9 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : FVec F S2048x1024 .f32 := Host.absf main_arg4
  let main_cst_6 : FVec F S_ .f32 := constant S_ .f32 0x7F800000#32
  let main_v19 : FVec F S2048x1024 .f32 := broadcastInDim S2048x1024 ![] bcast_S_S2048x1024 main_cst_6
  let main_v20 : IVec S2048x1024 1 := cmpf .olt main_v18 main_v19
  let main_c_7 : IVec S_ 1 := constantI S_ 1 1#1
  let main_v21 : IVec S_ 1 := (fun x v => Host.reduce IntOp.andi x v reducesTo_S2048x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : FVec F S1x1024 .f32 := Host.absf main_arg6
  let main_cst_10 : FVec F S_ .f32 := constant S_ .f32 0x7F800000#32
  let main_v27 : FVec F S1x1024 .f32 := broadcastInDim S1x1024 ![] bcast_S_S1x1024 main_cst_10
  let main_v28 : IVec S1x1024 1 := cmpf .olt main_v26 main_v27
  let main_c_11 : IVec S_ 1 := constantI S_ 1 1#1
  let main_v29 : IVec S_ 1 := (fun x v => Host.reduce IntOp.andi x v reducesTo_S1x1024_S_d0_1 h_S_) main_v28 main_c_11
  let main_v30 : FVec F S1x1024 .f32 := Host.absf main_arg7
  let main_cst_12 : FVec F S_ .f32 := constant S_ .f32 0x7F800000#32
  let main_v31 : FVec F S1x1024 .f32 := broadcastInDim S1x1024 ![] bcast_S_S1x1024 main_cst_12
  let main_v32 : IVec S1x1024 1 := cmpf .olt main_v30 main_v31
  fn_part2 (F := F) main_arg8 main_v4 main_v9 main_v13 main_v17 main_v21 main_v25 main_v29 main_v32

def fn {F : FTy → Type} [FloatOps F] (main_arg0 : FVec F S2048x5632 .bf16) (main_arg1 : FVec F S1024x5632 .bf16) (main_arg2 : FVec F S2048x1024 .f32) (main_arg3 : FVec F S2048x1024 .f32) (main_arg4 : FVec F S2048x1024 .f32) (main_arg5 : FVec F S1x1024 .f32) (main_arg6 : FVec F S1x1024 .f32) (main_arg7 : FVec F S1x1024 .f32) (main_arg8 : FVec F S1x1024 .f32) : IVec S_ 1 :=
  let main_v0 : FVec F S2048x5632 .f32 := (extf .f32 · bitsLt_bf16_f32) main_arg0
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_v4 main_v9 main_v13 main_v16
-- ==== Kernel.lean ====
abbrev S8x2048 : Shape := ⟨2, ![8, 2048]⟩
abbrev S1x8 : Shape := ⟨2, ![1, 8]⟩
abbrev S8x1 : Shape := ⟨2, ![8, 1]⟩
abbrev S128x128 : Shape := ⟨2, ![128, 128]⟩
abbrev S8x128 : Shape := ⟨2, ![8, 128]⟩
abbrev S8 : Shape := ⟨1, ![8]⟩

abbrev nBuf : Space → Nat
  | .hbm => 6
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S1x8, .f32⟩
  | .hbm, ⟨3, _⟩ => ⟨S8x1, .f32⟩
  | .hbm, ⟨4, _⟩ => ⟨S8x2048, .f32⟩
  | .hbm, ⟨5, _⟩ => ⟨S8x1, .f32⟩
  | .local _ .vmem, ⟨0, _⟩ => ⟨S8x2048, .f32⟩
  | .local _ .vmem, ⟨1, _⟩ => ⟨S8x2048, .f32⟩
  | .local _ .vmem, ⟨2, _⟩ => ⟨S8x1, .f32⟩
  | .local _ .vmem, ⟨3, _⟩ => ⟨S8x2048, .f32⟩
  | .local _ .vmem, ⟨4, _⟩ => ⟨S8x1, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x2048 : Shape := ⟨2, ![8, 2048]⟩
abbrev S1x8 : Shape := ⟨2, ![1, 8]⟩
abbrev S8x1 : Shape := ⟨2, ![8, 1]⟩
abbrev S_ : Shape := ⟨0, ![]⟩
abbrev S8 : Shape := ⟨1, ![8]⟩

abbrev nBuf : Space → Nat
  | .hbm => 70
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S1x8, .f32⟩
  | .hbm, ⟨3, _⟩ => ⟨S8x1, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .i1⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .i1⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .i1⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S8x2048, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x2048, .f32⟩
  | .hbm, ⟨43, _⟩ => ⟨S8x2048, .i1⟩
  | .hbm, ⟨44, _⟩ => ⟨S_, .f32⟩
  | .hbm, ⟨45, _⟩ => ⟨S8x2048, .f32⟩
  | .hbm, ⟨46, _⟩ => ⟨S8x2048, .f32⟩
  | .hbm, ⟨47, _⟩ => ⟨S8x2048, .f32⟩
  | .hbm, ⟨48, _⟩ => ⟨S8x2048, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S_, .f32⟩
  | .hbm, ⟨55, _⟩ => ⟨S_, .f32⟩
  | .hbm, ⟨56, _⟩ => ⟨S8x2048, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S_, .f32⟩
  | .hbm, ⟨61, _⟩ => ⟨S8x2048, .f32⟩
  | .hbm, ⟨62, _⟩ => ⟨S8x2048, .f32⟩
  | .hbm, ⟨63, _⟩ => ⟨S8x2048, .f32⟩
  | .hbm, ⟨64, _⟩ => ⟨S8x2048, .f32⟩
  | .hbm, ⟨65, _⟩ => ⟨S_, .f32⟩
  | .hbm, ⟨66, _⟩ => ⟨S8, .f32⟩
  | .hbm, ⟨67, _⟩ => ⟨S8x1, .f32⟩
  | .hbm, ⟨68, _⟩ => ⟨S1x8, .f32⟩
  | .hbm, ⟨69, _⟩ => ⟨S8x1, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_call0_cst : Ref sig .tc := ⟨.hbm, 59, rfl⟩
abbrev main_call2_call0_v0 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x5632 : Shape := ⟨2, ![2048, 5632]⟩
abbrev S512x1024 : Shape := ⟨2, ![512, 1024]⟩
abbrev S1408x1024 : Shape := ⟨2, ![1408, 1024]⟩
abbrev S512x2816 : Shape := ⟨2, ![512, 2816]⟩
abbrev S256x1024 : Shape := ⟨2, ![256, 1024]⟩
abbrev S256x1408 : Shape := ⟨2, ![256, 1408]⟩
abbrev S256x2816 : Shape := ⟨2, ![256, 2816]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x5632, .bf16⟩
  | .hbm, ⟨3, _⟩ => ⟨S2048x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x1024 : Shape := ⟨2, ![2048, 1024]⟩
abbrev S2816x1024 : Shape := ⟨2, ![2816, 1024]⟩
abbrev S2048x5632 : Shape := ⟨2, ![2048, 5632]⟩
abbrev S2048x2x2x1408 : Shape := ⟨4, ![2048, 2, 2, 1408]⟩
abbrev S2048x2x1x1408 : Shape := ⟨4, ![2048, 2, 1, 1408]⟩
abbrev S2048x2x1408 : Shape := ⟨3, ![2048, 2, 1408]⟩
abbrev S2048x2816 : Shape := ⟨2, ![2048, 2816]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x5632, .bf16⟩
  | .hbm, ⟨3, _⟩ => ⟨S2048x5632, .f32⟩
  | .hbm, ⟨4, _⟩ => ⟨S2048x2x2x1408, .f32⟩
  | .hbm, ⟨5, _⟩ => ⟨S2048x2x1x1408, .f32⟩
  | .hbm, ⟨6, _⟩ => ⟨S2048x2x1408, .f32⟩
  | .hbm, ⟨7, _⟩ => ⟨S2048x2816, .f32⟩
  | .hbm, ⟨8, _⟩ => ⟨S2048x2x1x1408, .f32⟩
  | .hbm, ⟨9, _⟩ => ⟨S2048x2x1408, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2816x1024, .f32⟩
  | .hbm, ⟨26, _⟩ => ⟨S2048x1024, .f32⟩
  | .hbm, ⟨27, _⟩ => ⟨S2048x1024, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2x1408, .f32⟩
  | .hbm, ⟨36, _⟩ => ⟨S2048x2x1x1408, .f32⟩
  | .hbm, ⟨37, _⟩ => ⟨S_, .f32⟩
  | .hbm, ⟨38, _⟩ => ⟨S2048x2x2x1408, .f32⟩
  | .hbm, ⟨39, _⟩ => ⟨S2048x2x1408, .f32⟩
  | .hbm, ⟨40, _⟩ => ⟨S2048x2x1x1408, .f32⟩
  | .hbm, ⟨41, _⟩ => ⟨S_, .f32⟩
  | .hbm, ⟨42, _⟩ => ⟨S2048x2x2x1408, .f32⟩
  | .hbm, ⟨43, _⟩ => ⟨S2048x2x2x1408, .f32⟩
  | .hbm, ⟨44, _⟩ => ⟨S2048x5632, .f32⟩
  | .hbm, ⟨45, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x5632 : Shape := ⟨2, ![2048, 5632]⟩
abbrev S2048x1024 : Shape := ⟨2, ![2048, 1024]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x5632 : Shape := ⟨2, ![2048, 5632]⟩
abbrev S2048x1024 : Shape := ⟨2, ![2048, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S_, .f32⟩
  | .hbm, ⟨3, _⟩ => ⟨S5632x1024, .f32⟩
  | .hbm, ⟨4, _⟩ => ⟨S2048x1024, .f32⟩
  | .hbm, ⟨5, _⟩ => ⟨S1024x5632, .f32⟩
  | .hbm, ⟨6, _⟩ => ⟨S2048x5632, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x5632 : Shape := ⟨2, ![512, 5632]⟩
abbrev S512x1024 : Shape := ⟨2, ![512, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 34
  | .vmem => 22
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v15_3 : Ref sig .tc := ⟨.hbm, 30, rfl⟩
abbrev main_v15_4 : Ref sig .tc := ⟨.hbm, 31, rfl⟩
abbrev main_v15_5 : Ref sig .tc := ⟨.hbm, 32, rfl⟩
abbrev main_v15_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference5Ideal.lean ====
abbrev S2048x5632 : Shape := ⟨2, ![2048, 5632]⟩
abbrev S1024x5632 : Shape := ⟨2, ![1024, 5632]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S1024x5632, .f32⟩
  | .hbm, ⟨60, _⟩ => ⟨S2048x5632, .f32⟩
  | .hbm, ⟨61, _⟩ => ⟨S2048x5632, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S2048x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S2048x1024, .f32⟩
  | .hbm, ⟨108, _⟩ => ⟨S2048x1024, .f32⟩
  | .hbm, ⟨109, _⟩ => ⟨S2048x1024, .f32⟩
  | .hbm, ⟨110, _⟩ => ⟨S_, .f32⟩
  | .hbm, ⟨111, _⟩ => ⟨S2048, .f32⟩
  | .hbm, ⟨112, _⟩ => ⟨S2048x1, .f32⟩
  | .hbm, ⟨113, _⟩ => ⟨S2048x1024, .f32⟩
  | .hbm, ⟨114, _⟩ => ⟨S2048x1024, .f32⟩
  | .hbm, ⟨115, _⟩ => ⟨S2048x1, .f32⟩
  | .hbm, ⟨116, _⟩ => ⟨S_, .f32⟩
  | .hbm, ⟨117, _⟩ => ⟨S2048x1, .f32⟩
  | .hbm, ⟨118, _⟩ => ⟨S2048x1, .f32⟩
  | .hbm, ⟨119, _⟩ => ⟨S_, .f32⟩
  | .hbm, ⟨120, _⟩ => ⟨S2048, .f32⟩
  | .hbm, ⟨121, _⟩ => ⟨S2048x1024, .f32⟩
  | .hbm, ⟨122, _⟩ => ⟨S2048x1024, .f32⟩
  | .hbm, ⟨123, _⟩ => ⟨S2048x1024, .f32⟩
  | .hbm, ⟨124, _⟩ => ⟨S2048x1024, .f32⟩
  | .hbm, ⟨125, _⟩ => ⟨S2048x1024, .f32⟩
  | .hbm, ⟨126, _⟩ => ⟨S2048x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]
-- ==== Kernel6.lean ====
abbrev S2048x1024 : Shape := ⟨2, ![2048, 1024]⟩
abbrev S1024x5632 : Shape := ⟨2, ![1024, 5632]⟩
abbrev S2048x2816 : Shape := ⟨2, ![2048, 2816]⟩
abbrev S2048x5632 : Shape := ⟨2, ![2048, 5632]⟩
abbrev S512x1024 : Shape := ⟨2, ![512, 1024]⟩
abbrev S1024x2816 : Shape := ⟨2, ![1024, 2816]⟩
abbrev S512x1408 : Shape := ⟨2, ![512, 1408]⟩
abbrev S512x2816 : Shape := ⟨2, ![512, 2816]⟩
abbrev S256x1024 : Shape := ⟨2, ![256, 1024]⟩
abbrev S256x2816 : Shape := ⟨2, ![256, 2816]⟩
abbrev S256x1408 : Shape := ⟨2, ![256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x2816, .bf16⟩
  | .hbm, ⟨3, _⟩ => ⟨S2048x5632, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x1408, .bf16⟩
  | .local _ .vmem, ⟨5, _⟩ => ⟨S512x1408, .bf16⟩
  | .local _ .vmem, ⟨6, _⟩ => ⟨S512x2816, .bf16⟩
  | .local _ .vmem, ⟨7, _⟩ => ⟨S512x2816, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2048x1024 : Shape := ⟨2, ![2048, 1024]⟩
abbrev S1024x5632 : Shape := ⟨2, ![1024, 5632]⟩
abbrev S2048x5632 : Shape := ⟨2, ![2048, 5632]⟩
abbrev S2048x2x2x1408 : Shape := ⟨4, ![2048, 2, 2, 1408]⟩
abbrev S2048x2x1x1408 : Shape := ⟨4, ![2048, 2, 1, 1408]⟩
abbrev S2048x2x1408 : Shape := ⟨3, ![2048, 2, 1408]⟩
abbrev S2048x2816 : Shape := ⟨2, ![2048, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x2x2x1408, .f32⟩
  | .hbm, ⟨6, _⟩ => ⟨S2048x2x1x1408, .f32⟩
  | .hbm, ⟨7, _⟩ => ⟨S2048x2x1408, .f32⟩
  | .hbm, ⟨8, _⟩ => ⟨S2048x2816, .f32⟩
  | .hbm, ⟨9, _⟩ => ⟨S2048x2x1x1408, .f32⟩
  | .hbm, ⟨10, _⟩ => ⟨S2048x2x1408, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .bf16⟩
  | .hbm, ⟨23, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel7.lean ====
abbrev S2048x1024 : Shape := ⟨2, ![2048, 1024]⟩
abbrev S2048x768 : Shape := ⟨2, ![2048, 768]⟩
abbrev S2048x256 : Shape := ⟨2, ![2048, 256]⟩
abbrev S2048x128 : Shape := ⟨2, ![2048, 128]⟩
abbrev S1024x3200 : Shape := ⟨2, ![1024, 3200]⟩
abbrev S2048x512 : Shape := ⟨2, ![2048, 512]⟩
abbrev S512x3200 : Shape := ⟨2, ![512, 3200]⟩
abbrev S512x768 : Shape := ⟨2, ![512, 768]⟩
abbrev S512x256 : Shape := ⟨2, ![512, 256]⟩
abbrev S512x1024 : Shape := ⟨2, ![512, 1024]⟩
abbrev S512x128 : Shape := ⟨2, ![512, 128]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S2048x256, .bf16⟩
  | .hbm, ⟨3, _⟩ => ⟨S2048x1024, .bf16⟩
  | .hbm, ⟨4, _⟩ => ⟨S2048x1024, .bf16⟩
  | .hbm, ⟨5, _⟩ => ⟨S2048x128, .bf16⟩
  | .hbm, ⟨6, _⟩ => ⟨S1024x3200, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S512x3200, .bf16⟩
  | .local _ .vmem, ⟨8, _⟩ => ⟨S512x3200, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3200 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S2048x1024 : Shape := ⟨2, ![2048, 1024]⟩
abbrev S2048x768 : Shape := ⟨2, ![2048, 768]⟩
abbrev S2048x256 : Shape := ⟨2, ![2048, 256]⟩
abbrev S2048x128 : Shape := ⟨2, ![2048, 128]⟩
abbrev S_ : Shape := ⟨0, ![]⟩
abbrev S1024x3200 : Shape := ⟨2, ![1024, 3200]⟩
abbrev S2048x3200 : Shape := ⟨2, ![2048, 3200]⟩
abbrev S3200x1024 : Shape := ⟨2, ![3200, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S2048x256, .bf16⟩
  | .hbm, ⟨3, _⟩ => ⟨S2048x1024, .bf16⟩
  | .hbm, ⟨4, _⟩ => ⟨S2048x1024, .bf16⟩
  | .hbm, ⟨5, _⟩ => ⟨S2048x128, .bf16⟩
  | .hbm, ⟨6, _⟩ => ⟨S_, .f32⟩
  | .hbm, ⟨7, _⟩ => ⟨S1024x3200, .f32⟩
  | .hbm, ⟨8, _⟩ => ⟨S2048x3200, .bf16⟩
  | .hbm, ⟨9, _⟩ => ⟨S2048x3200, .f32⟩
  | .hbm, ⟨10, _⟩ => ⟨S2048x1024, .f32⟩
  | .hbm, ⟨11, _⟩ => ⟨S2048x3200, .f32⟩
  | .hbm, ⟨12, _⟩ => ⟨S3200x1024, .f32⟩
  | .hbm, ⟨13, _⟩ => ⟨S1024x3200, .f32⟩
  | .hbm, ⟨14, _⟩ => ⟨S1024x3200, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel8.lean ====
abbrev S2048x1024 : Shape := ⟨2, ![2048, 1024]⟩
abbrev S2048x512 : Shape := ⟨2, ![2048, 512]⟩
abbrev S1024x1536 : Shape := ⟨2, ![1024, 1536]⟩
abbrev S512x1536 : Shape := ⟨2, ![512, 1536]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S1024x1536, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x1536, .bf16⟩
  | .local _ .vmem, ⟨6, _⟩ => ⟨S512x1536, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S2048x1024 : Shape := ⟨2, ![2048, 1024]⟩
abbrev S2048x512 : Shape := ⟨2, ![2048, 512]⟩
abbrev S_ : Shape := ⟨0, ![]⟩
abbrev S1024x1536 : Shape := ⟨2, ![1024, 1536]⟩
abbrev S2048x1536 : Shape := ⟨2, ![2048, 1536]⟩
abbrev S1536x1024 : Shape := ⟨2, ![1536, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S_, .f32⟩
  | .hbm, ⟨5, _⟩ => ⟨S1024x1536, .f32⟩
  | .hbm, ⟨6, _⟩ => ⟨S2048x1024, .f32⟩
  | .hbm, ⟨7, _⟩ => ⟨S2048x1536, .f32⟩
  | .hbm, ⟨8, _⟩ => ⟨S2048x1536, .bf16⟩
  | .hbm, ⟨9, _⟩ => ⟨S2048x1536, .f32⟩
  | .hbm, ⟨10, _⟩ => ⟨S1536x1024, .f32⟩
  | .hbm, ⟨11, _⟩ => ⟨S1024x1536, .f32⟩
  | .hbm, ⟨12, _⟩ => ⟨S1024x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel9.lean ====
abbrev S2048x768 : Shape := ⟨2, ![2048, 768]⟩
abbrev S2048x256 : Shape := ⟨2, ![2048, 256]⟩
abbrev S2048x1024 : Shape := ⟨2, ![2048, 1024]⟩
abbrev S2048x128 : Shape := ⟨2, ![2048, 128]⟩
abbrev S1024x3200 : Shape := ⟨2, ![1024, 3200]⟩
abbrev S512x768 : Shape := ⟨2, ![512, 768]⟩
abbrev S512x256 : Shape := ⟨2, ![512, 256]⟩
abbrev S512x1024 : Shape := ⟨2, ![512, 1024]⟩
abbrev S512x128 : Shape := ⟨2, ![512, 128]⟩
abbrev S1024x768 : Shape := ⟨2, ![1024, 768]⟩
abbrev S1024x256 : Shape := ⟨2, ![1024, 256]⟩
abbrev S1024x1024 : Shape := ⟨2, ![1024, 1024]⟩
abbrev S1024x128 : Shape := ⟨2, ![1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S2048x768, .bf16⟩
  | .hbm, ⟨1, _⟩ => ⟨S2048x256, .bf16⟩
  | .hbm, ⟨2, _⟩ => ⟨S2048x1024, .bf16⟩
  | .hbm, ⟨3, _⟩ => ⟨S2048x1024, .bf16⟩
  | .hbm, ⟨4, _⟩ => ⟨S2048x128, .bf16⟩
  | .hbm, ⟨5, _⟩ => ⟨S1024x3200, .bf16⟩
  | .hbm, ⟨6, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S1024x3200, .bf16⟩
  | .local _ .vmem, ⟨11, _⟩ => ⟨S512x1024, .f32⟩
  | .local _ .vmem, ⟨12, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2048x768 : Shape := ⟨2, ![2048, 768]⟩
abbrev S2048x256 : Shape := ⟨2, ![2048, 256]⟩
abbrev S2048x1024 : Shape := ⟨2, ![2048, 1024]⟩
abbrev S2048x128 : Shape := ⟨2, ![2048, 128]⟩
abbrev S1024x3200 : Shape := ⟨2, ![1024, 3200]⟩
abbrev S_ : Shape := ⟨0, ![]⟩
abbrev S2048x3200 : Shape := ⟨2, ![2048, 3200]⟩

abbrev nBuf : Space → Nat
  | .hbm => 13
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x256, .bf16⟩
  | .hbm, ⟨2, _⟩ => ⟨S2048x1024, .bf16⟩
  | .hbm, ⟨3, _⟩ => ⟨S2048x1024, .bf16⟩
  | .hbm, ⟨4, _⟩ => ⟨S2048x128, .bf16⟩
  | .hbm, ⟨5, _⟩ => ⟨S1024x3200, .bf16⟩
  | .hbm, ⟨6, _⟩ => ⟨S_, .f32⟩
  | .hbm, ⟨7, _⟩ => ⟨S2048x1024, .f32⟩
  | .hbm, ⟨8, _⟩ => ⟨S2048x3200, .bf16⟩
  | .hbm, ⟨9, _⟩ => ⟨S2048x3200, .f32⟩
  | .hbm, ⟨10, _⟩ => ⟨S1024x3200, .f32⟩
  | .hbm, ⟨11, _⟩ => ⟨S2048x3200, .f32⟩
  | .hbm, ⟨12, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel10.lean ====
abbrev S2048x512 : Shape := ⟨2, ![2048, 512]⟩
abbrev S1024x1536 : Shape := ⟨2, ![1024, 1536]⟩
abbrev S2048x1024 : Shape := ⟨2, ![2048, 1024]⟩
abbrev S1x1024 : Shape := ⟨2, ![1, 1024]⟩
abbrev S512x512 : Shape := ⟨2, ![512, 512]⟩
abbrev S512x1024 : Shape := ⟨2, ![512, 1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S1024x1536, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1536, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference10Ideal.lean ====
abbrev S2048x512 : Shape := ⟨2, ![2048, 512]⟩
abbrev S1024x1536 : Shape := ⟨2, ![1024, 1536]⟩
abbrev S2048x1024 : Shape := ⟨2, ![2048, 1024]⟩
abbrev S1x1024 : Shape := ⟨2, ![1, 1024]⟩
abbrev S2048x1536 : Shape := ⟨2, ![2048, 1536]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S1024x1536, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .hbm, ⟨9, _⟩ => ⟨S2048x1536, .bf16⟩
  | .hbm, ⟨10, _⟩ => ⟨S2048x1536, .f32⟩
  | .hbm, ⟨11, _⟩ => ⟨S_, .f32⟩
  | .hbm, ⟨12, _⟩ => ⟨S1x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S1024x1536, .f32⟩
  | .hbm, ⟨40, _⟩ => ⟨S2048x1536, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel11.lean ====
abbrev S2048x1024 : Shape := ⟨2, ![2048, 1024]⟩
abbrev S1024x1536 : Shape := ⟨2, ![1024, 1536]⟩
abbrev S2048x1536 : Shape := ⟨2, ![2048, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1536, .bf16⟩
  | .hbm, ⟨2, _⟩ => ⟨S2048x1024, .f32⟩
  | .hbm, ⟨3, _⟩ => ⟨S1024x1536, .f32⟩
  | .hbm, ⟨4, _⟩ => ⟨S2048x1536, .f32⟩
  | .hbm, ⟨5, _⟩ => ⟨S2048x1536, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2048x1024 : Shape := ⟨2, ![2048, 1024]⟩
abbrev S1024x3200 : Shape := ⟨2, ![1024, 3200]⟩
abbrev S1x1024 : Shape := ⟨2, ![1, 1024]⟩
abbrev S2048x3200 : Shape := ⟨2, ![2048, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S256x1024 : Shape := ⟨2, ![256, 1024]⟩
abbrev S256x3200 : Shape := ⟨2, ![256, 3200]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x3200, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x3200, .f32⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x3200, .f32⟩
  | .local _ .vmem, ⟨7, _⟩ => ⟨S512x3200, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference12Ideal.lean ====
abbrev S2048x1024 : Shape := ⟨2, ![2048, 1024]⟩
abbrev S1024x3200 : Shape := ⟨2, ![1024, 3200]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3200 : Shape := ⟨2, ![2048, 3200]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3200, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x3200, .f32⟩
  | .hbm, ⟨28, _⟩ => ⟨S2048x3200, .f32⟩
  | .hbm, ⟨29, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel13.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference13Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 107
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x2816, .f32⟩
  | .hbm, ⟨7, _⟩ => ⟨S2816x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S2048x1, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_19 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S2048x3200 : Shape := ⟨2, ![2048, 3200]⟩
abbrev S512x1024 : Shape := ⟨2, ![512, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 9
  | .vmem => 20
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3200, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference15Ideal.lean ====
abbrev S2048x1024 : Shape := ⟨2, ![2048, 1024]⟩
abbrev S1024x1024 : Shape := ⟨2, ![1024, 1024]⟩
abbrev S2048x3200 : Shape := ⟨2, ![2048, 3200]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x3200, .f32⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .bf16⟩
  | .hbm, ⟨47, _⟩ => ⟨S2048x1024, .bf16⟩
  | .hbm, ⟨48, _⟩ => ⟨S2048x1024, .bf16⟩
  | .hbm, ⟨49, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference16Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S2048x512 : Shape := ⟨2, ![2048, 512]⟩
abbrev S512x1024 : Shape := ⟨2, ![512, 1024]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x512, .f32⟩
  | .hbm, ⟨3, _⟩ => ⟨S512x1024, .f32⟩
  | .hbm, ⟨4, _⟩ => ⟨S2048x1024, .f32⟩
  | .hbm, ⟨5, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2048x512 : Shape := ⟨2, ![2048, 512]⟩
abbrev S512x1024 : Shape := ⟨2, ![512, 1024]⟩
abbrev S2048x3200 : Shape := ⟨2, ![2048, 3200]⟩
abbrev S2048x1024 : Shape := ⟨2, ![2048, 1024]⟩
abbrev S1024x512 : Shape := ⟨2, ![1024, 512]⟩
abbrev S512x512 : Shape := ⟨2, ![512, 512]⟩
abbrev S256x512 : Shape := ⟨2, ![256, 512]⟩

abbrev nBuf : Space → Nat
  | .hbm => 6
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x3200, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2048x512 : Shape := ⟨2, ![2048, 512]⟩
abbrev S512x1024 : Shape := ⟨2, ![512, 1024]⟩
abbrev S2048x3200 : Shape := ⟨2, ![2048, 3200]⟩
abbrev S2048x1024 : Shape := ⟨2, ![2048, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x3200, .f32⟩
  | .hbm, ⟨3, _⟩ => ⟨S2048x1024, .bf16⟩
  | .hbm, ⟨4, _⟩ => ⟨S2048x512, .f32⟩
  | .hbm, ⟨5, _⟩ => ⟨S512x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel19.lean ====
abbrev S2048x1024 : Shape := ⟨2, ![2048, 1024]⟩
abbrev S512x1024 : Shape := ⟨2, ![512, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S_, .f32⟩
  | .hbm, ⟨3, _⟩ => ⟨S2048x512, .f32⟩
  | .hbm, ⟨4, _⟩ => ⟨S512x1024, .f32⟩
  | .hbm, ⟨5, _⟩ => ⟨S2048x1024, .f32⟩
  | .hbm, ⟨6, _⟩ => ⟨S2048x1024, .f32⟩
  | .hbm, ⟨7, _⟩ => ⟨S2048x512, .f32⟩
  | .hbm, ⟨8, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference20Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S768x1024, .bf16⟩
  | .local _ .vmem, ⟨0, _⟩ => ⟨S2048x768, .bf16⟩
  | .local _ .vmem, ⟨1, _⟩ => ⟨S2048x1024, .bf16⟩
  | .local _ .vmem, ⟨2, _⟩ => ⟨S768x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference21Ideal.lean ====
abbrev S2048x768 : Shape := ⟨2, ![2048, 768]⟩
abbrev S2048x1024 : Shape := ⟨2, ![2048, 1024]⟩
abbrev S_ : Shape := ⟨0, ![]⟩
abbrev S768x1024 : Shape := ⟨2, ![768, 1024]⟩
abbrev S1024x768 : Shape := ⟨2, ![1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S_, .f32⟩
  | .hbm, ⟨3, _⟩ => ⟨S768x1024, .f32⟩
  | .hbm, ⟨4, _⟩ => ⟨S2048x768, .f32⟩
  | .hbm, ⟨5, _⟩ => ⟨S2048x1024, .f32⟩
  | .hbm, ⟨6, _⟩ => ⟨S2048x1024, .f32⟩
  | .hbm, ⟨7, _⟩ => ⟨S1024x768, .f32⟩
  | .hbm, ⟨8, _⟩ => ⟨S768x1024, .f32⟩
  | .hbm, ⟨9, _⟩ => ⟨S768x1024, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference22Ideal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x1024, .bf16⟩
  | .hbm, ⟨2, _⟩ => ⟨S_, .f32⟩
  | .hbm, ⟨3, _⟩ => ⟨S256x1024, .f32⟩
  | .hbm, ⟨4, _⟩ => ⟨S2048x256, .f32⟩
  | .hbm, ⟨5, _⟩ => ⟨S2048x1024, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel23.lean ====
abbrev S2048x256 : Shape := ⟨2, ![2048, 256]⟩
abbrev S2048x512 : Shape := ⟨2, ![2048, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x256, .bf16⟩
  | .hbm, ⟨1, _⟩ => ⟨S2048x512, .bf16⟩
  | .hbm, ⟨2, _⟩ => ⟨S256x512, .bf16⟩
  | .local _ .vmem, ⟨0, _⟩ => ⟨S2048x256, .bf16⟩
  | .local _ .vmem, ⟨1, _⟩ => ⟨S2048x512, .bf16⟩
  | .local _ .vmem, ⟨2, _⟩ => ⟨S256x512, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference23Ideal.lean ====
abbrev S2048x256 : Shape := ⟨2, ![2048, 256]⟩
abbrev S2048x512 : Shape := ⟨2, ![2048, 512]⟩
abbrev S_ : Shape := ⟨0, ![]⟩
abbrev S256x512 : Shape := ⟨2, ![256, 512]⟩
abbrev S512x256 : Shape := ⟨2, ![512, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x512, .bf16⟩
  | .hbm, ⟨2, _⟩ => ⟨S_, .f32⟩
  | .hbm, ⟨3, _⟩ => ⟨S256x512, .f32⟩
  | .hbm, ⟨4, _⟩ => ⟨S2048x256, .f32⟩
  | .hbm, ⟨5, _⟩ => ⟨S2048x512, .f32⟩
  | .hbm, ⟨6, _⟩ => ⟨S2048x512, .f32⟩
  | .hbm, ⟨7, _⟩ => ⟨S512x256, .f32⟩
  | .hbm, ⟨8, _⟩ => ⟨S256x512, .f32⟩
  | .hbm, ⟨9, _⟩ => ⟨S256x512, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S2048x256 : Shape := ⟨2, ![2048, 256]⟩
abbrev S256x512 : Shape := ⟨2, ![256, 512]⟩
abbrev S2048x512 : Shape := ⟨2, ![2048, 512]⟩
abbrev S1024x256 : Shape := ⟨2, ![1024, 256]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S256x512, .bf16⟩
  | .hbm, ⟨2, _⟩ => ⟨S2048x512, .bf16⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S2048x256 : Shape := ⟨2, ![2048, 256]⟩
abbrev S256x512 : Shape := ⟨2, ![256, 512]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S256x512, .bf16⟩
  | .hbm, ⟨2, _⟩ => ⟨S2048x256, .f32⟩
  | .hbm, ⟨3, _⟩ => ⟨S256x512, .f32⟩
  | .hbm, ⟨4, _⟩ => ⟨S2048x512, .f32⟩
  | .hbm, ⟨5, _⟩ => ⟨S2048x512, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S2048x1024 : Shape := ⟨2, ![2048, 1024]⟩
abbrev S256x1024 : Shape := ⟨2, ![256, 1024]⟩
abbrev S2048x256 : Shape := ⟨2, ![2048, 256]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S2048x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S2048x1024 : Shape := ⟨2, ![2048, 1024]⟩
abbrev S256x1024 : Shape := ⟨2, ![256, 1024]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S256x1024, .bf16⟩
  | .hbm, ⟨2, _⟩ => ⟨S_, .f32⟩
  | .hbm, ⟨3, _⟩ => ⟨S2048x256, .f32⟩
  | .hbm, ⟨4, _⟩ => ⟨S256x1024, .f32⟩
  | .hbm, ⟨5, _⟩ => ⟨S2048x1024, .f32⟩
  | .hbm, ⟨6, _⟩ => ⟨S2048x1024, .f32⟩
  | .hbm, ⟨7, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S2048x1024 : Shape := ⟨2, ![2048, 1024]⟩
abbrev S768x1024 : Shape := ⟨2, ![768, 1024]⟩
abbrev S2048x3200 : Shape := ⟨2, ![2048, 3200]⟩
abbrev S1x768 : Shape := ⟨2, ![1, 768]⟩
abbrev S2048x768 : Shape := ⟨2, ![2048, 768]⟩
abbrev S512x1024 : Shape := ⟨2, ![512, 1024]⟩
abbrev S512x768 : Shape := ⟨2, ![512, 768]⟩
abbrev S256x1024 : Shape := ⟨2, ![256, 1024]⟩
abbrev S256x768 : Shape := ⟨2, ![256, 768]⟩
abbrev S256 : Shape := ⟨1, ![256]⟩
abbrev S256x1 : Shape := ⟨2, ![256, 1]⟩
abbrev S768 : Shape := ⟨1, ![768]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x3200, .f32⟩
  | .hbm, ⟨3, _⟩ => ⟨S1x768, .f32⟩
  | .hbm, ⟨4, _⟩ => ⟨S2048x768, .bf16⟩
  | .hbm, ⟨5, _⟩ => ⟨S1x768, .f32⟩
  | .local _ .vmem, ⟨0, _⟩ => ⟨S512x1024, .bf16⟩
  | .local _ .vmem, ⟨1, _⟩ => ⟨S512x1024, .bf16⟩
  | .local _ .vmem, ⟨2, _⟩ => ⟨S768x1024, .bf16⟩
  | .local _ .vmem, ⟨3, _⟩ => ⟨S512x768, .f32⟩
  | .local _ .vmem, ⟨4, _⟩ => ⟨S512x768, .f32⟩
  | .local _ .vmem, ⟨5, _⟩ => ⟨S1x768, .f32⟩
  | .local _ .vmem, ⟨6, _⟩ => ⟨S512x768, .bf16⟩
  | .local _ .vmem, ⟨7, _⟩ => ⟨S512x768, .bf16⟩
  | .local _ .vmem, ⟨8, _⟩ => ⟨S1x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference26Ideal.lean ====
abbrev S2048x1024 : Shape := ⟨2, ![2048, 1024]⟩
abbrev S768x1024 : Shape := ⟨2, ![768, 1024]⟩
abbrev S2048x3200 : Shape := ⟨2, ![2048, 3200]⟩
abbrev S1x768 : Shape := ⟨2, ![1, 768]⟩
abbrev S2048x768 : Shape := ⟨2, ![2048, 768]⟩
abbrev S_ : Shape := ⟨0, ![]⟩
abbrev S2048 : Shape := ⟨1, ![2048]⟩
abbrev S2048x1 : Shape := ⟨2, ![2048, 1]⟩
abbrev S768 : Shape := ⟨1, ![768]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x3200, .f32⟩
  | .hbm, ⟨3, _⟩ => ⟨S1x768, .f32⟩
  | .hbm, ⟨4, _⟩ => ⟨S2048x768, .f32⟩
  | .hbm, ⟨5, _⟩ => ⟨S2048x768, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x768, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S768x1024, .f32⟩
  | .hbm, ⟨25, _⟩ => ⟨S2048x1024, .f32⟩
  | .hbm, ⟨26, _⟩ => ⟨S2048x1024, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S768, .f32⟩
  | .hbm, ⟨31, _⟩ => ⟨S1x768, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x768, .f32⟩
  | .hbm, ⟨39, _⟩ => ⟨S2048x768, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x768, .f32⟩
  | .hbm, ⟨47, _⟩ => ⟨S2048x768, .f32⟩
  | .hbm, ⟨48, _⟩ => ⟨S2048x768, .f32⟩
  | .hbm, ⟨49, _⟩ => ⟨S2048x768, .f32⟩
  | .hbm, ⟨50, _⟩ => ⟨S2048x768, .f32⟩
  | .hbm, ⟨51, _⟩ => ⟨S2048x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel27.lean ====
abbrev S2048x512 : Shape := ⟨2, ![2048, 512]⟩
abbrev S256x512 : Shape := ⟨2, ![256, 512]⟩
abbrev S2048x256 : Shape := ⟨2, ![2048, 256]⟩
abbrev S2048x3200 : Shape := ⟨2, ![2048, 3200]⟩
abbrev S1x256 : Shape := ⟨2, ![1, 256]⟩
abbrev S1024x512 : Shape := ⟨2, ![1024, 512]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S2048x256, .f32⟩
  | .hbm, ⟨3, _⟩ => ⟨S2048x3200, .f32⟩
  | .hbm, ⟨4, _⟩ => ⟨S1x256, .f32⟩
  | .hbm, ⟨5, _⟩ => ⟨S2048x256, .bf16⟩
  | .hbm, ⟨6, _⟩ => ⟨S1x256, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S1x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference27Ideal.lean ====
abbrev S2048x512 : Shape := ⟨2, ![2048, 512]⟩
abbrev S256x512 : Shape := ⟨2, ![256, 512]⟩
abbrev S2048x256 : Shape := ⟨2, ![2048, 256]⟩
abbrev S2048x3200 : Shape := ⟨2, ![2048, 3200]⟩
abbrev S1x256 : Shape := ⟨2, ![1, 256]⟩
abbrev S_ : Shape := ⟨0, ![]⟩
abbrev S2048 : Shape := ⟨1, ![2048]⟩
abbrev S2048x1 : Shape := ⟨2, ![2048, 1]⟩
abbrev S256 : Shape := ⟨1, ![256]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S256x512, .bf16⟩
  | .hbm, ⟨2, _⟩ => ⟨S2048x256, .f32⟩
  | .hbm, ⟨3, _⟩ => ⟨S2048x3200, .f32⟩
  | .hbm, ⟨4, _⟩ => ⟨S1x256, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S256x512, .f32⟩
  | .hbm, ⟨26, _⟩ => ⟨S2048x512, .f32⟩
  | .hbm, ⟨27, _⟩ => ⟨S2048x512, .f32⟩
  | .hbm, ⟨28, _⟩ => ⟨S2048x256, .f32⟩
  | .hbm, ⟨29, _⟩ => ⟨S2048x256, .f32⟩
  | .hbm, ⟨30, _⟩ => ⟨S2048x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x256, .f32⟩
  | .hbm, ⟨41, _⟩ => ⟨S2048x256, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S2048x256, .f32⟩
  | .hbm, ⟨53, _⟩ => ⟨S2048x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel28.lean ====
abbrev S1024x768 : Shape := ⟨2, ![1024, 768]⟩
abbrev S1024x8 : Shape := ⟨2, ![1024, 8]⟩
abbrev S8x768 : Shape := ⟨2, ![8, 768]⟩
abbrev S256x768 : Shape := ⟨2, ![256, 768]⟩
abbrev S256x8 : Shape := ⟨2, ![256, 8]⟩
abbrev S256x1 : Shape := ⟨2, ![256, 1]⟩
abbrev S1x768 : Shape := ⟨2, ![1, 768]⟩

abbrev nBuf : Space → Nat
  | .hbm => 9
  | .vmem => 17
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x8, .f32⟩
  | .hbm, ⟨4, _⟩ => ⟨S8x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x8, .f32⟩
  | .local _ .vmem, ⟨7, _⟩ => ⟨S256x8, .f32⟩
  | .local _ .vmem, ⟨8, _⟩ => ⟨S8x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference28Ideal.lean ====
abbrev S1024x768 : Shape := ⟨2, ![1024, 768]⟩
abbrev S1024x8 : Shape := ⟨2, ![1024, 8]⟩
abbrev S8x768 : Shape := ⟨2, ![8, 768]⟩
abbrev S8x1024 : Shape := ⟨2, ![8, 1024]⟩
abbrev S768x1024 : Shape := ⟨2, ![768, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x8, .f32⟩
  | .hbm, ⟨4, _⟩ => ⟨S8x768, .f32⟩
  | .hbm, ⟨5, _⟩ => ⟨S8x1024, .f32⟩
  | .hbm, ⟨6, _⟩ => ⟨S8x768, .f32⟩
  | .hbm, ⟨7, _⟩ => ⟨S768x1024, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S_, .f32⟩
  | .hbm, ⟨13, _⟩ => ⟨S1024x768, .f32⟩
  | .hbm, ⟨14, _⟩ => ⟨S1024x768, .f32⟩
  | .hbm, ⟨15, _⟩ => ⟨S1024x768, .f32⟩
  | .hbm, ⟨16, _⟩ => ⟨S_, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel29.lean ====
abbrev S8x1024 : Shape := ⟨2, ![8, 1024]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x768, .f32⟩
  | .hbm, ⟨4, _⟩ => ⟨S8x1024, .f32⟩
  | .local _ .vmem, ⟨0, _⟩ => ⟨S8x1024, .f32⟩
  | .local _ .vmem, ⟨1, _⟩ => ⟨S1024x768, .f32⟩
  | .local _ .vmem, ⟨2, _⟩ => ⟨S1x768, .f32⟩
  | .local _ .vmem, ⟨3, _⟩ => ⟨S8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference29Ideal.lean ====
abbrev S8x1024 : Shape := ⟨2, ![8, 1024]⟩
abbrev S1024x768 : Shape := ⟨2, ![1024, 768]⟩
abbrev S1x768 : Shape := ⟨2, ![1, 768]⟩
abbrev S_ : Shape := ⟨0, ![]⟩
abbrev S8x768 : Shape := ⟨2, ![8, 768]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x768, .f32⟩
  | .hbm, ⟨13, _⟩ => ⟨S8x768, .f32⟩
  | .hbm, ⟨14, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.GatesWalk.lean ====
/- The walk of the forget gate's backward kernel over its sixteen tiles of 128 positions, last tile first,
   written once for a tile of any number: the running sum carried from tile to tile, the gradient each
   tile stores and the total over the tiles. The kernel's two stored values are these, for every float
   semantics. -/
module

public import proofs.«01_k».proof.Proof.Gen.KernelIdeal.Value

@[expose] public section

set_option maxRecDepth 16384

noncomputable section

namespace Cert.Proof.Gates

open Cert.KernelIdeal Cert.KernelIdeal.Gen Idealize.ShloMosaic Idealize.ShloMosaic.TcCoe Idealize.SL.Sem

variable {F : FTy → Type} [FloatOps F]

/-- The lanes of tile `t`: positions `128 t` to `128 t + 127` of all eight heads. -/
def tile (t : Fin 16) : Rect S8x2048 :=
  Rect.unit ![0, 128 * t.val] S8x128.size (fun a => match a with
    | ⟨0, _⟩ => Nat.le_refl 8
    | ⟨1, _⟩ => by show 128 * t.val + 128 ≤ 2048; omega)

/-- The tile of step `n` of the walk: the walk goes from the last tile to the first. -/
def at_ (n : Nat) : Fin 16 := ⟨15 - n, by omega⟩

/-- The triangle of ones: row `a`, lane `b` holds one where `a ≥ b`. -/
def tri : FVec F S128x128 .f32 :=
  select (cmpi .sge (iota .tc S128x128 32 [0] iota_S128x128_d0_w32) (iota .tc S128x128 32 [1] iota_S128x128_d1_w32))
    (broadcast S128x128 (Scalar.ofBits .f32 0x3F800000#32)) (broadcast S128x128 (Scalar.ofBits .f32 0x00000000#32))

/-- A tile's suffix sums of `-d`, on top of what the later tiles' sums came to. -/
def sums (carry : FVec F S8x1 .f32) (d : Vec F S8x128 .f32) : FVec F S8x128 .f32 :=
  addf (matmul dot_S8x128_S128x128_S8x128_1_0_0_1_n_n (some .fp32)
      (subf (broadcast S8x128 (Scalar.ofBits .f32 0x00000000#32)) d) tri (constant S8x128 .f32 0x00000000#32))
    (broadcastTo S8x128 carry broadcasts_S8x1_S8x128)

/-- What the tiles before step `n` of the walk sum to: nothing at first, then lane 0 of the last tile's sums. -/
def carry (d : Vec F S8x2048 .f32) : Nat → FVec F S8x1 .f32
  | 0 => broadcast S8x1 (Scalar.ofBits .f32 0x00000000#32)
  | n + 1 => extractStridedSlice S8x1 ![0, 0] (sums (carry d n) (View.ld d (tile (at_ n)))) slices_S8x128_o0_0_S8x1

/-- The gradient of the gate's logit on the tile of step `n`. -/
def grad (d z : Vec F S8x2048 .f32) (b : Vec F S8x1 .f32) (n : Nat) : FVec F S8x128 .f32 :=
  mulf (sums (carry d n) (View.ld d (tile (at_ n))))
    (divf (broadcast S8x128 (Scalar.ofBits .f32 0x3F800000#32))
      (addf (broadcast S8x128 (Scalar.ofBits .f32 0x3F800000#32))
        (exp (subf (broadcast S8x128 (Scalar.ofBits .f32 0x00000000#32))
          (subf (broadcast S8x128 (Scalar.ofBits .f32 0x00000000#32))
            (addf (View.ld z (tile (at_ n)))
              (broadcastTo S8x128 (shapeCast S8x1 (View.ld b r0_1) shapeCasts_S8x1_S8x1) broadcasts_S8x1_S8x128)))))))

/-- The gradient's sum over the tiles before step `n`. -/
def total (d z : Vec F S8x2048 .f32) (b : Vec F S8x1 .f32) : Nat → FVec F S8x1 .f32
  | 0 => broadcast S8x1 (Scalar.ofBits .f32 0x00000000#32)
  | n + 1 => addf (total d z b n)
      (shapeCast S8x1 (multiReduction .add [1] S8 (grad d z b n) 0x00000000#32 reduces_S8x128_S8 (.inl rfl) rfl) shapeCasts_S8_S8x1)

/-- The kernel's first result is the walk's gradients, tile by tile. -/
theorem out_grad (d z : Vec F S8x2048 .f32) (b : Vec F S8x1 .f32) :
    out0_3 d z b = View.canon ((List.range 16).reverse.map fun n => ⟨tile (at_ n), grad d z b n⟩) := rfl

/-- The kernel's second result is the walk's total. -/
theorem out_total (d z : Vec F S8x2048 .f32) (b : Vec F S8x1 .f32) :
    out0_4 d z b = View.canon [⟨r0_1, total d z b 16⟩] := rfl

end Cert.Proof.Gates

end
-- ==== Proof.GatesSums.lean ====
/- The walk of `GatesWalk` over the extended reals: each tile's sums are the sums of `-d` over all later positions,
   its gradient is that sum times the gate's derivative, and its total is the sum of the gradient over all positions. -/
module

public import proofs.«01_k».proof.Proof.GatesWalk
public import Idealize.ShloMosaic.Lib.MatmulPlain
public import Idealize.ShloMosaic.Lib.ValueIdx
public import Idealize.ShloMosaic.PureOps.Ideal.Laws
public import Idealize.ShloMosaic.Lib.IdealHost

@[expose] public section

set_option maxRecDepth 16384

noncomputable section

namespace Cert.Proof.Gates

open Cert.KernelIdeal Cert.KernelIdeal.Gen Idealize.ShloMosaic Idealize.ShloMosaic.TcCoe Idealize.SL.Sem
open Idealize.ShloMosaic.ValueIdx

/-- `-d` of head `r` at position `k`, and nothing past the last position. -/
def term (d : S8x2048.Idx → EReal) (r : Fin 8) (k : Nat) : EReal :=
  if h : k < 2048 then -d (ix2 r ⟨k, h⟩) else 0

/-- The sum of `-d` of head `r` over the positions from `l` on. -/
def later (d : S8x2048.Idx → EReal) (r : Fin 8) (l : Nat) : EReal := ∑ k ∈ Finset.Ico l 2048, term d r k

/-- The derivative of the log-sigmoid at `y`, in the form the kernel takes it. -/
def slope (y : EReal) : EReal := Ideal.div 1 (1 + Ideal.exp (0 - (0 - y)))

/-- The gradient of the gate's logit of head `r` at position `l`. -/
def gradAt (d z : S8x2048.Idx → EReal) (b : S8x1.Idx → EReal) (r : Fin 8) (l : Fin 2048) : EReal :=
  later d r l * slope (z (ix2 r l) + b (ix2 r 0))

/-- The triangle's elements. -/
theorem tri_apply (a b : Fin 128) : tri (F := Ideal) (ix2 a b) = if b ≤ a then (1 : EReal) else 0 := by
  have h : ∀ a b : Fin 128, IntOp.cmpi .sge (BitVec.ofNat 32 (0 * 128 + a.val)) (BitVec.ofNat 32 (0 * 128 + b.val)) = if b ≤ a then 1#1 else 0#1 := by
    decide +kernel
  show Scalar.select (IntOp.cmpi .sge (BitVec.ofNat 32 (0 * 128 + a.val)) (BitVec.ofNat 32 (0 * 128 + b.val))) (Ideal.ofBits .f32 0x3F800000#32) (Ideal.ofBits .f32 0x00000000#32) = _
  rw [h, Ideal.ofBits_one_f32, Ideal.ofBits_zero_f32]
  split <;> rfl

theorem tile_idx (t : Fin 16) (r : Fin 8) (a : Fin 128) :
    (tile t).idx (ix2 r a) = ix2 r ⟨128 * t.val + a.val, by omega⟩ := by
  funext i
  match i with
  | ⟨0, _⟩ => exact Fin.ext (by show 0 + 1 * r.val = r.val; omega)
  | ⟨1, _⟩ => exact Fin.ext (by show 128 * t.val + 1 * a.val = 128 * t.val + a.val; omega)

/-- A block of positions from `b` on, as a sum over the block's 128 positions. -/
theorem sum_block {o b : Nat} (f : Nat → EReal) (hb : b ≤ 128) :
    ∑ a : Fin 128, (if b ≤ a.val then f (o + a.val) else 0) = ∑ k ∈ Finset.Ico (o + b) (o + 128), f k := by
  rw [Fin.sum_univ_eq_sum_range (fun a => if b ≤ a then f (o + a) else 0) 128, ← Finset.sum_filter,
    Nat.add_comm o b, Nat.add_comm o 128, ← Finset.sum_Ico_add f b 128 o]
  refine Finset.sum_congr (Finset.ext fun a => ?_) fun _ _ => rfl
  simp only [Finset.mem_filter, Finset.mem_range, Finset.mem_Ico]
  omega

/-- A tile's sums, on top of the sum over the later tiles, are the sums over all later positions. -/
theorem sums_apply (d : S8x2048.Idx → EReal) (C : S8x1.Idx → EReal) (t : Fin 16)
    (hC : ∀ r, C (ix2 r 0) = later d r (128 * t.val + 128)) (r : Fin 8) (b : Fin 128) :
    sums (F := Ideal) C (View.ld d (tile t)) (ix2 r b) = later d r (128 * t.val + b.val) := by
  have e : sums (F := Ideal) C (View.ld d (tile t)) (ix2 r b)
      = (Ideal.ofBits .f32 0x00000000#32 + ∑ a : Fin 128, (Ideal.ofBits .f32 0x00000000#32 - d ((tile t).idx (ix2 r a))) * tri (F := Ideal) (ix2 a b))
        + broadcastTo S8x128 C broadcasts_S8x1_S8x128 (ix2 r b) :=
    congrArg (· + _) (Ideal.matmul_plain_apply (M := 8) (K := 128) (N := 128) (some .fp32) _ _ _ r b)
  rw [e, Ideal.ofBits_zero_f32, zero_add, broadcastTo_apply C broadcasts_S8x1_S8x128 (ix2 r b) (ix2 r 0) (fun a => by
    match a with
    | ⟨0, _⟩ => rfl
    | ⟨1, _⟩ => rfl), hC]
  have s : ∑ a : Fin 128, (0 - d ((tile t).idx (ix2 r a))) * tri (F := Ideal) (ix2 a b)
      = ∑ k ∈ Finset.Ico (128 * t.val + b.val) (128 * t.val + 128), term d r k := by
    rw [← sum_block (fun k => term d r k) b.isLt.le]
    refine Finset.sum_congr rfl fun a _ => ?_
    rw [tri_apply, tile_idx, zero_sub, term, dif_pos (by omega)]
    by_cases h : b ≤ a
    · rw [if_pos h, if_pos (Fin.le_def.mp h), mul_one]
    · rw [if_neg h, if_neg (fun h' => h (Fin.le_def.mpr h')), mul_zero]
  rw [s]
  exact Finset.sum_Ico_consecutive _ (by omega) (by omega)

/-- What a step's tile adds to: the sums over the tiles already walked. -/
theorem carry_apply (d : S8x2048.Idx → EReal) (n : Nat) (hn : n ≤ 15) (r : Fin 8) :
    carry (F := Ideal) d n (ix2 r 0) = later d r (128 * (15 - n) + 128) := by
  induction n generalizing r with
  | zero =>
    show Ideal.ofBits .f32 0x00000000#32 = _
    rw [Ideal.ofBits_zero_f32, later]
    simp
  | succ n ih =>
    have e : carry (F := Ideal) d (n + 1) (ix2 r 0) = sums (F := Ideal) (carry (F := Ideal) d n) (View.ld d (tile (at_ n))) (ix2 r 0) :=
      extractStridedSlice_apply _ _ _ _ (ix2 r 0) (fun a => by
        match a with
        | ⟨0, _⟩ => show r.val = 0 + r.val; omega
        | ⟨1, _⟩ => rfl)
    rw [e, sums_apply d _ (at_ n) (fun r => ih (by omega) r)]
    congr 1
    show 128 * (15 - n) + 0 = _
    omega

/-- The bias of each head, on every lane. -/
def biasLanes (b : Vec Ideal S8x1 .f32) : FVec Ideal S8x128 .f32 :=
  broadcastTo S8x128 (shapeCast S8x1 (View.ld b r0_1) shapeCasts_S8x1_S8x1) broadcasts_S8x1_S8x128

/-- A step's gradient is the gradient at its tile's positions. -/
theorem grad_apply (d z : S8x2048.Idx → EReal) (b : S8x1.Idx → EReal) (n : Nat) (hn : n ≤ 15) (r : Fin 8) (a : Fin 128) :
    grad (F := Ideal) d z b n (ix2 r a) = gradAt d z b r ⟨128 * (15 - n) + a.val, by omega⟩ := by
  have e : grad (F := Ideal) d z b n (ix2 r a)
      = sums (F := Ideal) (carry (F := Ideal) d n) (View.ld d (tile (at_ n))) (ix2 r a)
        * Ideal.div (Ideal.ofBits .f32 0x3F800000#32) (Ideal.ofBits .f32 0x3F800000#32 + Ideal.exp (Ideal.ofBits .f32 0x00000000#32
          - (Ideal.ofBits .f32 0x00000000#32 - (z ((tile (at_ n)).idx (ix2 r a))
            + biasLanes b (ix2 r a))))) := by
    unfold grad
    generalize sums (F := Ideal) (carry (F := Ideal) d n) (View.ld d (tile (at_ n))) = A
    rw [← biasLanes]
    generalize biasLanes b = B
    rfl
  have hb : biasLanes b (ix2 r a) = b (ix2 r 0) := by
    rw [biasLanes, broadcastTo_apply _ broadcasts_S8x1_S8x128 (ix2 r a) (ix2 r 0) (fun a => by
      match a with
      | ⟨0, _⟩ => rfl
      | ⟨1, _⟩ => rfl)]
    refine (congrFun (shapeCast_self (s := S8x1) (α := EReal) (fun j => b (r0_1.idx j)) shapeCasts_S8x1_S8x1) (ix2 r 0)).trans ?_
    exact congrArg b (funext fun i => by
      match i with
      | ⟨0, _⟩ => exact Fin.ext (by show 0 + 1 * r.val = r.val; omega)
      | ⟨1, _⟩ => rfl)
  rw [e, hb, sums_apply d _ (at_ n) (carry_apply d n hn), Ideal.ofBits_zero_f32, Ideal.ofBits_one_f32, tile_idx]
  rfl

/-- The gradient of head `r` at position `k`, and nothing past the last position. -/
def gradTerm (d z : S8x2048.Idx → EReal) (b : S8x1.Idx → EReal) (r : Fin 8) (k : Nat) : EReal :=
  if h : k < 2048 then gradAt d z b r ⟨k, h⟩ else 0

/-- The total over the tiles walked is the gradient's sum over their positions. -/
theorem total_apply (d z : S8x2048.Idx → EReal) (b : S8x1.Idx → EReal) (n : Nat) (hn : n ≤ 16) (r : Fin 8) :
    total (F := Ideal) d z b n (ix2 r 0) = ∑ k ∈ Finset.Ico (128 * (16 - n)) 2048, gradTerm d z b r k := by
  induction n with
  | zero =>
    show Ideal.ofBits .f32 0x00000000#32 = _
    rw [Ideal.ofBits_zero_f32]
    simp
  | succ n ih =>
    have e : total (F := Ideal) d z b (n + 1) (ix2 r 0) = total (F := Ideal) d z b n (ix2 r 0)
        + shapeCast S8x1 (multiReduction .add [1] S8 (grad (F := Ideal) d z b n) 0x00000000#32 reduces_S8x128_S8 (.inl rfl) rfl) shapeCasts_S8_S8x1 (ix2 r 0) := rfl
    have s : shapeCast S8x1 (multiReduction .add [1] S8 (grad (F := Ideal) d z b n) 0x00000000#32 reduces_S8x128_S8 (.inl rfl) rfl) shapeCasts_S8_S8x1 (ix2 r 0)
        = ∑ a : Fin 128, grad (F := Ideal) d z b n (ix2 r a) := by
      rw [shapeCast_apply _ shapeCasts_S8_S8x1 (ix2 r 0) (ix1 r) (by
        rw [Shape.rowMajor_val_one, Shape.rowMajor_val_two]; show r.val = r.val * 1 + 0; omega)]
      refine (Ideal.multiReduction_add_single _ _ reduces_S8x128_S8 _ _ (ix1 r)).trans (Finset.sum_congr rfl fun a _ => congrArg _ (funext fun i => ?_))
      match i with
      | ⟨0, _⟩ => rfl
      | ⟨1, _⟩ => rfl
    have c : ∑ a : Fin 128, grad (F := Ideal) d z b n (ix2 r a) = ∑ k ∈ Finset.Ico (128 * (15 - n) + 0) (128 * (15 - n) + 128), gradTerm d z b r k := by
      rw [← sum_block (fun k => gradTerm d z b r k) (Nat.zero_le 128)]
      refine Finset.sum_congr rfl fun a _ => ?_
      rw [grad_apply d z b n (by omega), if_pos (Nat.zero_le _), gradTerm, dif_pos]
    rw [e, s, c, ih (by omega), add_comm]
    have h1 : 128 * (16 - n) = 128 * (15 - n) + 128 := by omega
    have h2 : 128 * (16 - (n + 1)) = 128 * (15 - n) + 0 := by omega
    rw [h1, h2]
    exact Finset.sum_Ico_consecutive _ (by omega) (by omega)

end Cert.Proof.Gates

end
-- ==== Proof.GatesKernel.lean ====
/- The forget gate's backward kernel run: what its two result arrays hold, at each index. -/
module

public import proofs.«01_k».proof.Proof.GatesSums

@[expose] public section

set_option maxRecDepth 16384

noncomputable section

namespace Cert.Proof.Gates

open Cert.KernelIdeal Cert.KernelIdeal.Gen Idealize.ShloMosaic Idealize.ShloMosaic.TcCoe Idealize.SL.Sem
open Idealize.ShloMosaic.ValueIdx
open Idealize.ShloMosaic.Pipeline (Dat)

/-- The first result, read at an index: the piece of the tile the position lies in. -/
theorem out_grad_apply (d z : S8x2048.Idx → EReal) (b : S8x1.Idx → EReal) (r : Fin 8) (l : Fin 2048) :
    out0_3 (F := Ideal) d z b (ix2 r l) = gradAt d z b r l := by
  rw [out_grad]
  refine View.canon_apply_of_pieces (Val := Elt Ideal) (e := .f32) (fun i : S8x2048.Idx => gradAt d z b (i 0) (i 1)) _ (fun p hp => ?_) (ix2 r l)
    ⟨⟨tile (at_ (15 - l.val / 128)), grad (F := Ideal) d z b (15 - l.val / 128)⟩, ?_, ?_⟩
  · obtain ⟨n, hn, rfl⟩ := List.mem_map.mp hp
    have hn' : n ≤ 15 := by have := List.mem_range.mp (List.mem_reverse.mp hn); omega
    intro x
    have ex : x = ix2 (n0 := 8) (n1 := 128) (x 0) (x 1) := eq_ix2 (n0 := 8) (n1 := 128) x
    rw [ex]
    refine (grad_apply d z b n hn' (x 0) (x 1)).trans ?_
    have et : (tile (at_ n)).emb (ix2 (n0 := 8) (n1 := 128) (x 0) (x 1)) = _ := tile_idx (at_ n) (x 0) (x 1)
    show _ = gradAt d z b ((tile (at_ n)).emb (ix2 (n0 := 8) (n1 := 128) (x 0) (x 1)) 0) ((tile (at_ n)).emb (ix2 (n0 := 8) (n1 := 128) (x 0) (x 1)) 1)
    rw [et]
    rfl
  · exact List.mem_map.mpr ⟨15 - l.val / 128, by simp; omega, rfl⟩
  · show ix2 r l ∈ (tile (at_ (15 - l.val / 128))).set
    rw [tile, Rect.mem_set_unit]
    intro a
    match a with
    | ⟨0, _⟩ => exact ⟨Nat.zero_le _, by show r.val < 0 + 8; omega⟩
    | ⟨1, _⟩ =>
      show 128 * (15 - (15 - l.val / 128)) ≤ l.val ∧ l.val < 128 * (15 - (15 - l.val / 128)) + 128
      omega

/-- The second result, read at an index. -/
theorem out_total_apply (d z : S8x2048.Idx → EReal) (b : S8x1.Idx → EReal) (r : Fin 8) :
    out0_4 (F := Ideal) d z b (ix2 r 0) = ∑ l : Fin 2048, gradAt d z b r l := by
  have hz : (![0, 0] : Fin 2 → Nat) = fun _ => 0 := funext fun a => by fin_cases a <;> rfl
  rw [out_total]
  refine (congrFun (View.canon_unit_zero (Val := Elt Ideal) (e := .f32) (S := S8x1) hz _ (total (F := Ideal) d z b 16)) (ix2 r 0)).trans ?_
  rw [total_apply d z b 16 le_rfl]
  show ∑ k ∈ Finset.Ico 0 2048, gradTerm d z b r k = _
  rw [← Finset.range_eq_Ico, ← Fin.sum_univ_eq_sum_range (gradTerm d z b r) 2048]
  exact Finset.sum_congr rfl fun l _ => dif_pos l.isLt

variable (m : (ℓ : Loc nD τ sig) → Buf (Elt Ideal) ℓ) (ρ : Dev nD → PrngReg)

/-- The bias column the launch is given: the host's transpose of the bias row. -/
theorem bias_eq (c : Dev nD) (r : Fin 8) :
    (V m c main_v0 : S8x1.Idx → EReal) (ix2 r 0) = (m ((c : Thread nD τ).loc main_arg2) : S1x8.Idx → EReal) (ix2 0 r) := by
  have e : V m c main_v0 = transpose S8x1 [1, 0] (m ((c : Thread nD τ).loc main_arg2)) Cert.KernelIdeal.Gen.transposes_S1x8_S8x1_1_0 := by
    dsimp only [V]
    simp only [hostOps0, StableHlo.TRef.unary, StableHlo.TRef.toBuf, StableHlo.TRef.ofBuf, cast_eq]
    after_results_simp <;> rfl
  rw [e]
  exact transpose_apply [1, 0] _ _ (ix2 r 0) (ix2 0 r) (fun b => match b with
    | ⟨0, _⟩ => rfl
    | ⟨1, _⟩ => rfl)

/-- The launch's one point takes each operand whole. -/
theorem block0 (c : Dev nD) (t : Fin cfg0.N) : iblk m c 0 t = m ((c : Thread nD τ).loc main_arg0) := by
  rcases fin_N0 t with rfl
  refine Eq.trans ?_ (V_main_arg0 m c)
  exact funext fun i => congrArg (V m c main_arg0) (funext fun a => Fin.ext (by fin_cases a <;> exact (Nat.zero_add _).trans (Nat.one_mul _)))

theorem block1 (c : Dev nD) (t : Fin cfg0.N) : iblk m c 1 t = m ((c : Thread nD τ).loc main_arg1) := by
  rcases fin_N0 t with rfl
  refine Eq.trans ?_ (V_main_arg1 m c)
  exact funext fun i => congrArg (V m c main_arg1) (funext fun a => Fin.ext (by fin_cases a <;> exact (Nat.zero_add _).trans (Nat.one_mul _)))

theorem block2 (c : Dev nD) (t : Fin cfg0.N) : iblk m c 2 t = V m c main_v0 := by
  rcases fin_N0 t with rfl
  exact funext fun i => congrArg (V m c main_v0) (funext fun a => Fin.ext (by fin_cases a <;> exact (Nat.zero_add _).trans (Nat.one_mul _)))

/-- The first result array after the run. -/
theorem final_grad (c : Dev nD) (r : Fin 8) (l : Fin 2048) : ((dats m 0 c).arrAt 3 cfg0.N : S8x2048.Idx → EReal) (ix2 r l)
    = gradAt (m ((c : Thread nD τ).loc main_arg0)) (m ((c : Thread nD τ).loc main_arg1)) (V m c main_v0) r l := by
  rw [← out_grad_apply, ← block0 m c t0_0, ← block1 m c t0_0, ← block2 m c t0_0]
  refine Eq.trans ?_ (congrFun ((Value.blocks3 m c t0_0 (flush0_3 t0_0)).trans (Value.flushed3 m c t0_0)) (ix2 r l))
  exact congrArg _ (funext fun a => Fin.ext (by fin_cases a <;> exact ((Nat.zero_add _).trans (Nat.one_mul _)).symm))

/-- The second result array after the run. -/
theorem final_total (c : Dev nD) (r : Fin 8) : ((dats m 0 c).arrAt 4 cfg0.N : S8x1.Idx → EReal) (ix2 r 0)
    = ∑ l : Fin 2048, gradAt (m ((c : Thread nD τ).loc main_arg0)) (m ((c : Thread nD τ).loc main_arg1)) (V m c main_v0) r l := by
  rw [← out_total_apply, ← block0 m c t0_0, ← block1 m c t0_0, ← block2 m c t0_0]
  refine Eq.trans ?_ (congrFun ((Value.blocks4 m c t0_0 (flush0_4 t0_0)).trans (Value.flushed4 m c t0_0)) (ix2 r 0))
  exact congrArg _ (funext fun a => Fin.ext (by fin_cases a <;> exact ((Nat.zero_add _).trans (Nat.one_mul _)).symm))

end Cert.Proof.Gates

end
-- ==== Proof.GatesReference.lean ====
/- The reference of the forget gate's backward pass over the extended reals: the reverse running sum that `cumsum`'s transpose is,
   and the derivative of the log-sigmoid in the form automatic differentiation gives it. -/
module

public import proofs.«01_k».proof.Proof.GatesSums
public import proofs.«01_k».proof.Proof.Gen.ReferenceIdeal.Read

@[expose] public section

set_option maxRecDepth 16384

noncomputable section

namespace Cert.Proof.Gates

open Cert.ReferenceIdeal Cert.ReferenceIdeal.Read Idealize.ShloMosaic Idealize.ShloMosaic.TcCoe Idealize.SL.Sem
open Idealize.ShloMosaic.ValueIdx

/-- A left fold that adds is the sum. -/
theorem foldl_add_eq {ι : Type} (g : ι → EReal) (L : List ι) (v : EReal) :
    L.foldl (fun r n => r + g n) v = v + (L.map g).sum := by
  induction L generalizing v with
  | nil => simp
  | cons a L ih => rw [List.foldl_cons, ih, List.map_cons, List.sum_cons, add_assoc]

/-- One position of the window: the operand's element there, or nothing past the end. -/
theorem window_term (d : S8x2048.Idx → EReal) (r : Fin 8) (l : Fin 2048) (w : (⟨2, ![1, 2048]⟩ : Shape).Idx) :
    (if hin : ∀ a : Fin 2, (![0, 0] : Fin 2 → Nat) a ≤ ((ix2 r l : S8x2048.Idx) a).val * (![1, 1] : Fin 2 → Nat) a + (w a).val
        ∧ ((ix2 r l : S8x2048.Idx) a).val * (![1, 1] : Fin 2 → Nat) a + (w a).val - (![0, 0] : Fin 2 → Nat) a < S8x2048.size a
      then -d (fun a => ⟨((ix2 r l : S8x2048.Idx) a).val * (![1, 1] : Fin 2 → Nat) a + (w a).val - (![0, 0] : Fin 2 → Nat) a, (hin a).2⟩) else 0)
      = if h : l.val + (w 1).val < 2048 then -d (ix2 r ⟨l.val + (w 1).val, h⟩) else 0 := by
  have w0 : (w 0).val = 0 := by have : (w 0).val < 1 := (w 0).isLt; omega
  by_cases h : l.val + (w 1).val < 2048
  · rw [dif_pos (fun a => by
      match a with
      | ⟨0, _⟩ => refine ⟨Nat.zero_le _, ?_⟩; show r.val * 1 + (w 0).val - 0 < 8; omega
      | ⟨1, _⟩ => refine ⟨Nat.zero_le _, ?_⟩; show l.val * 1 + (w 1).val - 0 < 2048; omega), dif_pos h]
    refine congrArg (fun i => -d i) (funext fun a => Fin.ext ?_)
    match a with
    | ⟨0, _⟩ => show r.val * 1 + (w 0).val - 0 = r.val; omega
    | ⟨1, _⟩ => show l.val * 1 + (w 1).val - 0 = l.val + (w 1).val; omega
  · rw [dif_neg (fun hin => h (by
      have := (hin (1 : Fin 2)).2
      change l.val * 1 + (w 1).val - 0 < 2048 at this
      omega)), dif_neg h]

/-- The reverse running sum: at position `l`, the terms from `l` on. -/
theorem later_eq_window (d : S8x2048.Idx → EReal) (r : Fin 8) (l : Fin 2048) :
    val_main_v7 (F := Ideal) d (ix2 r l) = later d r l := by
  have e : val_main_v7 (F := Ideal) d (ix2 r l)
      = (List.finRange (⟨2, ![1, 2048]⟩ : Shape).numel).foldl (fun s n => s +
          (fun w : (⟨2, ![1, 2048]⟩ : Shape).Idx => if h : l.val + (w 1).val < 2048 then -d (ix2 r ⟨l.val + (w 1).val, h⟩) else 0)
            ((⟨2, ![1, 2048]⟩ : Shape).rowMajor.symm n)) 0 := by
    have hv : val_main_call2_call0_v0 (F := Ideal) (Shape.Idx.first Cert.ReferenceIdeal.Gen.h_S_) = 0 := by
      rw [val_main_call2_call0_v0_apply, val_main_call2_call0_cst_apply]
      exact Ideal.ofBits_zero_f32
    have hd : val_main_v6 (F := Ideal) d = fun i => -d i := rfl
    unfold val_main_v7 Host.reduceWindowAdd
    rw [hv, hd, Ideal.hostReduceWindowAdd_def]
    unfold Ideal.hostReduceWindowAdd Host.reduceWindow
    refine congrArg (fun f => List.foldl f (0 : EReal) _) (funext fun s => funext fun n => congrArg (s + ·) ?_)
    refine Eq.trans ?_ (window_term d r l ((⟨2, ![1, 2048]⟩ : Shape).rowMajor.symm n))
    congr
  rw [e, foldl_add_eq, zero_add, ← Fin.sum_univ_def, Equiv.sum_comp (⟨2, ![1, 2048]⟩ : Shape).rowMajor.symm
      (fun w : (⟨2, ![1, 2048]⟩ : Shape).Idx => if h : l.val + (w 1).val < 2048 then -d (ix2 r ⟨l.val + (w 1).val, h⟩) else 0), sum_idx2]
  rw [Fin.sum_univ_one]
  have t : ∀ b : Fin 2048, (if h : l.val + b.val < 2048 then -d (ix2 r ⟨l.val + b.val, h⟩) else 0) = term d r (b.val + l.val) := by
    intro b; rw [term, Nat.add_comm]
  refine (Finset.sum_congr rfl fun b _ => t b).trans ?_
  rw [Fin.sum_univ_eq_sum_range (fun b => term d r (b + l.val)) 2048, Finset.range_eq_Ico, Finset.sum_Ico_add' (term d r) 0 2048 l.val,
    Nat.zero_add, later, ← Finset.sum_Ico_consecutive (term d r) l.isLt.le (by omega : 2048 ≤ 2048 + l.val)]
  refine (congrArg (_ + ·) (Finset.sum_eq_zero fun k hk => ?_)).trans (add_zero _)
  rw [term, dif_neg (by have := (Finset.mem_Ico.mp hk).1; omega)]

/-- The softplus of a real number, as it is computed. -/
theorem softplus_real (x : ℝ) : max x 0 + Real.log (1 + Real.exp (-|x|)) = Real.log (1 + Real.exp x) := by
  rcases le_total 0 x with h | h
  · have e : 1 + Real.exp x = Real.exp x * (1 + Real.exp (-x)) := by rw [mul_add, mul_one, ← Real.exp_add]; simp [add_comm]
    rw [max_eq_left h, abs_of_nonneg h, e, Real.log_mul (Real.exp_pos x).ne' (by positivity), Real.log_exp]
  · rw [max_eq_right h, abs_of_nonpos h, neg_neg, zero_add]

/-- The derivative of the log-sigmoid at `y` as automatic differentiation writes it, with `x = -y`: `exp (x - softplus x)`, an infinite
    operand of the difference replaced by zero. -/
def slopeOf (x : EReal) : EReal :=
  let p := max x 0 + Ideal.log1p (Ideal.exp (-(max (x - 0) (-(x - 0)))))
  Ideal.exp ((if x = ⊤ then 0 else x) - (if p = ⊤ then 0 else p))

/-- It is the kernel's `1 / (1 + exp y)`, at the infinities too. -/
theorem slopeOf_neg (y : EReal) : slopeOf (-y) = slope y := by
  induction y with
  | bot =>
    have : slope ⊥ = 1 := by
      rw [slope]; simp [Ideal.div]
    have h : Ideal.log 1 = 0 := by rw [← EReal.coe_one, Ideal.log_coe]; simp
    rw [this]
    simp [slopeOf, Ideal.log1p, h]
    rw [← EReal.coe_zero, Ideal.exp_coe, Real.exp_zero, EReal.coe_one]
  | top =>
    have : slope ⊤ = 0 := by
      rw [slope]; simp [Ideal.div, EReal.add_top_of_ne_bot (show (1 : EReal) ≠ ⊥ from EReal.coe_ne_bot 1)]
    rw [this]
    simp [slopeOf, Ideal.log1p]
  | coe y =>
    have hs : slope (y : EReal) = ((1 / (1 + Real.exp y) : ℝ) : EReal) := by
      have h1 : (0 : EReal) - (0 - (y : EReal)) = (y : EReal) := by
        rw [zero_sub, zero_sub, neg_neg]
      have h2 : (1 : EReal) + Ideal.exp (y : EReal) = ((1 + Real.exp y : ℝ) : EReal) := by
        rw [Ideal.exp_coe]; norm_cast
      have h3 : (0 : ℝ) < 1 + Real.exp y := by positivity
      rw [slope, h1, h2, Ideal.div_coe h3.ne', one_mul]
    have hp : max (-(y : EReal)) 0 + Ideal.log1p (Ideal.exp (-(max (-(y : EReal) - 0) (-(-(y : EReal) - 0)))))
        = ((Real.log (1 + Real.exp (-y)) : ℝ) : EReal) := by
      have a1 : max (-(y : EReal)) 0 = ((max (-y) 0 : ℝ) : EReal) := by norm_cast
      have a2 : max (-(y : EReal) - 0) (-(-(y : EReal) - 0)) = ((|(-y)| : ℝ) : EReal) := by
        rw [sub_zero, abs_eq_max_neg]; norm_cast
      have a3 : Ideal.log1p (Ideal.exp (-((|(-y)| : ℝ) : EReal))) = ((Real.log (1 + Real.exp (-|(-y)|)) : ℝ) : EReal) := by
        have h : (0 : ℝ) < 1 + Real.exp (-|(-y)|) := by positivity
        rw [← EReal.coe_neg, Ideal.exp_coe, Ideal.log1p, ← EReal.coe_one, ← EReal.coe_add, Ideal.log_coe, if_neg (not_le.mpr h)]
      rw [a1, a2, a3, ← EReal.coe_add, softplus_real]
    have hx : (-(y : EReal)) ≠ ⊤ := by rw [← EReal.coe_neg]; exact EReal.coe_ne_top _
    rw [slopeOf]
    show Ideal.exp ((if _ then _ else _) - (if _ = _ then _ else _)) = _
    rw [hp, if_neg hx, if_neg (EReal.coe_ne_top _), hs, ← EReal.coe_neg, ← EReal.coe_sub, Ideal.exp_coe, Real.exp_sub,
      Real.exp_log (by positivity), Real.exp_neg]
    congr 1
    field_simp
    exact add_comm _ _

theorem ofBits_infinity : Ideal.ofBits .f32 0x7F800000#32 = ⊤ := by
  simp [Ideal.ofBits, Ideal.ieee]

theorem select_eq (c : Prop) [Decidable c] (a b : EReal) :
    Scalar.select (BitVec.ofBool (decide c)) a b = if c then a else b := by
  by_cases h : c <;> simp [h, Scalar.select]

/-- The reference's factor at an index. -/
theorem slope_reference (z : S8x2048.Idx → EReal) (b : S1x8.Idx → EReal) (r : Fin 8) (l : Fin 2048) :
    val_main_v3_1 (F := Ideal) z b (ix2 r l) = slope (z (ix2 r l) + b (ix2 0 r)) := by
  have hb : val_main_v2 (F := Ideal) z b (ix2 r l) = z (ix2 r l) + b (ix2 0 r) := by
    rw [val_main_v2_apply, val_main_v1_apply, val_main_v0_apply]
    exact congrArg (z (ix2 r l) + b ·) (funext fun a => by
      match a with
      | ⟨0, _⟩ => rfl
      | ⟨1, _⟩ => rfl)
  rw [← slopeOf_neg, ← hb]
  generalize hx : val_main_call0_v0 (F := Ideal) z b (ix2 r l) = x
  have hx' : -val_main_v2 (F := Ideal) z b (ix2 r l) = x := hx
  have hp : val_main_call0_v1_0 (F := Ideal) z b (ix2 r l) = max x 0 + Ideal.log1p (Ideal.exp (-(max (x - 0) (-(x - 0))))) := by
    rw [val_main_call0_v1_0_apply, val_main_call0_call0_v4_apply, Ideal.cmpf_def]
    show Scalar.select (BitVec.ofBool (decide ((_ : EReal) ≠ _))) _ _ = _
    rw [select_eq, if_neg (not_not.mpr rfl), val_main_call0_call0_v11_apply, val_main_call0_call0_v1_apply, val_main_call0_call0_v10_apply,
      val_main_call0_call0_v9_apply, val_main_call0_call0_v8_apply, val_main_call0_call0_v7_apply, val_main_call0_call0_v3_apply, hx]
    show max x (Ideal.ofBits .f32 0x00000000#32) + Ideal.log1p (Ideal.exp (-(max (x - Ideal.ofBits .f32 0x00000000#32) (-(x - Ideal.ofBits .f32 0x00000000#32))))) = _
    rw [Ideal.ofBits_zero_f32]
  rw [val_main_v3_1_apply, val_main_call0_call0_v21_apply, val_main_call0_call0_v16_apply, val_main_call0_call0_v20_apply,
    val_main_call0_call0_v14_apply, val_main_call0_call0_v18_apply, hx, hp, hx']
  show Ideal.exp (Scalar.select (BitVec.ofBool (decide (x = Ideal.ofBits .f32 0x7F800000#32))) (Ideal.ofBits .f32 0x00000000#32) x
    - Scalar.select (BitVec.ofBool (decide (_ = Ideal.ofBits .f32 0x7F800000#32))) (Ideal.ofBits .f32 0x00000000#32) _) = _
  rw [select_eq, select_eq, Ideal.ofBits_zero_f32, ofBits_infinity]
  rfl

/-- The reference's first result at an index. -/
theorem reference_grad (d z : S8x2048.Idx → EReal) (b : S1x8.Idx → EReal) (b' : S8x1.Idx → EReal) (hb : ∀ r : Fin 8, b' (ix2 r 0) = b (ix2 0 r))
    (r : Fin 8) (l : Fin 2048) : val_main_v8 (F := Ideal) d z b (ix2 r l) = gradAt d z b' r l := by
  rw [val_main_v8_apply, val_main_call3_v1_apply, val_main_call3_v0_apply, later_eq_window, slope_reference, gradAt, hb]
  show -(-later d r l * _) = _
  rw [EReal.neg_mul, neg_neg]

/-- The reference's second result at an index. -/
theorem reference_total (d z : S8x2048.Idx → EReal) (b : S1x8.Idx → EReal) (b' : S8x1.Idx → EReal) (hb : ∀ r : Fin 8, b' (ix2 r 0) = b (ix2 0 r))
    (r : Fin 8) : val_main_v12 (F := Ideal) d z b (ix2 r 0) = ∑ l : Fin 2048, gradAt d z b' r l := by
  rw [val_main_v12_apply, val_main_v11_apply, val_main_v10_apply, val_main_v9_apply]
  show Ideal.ofBits .f32 0x00000000#32 + _ = _
  rw [Ideal.ofBits_zero_f32, zero_add]
  refine Finset.sum_congr rfl fun l _ => ?_
  rw [← reference_grad d z b b' hb]
  exact congrArg _ (funext fun a => by
    match a with
    | ⟨0, _⟩ => exact Fin.ext (by show r.val * 1 + 0 = r.val; omega)
    | ⟨1, _⟩ => rfl)

end Cert.Proof.Gates

end
-- ==== Proof.GatesClaim.lean ====
/- The forget gate's backward kernel against its reference over the extended reals. -/
module

public import proofs.«01_k».proof.Defs
public import proofs.«01_k».proof.Proof.GatesKernel
public import proofs.«01_k».proof.Proof.GatesReference
public import proofs.«01_k».proof.Proof.Gen.ReferenceIdeal.Run

@[expose] public section

set_option maxRecDepth 16384

noncomputable section

namespace Cert.Proof.Gates

open Idealize.ShloMosaic Idealize.ShloMosaic.TcCoe Idealize.SL.Sem Idealize.ShloMosaic.ValueIdx

/-- The reference leaves its arguments as they were: it is a line of host operations without semaphores. -/
theorem frame_reference : Cert.quiescent_ReferenceIdeal := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The gradients of the gate's logits and of its bias are those of the reference, at every input. -/
theorem algebraic : Cert.algebraic_KernelIdeal_ReferenceIdeal := by
  intro m g m' g' _ hargs
  have hb : ∀ (c : Dev Cert.KernelIdeal.nD) (r : Fin 8), (Cert.KernelIdeal.Gen.V m c Cert.KernelIdeal.main_v0 : Cert.KernelIdeal.S8x1.Idx → EReal) (ix2 r 0)
      = (m' ((c.tc : Thread Cert.ReferenceIdeal.nD Cert.ReferenceIdeal.τ).loc Cert.ReferenceIdeal.main_arg2) : Cert.ReferenceIdeal.S1x8.Idx → EReal) (ix2 0 r) := fun c r => by
    rw [(hargs c).2.2]; exact bias_eq m c r
  refine ⟨_, _, (θ_run _ _ _).mono (fun r h c => h c) (Cert.KernelIdeal.Value.run_blocks m g),
    (θ_run _ _ _).mono (fun r h c => ⟨(h c).1.trans ?_, (h c).2.1.trans ?_, (h c).2.2⟩) (Cert.ReferenceIdeal.Value.run m' g')⟩
  · rw [Cert.ReferenceIdeal.Read.val_main_v8_eq, (hargs c).1, (hargs c).2.1]
    funext i
    rw [eq_ix2 (n0 := 8) (n1 := 2048) i]
    exact (reference_grad _ _ _ _ (hb c) _ _).trans (final_grad m c _ _).symm
  · rw [Cert.ReferenceIdeal.Read.val_main_v12_eq, (hargs c).1, (hargs c).2.1]
    funext i
    have hi : i = ix2 (n0 := 8) (n1 := 1) (i 0) 0 :=
      (eq_ix2 (n0 := 8) (n1 := 1) i).trans (congrArg (ix2 (n0 := 8) (n1 := 1) (i 0)) (Fin.fin_one_eq_zero _))
    rw [hi]
    exact (reference_total _ _ _ _ (hb c) _).trans (final_total m c _).symm

end Cert.Proof.Gates

end
-- ==== Proof.Blocks.lean ====
/- What the calls' proofs share: two-axis indices, a block's offset, and the three forms of a product. -/
module

public import Idealize.ShloMosaic.Lib.Pointwise
public import Idealize.ShloMosaic.Lib.ValueIdx
public import Idealize.ShloMosaic.Lib.Quiescent

@[expose] public section

noncomputable section

namespace Cert.Proof.Blocks

open Idealize.ShloMosaic

/-- The shape of a matrix. -/
abbrev Mat (a b : Nat) : Shape := ⟨2, ![a, b]⟩

/-- The offset of a whole buffer. -/
theorem hz : (![0, 0] : Fin 2 → Nat) = fun _ => 0 := funext fun a => by fin_cases a <;> rfl

/-- An index of a matrix is known by its row and its column. -/
theorem eq_of_val {a b : Nat} (x : (Mat a b).Idx) (i : Fin a) (j : Fin b) (h0 : (x 0).val = i.val) (h1 : (x 1).val = j.val) :
    x = ix2 i j :=
  funext fun k => Fin.ext (match k with | ⟨0, _⟩ => h0 | ⟨1, _⟩ => h1)

/-- Two matrices are equal when their entries are. -/
theorem ext {a b : Nat} {α : Type} (x y : (Mat a b).Idx → α) (h : ∀ i j, x (ix2 i j) = y (ix2 i j)) : x = y :=
  funext fun i => by
    have hi : i = ix2 (i 0) (i 1) := ValueIdx.eq_ix2 (n0 := a) (n1 := b) i
    rw [hi]; exact h _ _

/-- `x y`. -/
def mulNN {M K N : Nat} (x : (Mat M K).Idx → EReal) (y : (Mat K N).Idx → EReal) (i : Fin M) (j : Fin N) : EReal :=
  ∑ k : Fin K, x (ix2 i k) * y (ix2 k j)

/-- `x yᵀ`. -/
def mulNT {M K N : Nat} (x : (Mat M K).Idx → EReal) (y : (Mat N K).Idx → EReal) (i : Fin M) (j : Fin N) : EReal :=
  ∑ k : Fin K, x (ix2 i k) * y (ix2 j k)

/-- `xᵀ y`. -/
def mulTN {M K N : Nat} (x : (Mat K M).Idx → EReal) (y : (Mat K N).Idx → EReal) (i : Fin M) (j : Fin N) : EReal :=
  ∑ k : Fin K, x (ix2 k i) * y (ix2 k j)

theorem mulNN_congr {M K N M' N' : Nat} {x : (Mat M K).Idx → EReal} {y : (Mat K N).Idx → EReal} {x' : (Mat M' K).Idx → EReal}
    {y' : (Mat K N').Idx → EReal} {i : Fin M} {j : Fin N} {i' : Fin M'} {j' : Fin N'}
    (hx : ∀ k, x (ix2 i k) = x' (ix2 i' k)) (hy : ∀ k, y (ix2 k j) = y' (ix2 k j')) : mulNN x y i j = mulNN x' y' i' j' :=
  Finset.sum_congr rfl fun k _ => by rw [hx, hy]

theorem mulNT_congr {M K N M' N' : Nat} {x : (Mat M K).Idx → EReal} {y : (Mat N K).Idx → EReal} {x' : (Mat M' K).Idx → EReal}
    {y' : (Mat N' K).Idx → EReal} {i : Fin M} {j : Fin N} {i' : Fin M'} {j' : Fin N'}
    (hx : ∀ k, x (ix2 i k) = x' (ix2 i' k)) (hy : ∀ k, y (ix2 j k) = y' (ix2 j' k)) : mulNT x y i j = mulNT x' y' i' j' :=
  Finset.sum_congr rfl fun k _ => by rw [hx, hy]

theorem mulTN_congr {M K N M' N' : Nat} {x : (Mat K M).Idx → EReal} {y : (Mat K N).Idx → EReal} {x' : (Mat K M').Idx → EReal}
    {y' : (Mat K N').Idx → EReal} {i : Fin M} {j : Fin N} {i' : Fin M'} {j' : Fin N'}
    (hx : ∀ k, x (ix2 k i) = x' (ix2 k i')) (hy : ∀ k, y (ix2 k j) = y' (ix2 k j')) : mulTN x y i j = mulTN x' y' i' j' :=
  Finset.sum_congr rfl fun k _ => by rw [hx, hy]

end Cert.Proof.Blocks

end
-- ==== Proof.Numbers.lean ====
/- Arrays of numbers: what it is that no entry is infinite, and the arithmetic that then is the reals'. -/
module

public import Idealize.ShloMosaic.Lib.Pointwise
public import Idealize.ShloMosaic.Lib.ReduceAll
public import proofs.«01_k».proof.Proof.Blocks

@[expose] public section

noncomputable section

namespace Cert.Proof.Numbers

open Idealize.ShloMosaic

/-- Every entry is a number. -/
def Num {ι : Type} (x : ι → EReal) : Prop := ∃ f : ι → ℝ, x = fun i => (f i : EReal)

/-- The word of the f32 infinity is the extended reals' greatest element. -/
theorem ofBits_inf : Ideal.ofBits .f32 0x7F800000#32 = ⊤ := by simp [Ideal.ofBits, Ideal.ieee]

/-- An extended real whose magnitude is below the infinity is a number. -/
theorem number {x : EReal} (h : Ideal.cmp .olt (max x (-x)) (Ideal.ofBits .f32 0x7F800000#32) = 1#1) : ∃ r : ℝ, x = r := by
  have h' : max x (-x) < ⊤ := by rw [← ofBits_inf]; exact (Ideal.cmp_olt_eq_one _ _).1 h
  rw [max_lt_iff] at h'
  refine ⟨x.toReal, (EReal.coe_toReal h'.1.ne ?_).symm⟩
  rintro rfl
  exact absurd h'.2 (by simp)

/-- What `jnp.all(jnp.abs(x) < jnp.inf)` says where it holds. -/
theorem num_of_all {s t u : Shape} {axes : List (Fin s.rank)} [Subsingleton t.Idx] (x : s.Idx → EReal) (c : s.Idx → EReal)
    (hc : ∀ i, c i = Ideal.ofBits .f32 0x7F800000#32) (init : u.Idx → BitVec 1) (h : s.ReducesTo axes t) (hu : 0 < u.numel) (j : t.Idx)
    (e : Host.reduce IntOp.andi (cmpf (F := Ideal) (φ := .f32) .olt (Host.absf x) c) init h hu j = 1#1) : Num x := by
  have hi : ∀ i, ∃ r : ℝ, x i = r := fun i => number (by
    have := Host.reduce_andi_all _ init h hu j e i
    rw [← hc i]
    exact this)
  choose f hf using hi
  exact ⟨f, funext hf⟩

/-- Both halves of a conjunction of bits. -/
theorem and_one {a b : BitVec 1} (h : IntOp.andi a b = 1#1) : a = 1#1 ∧ b = 1#1 := by
  revert a b; decide

/-- A finite sum of numbers is a number. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A product of arrays of numbers has numbers for entries. -/
theorem mulNT_number {M K N : Nat} {x : (Blocks.Mat M K).Idx → EReal} {y : (Blocks.Mat N K).Idx → EReal} (hx : Num x) (hy : Num y)
    (i : Fin M) (j : Fin N) : ∃ r : ℝ, Blocks.mulNT x y i j = r := by
  obtain ⟨x, rfl⟩ := hx
  obtain ⟨y, rfl⟩ := hy
  exact ⟨_, coe_sum Finset.univ fun k => x (ix2 i k) * y (ix2 j k)⟩

/-- The logistic of a number. -/
def sig (g : ℝ) : ℝ := 1 / (1 + Real.exp (-g))

theorem div_number (x y : ℝ) (h : y ≠ 0) : Ideal.div (x : EReal) (y : EReal) = ((x / y : ℝ) : EReal) := by
  rw [Ideal.div_coe h, ← EReal.coe_mul, mul_one_div]

/-- The logistic, as it is printed. -/
def gate (g : EReal) : EReal := Ideal.div 1 (1 + Ideal.exp (-g))

theorem logistic_number (g : ℝ) : Ideal.div 1 (1 + Ideal.exp (-(g : EReal))) = (sig g : EReal) := by
  have h : (1 : EReal) + Ideal.exp (-(g : EReal)) = ((1 + Real.exp (-g) : ℝ) : EReal) := by
    rw [← EReal.coe_neg, Ideal.exp_coe, EReal.coe_add, EReal.coe_one]
  rw [h, ← EReal.coe_one, div_number _ _ (by positivity)]
  rfl

theorem gate_number (g : ℝ) : gate (g : EReal) = (sig g : EReal) := logistic_number g

end Cert.Proof.Numbers

end
-- ==== Proof.FfnOutDx.lean ====
/- The gradient of the feed-forward's gate and up halves: `dy wᵀ` through `silu(g) * u`. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Blocks
public import proofs.«01_k».proof.Proof.Numbers
public import proofs.«01_k».proof.Defs
public import proofs.«01_k».proof.Proof.Gen.Pre_finite2
public import Idealize.ShloMosaic.Lib.KernelVsHost

@[expose] public section

set_option maxRecDepth 16384

noncomputable section

namespace Cert.Proof.FfnOutDx

open Cert.Kernel2Ideal Cert.Kernel2Ideal.Gen Idealize.ShloMosaic Idealize.ShloMosaic.TcCoe Idealize.SL.Sem
open Idealize.ShloMosaic.Pipeline (Dat)
open Cert.Proof.Blocks Cert.Proof.Numbers

/-- An entry of the gate half, from the product's entry `d`, the gate `g` and the up value `u`. -/
def gateCell (d g u : EReal) : EReal := d * u * (gate g * (1 + g * (1 - gate g)))

/-- An entry of the up half. -/
def upCell (d g : EReal) : EReal := d * (g * gate g)

/-- One tile of the result's rows `i`: 1408 columns of the gate half, then 1408 of the up half. -/
def block {R : Nat} (x : (Mat R 1024).Idx → EReal) (w : (Mat 1408 1024).Idx → EReal) (g : (Mat R 2816).Idx → EReal)
    (i : Fin R) (j : Fin 2816) : EReal :=
  let q : Fin 1408 := ⟨j.val % 1408, Nat.mod_lt _ (by omega)⟩
  let gv := g (ix2 i ⟨j.val % 1408, by omega⟩)
  if j.val < 1408 then gateCell (mulNT x w i q) gv (g (ix2 i ⟨1408 + j.val % 1408, by omega⟩)) else upCell (mulNT x w i q) gv

theorem block_congr {R : Nat} (x : (Mat R 1024).Idx → EReal) (x' : (Mat 512 1024).Idx → EReal) (w w' : (Mat 1408 1024).Idx → EReal)
    (g : (Mat R 2816).Idx → EReal) (g' : (Mat 512 2816).Idx → EReal) (i : Fin R) (i' : Fin 512) (j : Fin 2816)
    (hx : ∀ k, x (ix2 i k) = x' (ix2 i' k)) (hw : w = w') (hg : ∀ k, g (ix2 i k) = g' (ix2 i' k)) :
    block x w g i j = block x' w' g' i' j := by
  subst hw
  unfold block
  simp only [hg, mulNT_congr hx (fun _ => rfl)]

/-- The payload of one chunk of 256 rows. -/
theorem pay_apply (x : S256x1024.Idx → EReal) (w : S1408x1024.Idx → EReal) (g : S256x2816.Idx → EReal) (i : Fin 256) (j : Fin 2816) :
    k0_pay2 (F := Ideal) x w g (ix2 i j) = block x w g i j := by
  simp only [k0_pay2, pointwise, zero_sub, zero_add]
  unfold block
  split
  · next h =>
    have e : j.val % 1408 = j.val := Nat.mod_eq_of_lt h
    have ea : (⟨![0, 0] 0 + i.val, by simp⟩ : Fin 256) = i := Fin.ext (by simp)
    simp only [gateCell, gate, mulNT, e, ea, Matrix.cons_val_zero, Matrix.cons_val_one, Nat.zero_add]
  · next h =>
    have e : j.val % 1408 = j.val - 1408 := by omega
    simp only [upCell, gate, mulNT, e, Matrix.cons_val_zero, Matrix.cons_val_one, Nat.zero_add, if_true, Fin.val_zero, Fin.val_one,
      zero_ne_one, if_false, Fin.eta]

/-- The second chunk's payload, which the body prints in parts, is the first's. -/
theorem pay_eq (x : S256x1024.Idx → EReal) (w : S1408x1024.Idx → EReal) (g : S256x2816.Idx → EReal) :
    k0_pay1 (k0_pay3 (F := Ideal) x w) (k0_pay4 g) (k0_pay5 g) = k0_pay2 x w g := rfl

/-- What a point leaves in its block of 512 rows. -/
theorem out_apply (x : S512x1024.Idx → EReal) (w : S1408x1024.Idx → EReal) (g : S512x2816.Idx → EReal) (i : Fin 512) (j : Fin 2816) :
    out0_3 (F := Ideal) x w g (ix2 i j) = block x w g i j := by
  refine View.canon_apply_of_pieces (Val := Elt Ideal) (e := .bf16)
    (fun y : S512x2816.Idx => block x w g (y 0) (y 1)) _ ?_ _ (cover0_3 _ _ _)
  intro p hp y
  rcases List.mem_cons.1 hp with rfl | hp
  · refine (congrArg _ (ValueIdx.eq_ix2 (n0 := 256) (n1 := 2816) y)).trans ((congrFun (pay_eq _ _ _) _).trans ((pay_apply _ _ _ _ _).trans ?_))
    refine (block_congr _ x _ w _ g (y 0) ((r0_4.emb y) 0) (y 1) (fun k => ?_) (View.ld_unit_zero (Val := Elt Ideal) (e := .bf16) hz _ w) (fun k => ?_)).trans (congrArg _ (Fin.ext ?_))
    · exact congrArg x (eq_of_val _ _ _ rfl (by show 0 + 1 * k.val = k.val; omega))
    · exact congrArg g (eq_of_val _ _ _ rfl (by show 0 + 1 * k.val = k.val; omega))
    · show (y 1).val = 0 + 1 * (y 1).val; omega
  · rcases List.mem_singleton.1 hp with rfl
    refine (congrArg _ (ValueIdx.eq_ix2 (n0 := 256) (n1 := 2816) y)).trans ((pay_apply _ _ _ _ _).trans ?_)
    refine (block_congr _ x _ w _ g (y 0) ((r0_2.emb y) 0) (y 1) (fun k => ?_) (View.ld_unit_zero (Val := Elt Ideal) (e := .bf16) hz _ w) (fun k => ?_)).trans (congrArg _ (Fin.ext ?_))
    · exact congrArg x (eq_of_val _ _ _ rfl (by show 0 + 1 * k.val = k.val; omega))
    · exact congrArg g (eq_of_val _ _ _ rfl (by show 0 + 1 * k.val = k.val; omega))
    · show (y 1).val = 0 + 1 * (y 1).val; omega

/-- An entry of the whole result, `(row, column)`: the columns go by tiles of 1408, gate and up in turn. -/
def entry (x : (Mat 2048 1024).Idx → EReal) (w : (Mat 2816 1024).Idx → EReal) (g : (Mat 2048 5632).Idx → EReal)
    (i : Fin 2048) (j : Fin 5632) : EReal :=
  let d := mulNT x w i ⟨j.val / 2816 * 1408 + j.val % 1408, by omega⟩
  let gv := g (ix2 i ⟨j.val / 2816 * 2816 + j.val % 1408, by omega⟩)
  if j.val % 2816 < 1408 then gateCell d gv (g (ix2 i ⟨j.val / 2816 * 2816 + 1408 + j.val % 1408, by omega⟩)) else upCell d gv

theorem at0 : ∀ t : Fin cfg0.N, win0_0.index t 0 = t.val / 2 ∧ win0_0.index t 1 = 0 := by decide +kernel
theorem at1 : ∀ t : Fin cfg0.N, win0_1.index t 0 = t.val % 2 ∧ win0_1.index t 1 = 0 := by decide +kernel
theorem at2 : ∀ t : Fin cfg0.N, win0_2.index t 0 = t.val / 2 ∧ win0_2.index t 1 = t.val % 2 := by decide +kernel
theorem at3 : ∀ t : Fin cfg0.N, win0_3.index t 0 = t.val / 2 ∧ win0_3.index t 1 = t.val % 2 := by decide +kernel

variable (m : (ℓ : Loc nD τ sig) → Buf (Elt Ideal) ℓ)

/-- An entry of the array the call leaves. -/
theorem final (c : Dev nD) (i : Fin 2048) (j : Fin 5632) : ((dats m 0 c).arrAt 3 cfg0.N : S2048x5632.Idx → EReal) (ix2 i j)
    = entry (m ((c : Thread nD τ).loc main_arg0)) (m ((c : Thread nD τ).loc main_arg1)) (m ((c : Thread nD τ).loc main_arg2)) i j := by
  have ht : i.val / 512 * 2 + j.val / 2816 < cfg0.N := by show _ < 8; omega
  have e0 : (i.val / 512 * 2 + j.val / 2816) / 2 = i.val / 512 := by omega
  have e1 : (i.val / 512 * 2 + j.val / 2816) % 2 = j.val / 2816 := by omega
  refine Eq.trans (congrArg _ (eq_of_val _ i j ?_ ?_).symm) ((congrFun ((Value.blocks3 m c ⟨_, ht⟩ (flush0_3 _)).trans
    (Value.flushed3 m c ⟨_, ht⟩)) (ix2 ⟨i.val % 512, Nat.mod_lt _ (by omega)⟩ ⟨j.val % 2816, Nat.mod_lt _ (by omega)⟩)).trans
    ((out_apply _ _ _ _ _).trans ?_))
  · show win0_3.index ⟨_, ht⟩ 0 * 512 + 1 * (i.val % 512) = i.val
    rw [(at3 _).1]; show (i.val / 512 * 2 + j.val / 2816) / 2 * 512 + 1 * (i.val % 512) = i.val; omega
  · show win0_3.index ⟨_, ht⟩ 1 * 2816 + 1 * (j.val % 2816) = j.val
    rw [(at3 _).2]; show (i.val / 512 * 2 + j.val / 2816) % 2 * 2816 + 1 * (j.val % 2816) = j.val; omega
  · have hx : ∀ k : Fin 1024, iblk m c 0 ⟨_, ht⟩ (ix2 ⟨i.val % 512, Nat.mod_lt _ (by omega)⟩ k)
        = (m ((c : Thread nD τ).loc main_arg0) : S2048x1024.Idx → EReal) (ix2 i k) := fun k => by
      rw [← V_main_arg0 m c]
      refine congrArg (V m c main_arg0) (eq_of_val _ _ _ ?_ ?_)
      · show win0_0.index ⟨_, ht⟩ 0 * 512 + 1 * (i.val % 512) = i.val
        rw [(at0 _).1]; show (i.val / 512 * 2 + j.val / 2816) / 2 * 512 + 1 * (i.val % 512) = i.val; omega
      · show win0_0.index ⟨_, ht⟩ 1 * 1024 + 1 * k.val = k.val
        rw [(at0 _).2]; omega
    have hw : ∀ (q : Fin 1408) (k : Fin 1024), iblk m c 1 ⟨_, ht⟩ (ix2 q k)
        = (m ((c : Thread nD τ).loc main_arg1) : S2816x1024.Idx → EReal) (ix2 ⟨j.val / 2816 * 1408 + q.val, by omega⟩ k) := fun q k => by
      rw [← V_main_arg1 m c]
      refine congrArg (V m c main_arg1) (eq_of_val _ _ _ ?_ ?_)
      · show win0_1.index ⟨_, ht⟩ 0 * 1408 + 1 * q.val = j.val / 2816 * 1408 + q.val
        rw [(at1 _).1]; show (i.val / 512 * 2 + j.val / 2816) % 2 * 1408 + 1 * q.val = _; rw [e1]; omega
      · show win0_1.index ⟨_, ht⟩ 1 * 1024 + 1 * k.val = k.val
        rw [(at1 _).2]; omega
    have hg : ∀ q : Fin 2816, iblk m c 2 ⟨_, ht⟩ (ix2 ⟨i.val % 512, Nat.mod_lt _ (by omega)⟩ q)
        = (m ((c : Thread nD τ).loc main_arg2) : S2048x5632.Idx → EReal) (ix2 i ⟨j.val / 2816 * 2816 + q.val, by omega⟩) := fun q => by
      rw [← V_main_arg2 m c]
      refine congrArg (V m c main_arg2) (eq_of_val _ _ _ ?_ ?_)
      · show win0_2.index ⟨_, ht⟩ 0 * 512 + 1 * (i.val % 512) = i.val
        rw [(at2 _).1]; show (i.val / 512 * 2 + j.val / 2816) / 2 * 512 + 1 * (i.val % 512) = i.val; omega
      · show win0_2.index ⟨_, ht⟩ 1 * 2816 + 1 * q.val = j.val / 2816 * 2816 + q.val
        rw [(at2 _).2]; show (i.val / 512 * 2 + j.val / 2816) % 2 * 2816 + 1 * q.val = _; rw [e1]; omega
    have e : j.val % 2816 % 1408 = j.val % 1408 := by omega
    unfold block entry
    simp only [hg, e, mulNT_congr hx (fun k => hw ⟨j.val % 1408, Nat.mod_lt _ (by omega)⟩ k), Nat.add_assoc]

/-- On numbers, jax's gradient of `silu` is the kernel's. -/
theorem silu_grad (d g u : ℝ) :
    (d : EReal) * u * gate g + g * (d * u) * (gate g * (1 - gate g)) = gateCell d g u := by
  have h : gate g = (sig g : EReal) := gate_number g
  have e : d * u * sig g + g * (d * u) * (sig g * (1 - sig g)) = d * u * (sig g * (1 + g * (1 - sig g))) := by ring
  unfold gateCell
  rw [h]
  exact_mod_cast congrArg ((↑) : ℝ → EReal) e

section Reference
open Cert.Reference2Ideal.Read

/-- The reference's gate half: column `q` of the product's tile order is this column of `gu`. -/
theorem gate_read (g : S2048x5632.Idx → EReal) (i : Fin 2048) (q : Fin 2816) :
    val_main_v4 (F := Ideal) g (ix2 i q) = g (ix2 i ⟨q.val / 1408 * 2816 + q.val % 1408, by omega⟩) := by
  rw [val_main_v4_apply, val_main_v3_apply, val_main_v2_apply, val_main_v1_apply, val_main_v0_apply]
  refine congrArg g (eq_of_val _ _ _ ?_ ?_)
  · dsimp [idx_main_v1, idx_main_v2, idx_main_v3, idx_main_v4, ix2]; omega
  · dsimp [idx_main_v1, idx_main_v2, idx_main_v3, idx_main_v4, ix2]; omega

/-- The reference's up half. -/
theorem up_read (g : S2048x5632.Idx → EReal) (i : Fin 2048) (q : Fin 2816) :
    val_main_v7 (F := Ideal) g (ix2 i q) = g (ix2 i ⟨q.val / 1408 * 2816 + 1408 + q.val % 1408, by omega⟩) := by
  rw [val_main_v7_apply, val_main_v6_apply, val_main_v5_apply, val_main_v1_apply, val_main_v0_apply]
  refine congrArg g (eq_of_val _ _ _ ?_ ?_)
  · dsimp [idx_main_v1, idx_main_v5, idx_main_v6, idx_main_v7, ix2]; omega
  · dsimp [idx_main_v1, idx_main_v5, idx_main_v6, idx_main_v7, ix2]; omega

/-- In a gate column the reference's result is the gate half's gradient. -/
theorem put_gate (x : S2048x1024.Idx → EReal) (w : S2816x1024.Idx → EReal) (g : S2048x5632.Idx → EReal) (i : Fin 2048) (j : Fin 5632)
    (hj : j.val % 2816 < 1408) :
    val_main_v25 (F := Ideal) x w g (ix2 i j) = val_main_v16 (F := Ideal) x w g (ix2 i ⟨j.val / 2816 * 1408 + j.val % 1408, by omega⟩) := by
  rw [val_main_v25_apply, val_main_v24_apply, val_main_v23_apply]
  have h19 : val_main_v19 (F := Ideal) x w g (idx_main_v24 (ix2 i j)) = (0 : EReal) := by
    refine (pad_apply_of_not_inside _ _ _ _ _ _ _ _ 2 (fun h => ?_)).trans Ideal.ofBits_zero_f32
    have h := h.1
    dsimp [idx_main_v24, ix2] at h
    omega
  have h22 : val_main_v22 (F := Ideal) x w g (idx_main_v24 (ix2 i j)) = val_main_v21 (F := Ideal) x w g (ix4 i ⟨j.val / 2816, by omega⟩ 0 ⟨j.val % 1408, by omega⟩) := by
    refine pad_apply_of_inside _ _ _ _ _ _ _ _ _ (fun a => ?_)
    fin_cases a <;> dsimp [idx_main_v24, ix2, ix4] <;> omega
  rw [h19, h22, val_main_v21_apply, val_main_v20_apply]
  refine (zero_add _).trans (congrArg _ (eq_of_val _ _ _ ?_ ?_))
  · dsimp [idx_main_v20, idx_main_v21, ix2, ix4]; omega
  · dsimp [idx_main_v20, idx_main_v21, ix2, ix4]; omega

/-- In an up column the reference's result is the up half's gradient. -/
theorem put_up (x : S2048x1024.Idx → EReal) (w : S2816x1024.Idx → EReal) (g : S2048x5632.Idx → EReal) (i : Fin 2048) (j : Fin 5632)
    (hj : ¬j.val % 2816 < 1408) :
    val_main_v25 (F := Ideal) x w g (ix2 i j) = val_main_v14 (F := Ideal) x w g (ix2 i ⟨j.val / 2816 * 1408 + j.val % 1408, by omega⟩) := by
  rw [val_main_v25_apply, val_main_v24_apply, val_main_v23_apply]
  have h22 : val_main_v22 (F := Ideal) x w g (idx_main_v24 (ix2 i j)) = (0 : EReal) := by
    refine (pad_apply_of_not_inside _ _ _ _ _ _ _ _ 2 (fun h => ?_)).trans Ideal.ofBits_zero_f32
    have h := h.2.2
    dsimp [idx_main_v24, ix2] at h
    omega
  have h19 : val_main_v19 (F := Ideal) x w g (idx_main_v24 (ix2 i j)) = val_main_v18 (F := Ideal) x w g (ix4 i ⟨j.val / 2816, by omega⟩ 0 ⟨j.val % 1408, by omega⟩) := by
    refine pad_apply_of_inside _ _ _ _ _ _ _ _ _ (fun a => ?_)
    fin_cases a <;> dsimp [idx_main_v24, ix2, ix4] <;> omega
  rw [h22, h19, val_main_v18_apply, val_main_v17_apply]
  refine (add_zero _).trans (congrArg _ (eq_of_val _ _ _ ?_ ?_))
  · dsimp [idx_main_v17, idx_main_v18, ix2, ix4]; omega
  · dsimp [idx_main_v17, idx_main_v18, ix2, ix4]; omega

/-- The reference's product. -/
theorem product_read (x : S2048x1024.Idx → EReal) (w : S2816x1024.Idx → EReal) (i : Fin 2048) (q : Fin 2816) :
    val_main_v13 (F := Ideal) x w (ix2 i q) = mulNT x w i q := by
  simp only [val_main_v13, val_main_v12, val_main_v11, val_main_v10, val_main_v9, pointwise, zero_add]
  rfl

/-- The reference's logistic, at an entry. -/
theorem logistic_read (g : S2048x5632.Idx → EReal) (p : Cert.Reference2Ideal.S2048x2816.Idx) :
    val_main_v8_2 (F := Ideal) g p = gate (val_main_v4 (F := Ideal) g p) := by
  rw [val_main_v8_2_apply, val_main_call0_v4_apply, val_main_call0_v3_apply, val_main_call0_v2_apply, val_main_call0_v1_apply, val_main_call0_v0_apply]
  unfold gate
  rw [← Ideal.ofBits_one_f32]
  rfl

/-- The reference's result, at an entry. -/
theorem reference_apply (x : S2048x1024.Idx → EReal) (w : S2816x1024.Idx → EReal) (g : S2048x5632.Idx → EReal)
    (hx : Num x) (hw : Num w) (hg : Num g) (i : Fin 2048) (j : Fin 5632) :
    val_main_v25 (F := Ideal) x w g (ix2 i j) = entry x w g i j := by
  have hq : (⟨j.val / 2816 * 1408 + j.val % 1408, by omega⟩ : Fin 2816).val / 1408 * 2816 = j.val / 2816 * 2816 := by
    show (j.val / 2816 * 1408 + j.val % 1408) / 1408 * 2816 = _; omega
  have hr : (⟨j.val / 2816 * 1408 + j.val % 1408, by omega⟩ : Fin 2816).val % 1408 = j.val % 1408 := by
    show (j.val / 2816 * 1408 + j.val % 1408) % 1408 = _; omega
  unfold entry
  split
  · next h =>
    rw [put_gate x w g i j h, val_main_v16_apply, val_main_call1_v2_apply, val_main_call1_v1_apply, val_main_call1_v0_apply, val_main_v8_1_apply,
      val_main_call0_v7_apply, val_main_call0_v6_apply, val_main_v15_apply, logistic_read, product_read, gate_read, up_read]
    simp only [hq, hr]
    obtain ⟨d, hd⟩ := mulNT_number hx hw i ⟨j.val / 2816 * 1408 + j.val % 1408, by omega⟩
    obtain ⟨g, rfl⟩ := hg
    rw [hd]
    refine Eq.trans ?_ (silu_grad d _ _)
    rw [← Ideal.ofBits_one_f32]
    rfl
  · next h =>
    rw [put_up x w g i j h, val_main_v14_apply, val_main_v8_0_apply, logistic_read, product_read, gate_read]
    simp only [hq, hr]
    exact mul_comm _ _

end Reference

theorem frame_reference : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- What the precondition says of the arguments. -/
theorem numbers (m : (ℓ : Loc nD τ sig) → Buf (Elt Ideal) ℓ) (hp : Cert.Pre_Kernel2Ideal_finite2 m) (c : Dev nD) :
    Num (m ((c : Thread nD τ).loc main_arg0) : S2048x1024.Idx → EReal) ∧ Num (m ((c : Thread nD τ).loc main_arg1) : S2816x1024.Idx → EReal)
      ∧ Num (m ((c : Thread nD τ).loc main_arg2) : S2048x5632.Idx → EReal) := by
  have h := congrFun (hp c) (Shape.Idx.first Cert.Pre_finite2.Gen.h_S_)
  dsimp only [Cert.Pre_finite2.fn] at h
  obtain ⟨h, h2⟩ := and_one h
  obtain ⟨h0, h1⟩ := and_one h
  exact ⟨num_of_all _ _ (fun _ => rfl) _ _ _ _ h0, num_of_all _ _ (fun _ => rfl) _ _ _ _ h1, num_of_all _ _ (fun _ => rfl) _ _ _ _ h2⟩

/-- From memories that agree on the arguments, which are numbers, the call and its reference leave the same result. -/
theorem algebraic : Cert.algebraic_Kernel2Ideal_Reference2Ideal_pre_finite2 := by
  intro m g m' g' hp hargs
  refine ⟨_, (θ_run _ _ _).mono (fun r h c => h c) (Cert.Kernel2Ideal.Value.run_blocks m g),
    (θ_run _ _ _).mono (fun r h c => ⟨(h c).1.trans ?_, (h c).2⟩) (Cert.Reference2Ideal.Value.run m' g')⟩
  rw [Cert.Reference2Ideal.Read.val_main_v25_eq, (hargs c).1, (hargs c).2.1, (hargs c).2.2]
  obtain ⟨h0, h1, h2⟩ := numbers m hp c
  exact Blocks.ext _ _ fun i j => (reference_apply _ _ _ h0 h1 h2 i j).trans (final m c i j).symm

end Cert.Proof.FfnOutDx

end
-- ==== Proof.FfnOutDw.lean ====
/- The gradient of the output product's weight, `actᵀ dy`. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Blocks
public import proofs.«01_k».proof.Defs

@[expose] public section

set_option maxRecDepth 16384

noncomputable section

namespace Cert.Proof.FfnOutDw

open Cert.Kernel3Ideal Cert.Kernel3Ideal.Gen Idealize.ShloMosaic Idealize.ShloMosaic.TcCoe Idealize.SL.Sem
open Idealize.ShloMosaic.Pipeline (Dat)
open Cert.Proof.Blocks

/-- A block of the result, at an entry. -/
theorem out_apply (x : S2048x1408.Idx → EReal) (y : S2048x1024.Idx → EReal) (i : Fin 1408) (j : Fin 1024) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 2816) (j : Fin 1024) : ((dats m 0 c).arrAt 2 cfg0.N : S2816x1024.Idx → EReal) (ix2 i j)
    = mulTN (M := 2816) (K := 2048) (N := 1024) (m ((c : Thread nD τ).loc main_arg0)) (m ((c : Thread nD τ).loc main_arg1)) i j := by
  have ht : i.val / 1408 * 1 + j.val / 1024 < cfg0.N := by show _ < 2; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1408, Nat.mod_lt _ (by omega)⟩ ⟨j.val % 1024, Nat.mod_lt _ (by omega)⟩)).trans
    ((out_apply _ _ _ _).trans (mulTN_congr (fun k => ?_) (fun k => ?_))))
  · show win0_2.index ⟨_, ht⟩ 0 * 1408 + 1 * (i.val % 1408) = i.val
    rw [(at2 _).1]
    show (i.val / 1408 * 1 + j.val / 1024) / 1 * 1408 + 1 * (i.val % 1408) = i.val
    omega
  · show win0_2.index ⟨_, ht⟩ 1 * 1024 + 1 * (j.val % 1024) = j.val
    rw [(at2 _).2]
    show (i.val / 1408 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 1408 + 1 * (i.val % 1408) = i.val
      rw [(at0 _).2]
      show (i.val / 1408 * 1 + j.val / 1024) / 1 * 1408 + 1 * (i.val % 1408) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 1024 + 1 * (j.val % 1024) = j.val
      rw [(at1 _).2]
      show (i.val / 1408 * 1 + j.val / 1024) % 1 * 1024 + 1 * (j.val % 1024) = j.val
      omega

/-- The reference's result, at an entry. -/
theorem reference_apply (x : S2048x2816.Idx → EReal) (y : S2048x1024.Idx → EReal) (i : Fin 2816) (j : Fin 1024) :
    Cert.Reference3Ideal.Read.val_main_v6 (F := Ideal) x y (ix2 i j) = mulTN x y i j := by
  simp only [Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, pointwise]
  exact (zero_add _).trans (Finset.sum_congr rfl fun k _ => mul_comm _ _)

theorem frame_reference : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- From memories that agree on the arguments the call and its reference leave the same result. -/
theorem algebraic : Cert.algebraic_Kernel3Ideal_Reference3Ideal := by
  intro m g m' g' _ hargs
  refine ⟨_, (θ_run _ _ _).mono (fun r h c => h c) (Cert.Kernel3Ideal.Value.run_blocks m g),
    (θ_run _ _ _).mono (fun r h c => ⟨(h c).1.trans ?_, (h c).2⟩) (Cert.Reference3Ideal.Value.run m' g')⟩
  rw [Cert.Reference3Ideal.Read.val_main_v6_eq, (hargs c).1, (hargs c).2]
  exact Blocks.ext _ _ fun i j => (reference_apply _ _ i j).trans (final m c i j).symm

end Cert.Proof.FfnOutDw

end
-- ==== Proof.FfnInDw.lean ====
/- The gradient of the input product's weight, `dguᵀ h`. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Blocks
public import proofs.«01_k».proof.Defs

@[expose] public section

set_option maxRecDepth 16384

noncomputable section

namespace Cert.Proof.FfnInDw

open Cert.Kernel4Ideal Cert.Kernel4Ideal.Gen Idealize.ShloMosaic Idealize.ShloMosaic.TcCoe Idealize.SL.Sem
open Idealize.ShloMosaic.Pipeline (Dat)
open Cert.Proof.Blocks

/-- A block of the result, at an entry. -/
theorem out_apply (x : S2048x1408.Idx → EReal) (y : S2048x1024.Idx → EReal) (i : Fin 1408) (j : Fin 1024) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 5632) (j : Fin 1024) : ((dats m 0 c).arrAt 2 cfg0.N : S5632x1024.Idx → EReal) (ix2 i j)
    = mulTN (M := 5632) (K := 2048) (N := 1024) (m ((c : Thread nD τ).loc main_arg0)) (m ((c : Thread nD τ).loc main_arg1)) i j := by
  have ht : i.val / 1408 * 1 + j.val / 1024 < cfg0.N := by show _ < 4; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1408, Nat.mod_lt _ (by omega)⟩ ⟨j.val % 1024, Nat.mod_lt _ (by omega)⟩)).trans
    ((out_apply _ _ _ _).trans (mulTN_congr (fun k => ?_) (fun k => ?_))))
  · show win0_2.index ⟨_, ht⟩ 0 * 1408 + 1 * (i.val % 1408) = i.val
    rw [(at2 _).1]
    show (i.val / 1408 * 1 + j.val / 1024) / 1 * 1408 + 1 * (i.val % 1408) = i.val
    omega
  · show win0_2.index ⟨_, ht⟩ 1 * 1024 + 1 * (j.val % 1024) = j.val
    rw [(at2 _).2]
    show (i.val / 1408 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 1408 + 1 * (i.val % 1408) = i.val
      rw [(at0 _).2]
      show (i.val / 1408 * 1 + j.val / 1024) / 1 * 1408 + 1 * (i.val % 1408) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 1024 + 1 * (j.val % 1024) = j.val
      rw [(at1 _).2]
      show (i.val / 1408 * 1 + j.val / 1024) % 1 * 1024 + 1 * (j.val % 1024) = j.val
      omega

/-- The reference's result, at an entry. -/
theorem reference_apply (x : S2048x5632.Idx → EReal) (y : S2048x1024.Idx → EReal) (i : Fin 5632) (j : Fin 1024) :
    Cert.Reference4Ideal.Read.val_main_v8 (F := Ideal) x y (ix2 i j) = mulTN x y i j := by
  simp only [Cert.Reference4Ideal.Read.val_main_v8, Cert.Reference4Ideal.Read.val_main_v7, Cert.Reference4Ideal.Read.val_main_v6, Cert.Reference4Ideal.Read.val_main_v5, Cert.Reference4Ideal.Read.val_main_v4, Cert.Reference4Ideal.Read.val_main_v1, pointwise]
  exact zero_add _

theorem frame_reference : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- From memories that agree on the arguments the call and its reference leave the same result. -/
theorem algebraic : Cert.algebraic_Kernel4Ideal_Reference4Ideal := by
  intro m g m' g' _ hargs
  refine ⟨_, (θ_run _ _ _).mono (fun r h c => h c) (Cert.Kernel4Ideal.Value.run_blocks m g),
    (θ_run _ _ _).mono (fun r h c => ⟨(h c).1.trans ?_, (h c).2⟩) (Cert.Reference4Ideal.Value.run m' g')⟩
  rw [Cert.Reference4Ideal.Read.val_main_v8_eq, (hargs c).1, (hargs c).2]
  exact Blocks.ext _ _ fun i j => (reference_apply _ _ i j).trans (final m c i j).symm

end Cert.Proof.FfnInDw

end
-- ==== Proof.Norms.lean ====
/- The norm by the root of the mean of the squares, of a row of 1024 entries. -/
module

public import proofs.«01_k».proof.Proof.Blocks

@[expose] public section

noncomputable section

namespace Cert.Proof.Norms

open Idealize.ShloMosaic Cert.Proof.Blocks

/-- `1 / sqrt(mean(x²) + ε)`: the row's length, 1024, and `ε` are the words the programs hold. -/
def rstd (x : Fin 1024 → EReal) : EReal :=
  Ideal.rsqrt (Ideal.div (∑ k, x k * x k) (Ideal.ofBits FTy.f32 1149239296#32) + Ideal.ofBits FTy.f32 897988541#32)

/-- An entry of the norm, scaled by `g` and then by `1 + sc`, and shifted. -/
def modulated (x : Fin 1024 → EReal) (g sc sh : (Mat 1 1024).Idx → EReal) (j : Fin 1024) : EReal :=
  x j * rstd x * g (ix2 0 j) * (1 + sc (ix2 0 j)) + sh (ix2 0 j)

/-- An index of a matrix of one row. -/
theorem row_of_one {n : Nat} (j : Fin n) (i : Fin 1) (j' : Fin n) (h : j'.val = j.val) : (ix2 i j' : (Mat 1 n).Idx) = ix2 0 j :=
  eq_of_val _ _ _ (by show i.val = 0; omega) h

end Cert.Proof.Norms

end
-- ==== Proof.NormGrad.lean ====
/- The gradient of the norm of a row, as the kernel writes it and as differentiation does, and sums over the rows of a block. -/
module

public import Idealize.ShloMosaic.Lib.Pipeline.ValueKit.Acc
public import proofs.«01_k».proof.Proof.Blocks
public import proofs.«01_k».proof.Proof.Norms
public import proofs.«01_k».proof.Proof.Numbers

@[expose] public section

noncomputable section

namespace Cert.Proof.NormGrad

open Idealize.ShloMosaic Cert.Proof.Blocks Cert.Proof.Norms Cert.Proof.Numbers

/-- The gradient at entry `j` of a row `x` whose norm's gradient is `d`. -/
def normBack (x d : Fin 1024 → EReal) (j : Fin 1024) : EReal :=
  rstd x * (d j - x j * rstd x * Ideal.div (∑ k, d k * (x k * rstd x)) (Ideal.ofBits FTy.f32 1149239296#32))

/-- The factor of `2 x` in that gradient, as differentiation writes it. -/
def pull (x d : Fin 1024 → EReal) : EReal :=
  Ideal.div ((∑ k, x k * d k) * (Ideal.ofBits FTy.f32 0xBF000000#32 * Ideal.div (rstd x)
    (Ideal.div (∑ k, x k * x k) (Ideal.ofBits FTy.f32 1149239296#32) + Ideal.ofBits FTy.f32 897988541#32))) (Ideal.ofBits FTy.f32 1149239296#32)

/-! The same for a row whose length is the word `w`. -/

def rstdOf (w : BitVec 32) {n : Nat} (x : Fin n → EReal) : EReal :=
  Ideal.rsqrt (Ideal.div (∑ k, x k * x k) (Ideal.ofBits FTy.f32 w) + Ideal.ofBits FTy.f32 897988541#32)

def normBackOf (w : BitVec 32) {n : Nat} (x d : Fin n → EReal) (j : Fin n) : EReal :=
  rstdOf w x * (d j - x j * rstdOf w x * Ideal.div (∑ k, d k * (x k * rstdOf w x)) (Ideal.ofBits FTy.f32 w))

def pullOf (w : BitVec 32) {n : Nat} (x d : Fin n → EReal) : EReal :=
  Ideal.div ((∑ k, x k * d k) * (Ideal.ofBits FTy.f32 0xBF000000#32 * Ideal.div (rstdOf w x)
    (Ideal.div (∑ k, x k * x k) (Ideal.ofBits FTy.f32 w) + Ideal.ofBits FTy.f32 897988541#32))) (Ideal.ofBits FTy.f32 w)

theorem word_1024 : Ideal.ofBits FTy.f32 1149239296#32 = ((1024 : ℝ) : EReal) := by
  simp [Ideal.ofBits, Ideal.ieee]
  rw [← EReal.coe_mul]; norm_num

theorem word_768 : Ideal.ofBits FTy.f32 0x44400000#32 = ((768 : ℝ) : EReal) := by
  simp [Ideal.ofBits, Ideal.ieee]
  rw [← EReal.coe_mul]; norm_num

theorem word_neg_half : Ideal.ofBits FTy.f32 0xBF000000#32 = ((-1 / 2 : ℝ) : EReal) := by
  simp [Ideal.ofBits, Ideal.ieee]
  rw [← EReal.coe_mul, ← EReal.coe_neg]; norm_num

theorem word_eps : ∃ e : ℝ, 0 < e ∧ Ideal.ofBits FTy.f32 897988541#32 = (e : EReal) := by
  refine ⟨8796093 * (2 ^ 43)⁻¹, by norm_num, ?_⟩
  simp [Ideal.ofBits, Ideal.ieee]

section Length
variable {n : Nat} {w : BitVec 32} {L : ℝ} (hw : Ideal.ofBits FTy.f32 w = ((L : ℝ) : EReal)) (hL : 0 < L)
include hw hL

/-- Of a row of numbers: the mean of the squares and `ε`, and the root's reciprocal. -/
theorem rowOf_number (x : Fin n → ℝ) : ∃ v : ℝ, 0 < v
    ∧ Ideal.div (∑ k, (x k : EReal) * (x k : EReal)) (Ideal.ofBits FTy.f32 w) + Ideal.ofBits FTy.f32 897988541#32 = (v : EReal)
    ∧ rstdOf w (fun k => (x k : EReal)) = ((1 / Real.sqrt v : ℝ) : EReal) := by
  obtain ⟨e, he, h⟩ := word_eps
  have hs : ∑ k, (x k : EReal) * (x k : EReal) = ((∑ k, x k * x k : ℝ) : EReal) := by
    rw [← coe_sum]; rfl
  have hv : Ideal.div (∑ k, (x k : EReal) * (x k : EReal)) (Ideal.ofBits FTy.f32 w) + Ideal.ofBits FTy.f32 897988541#32
      = (((∑ k, x k * x k) / L + e : ℝ) : EReal) := by
    rw [hs, hw, h, div_number _ _ hL.ne', EReal.coe_add]
  have hp : 0 < (∑ k, x k * x k) / L + e :=
    add_pos_of_nonneg_of_pos (div_nonneg (Finset.sum_nonneg fun k _ => mul_self_nonneg _) hL.le) he
  refine ⟨_, hp, hv, ?_⟩
  unfold rstdOf
  rw [hv, Ideal.rsqrt_coe, if_neg hp.not_gt, if_neg hp.ne', one_div]

theorem rstdOf_number {x : Fin n → EReal} (hx : Num x) : ∃ r : ℝ, rstdOf w x = r := by
  obtain ⟨x, rfl⟩ := hx
  obtain ⟨v, _, _, h⟩ := rowOf_number hw hL x
  exact ⟨_, h⟩

theorem normBackOf_real (x d : Fin n → ℝ) {r : ℝ} (hr : rstdOf w (fun k => (x k : EReal)) = (r : EReal)) (j : Fin n) :
    normBackOf w (fun k => (x k : EReal)) (fun k => (d k : EReal)) j = ((r * (d j - x j * r * ((∑ k, d k * (x k * r)) / L)) : ℝ) : EReal) := by
  have h2 : ∑ k, (d k : EReal) * ((x k : EReal) * (r : EReal)) = ((∑ k, d k * (x k * r) : ℝ) : EReal) := by rw [← coe_sum]; rfl
  unfold normBackOf
  rw [hr, hw, h2, div_number _ _ hL.ne', EReal.coe_mul, EReal.coe_sub, EReal.coe_mul, EReal.coe_mul]

/-- On numbers the two ways of writing the gradient agree, whatever `a` it is added to. -/
theorem pullOf_eq {x d : Fin n → EReal} (hx : Num x) (hd : Num d) (j : Fin n) :
    d j * rstdOf w x + x j * pullOf w x d + pullOf w x d * x j = normBackOf w x d j := by
  obtain ⟨x, rfl⟩ := hx
  obtain ⟨d, rfl⟩ := hd
  obtain ⟨v, hv, e, hr⟩ := rowOf_number hw hL x
  have h1 : ∑ k, (x k : EReal) * (d k : EReal) = ((∑ k, x k * d k : ℝ) : EReal) := by rw [← coe_sum]; rfl
  have hp : pullOf w (fun k => (x k : EReal)) (fun k => (d k : EReal)) = (((∑ k, x k * d k) * (-1 / 2 * (1 / Real.sqrt v / v)) / L : ℝ) : EReal) := by
    unfold pullOf
    rw [hr, e, hw, word_neg_half, div_number _ _ hv.ne', h1, ← EReal.coe_mul, ← EReal.coe_mul, div_number _ _ hL.ne']
  rw [hp, hr, normBackOf_real hw hL x d hr]
  have h3 : ∑ k, d k * (x k * (1 / Real.sqrt v)) = (∑ k, x k * d k) * (1 / Real.sqrt v) := by
    rw [Finset.sum_mul]; exact Finset.sum_congr rfl fun k _ => by ring
  rw [h3]
  have hq : 1 / Real.sqrt v / v = (1 / Real.sqrt v) * ((1 / Real.sqrt v) * (1 / Real.sqrt v)) := by
    have : 0 < Real.sqrt v := Real.sqrt_pos.2 hv
    have hs : Real.sqrt v ^ 2 = v := Real.sq_sqrt hv.le
    rw [div_div, ← hs]
    simp only [Real.sqrt_sq this.le]
    field_simp
  rw [hq]
  generalize (∑ k, x k * d k) = S
  generalize 1 / Real.sqrt v = r
  rw [← EReal.coe_mul, ← EReal.coe_mul, ← EReal.coe_mul, ← EReal.coe_add, ← EReal.coe_add]
  exact congrArg _ (by ring)

theorem normBackOf_number {x d : Fin n → EReal} (hx : Num x) (hd : Num d) : Num (normBackOf w x d) := by
  obtain ⟨x, rfl⟩ := hx
  obtain ⟨d, rfl⟩ := hd
  obtain ⟨v, hv, e, hr⟩ := rowOf_number hw hL x
  exact ⟨_, funext fun j => normBackOf_real hw hL x d hr j⟩

end Length

theorem rstd_number {x : Fin 1024 → EReal} (hx : Num x) : ∃ r : ℝ, rstd x = r := rstdOf_number word_1024 (by norm_num) hx

theorem pull_eq {x d : Fin 1024 → EReal} (hx : Num x) (hd : Num d) (j : Fin 1024) :
    d j * rstd x + x j * pull x d + pull x d * x j = normBack x d j := pullOf_eq word_1024 (by norm_num) hx hd j

theorem pull_add_eq {x d : Fin 1024 → EReal} (hx : Num x) (hd : Num d) {a : EReal} (j : Fin 1024) :
    a + d j * rstd x + x j * pull x d + pull x d * x j = a + normBack x d j := by
  rw [← pull_eq hx hd j]
  abel

theorem normBack_number {x d : Fin 1024 → EReal} (hx : Num x) (hd : Num d) : Num (normBack x d) := normBackOf_number word_1024 (by norm_num) hx hd

/-- A factor of every term of a sum of numbers may be taken out. -/
theorem sum_mul_number {ι : Type} [Fintype ι] {f : ι → EReal} (hf : Num f) {a : EReal} (ha : ∃ r : ℝ, a = r) : (∑ i, f i) * a = ∑ i, f i * a := by
  obtain ⟨f, rfl⟩ := hf
  obtain ⟨a, rfl⟩ := ha
  have h : ∑ i, (f i : EReal) * (a : EReal) = ((∑ i, f i * a : ℝ) : EReal) := by rw [← coe_sum]; rfl
  rw [h, coe_sum, ← Finset.sum_mul, EReal.coe_mul]

theorem num_add {ι : Type} {f g : ι → EReal} (hf : Num f) (hg : Num g) : Num fun i => f i + g i := by
  obtain ⟨f, rfl⟩ := hf
  obtain ⟨g, rfl⟩ := hg
  exact ⟨fun i => f i + g i, by norm_cast⟩

theorem num_sub {ι : Type} {f g : ι → EReal} (hf : Num f) (hg : Num g) : Num fun i => f i - g i := by
  obtain ⟨f, rfl⟩ := hf
  obtain ⟨g, rfl⟩ := hg
  exact ⟨fun i => f i - g i, by norm_cast⟩

theorem num_mul {ι : Type} {f g : ι → EReal} (hf : Num f) (hg : Num g) : Num fun i => f i * g i := by
  obtain ⟨f, rfl⟩ := hf
  obtain ⟨g, rfl⟩ := hg
  exact ⟨fun i => f i * g i, by norm_cast⟩

theorem num_const {ι : Type} {a : EReal} (h : ∃ r : ℝ, a = r) : Num fun _ : ι => a := by
  obtain ⟨r, rfl⟩ := h
  exact ⟨fun _ => r, rfl⟩

theorem num_comp {ι κ : Type} {f : ι → EReal} (hf : Num f) (g : κ → ι) : Num fun k => f (g k) := by
  obtain ⟨f, rfl⟩ := hf
  exact ⟨fun k => f (g k), rfl⟩

theorem num_at {ι : Type} {f : ι → EReal} (hf : Num f) (i : ι) : ∃ r : ℝ, f i = r := by
  obtain ⟨f, rfl⟩ := hf
  exact ⟨f i, rfl⟩

theorem mulNN_num {M K N : Nat} {x : (Mat M K).Idx → EReal} {y : (Mat K N).Idx → EReal} (hx : Num x) (hy : Num y) (i : Fin M) : Num (mulNN x y i) := by
  obtain ⟨x, rfl⟩ := hx
  obtain ⟨y, rfl⟩ := hy
  exact ⟨_, funext fun j => coe_sum Finset.univ fun k => x (ix2 i k) * y (ix2 k j)⟩

theorem mulNT_num {M K N : Nat} {x : (Mat M K).Idx → EReal} {y : (Mat N K).Idx → EReal} (hx : Num x) (hy : Num y) (i : Fin M) : Num (mulNT x y i) := by
  obtain ⟨x, rfl⟩ := hx
  obtain ⟨y, rfl⟩ := hy
  exact ⟨_, funext fun j => coe_sum Finset.univ fun k => x (ix2 i k) * y (ix2 j k)⟩

/-- A sum over the 512 rows of point `t`, in two halves. -/
def halves {M : Type} [AddCommMonoid M] (g : Fin 2048 → M) (t : Nat) (ht : t < 4) : M :=
  ∑ r : Fin 256, g ⟨t * 512 + r.val, by omega⟩ + ∑ r : Fin 256, g ⟨t * 512 + 256 + r.val, by omega⟩

/-- The four points' sums are the sum over the 2048 rows. -/
theorem halves_sum {M : Type} [AddCommMonoid M] (N : Nat) (hN : N = 4) (g : Fin 2048 → M) : ∑ t : Fin N, halves g t.val (hN ▸ t.isLt) = ∑ i, g i := by
  subst hN
  have e : ∀ t : Fin 4, halves g t.val t.isLt = ∑ r : Fin 512, g ⟨t.val * 512 + r.val, by omega⟩ := fun t => by
    rw [Fin.sum_univ_add (a := 256) (b := 256) (fun r : Fin (256 + 256) => g ⟨t.val * 512 + r.val, by have := r.isLt; omega⟩)]
    refine congrArg₂ (· + ·) (Finset.sum_congr rfl fun r _ => rfl) (Finset.sum_congr rfl fun r _ => congrArg g (Fin.ext ?_))
    show t.val * 512 + 256 + r.val = t.val * 512 + (256 + r.val)
    omega
  rw [Finset.sum_congr rfl fun t _ => e t]
  exact Fin.sum_mul_add_fin 4 512 g (by norm_num)

/-- A block of 512 rows, stored as its first 256 and its last 256. -/
theorem canon_two {C : Nat} {e : EltTy} (G : Fin 512 → Fin C → Elt Ideal e)
    {inb1 : ∀ a, (![256, 0] : Fin 2 → Nat) a + (![256, C] : Fin 2 → Nat) a ≤ (Mat 512 C).size a}
    {inb0 : ∀ a, (![0, 0] : Fin 2 → Nat) a + (![256, C] : Fin 2 → Nat) a ≤ (Mat 512 C).size a}
    (low high : (Mat 256 C).Idx → Elt Ideal e)
    (h0 : ∀ (r : Fin 256) (j : Fin C), low (ix2 r j) = G ⟨r.val, by omega⟩ j)
    (h1 : ∀ (r : Fin 256) (j : Fin C), high (ix2 r j) = G ⟨256 + r.val, by omega⟩ j) (i : Fin 512) (j : Fin C) :
    View.canon (Val := Elt Ideal) (s := Mat 512 C) (e := e) [⟨Rect.unit (s := Mat 512 C) ![256, 0] ![256, C] inb1, high⟩, ⟨Rect.unit (s := Mat 512 C) ![0, 0] ![256, C] inb0, low⟩] (ix2 i j) = G i j := by
  refine View.canon_apply_of_pieces (Val := Elt Ideal) (e := e) (fun z : (Mat 512 C).Idx => G (z 0) (z 1)) _ ?_ _ ?_
  · intro p hp y
    simp only [List.mem_cons, List.not_mem_nil, or_false] at hp
    rcases hp with rfl | rfl
    · refine (congrArg high (ValueIdx.eq_ix2 (n0 := 256) (n1 := C) y)).trans ((h1 (y 0) (y 1)).trans (congrArg₂ G (Fin.ext ?_) (Fin.ext ?_)))
      · show 256 + (y 0).val = 256 + 1 * (y 0).val; omega
      · show (y 1).val = 0 + 1 * (y 1).val; omega
    · refine (congrArg low (ValueIdx.eq_ix2 (n0 := 256) (n1 := C) y)).trans ((h0 (y 0) (y 1)).trans (congrArg₂ G (Fin.ext ?_) (Fin.ext ?_)))
      · show (y 0).val = 0 + 1 * (y 0).val; omega
      · show (y 1).val = 0 + 1 * (y 1).val; omega
  · have hj := j.isLt
    by_cases h : i.val < 256
    · refine ⟨_, List.mem_cons_of_mem _ (List.mem_cons_self ..), (Rect.mem_set_unit (inb := by assumption)).2 fun a => ?_⟩
      fin_cases a
      · exact ⟨Nat.zero_le _, by show i.val < 0 + 256; omega⟩
      · exact ⟨Nat.zero_le _, by show j.val < 0 + C; omega⟩
    · refine ⟨_, List.mem_cons_self .., (Rect.mem_set_unit (inb := by assumption)).2 fun a => ?_⟩
      fin_cases a
      · exact ⟨by show 256 ≤ i.val; omega, by show i.val < 256 + 256; omega⟩
      · exact ⟨Nat.zero_le _, by show j.val < 0 + C; omega⟩

/-- A row of 256 rows of a block, from row `o` on. -/
theorem ld_row {C : Nat} {e : EltTy} (x : (Mat 512 C).Idx → Elt Ideal e) (o : Nat)
    (inb : ∀ a, (![o, 0] : Fin 2 → Nat) a + (![256, C] : Fin 2 → Nat) a ≤ (Mat 512 C).size a) (r : Fin 256) (i : Fin 512) (hi : i.val = o + r.val) (k : Fin C) :
    (View.ld (Val := Elt Ideal) (e' := e) x (Rect.unit (s := Mat 512 C) ![o, 0] ![256, C] inb) : (Mat 256 C).Idx → Elt Ideal e) (ix2 r k) = x (ix2 i k) :=
  congrArg x (eq_of_val _ _ _ (by show o + 1 * r.val = i.val; omega) (by show 0 + 1 * k.val = k.val; omega))

end Cert.Proof.NormGrad

end
-- ==== Proof.FfnInDx.lean ====
/- The gradient of the feed-forward's input product, of the norm in front of it and of the norm after the mixer. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.NormGrad
public import proofs.«01_k».proof.Defs
public import proofs.«01_k».proof.Proof.Gen.Pre_finite5
public import Idealize.ShloMosaic.Lib.Pipeline.ValueKit.Acc

@[expose] public section

set_option maxRecDepth 16384

noncomputable section

namespace Cert.Proof.FfnInDx

open Cert.Kernel5Ideal Cert.Kernel5Ideal.Gen Idealize.ShloMosaic Idealize.ShloMosaic.TcCoe Idealize.SL.Sem
open Idealize.ShloMosaic.Pipeline (Dat)
open Cert.Proof.Blocks Cert.Proof.Numbers Cert.Proof.Norms Cert.Proof.NormGrad

/-! A row of the results, from the row `d` of the gradient's product, and the rows `x` of the norm's argument, `e` of the later gradient and
`y` of the mixer's output. -/

/-- The gradient of the row `x`. -/
def dres (g sc gate p : (Mat 1 1024).Idx → EReal) (d x e y : Fin 1024 → EReal) (j : Fin 1024) : EReal :=
  e j + normBack x (fun k => d k * (g (ix2 0 k) * (1 + sc (ix2 0 k)))) j

/-- The gradient of the mixer's output. -/
def dprod (g sc gate p : (Mat 1 1024).Idx → EReal) (d x e y : Fin 1024 → EReal) : Fin 1024 → EReal :=
  normBack y fun k => dres g sc gate p d x e y k * gate (ix2 0 k) * p (ix2 0 k)

/-- The row's parts of the gradients of the shift, of the scale, of the norm's gain, of the gate and of the later norm's gain. -/
def dshift (g sc gate p : (Mat 1 1024).Idx → EReal) (d x e y : Fin 1024 → EReal) (j : Fin 1024) : EReal := d j
def dcorr (g sc gate p : (Mat 1 1024).Idx → EReal) (d x e y : Fin 1024 → EReal) (j : Fin 1024) : EReal := d j * (x j * rstd x)
def dscale (g sc gate p : (Mat 1 1024).Idx → EReal) (d x e y : Fin 1024 → EReal) (j : Fin 1024) : EReal := d j * (x j * rstd x) * g (ix2 0 j)
def dgain (g sc gate p : (Mat 1 1024).Idx → EReal) (d x e y : Fin 1024 → EReal) (j : Fin 1024) : EReal := d j * (x j * rstd x) * (1 + sc (ix2 0 j))
def dgate (g sc gate p : (Mat 1 1024).Idx → EReal) (d x e y : Fin 1024 → EReal) (j : Fin 1024) : EReal :=
  dres g sc gate p d x e y j * (y j * rstd y * p (ix2 0 j))
def dlater (g sc gate p : (Mat 1 1024).Idx → EReal) (d x e y : Fin 1024 → EReal) (j : Fin 1024) : EReal :=
  dres g sc gate p d x e y j * gate (ix2 0 j) * (y j * rstd y)

/-- A row of the norm's argument: the residual and the gated norm of the mixer's output. -/
def mixed (gate p : (Mat 1 1024).Idx → EReal) (x y : Fin 1024 → EReal) (j : Fin 1024) : EReal :=
  x j + gate (ix2 0 j) * (y j * rstd y * p (ix2 0 j))

section Payloads
variable (a : S256x5632.Idx → EReal) (w : S1024x5632.Idx → EReal) (x e y : S256x1024.Idx → EReal) (g sc gate p acc : S1x1024.Idx → EReal) (i : Fin 256) (j : Fin 1024)

theorem pay12_apply : k0_pay12 (F := Ideal) a w (ix2 i j) = mulNT a w i j := by
  simp only [k0_pay12, pointwise, zero_add]
  rfl

theorem pay15_apply : k0_pay15 (F := Ideal) x (ix2 i j) = x (ix2 i j) * rstd (fun k => x (ix2 i k)) := by
  simp only [k0_pay15, k0_pay14, k0_pay13, pointwise, zero_add]
  rfl

theorem pay20_apply : k0_pay20 (F := Ideal) y (ix2 i j) = y (ix2 i j) * rstd (fun k => y (ix2 i k)) := by
  simp only [k0_pay20, k0_pay19, pointwise, zero_add]
  rfl

theorem pay18_apply : k0_pay18 (k0_pay12 (F := Ideal) a w) e (k0_pay14 x) (k0_pay15 x) (k0_pay17 g sc) (ix2 i j)
    = dres g sc gate p (mulNT a w i) (fun k => x (ix2 i k)) (fun k => e (ix2 i k)) (fun k => y (ix2 i k)) j := by
  simp only [k0_pay18, k0_pay17, k0_pay15, k0_pay14, k0_pay13, k0_pay12, pointwise, zero_add]
  rfl

theorem pay18_eq : k0_pay18 (k0_pay12 (F := Ideal) a w) e (k0_pay14 x) (k0_pay15 x) (k0_pay17 g sc)
    = fun q : S256x1024.Idx => dres g sc gate p (mulNT a w (q 0)) (fun k => x (ix2 (q 0) k)) (fun k => e (ix2 (q 0) k)) (fun k => y (ix2 (q 0) k)) (q 1) :=
  Blocks.ext _ _ fun i j => pay18_apply a w x e y g sc gate p i j

theorem pay22_apply : k0_pay22 (k0_pay12 (F := Ideal) a w) e y gate p (k0_pay14 x) (k0_pay15 x) (k0_pay17 g sc) (ix2 i j)
    = dprod g sc gate p (mulNT a w i) (fun k => x (ix2 i k)) (fun k => e (ix2 i k)) (fun k => y (ix2 i k)) j := by
  simp only [k0_pay22, k0_pay21, k0_pay20, k0_pay19, pay18_eq a w x e y g sc gate p, pointwise, zero_add]
  rfl

theorem pay40_eq : k0_pay40 (F := Ideal) e (k0_pay35 x) (k0_pay38 a w g sc) (k0_pay39 a w x g sc)
    = k0_pay18 (k0_pay12 a w) e (k0_pay14 x) (k0_pay15 x) (k0_pay17 g sc) := rfl

theorem pay27_apply : k0_pay27 (k0_pay22 (k0_pay12 (F := Ideal) a w) e y gate p (k0_pay14 x) (k0_pay15 x) (k0_pay17 g sc)) (ix2 i j)
    = dprod g sc gate p (mulNT a w i) (fun k => x (ix2 i k)) (fun k => e (ix2 i k)) (fun k => y (ix2 i k)) j := by
  simp only [k0_pay27, pointwise]
  exact pay22_apply a w x e y g sc gate p i j

theorem pay1_eq : k0_pay1 (k0_pay44 (F := Ideal) e y gate p (k0_pay35 x) (k0_pay38 a w g sc) (k0_pay39 a w x g sc))
    = k0_pay27 (k0_pay22 (k0_pay12 a w) e y gate p (k0_pay14 x) (k0_pay15 x) (k0_pay17 g sc)) := rfl

/-- The sums over 256 rows, added to what was there. -/
theorem pay28_apply : k0_pay28 (k0_pay23 (k0_pay12 (F := Ideal) a w)) acc (ix2 0 j)
    = acc (ix2 0 j) + ∑ r : Fin 256, dshift g sc gate p (mulNT a w r) (fun k => x (ix2 r k)) (fun k => e (ix2 r k)) (fun k => y (ix2 r k)) j := by
  simp only [k0_pay28, k0_pay23, pointwise, pay12_apply, zero_add]
  rfl

theorem pay29_apply : k0_pay29 (k0_pay24 (F := Ideal) g (k0_pay16 a w x)) acc (ix2 0 j)
    = acc (ix2 0 j) + (∑ r : Fin 256, dcorr g sc gate p (mulNT a w r) (fun k => x (ix2 r k)) (fun k => e (ix2 r k)) (fun k => y (ix2 r k)) j) * g (ix2 0 j) := by
  simp only [k0_pay29, k0_pay24, k0_pay16, pointwise, pay12_apply, pay15_apply, zero_add]
  rfl

theorem pay30_apply : k0_pay30 (k0_pay25 (F := Ideal) sc (k0_pay16 a w x)) acc (ix2 0 j)
    = acc (ix2 0 j) + (∑ r : Fin 256, dcorr g sc gate p (mulNT a w r) (fun k => x (ix2 r k)) (fun k => e (ix2 r k)) (fun k => y (ix2 r k)) j) * (1 + sc (ix2 0 j)) := by
  simp only [k0_pay30, k0_pay25, k0_pay16, pointwise, pay12_apply, pay15_apply, zero_add]
  rfl

theorem pay31_apply : k0_pay31 (k0_pay26 (k0_pay12 (F := Ideal) a w) e y p (k0_pay14 x) (k0_pay15 x) (k0_pay17 g sc)) acc (ix2 0 j)
    = acc (ix2 0 j) + ∑ r : Fin 256, dgate g sc gate p (mulNT a w r) (fun k => x (ix2 r k)) (fun k => e (ix2 r k)) (fun k => y (ix2 r k)) j := by
  simp only [k0_pay31, k0_pay26, pointwise, pay18_apply a w x e y g sc gate p, pay20_apply, zero_add]
  rfl

theorem pay32_apply : k0_pay32 (k0_pay20 (F := Ideal) y) (k0_pay21 (k0_pay12 a w) e gate (k0_pay14 x) (k0_pay15 x) (k0_pay17 g sc)) acc (ix2 0 j)
    = acc (ix2 0 j) + ∑ r : Fin 256, dlater g sc gate p (mulNT a w r) (fun k => x (ix2 r k)) (fun k => e (ix2 r k)) (fun k => y (ix2 r k)) j := by
  simp only [k0_pay32, k0_pay21, pointwise, pay18_apply a w x e y g sc gate p, pay20_apply, zero_add]
  rfl

theorem pay2_eq : k0_pay2 (k0_pay45 (k0_pay33 (F := Ideal) a w)) acc = k0_pay28 (k0_pay23 (k0_pay12 a w)) acc := rfl
theorem pay3_eq : k0_pay3 (k0_pay46 (F := Ideal) g (k0_pay37 a w x)) acc = k0_pay29 (k0_pay24 g (k0_pay16 a w x)) acc := rfl
theorem pay4_eq : k0_pay4 (k0_pay47 (F := Ideal) sc (k0_pay37 a w x)) acc = k0_pay30 (k0_pay25 sc (k0_pay16 a w x)) acc := rfl
theorem pay5_eq : k0_pay5 (k0_pay48 (F := Ideal) e y p (k0_pay35 x) (k0_pay38 a w g sc) (k0_pay39 a w x g sc)) acc
    = k0_pay31 (k0_pay26 (k0_pay12 a w) e y p (k0_pay14 x) (k0_pay15 x) (k0_pay17 g sc)) acc := rfl
theorem pay6_eq : k0_pay6 (k0_pay49 (F := Ideal) e y gate (k0_pay35 x) (k0_pay38 a w g sc) (k0_pay39 a w x g sc)) acc
    = k0_pay32 (k0_pay20 y) (k0_pay21 (k0_pay12 a w) e gate (k0_pay14 x) (k0_pay15 x) (k0_pay17 g sc)) acc := rfl
end Payloads

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel
theorem at8 : ∀ t : Fin cfg0.N, win0_8.index t 0 = 0 ∧ win0_8.index t 1 = 0 := by decide +kernel
theorem at9 : ∀ t : Fin cfg0.N, win0_9.index t 0 = t.val ∧ win0_9.index t 1 = 0 := by decide +kernel
theorem at10 : ∀ t : Fin cfg0.N, win0_10.index t 0 = t.val ∧ win0_10.index t 1 = 0 := by decide +kernel
theorem at11 : ∀ t : Fin cfg0.N, win0_11.index t 0 = 0 ∧ win0_11.index t 1 = 0 := by decide +kernel
theorem at12 : ∀ t : Fin cfg0.N, win0_12.index t 0 = 0 ∧ win0_12.index t 1 = 0 := by decide +kernel
theorem at13 : ∀ t : Fin cfg0.N, win0_13.index t 0 = 0 ∧ win0_13.index t 1 = 0 := by decide +kernel
theorem at14 : ∀ t : Fin cfg0.N, win0_14.index t 0 = 0 ∧ win0_14.index t 1 = 0 := by decide +kernel
theorem at15 : ∀ t : Fin cfg0.N, win0_15.index t 0 = 0 ∧ win0_15.index t 1 = 0 := by decide +kernel

theorem point (t : Fin cfg0.N) : t.val < 4 := t.isLt

variable (m : (ℓ : Loc nD τ sig) → Buf (Elt Ideal) ℓ)

theorem entry0 (c : Dev nD) (t : Fin cfg0.N) (i : Fin 512) (k : Fin 5632) (i' : Fin 2048) (k' : Fin 5632) (hi : i'.val = t.val * 512 + i.val) (hk : k'.val = 0 * 5632 + k.val) :
    (iblk m c 0 t : S512x5632.Idx → EReal) (ix2 i k) = (m ((c : Thread nD τ).loc main_arg0) : S2048x5632.Idx → EReal) (ix2 i' k') := by
  rw [← V_main_arg0 m c]
  refine congrArg (V m c main_arg0) (eq_of_val _ _ _ ?_ ?_)
  · show win0_0.index t 0 * 512 + 1 * i.val = i'.val
    rw [(at0 t).1, hi]; omega
  · show win0_0.index t 1 * 5632 + 1 * k.val = k'.val
    rw [(at0 t).2, hk]; omega

theorem entry1 (c : Dev nD) (t : Fin cfg0.N) (i : Fin 1024) (k : Fin 5632) (i' : Fin 1024) (k' : Fin 5632) (hi : i'.val = 0 * 1024 + i.val) (hk : k'.val = 0 * 5632 + k.val) :
    (iblk m c 1 t : S1024x5632.Idx → EReal) (ix2 i k) = (m ((c : Thread nD τ).loc main_arg1) : S1024x5632.Idx → EReal) (ix2 i' k') := by
  rw [← V_main_arg1 m c]
  refine congrArg (V m c main_arg1) (eq_of_val _ _ _ ?_ ?_)
  · show win0_1.index t 0 * 1024 + 1 * i.val = i'.val
    rw [(at1 t).1, hi]; omega
  · show win0_1.index t 1 * 5632 + 1 * k.val = k'.val
    rw [(at1 t).2, hk]; omega

theorem entry3 (c : Dev nD) (t : Fin cfg0.N) (i : Fin 512) (k : Fin 1024) (i' : Fin 2048) (k' : Fin 1024) (hi : i'.val = t.val * 512 + i.val) (hk : k'.val = 0 * 1024 + k.val) :
    (iblk m c 3 t : S512x1024.Idx → EReal) (ix2 i k) = (m ((c : Thread nD τ).loc main_arg3) : S2048x1024.Idx → EReal) (ix2 i' k') := by
  rw [← V_main_arg3 m c]
  refine congrArg (V m c main_arg3) (eq_of_val _ _ _ ?_ ?_)
  · show win0_3.index t 0 * 512 + 1 * i.val = i'.val
    rw [(at3 t).1, hi]; omega
  · show win0_3.index t 1 * 1024 + 1 * k.val = k'.val
    rw [(at3 t).2, hk]; omega

theorem entry4 (c : Dev nD) (t : Fin cfg0.N) (i : Fin 512) (k : Fin 1024) (i' : Fin 2048) (k' : Fin 1024) (hi : i'.val = t.val * 512 + i.val) (hk : k'.val = 0 * 1024 + k.val) :
    (iblk m c 4 t : S512x1024.Idx → EReal) (ix2 i k) = (m ((c : Thread nD τ).loc main_arg4) : S2048x1024.Idx → EReal) (ix2 i' k') := by
  rw [← V_main_arg4 m c]
  refine congrArg (V m c main_arg4) (eq_of_val _ _ _ ?_ ?_)
  · show win0_4.index t 0 * 512 + 1 * i.val = i'.val
    rw [(at4 t).1, hi]; omega
  · show win0_4.index t 1 * 1024 + 1 * k.val = k'.val
    rw [(at4 t).2, hk]; omega

theorem entry5 (c : Dev nD) (t : Fin cfg0.N) (i : Fin 1) (k : Fin 1024) (i' : Fin 1) (k' : Fin 1024) (hi : i'.val = 0 * 1 + i.val) (hk : k'.val = 0 * 1024 + k.val) :
    (iblk m c 5 t : S1x1024.Idx → EReal) (ix2 i k) = (m ((c : Thread nD τ).loc main_arg5) : S1x1024.Idx → EReal) (ix2 i' k') := by
  rw [← V_main_arg5 m c]
  refine congrArg (V m c main_arg5) (eq_of_val _ _ _ ?_ ?_)
  · show win0_5.index t 0 * 1 + 1 * i.val = i'.val
    rw [(at5 t).1, hi]; omega
  · show win0_5.index t 1 * 1024 + 1 * k.val = k'.val
    rw [(at5 t).2, hk]; omega

theorem entry6 (c : Dev nD) (t : Fin cfg0.N) (i : Fin 1) (k : Fin 1024) (i' : Fin 1) (k' : Fin 1024) (hi : i'.val = 0 * 1 + i.val) (hk : k'.val = 0 * 1024 + k.val) :
    (iblk m c 6 t : S1x1024.Idx → EReal) (ix2 i k) = (m ((c : Thread nD τ).loc main_arg6) : S1x1024.Idx → EReal) (ix2 i' k') := by
  rw [← V_main_arg6 m c]
  refine congrArg (V m c main_arg6) (eq_of_val _ _ _ ?_ ?_)
  · show win0_6.index t 0 * 1 + 1 * i.val = i'.val
    rw [(at6 t).1, hi]; omega
  · show win0_6.index t 1 * 1024 + 1 * k.val = k'.val
    rw [(at6 t).2, hk]; omega

theorem entry7 (c : Dev nD) (t : Fin cfg0.N) (i : Fin 1) (k : Fin 1024) (i' : Fin 1) (k' : Fin 1024) (hi : i'.val = 0 * 1 + i.val) (hk : k'.val = 0 * 1024 + k.val) :
    (iblk m c 7 t : S1x1024.Idx → EReal) (ix2 i k) = (m ((c : Thread nD τ).loc main_arg7) : S1x1024.Idx → EReal) (ix2 i' k') := by
  rw [← V_main_arg7 m c]
  refine congrArg (V m c main_arg7) (eq_of_val _ _ _ ?_ ?_)
  · show win0_7.index t 0 * 1 + 1 * i.val = i'.val
    rw [(at7 t).1, hi]; omega
  · show win0_7.index t 1 * 1024 + 1 * k.val = k'.val
    rw [(at7 t).2, hk]; omega

theorem entry8 (c : Dev nD) (t : Fin cfg0.N) (i : Fin 1) (k : Fin 1024) (i' : Fin 1) (k' : Fin 1024) (hi : i'.val = 0 * 1 + i.val) (hk : k'.val = 0 * 1024 + k.val) :
    (iblk m c 8 t : S1x1024.Idx → EReal) (ix2 i k) = (m ((c : Thread nD τ).loc main_arg8) : S1x1024.Idx → EReal) (ix2 i' k') := by
  rw [← V_main_arg8 m c]
  refine congrArg (V m c main_arg8) (eq_of_val _ _ _ ?_ ?_)
  · show win0_8.index t 0 * 1 + 1 * i.val = i'.val
    rw [(at8 t).1, hi]; omega
  · show win0_8.index t 1 * 1024 + 1 * k.val = k'.val
    rw [(at8 t).2, hk]; omega

theorem whole1 (c : Dev nD) (t : Fin cfg0.N) : (iblk m c 1 t : S1024x5632.Idx → EReal) = m ((c : Thread nD τ).loc main_arg1) :=
  Blocks.ext _ _ fun a b => entry1 m c t a b a b (by omega) (by omega)

theorem whole5 (c : Dev nD) (t : Fin cfg0.N) : (iblk m c 5 t : S1x1024.Idx → EReal) = m ((c : Thread nD τ).loc main_arg5) :=
  Blocks.ext _ _ fun a b => entry5 m c t a b a b (by omega) (by omega)

theorem whole6 (c : Dev nD) (t : Fin cfg0.N) : (iblk m c 6 t : S1x1024.Idx → EReal) = m ((c : Thread nD τ).loc main_arg6) :=
  Blocks.ext _ _ fun a b => entry6 m c t a b a b (by omega) (by omega)

theorem whole7 (c : Dev nD) (t : Fin cfg0.N) : (iblk m c 7 t : S1x1024.Idx → EReal) = m ((c : Thread nD τ).loc main_arg7) :=
  Blocks.ext _ _ fun a b => entry7 m c t a b a b (by omega) (by omega)

theorem whole8 (c : Dev nD) (t : Fin cfg0.N) : (iblk m c 8 t : S1x1024.Idx → EReal) = m ((c : Thread nD τ).loc main_arg8) :=
  Blocks.ext _ _ fun a b => entry8 m c t a b a b (by omega) (by omega)

/-- What the lines before the call leave for window 2. -/
theorem mixed_read (c : Dev nD) (i : Fin 2048) (j : Fin 1024) : (V m c main_v14 : S2048x1024.Idx → EReal) (ix2 i j)
    = mixed (m ((c : Thread nD τ).loc main_arg7)) (m ((c : Thread nD τ).loc main_arg8)) (fun k => (m ((c : Thread nD τ).loc main_arg2) : S2048x1024.Idx → EReal) (ix2 i k)) (fun k => (m ((c : Thread nD τ).loc main_arg4) : S2048x1024.Idx → EReal) (ix2 i k)) j := by
  entry_read
  simp only [pointwise, zero_add]
  rfl

theorem entry2 (c : Dev nD) (t : Fin cfg0.N) (i : Fin 512) (k : Fin 1024) (i' : Fin 2048) (hi : i'.val = t.val * 512 + i.val) :
    (iblk m c 2 t : S512x1024.Idx → EReal) (ix2 i k) = (V m c main_v14 : S2048x1024.Idx → EReal) (ix2 i' k) := by
  refine congrArg (V m c main_v14) (eq_of_val _ _ _ ?_ ?_)
  · show win0_2.index t 0 * 512 + 1 * i.val = i'.val
    rw [(at2 t).1, hi]; omega
  · show win0_2.index t 1 * 1024 + 1 * k.val = k.val
    rw [(at2 t).2]; omega

/-- A row function, of the arguments' row `i`. -/
def rowOf (c : Dev nD) (f : (g sc gate p : (Mat 1 1024).Idx → EReal) → (d x e y : Fin 1024 → EReal) → Fin 1024 → EReal) (i : Fin 2048) : Fin 1024 → EReal :=
  f (m ((c : Thread nD τ).loc main_arg5)) (m ((c : Thread nD τ).loc main_arg6)) (m ((c : Thread nD τ).loc main_arg7)) (m ((c : Thread nD τ).loc main_arg8)) (mulNT (M := 2048) (K := 5632) (N := 1024) (m ((c : Thread nD τ).loc main_arg0)) (m ((c : Thread nD τ).loc main_arg1)) i)
    (mixed (m ((c : Thread nD τ).loc main_arg7)) (m ((c : Thread nD τ).loc main_arg8)) (fun k => (m ((c : Thread nD τ).loc main_arg2) : S2048x1024.Idx → EReal) (ix2 i k))
      (fun k => (m ((c : Thread nD τ).loc main_arg4) : S2048x1024.Idx → EReal) (ix2 i k)))
    (fun k => (m ((c : Thread nD τ).loc main_arg3) : S2048x1024.Idx → EReal) (ix2 i k)) (fun k => (m ((c : Thread nD τ).loc main_arg4) : S2048x1024.Idx → EReal) (ix2 i k))

/-- A row function, of row `r` of 256 rows of the point's blocks. -/
theorem row_eq (c : Dev nD) (f : (g sc gate p : (Mat 1 1024).Idx → EReal) → (d x e y : Fin 1024 → EReal) → Fin 1024 → EReal) (t : Fin cfg0.N) (o : Nat) (ho : o ≤ 256)
    (inb : ∀ a, (![o, 0] : Fin 2 → Nat) a + (![256, 5632] : Fin 2 → Nat) a ≤ S512x5632.size a)
    (inb' : ∀ a, (![o, 0] : Fin 2 → Nat) a + (![256, 1024] : Fin 2 → Nat) a ≤ S512x1024.size a) (r : Fin 256) (i : Fin 2048) (hi : i.val = t.val * 512 + o + r.val) :
    f (iblk m c 5 t) (iblk m c 6 t) (iblk m c 7 t) (iblk m c 8 t)
      (mulNT (M := 256) (K := 5632) (N := 1024) (View.ld (Val := Elt Ideal) (e' := .bf16) (iblk m c 0 t) (Rect.unit (s := S512x5632) ![o, 0] ![256, 5632] inb)) (iblk m c 1 t) r)
      (fun k => (View.ld (Val := Elt Ideal) (e' := .f32) (iblk m c 2 t) (Rect.unit (s := S512x1024) ![o, 0] ![256, 1024] inb') : S256x1024.Idx → EReal) (ix2 r k))
      (fun k => (View.ld (Val := Elt Ideal) (e' := .f32) (iblk m c 3 t) (Rect.unit (s := S512x1024) ![o, 0] ![256, 1024] inb') : S256x1024.Idx → EReal) (ix2 r k))
      (fun k => (View.ld (Val := Elt Ideal) (e' := .f32) (iblk m c 4 t) (Rect.unit (s := S512x1024) ![o, 0] ![256, 1024] inb') : S256x1024.Idx → EReal) (ix2 r k))
      = rowOf m c f i := by
  unfold rowOf
  have hr : o + r.val < 512 := by omega
  rw [whole1 m c t, whole5 m c t, whole6 m c t, whole7 m c t, whole8 m c t]
  refine congr (congr (congr (congrArg _ (funext fun j => mulNT_congr (fun k => ?_) (fun k => rfl))) (funext fun k => ?_)) (funext fun k => ?_)) (funext fun k => ?_)
  · exact (ld_row (e := .bf16) (iblk m c 0 t) o inb r ⟨_, hr⟩ rfl k).trans (entry0 m c t _ k i k (by show i.val = t.val * 512 + (o + r.val); omega) (by omega))
  · exact ((ld_row (e := .f32) (iblk m c 2 t) o inb' r ⟨_, hr⟩ rfl k).trans (entry2 m c t _ k i (by show i.val = t.val * 512 + (o + r.val); omega))).trans (mixed_read m c i k)
  · exact (ld_row (e := .f32) (iblk m c 3 t) o inb' r ⟨_, hr⟩ rfl k).trans (entry3 m c t _ k i k (by show i.val = t.val * 512 + (o + r.val); omega) (by omega))
  · exact (ld_row (e := .f32) (iblk m c 4 t) o inb' r ⟨_, hr⟩ rfl k).trans (entry4 m c t _ k i k (by show i.val = t.val * 512 + (o + r.val); omega) (by omega))

/-- What point `t` leaves in its block. -/
theorem out9_apply (c : Dev nD) (t : Fin cfg0.N) (i : Fin 512) (j : Fin 1024) (i' : Fin 2048) (hi : i'.val = t.val * 512 + i.val) :
    ((outsAt0 m c t.val t.isLt).1 : S512x1024.Idx → EReal) (ix2 i j) = rowOf m c dres i' j := by
  have ht : t.val < 4 := t.isLt
  have hb : t.val * 512 + i.val < 2048 := by omega
  obtain rfl : i' = ⟨t.val * 512 + i.val, hb⟩ := Fin.ext hi
  by_cases h0 : t.val % 4 = 0
  · rw [outsAt0_A m c t h0]
    frame_out
    refine canon_two (e := .f32) (fun i j => rowOf m c dres ⟨t.val * 512 + i.val, by omega⟩ j) _ _ (fun r j => ?_) (fun r j => ?_) i j
    · exact (pay18_apply _ _ _ _ (View.ld (Val := Elt Ideal) (e' := .f32) (iblk m c 4 t) (Rect.unit (s := S512x1024) ![0, 0] ![256, 1024] inb_S512x1024_S256x1024_0_0)) _ _ (iblk m c 7 t) (iblk m c 8 t) r j).trans (congrFun (row_eq m c dres t 0 (by omega) _ _ r _ rfl) j)
    · exact ((congrFun (pay40_eq _ _ _ _ _ _) _).trans (pay18_apply _ _ _ _ (View.ld (Val := Elt Ideal) (e' := .f32) (iblk m c 4 t) (Rect.unit (s := S512x1024) ![256, 0] ![256, 1024] inb_S512x1024_S256x1024_256_0)) _ _ (iblk m c 7 t) (iblk m c 8 t) r j)).trans (congrFun (row_eq m c dres t 256 (by omega) _ _ r _ (by show t.val * 512 + (256 + r.val) = _; omega)) j)
  · rw [outsAt0_B m c t h0]
    frame_out
    refine canon_two (e := .f32) (fun i j => rowOf m c dres ⟨t.val * 512 + i.val, by omega⟩ j) _ _ (fun r j => ?_) (fun r j => ?_) i j
    · exact (pay18_apply _ _ _ _ (View.ld (Val := Elt Ideal) (e' := .f32) (iblk m c 4 t) (Rect.unit (s := S512x1024) ![0, 0] ![256, 1024] inb_S512x1024_S256x1024_0_0)) _ _ (iblk m c 7 t) (iblk m c 8 t) r j).trans (congrFun (row_eq m c dres t 0 (by omega) _ _ r _ rfl) j)
    · exact ((congrFun (pay40_eq _ _ _ _ _ _) _).trans (pay18_apply _ _ _ _ (View.ld (Val := Elt Ideal) (e' := .f32) (iblk m c 4 t) (Rect.unit (s := S512x1024) ![256, 0] ![256, 1024] inb_S512x1024_S256x1024_256_0)) _ _ (iblk m c 7 t) (iblk m c 8 t) r j)).trans (congrFun (row_eq m c dres t 256 (by omega) _ _ r _ (by show t.val * 512 + (256 + r.val) = _; omega)) j)

theorem final9 (c : Dev nD) (i : Fin 2048) (j : Fin 1024) : ((dats m 0 c).arrAt 9 cfg0.N : S2048x1024.Idx → EReal) (ix2 i j) = rowOf m c dres i j := by
  have ht : i.val / 512 < cfg0.N := by show _ < 4; omega
  refine Eq.trans (congrArg _ (eq_of_val _ i j ?_ ?_).symm) ((congrFun ((Value.blocks9 m c ⟨_, ht⟩ (flush0_9 _)).trans (Value.flushed9 m c ⟨_, ht⟩))
    (ix2 ⟨i.val % 512, Nat.mod_lt _ (by omega)⟩ j)).trans (out9_apply m c ⟨_, ht⟩ _ j i (by show i.val = i.val / 512 * 512 + i.val % 512; omega)))
  · show win0_9.index ⟨_, ht⟩ 0 * 512 + 1 * (i.val % 512) = i.val
    rw [(at9 _).1]; show i.val / 512 * 512 + _ = _; omega
  · show win0_9.index ⟨_, ht⟩ 1 * 1024 + 1 * j.val = j.val
    rw [(at9 _).2]; omega

/-- What point `t` leaves in its block. -/
theorem out10_apply (c : Dev nD) (t : Fin cfg0.N) (i : Fin 512) (j : Fin 1024) (i' : Fin 2048) (hi : i'.val = t.val * 512 + i.val) :
    ((outsAt0 m c t.val t.isLt).2.1 : S512x1024.Idx → EReal) (ix2 i j) = rowOf m c dprod i' j := by
  have ht : t.val < 4 := t.isLt
  have hb : t.val * 512 + i.val < 2048 := by omega
  obtain rfl : i' = ⟨t.val * 512 + i.val, hb⟩ := Fin.ext hi
  by_cases h0 : t.val % 4 = 0
  · rw [outsAt0_A m c t h0]
    frame_out
    refine canon_two (e := .bf16) (fun i j => rowOf m c dprod ⟨t.val * 512 + i.val, by omega⟩ j) _ _ (fun r j => ?_) (fun r j => ?_) i j
    · exact (pay27_apply _ _ _ _ _ _ _ _ _ r j).trans (congrFun (row_eq m c dprod t 0 (by omega) _ _ r _ rfl) j)
    · exact ((congrFun (pay1_eq _ _ _ _ _ _ _ _ _ ) _).trans (pay27_apply _ _ _ _ _ _ _ _ _ r j)).trans (congrFun (row_eq m c dprod t 256 (by omega) _ _ r _ (by show t.val * 512 + (256 + r.val) = _; omega)) j)
  · rw [outsAt0_B m c t h0]
    frame_out
    refine canon_two (e := .bf16) (fun i j => rowOf m c dprod ⟨t.val * 512 + i.val, by omega⟩ j) _ _ (fun r j => ?_) (fun r j => ?_) i j
    · exact (pay27_apply _ _ _ _ _ _ _ _ _ r j).trans (congrFun (row_eq m c dprod t 0 (by omega) _ _ r _ rfl) j)
    · exact ((congrFun (pay1_eq _ _ _ _ _ _ _ _ _ ) _).trans (pay27_apply _ _ _ _ _ _ _ _ _ r j)).trans (congrFun (row_eq m c dprod t 256 (by omega) _ _ r _ (by show t.val * 512 + (256 + r.val) = _; omega)) j)

theorem final10 (c : Dev nD) (i : Fin 2048) (j : Fin 1024) : ((dats m 0 c).arrAt 10 cfg0.N : S2048x1024.Idx → EReal) (ix2 i j) = rowOf m c dprod i j := by
  have ht : i.val / 512 < cfg0.N := by show _ < 4; omega
  refine Eq.trans (congrArg _ (eq_of_val _ i j ?_ ?_).symm) ((congrFun ((Value.blocks10 m c ⟨_, ht⟩ (flush0_10 _)).trans (Value.flushed10 m c ⟨_, ht⟩))
    (ix2 ⟨i.val % 512, Nat.mod_lt _ (by omega)⟩ j)).trans (out10_apply m c ⟨_, ht⟩ _ j i (by show i.val = i.val / 512 * 512 + i.val % 512; omega)))
  · show win0_10.index ⟨_, ht⟩ 0 * 512 + 1 * (i.val % 512) = i.val
    rw [(at10 _).1]; show i.val / 512 * 512 + _ = _; omega
  · show win0_10.index ⟨_, ht⟩ 1 * 1024 + 1 * j.val = j.val
    rw [(at10 _).2]; omega

/-- The sum the points gather. -/
theorem sum11 (c : Dev nD) (t : Fin cfg0.N) (ht : t.val + 1 = cfg0.N) (j : Fin 1024) :
    ((outsAt0 m c t.val t.isLt).2.2.1 : S1x1024.Idx → EReal) (ix2 0 j) = ∑ i, rowOf m c dshift i j := by
  rw [Pipeline.eq_sum_fin_of_reset_step_apply_last (fun n h (j : Fin 1024) => ((outsAt0 m c n h).2.2.1 : S1x1024.Idx → EReal) (ix2 0 j)) 4 (fun _ => 0)
    (fun t j => halves (fun i => rowOf m c dshift i j) t.val (point t)) ?_ ?_ (by decide) t ht j]
  · rw [zero_add]
    exact halves_sum cfg0.N rfl _
  · intro t h0 j
    rw [outsAt0_A m c t h0]
    frame_out
    refine ((congrFun (pay2_eq _ _ _ ) _).trans (pay28_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay28_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dshift t 0 (by omega) _ _ r _ rfl) j
    · exact congrFun (row_eq m c dshift t 256 (by omega) _ _ r _ rfl) j
  · intro t h0 j
    rw [outsAt0_B m c t h0]
    frame_out
    refine ((congrFun (pay2_eq _ _ _ ) _).trans (pay28_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay28_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dshift t 0 (by omega) _ _ r _ rfl) j
    · exact congrFun (row_eq m c dshift t 256 (by omega) _ _ r _ rfl) j

theorem final11 (c : Dev nD) (i : Fin 1) (j : Fin 1024) : ((dats m 0 c).arrAt 11 cfg0.N : S1x1024.Idx → EReal) (ix2 i j) = ∑ i, rowOf m c dshift i j := by
  have h3 : 3 < cfg0.N := by decide
  have hf : (cfg0.win 11).flush ⟨3, h3⟩ = true := (flush0_11 _).2 rfl
  have hd : ∀ t t' : Fin cfg0.N, (cfg0.win 11).flush t = true → (cfg0.win 11).flush t' = true → t ≠ t' → Disjoint ((cfg0.win 11).blk t).view.set ((cfg0.win 11).blk t').view.set := by
    intro t t' h h' hne
    have h4 : t.val < 4 := t.isLt
    have h4' : t'.val < 4 := t'.isLt
    exact absurd (Fin.ext (by have := (flush0_11 t).1 h; have := (flush0_11 t').1 h'; omega)) hne
  refine Eq.trans (congrArg _ (eq_of_val _ i j ?_ ?_).symm) ((congrFun (((dats m 0 c).read_blk_arrAt_eq_flushed 11 hd cfg0.N ⟨3, h3⟩ h3 hf).trans (Value.flushed11 m c ⟨3, h3⟩))
    (ix2 0 j)).trans (sum11 m c ⟨3, h3⟩ rfl j))
  · show win0_11.index ⟨3, h3⟩ 0 * 1 + 1 * 0 = i.val
    rw [(at11 _).1]; omega
  · show win0_11.index ⟨3, h3⟩ 1 * 1024 + 1 * j.val = j.val
    rw [(at11 _).2]; omega

/-- The sum the points gather. -/
theorem sum12 (c : Dev nD) (hn : ∀ j, Num fun i => rowOf m c dcorr i j) (hv : Num (m ((c : Thread nD τ).loc main_arg5) : S1x1024.Idx → EReal)) (t : Fin cfg0.N) (ht : t.val + 1 = cfg0.N) (j : Fin 1024) :
    ((outsAt0 m c t.val t.isLt).2.2.2.1 : S1x1024.Idx → EReal) (ix2 0 j) = ∑ i, rowOf m c dscale i j := by
  rw [Pipeline.eq_sum_fin_of_reset_step_apply_last (fun n h (j : Fin 1024) => ((outsAt0 m c n h).2.2.2.1 : S1x1024.Idx → EReal) (ix2 0 j)) 4 (fun _ => 0)
    (fun t j => halves (fun i => rowOf m c dscale i j) t.val (point t)) ?_ ?_ (by decide) t ht j]
  · rw [zero_add]
    exact halves_sum cfg0.N rfl _
  · intro t h0 j
    rw [outsAt0_A m c t h0]
    frame_out
    refine ((congrFun (pay3_eq _ _ _ _ _ ) _).trans (pay29_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay29_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) ?_ ?_))
    · exact Ideal.ofBits_zero_f32
    · refine (congrArg₂ (· * ·) (Finset.sum_congr rfl fun r _ => congrFun (row_eq m c dcorr t 0 (by omega) _ _ r _ rfl) j) (congrFun (whole5 m c t) _ |> fun h => h)).trans (sum_mul_number (num_comp (hn j) fun r : Fin 256 => (⟨t.val * 512 + 0 + r.val, by have := point t; omega⟩ : Fin 2048)) (num_at hv _))
    · refine (congrArg₂ (· * ·) (Finset.sum_congr rfl fun r _ => congrFun (row_eq m c dcorr t 256 (by omega) _ _ r _ rfl) j) (congrFun (whole5 m c t) _ |> fun h => h)).trans (sum_mul_number (num_comp (hn j) fun r : Fin 256 => (⟨t.val * 512 + 256 + r.val, by have := point t; omega⟩ : Fin 2048)) (num_at hv _))
  · intro t h0 j
    rw [outsAt0_B m c t h0]
    frame_out
    refine ((congrFun (pay3_eq _ _ _ _ _ ) _).trans (pay29_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay29_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) ?_ ?_))
    · rfl
    · refine (congrArg₂ (· * ·) (Finset.sum_congr rfl fun r _ => congrFun (row_eq m c dcorr t 0 (by omega) _ _ r _ rfl) j) (congrFun (whole5 m c t) _ |> fun h => h)).trans (sum_mul_number (num_comp (hn j) fun r : Fin 256 => (⟨t.val * 512 + 0 + r.val, by have := point t; omega⟩ : Fin 2048)) (num_at hv _))
    · refine (congrArg₂ (· * ·) (Finset.sum_congr rfl fun r _ => congrFun (row_eq m c dcorr t 256 (by omega) _ _ r _ rfl) j) (congrFun (whole5 m c t) _ |> fun h => h)).trans (sum_mul_number (num_comp (hn j) fun r : Fin 256 => (⟨t.val * 512 + 256 + r.val, by have := point t; omega⟩ : Fin 2048)) (num_at hv _))

theorem final12 (c : Dev nD) (hn : ∀ j, Num fun i => rowOf m c dcorr i j) (hv : Num (m ((c : Thread nD τ).loc main_arg5) : S1x1024.Idx → EReal)) (i : Fin 1) (j : Fin 1024) : ((dats m 0 c).arrAt 12 cfg0.N : S1x1024.Idx → EReal) (ix2 i j) = ∑ i, rowOf m c dscale i j := by
  have h3 : 3 < cfg0.N := by decide
  have hf : (cfg0.win 12).flush ⟨3, h3⟩ = true := (flush0_12 _).2 rfl
  have hd : ∀ t t' : Fin cfg0.N, (cfg0.win 12).flush t = true → (cfg0.win 12).flush t' = true → t ≠ t' → Disjoint ((cfg0.win 12).blk t).view.set ((cfg0.win 12).blk t').view.set := by
    intro t t' h h' hne
    have h4 : t.val < 4 := t.isLt
    have h4' : t'.val < 4 := t'.isLt
    exact absurd (Fin.ext (by have := (flush0_12 t).1 h; have := (flush0_12 t').1 h'; omega)) hne
  refine Eq.trans (congrArg _ (eq_of_val _ i j ?_ ?_).symm) ((congrFun (((dats m 0 c).read_blk_arrAt_eq_flushed 12 hd cfg0.N ⟨3, h3⟩ h3 hf).trans (Value.flushed12 m c ⟨3, h3⟩))
    (ix2 0 j)).trans (sum12 m c hn hv ⟨3, h3⟩ rfl j))
  · show win0_12.index ⟨3, h3⟩ 0 * 1 + 1 * 0 = i.val
    rw [(at12 _).1]; omega
  · show win0_12.index ⟨3, h3⟩ 1 * 1024 + 1 * j.val = j.val
    rw [(at12 _).2]; omega

/-- The sum the points gather. -/
theorem sum13 (c : Dev nD) (hn : ∀ j, Num fun i => rowOf m c dcorr i j) (hv : Num (m ((c : Thread nD τ).loc main_arg6) : S1x1024.Idx → EReal)) (t : Fin cfg0.N) (ht : t.val + 1 = cfg0.N) (j : Fin 1024) :
    ((outsAt0 m c t.val t.isLt).2.2.2.2.1 : S1x1024.Idx → EReal) (ix2 0 j) = ∑ i, rowOf m c dgain i j := by
  rw [Pipeline.eq_sum_fin_of_reset_step_apply_last (fun n h (j : Fin 1024) => ((outsAt0 m c n h).2.2.2.2.1 : S1x1024.Idx → EReal) (ix2 0 j)) 4 (fun _ => 0)
    (fun t j => halves (fun i => rowOf m c dgain i j) t.val (point t)) ?_ ?_ (by decide) t ht j]
  · rw [zero_add]
    exact halves_sum cfg0.N rfl _
  · intro t h0 j
    rw [outsAt0_A m c t h0]
    frame_out
    refine ((congrFun (pay4_eq _ _ _ _ _ ) _).trans (pay30_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay30_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) ?_ ?_))
    · exact Ideal.ofBits_zero_f32
    · refine (congrArg₂ (· * ·) (Finset.sum_congr rfl fun r _ => congrFun (row_eq m c dcorr t 0 (by omega) _ _ r _ rfl) j) (congrFun (whole6 m c t) _ |> fun h => congrArg (1 + ·) h)).trans (sum_mul_number (num_comp (hn j) fun r : Fin 256 => (⟨t.val * 512 + 0 + r.val, by have := point t; omega⟩ : Fin 2048)) (num_at (num_add (num_const ⟨1, EReal.coe_one.symm⟩) hv) _))
    · refine (congrArg₂ (· * ·) (Finset.sum_congr rfl fun r _ => congrFun (row_eq m c dcorr t 256 (by omega) _ _ r _ rfl) j) (congrFun (whole6 m c t) _ |> fun h => congrArg (1 + ·) h)).trans (sum_mul_number (num_comp (hn j) fun r : Fin 256 => (⟨t.val * 512 + 256 + r.val, by have := point t; omega⟩ : Fin 2048)) (num_at (num_add (num_const ⟨1, EReal.coe_one.symm⟩) hv) _))
  · intro t h0 j
    rw [outsAt0_B m c t h0]
    frame_out
    refine ((congrFun (pay4_eq _ _ _ _ _ ) _).trans (pay30_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay30_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) ?_ ?_))
    · rfl
    · refine (congrArg₂ (· * ·) (Finset.sum_congr rfl fun r _ => congrFun (row_eq m c dcorr t 0 (by omega) _ _ r _ rfl) j) (congrFun (whole6 m c t) _ |> fun h => congrArg (1 + ·) h)).trans (sum_mul_number (num_comp (hn j) fun r : Fin 256 => (⟨t.val * 512 + 0 + r.val, by have := point t; omega⟩ : Fin 2048)) (num_at (num_add (num_const ⟨1, EReal.coe_one.symm⟩) hv) _))
    · refine (congrArg₂ (· * ·) (Finset.sum_congr rfl fun r _ => congrFun (row_eq m c dcorr t 256 (by omega) _ _ r _ rfl) j) (congrFun (whole6 m c t) _ |> fun h => congrArg (1 + ·) h)).trans (sum_mul_number (num_comp (hn j) fun r : Fin 256 => (⟨t.val * 512 + 256 + r.val, by have := point t; omega⟩ : Fin 2048)) (num_at (num_add (num_const ⟨1, EReal.coe_one.symm⟩) hv) _))

theorem final13 (c : Dev nD) (hn : ∀ j, Num fun i => rowOf m c dcorr i j) (hv : Num (m ((c : Thread nD τ).loc main_arg6) : S1x1024.Idx → EReal)) (i : Fin 1) (j : Fin 1024) : ((dats m 0 c).arrAt 13 cfg0.N : S1x1024.Idx → EReal) (ix2 i j) = ∑ i, rowOf m c dgain i j := by
  have h3 : 3 < cfg0.N := by decide
  have hf : (cfg0.win 13).flush ⟨3, h3⟩ = true := (flush0_13 _).2 rfl
  have hd : ∀ t t' : Fin cfg0.N, (cfg0.win 13).flush t = true → (cfg0.win 13).flush t' = true → t ≠ t' → Disjoint ((cfg0.win 13).blk t).view.set ((cfg0.win 13).blk t').view.set := by
    intro t t' h h' hne
    have h4 : t.val < 4 := t.isLt
    have h4' : t'.val < 4 := t'.isLt
    exact absurd (Fin.ext (by have := (flush0_13 t).1 h; have := (flush0_13 t').1 h'; omega)) hne
  refine Eq.trans (congrArg _ (eq_of_val _ i j ?_ ?_).symm) ((congrFun (((dats m 0 c).read_blk_arrAt_eq_flushed 13 hd cfg0.N ⟨3, h3⟩ h3 hf).trans (Value.flushed13 m c ⟨3, h3⟩))
    (ix2 0 j)).trans (sum13 m c hn hv ⟨3, h3⟩ rfl j))
  · show win0_13.index ⟨3, h3⟩ 0 * 1 + 1 * 0 = i.val
    rw [(at13 _).1]; omega
  · show win0_13.index ⟨3, h3⟩ 1 * 1024 + 1 * j.val = j.val
    rw [(at13 _).2]; omega

/-- The sum the points gather. -/
theorem sum14 (c : Dev nD) (t : Fin cfg0.N) (ht : t.val + 1 = cfg0.N) (j : Fin 1024) :
    ((outsAt0 m c t.val t.isLt).2.2.2.2.2.1 : S1x1024.Idx → EReal) (ix2 0 j) = ∑ i, rowOf m c dgate i j := by
  rw [Pipeline.eq_sum_fin_of_reset_step_apply_last (fun n h (j : Fin 1024) => ((outsAt0 m c n h).2.2.2.2.2.1 : S1x1024.Idx → EReal) (ix2 0 j)) 4 (fun _ => 0)
    (fun t j => halves (fun i => rowOf m c dgate i j) t.val (point t)) ?_ ?_ (by decide) t ht j]
  · rw [zero_add]
    exact halves_sum cfg0.N rfl _
  · intro t h0 j
    rw [outsAt0_A m c t h0]
    frame_out
    refine ((congrFun (pay5_eq _ _ _ _ _ _ _ _ _ ) _).trans (pay31_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay31_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dgate t 0 (by omega) _ _ r _ rfl) j
    · exact congrFun (row_eq m c dgate t 256 (by omega) _ _ r _ rfl) j
  · intro t h0 j
    rw [outsAt0_B m c t h0]
    frame_out
    refine ((congrFun (pay5_eq _ _ _ _ _ _ _ _ _ ) _).trans (pay31_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay31_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dgate t 0 (by omega) _ _ r _ rfl) j
    · exact congrFun (row_eq m c dgate t 256 (by omega) _ _ r _ rfl) j

theorem final14 (c : Dev nD) (i : Fin 1) (j : Fin 1024) : ((dats m 0 c).arrAt 14 cfg0.N : S1x1024.Idx → EReal) (ix2 i j) = ∑ i, rowOf m c dgate i j := by
  have h3 : 3 < cfg0.N := by decide
  have hf : (cfg0.win 14).flush ⟨3, h3⟩ = true := (flush0_14 _).2 rfl
  have hd : ∀ t t' : Fin cfg0.N, (cfg0.win 14).flush t = true → (cfg0.win 14).flush t' = true → t ≠ t' → Disjoint ((cfg0.win 14).blk t).view.set ((cfg0.win 14).blk t').view.set := by
    intro t t' h h' hne
    have h4 : t.val < 4 := t.isLt
    have h4' : t'.val < 4 := t'.isLt
    exact absurd (Fin.ext (by have := (flush0_14 t).1 h; have := (flush0_14 t').1 h'; omega)) hne
  refine Eq.trans (congrArg _ (eq_of_val _ i j ?_ ?_).symm) ((congrFun (((dats m 0 c).read_blk_arrAt_eq_flushed 14 hd cfg0.N ⟨3, h3⟩ h3 hf).trans (Value.flushed14 m c ⟨3, h3⟩))
    (ix2 0 j)).trans (sum14 m c ⟨3, h3⟩ rfl j))
  · show win0_14.index ⟨3, h3⟩ 0 * 1 + 1 * 0 = i.val
    rw [(at14 _).1]; omega
  · show win0_14.index ⟨3, h3⟩ 1 * 1024 + 1 * j.val = j.val
    rw [(at14 _).2]; omega

/-- The sum the points gather. -/
theorem sum15 (c : Dev nD) (t : Fin cfg0.N) (ht : t.val + 1 = cfg0.N) (j : Fin 1024) :
    ((outsAt0 m c t.val t.isLt).2.2.2.2.2.2 : S1x1024.Idx → EReal) (ix2 0 j) = ∑ i, rowOf m c dlater i j := by
  rw [Pipeline.eq_sum_fin_of_reset_step_apply_last (fun n h (j : Fin 1024) => ((outsAt0 m c n h).2.2.2.2.2.2 : S1x1024.Idx → EReal) (ix2 0 j)) 4 (fun _ => 0)
    (fun t j => halves (fun i => rowOf m c dlater i j) t.val (point t)) ?_ ?_ (by decide) t ht j]
  · rw [zero_add]
    exact halves_sum cfg0.N rfl _
  · intro t h0 j
    rw [outsAt0_A m c t h0]
    frame_out
    refine ((congrFun (pay6_eq _ _ _ _ _ _ _ _ _ ) _).trans (pay32_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay32_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dlater t 0 (by omega) _ _ r _ rfl) j
    · exact congrFun (row_eq m c dlater t 256 (by omega) _ _ r _ rfl) j
  · intro t h0 j
    rw [outsAt0_B m c t h0]
    frame_out
    refine ((congrFun (pay6_eq _ _ _ _ _ _ _ _ _ ) _).trans (pay32_apply _ _ (View.ld (Val := Elt Ideal) (e' := .f32) (iblk m c 2 t) (Rect.unit (s := S512x1024) ![256, 0] ![256, 1024] inb_S512x1024_S256x1024_256_0)) (View.ld (Val := Elt Ideal) (e' := .f32) (iblk m c 3 t) (Rect.unit (s := S512x1024) ![256, 0] ![256, 1024] inb_S512x1024_S256x1024_256_0)) (View.ld (Val := Elt Ideal) (e' := .f32) (iblk m c 4 t) (Rect.unit (s := S512x1024) ![256, 0] ![256, 1024] inb_S512x1024_S256x1024_256_0)) (iblk m c 5 t) (iblk m c 6 t) (iblk m c 7 t) (iblk m c 8 t) _ j)).trans ?_
    refine (congrArg₂ (· + ·) (pay32_apply _ _ (View.ld (Val := Elt Ideal) (e' := .f32) (iblk m c 2 t) (Rect.unit (s := S512x1024) ![0, 0] ![256, 1024] inb_S512x1024_S256x1024_0_0)) (View.ld (Val := Elt Ideal) (e' := .f32) (iblk m c 3 t) (Rect.unit (s := S512x1024) ![0, 0] ![256, 1024] inb_S512x1024_S256x1024_0_0)) (View.ld (Val := Elt Ideal) (e' := .f32) (iblk m c 4 t) (Rect.unit (s := S512x1024) ![0, 0] ![256, 1024] inb_S512x1024_S256x1024_0_0)) (iblk m c 5 t) (iblk m c 6 t) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dlater t 0 (by omega) _ _ r _ rfl) j
    · exact congrFun (row_eq m c dlater t 256 (by omega) _ _ r _ rfl) j

theorem final15 (c : Dev nD) (i : Fin 1) (j : Fin 1024) : ((dats m 0 c).arrAt 15 cfg0.N : S1x1024.Idx → EReal) (ix2 i j) = ∑ i, rowOf m c dlater i j := by
  have h3 : 3 < cfg0.N := by decide
  have hf : (cfg0.win 15).flush ⟨3, h3⟩ = true := (flush0_15 _).2 rfl
  have hd : ∀ t t' : Fin cfg0.N, (cfg0.win 15).flush t = true → (cfg0.win 15).flush t' = true → t ≠ t' → Disjoint ((cfg0.win 15).blk t).view.set ((cfg0.win 15).blk t').view.set := by
    intro t t' h h' hne
    have h4 : t.val < 4 := t.isLt
    have h4' : t'.val < 4 := t'.isLt
    exact absurd (Fin.ext (by have := (flush0_15 t).1 h; have := (flush0_15 t').1 h'; omega)) hne
  refine Eq.trans (congrArg _ (eq_of_val _ i j ?_ ?_).symm) ((congrFun (((dats m 0 c).read_blk_arrAt_eq_flushed 15 hd cfg0.N ⟨3, h3⟩ h3 hf).trans (Value.flushed15 m c ⟨3, h3⟩))
    (ix2 0 j)).trans (sum15 m c ⟨3, h3⟩ rfl j))
  · show win0_15.index ⟨3, h3⟩ 0 * 1 + 1 * 0 = i.val
    rw [(at15 _).1]; omega
  · show win0_15.index ⟨3, h3⟩ 1 * 1024 + 1 * j.val = j.val
    rw [(at15 _).2]; omega

section Numbers
variable {g sc gate p : (Mat 1 1024).Idx → EReal} {d x e y : Fin 1024 → EReal}

theorem one_num : ∃ r : ℝ, (1 : EReal) = r := ⟨1, EReal.coe_one.symm⟩

theorem normed_num (hx : Num x) : Num fun k => x k * rstd x := num_mul hx (num_const (rstd_number hx))

theorem mixed_num (hgate : Num gate) (hp : Num p) (hx : Num x) (hy : Num y) : Num (mixed gate p x y) :=
  num_add hx (num_mul (num_comp hgate fun j => ix2 0 j) (num_mul (normed_num hy) (num_comp hp fun j => ix2 0 j)))

theorem down_num (hg : Num g) (hsc : Num sc) (hd : Num d) : Num fun k => d k * (g (ix2 0 k) * (1 + sc (ix2 0 k))) :=
  num_mul hd (num_mul (num_comp hg fun j => ix2 0 j) (num_add (num_const one_num) (num_comp hsc fun j => ix2 0 j)))

theorem dres_num (hg : Num g) (hsc : Num sc) (hd : Num d) (hx : Num x) (he : Num e) : Num (dres g sc gate p d x e y) :=
  num_add he (normBack_number hx (down_num hg hsc hd))

theorem dcorr_num (hd : Num d) (hx : Num x) : Num (dcorr g sc gate p d x e y) := num_mul hd (normed_num hx)
end Numbers

section Reference
open Cert.Reference5Ideal.Read
variable (x0 : S2048x5632.Idx → EReal) (x1 : S1024x5632.Idx → EReal) (x2 x3 x4 : S2048x1024.Idx → EReal) (g sc gate p : S1x1024.Idx → EReal) (i : Fin 2048) (j : Fin 1024)

/-- A row function, of row `i`. -/
abbrev at' (f : (g sc gate p : (Mat 1 1024).Idx → EReal) → (d x e y : Fin 1024 → EReal) → Fin 1024 → EReal) : Fin 1024 → EReal :=
  f g sc gate p (mulNT x0 x1 i) (mixed gate p (fun k => x2 (ix2 i k)) (fun k => x4 (ix2 i k))) (fun k => x3 (ix2 i k)) (fun k => x4 (ix2 i k))

theorem product_read : val_main_v43 (F := Ideal) x0 x1 = fun q => mulNT x0 x1 (q 0) (q 1) := by
  refine Blocks.ext _ _ fun i j => ?_
  simp only [val_main_v43, val_main_v42, val_main_v40, pointwise, zero_add]
  rfl

theorem residual_read : val_main_v18 (F := Ideal) x2 x4 gate p = fun q => mixed gate p (fun k => x2 (ix2 (q 0) k)) (fun k => x4 (ix2 (q 0) k)) (q 1) := by
  refine Blocks.ext _ _ fun i j => ?_
  simp only [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, pointwise, zero_add]
  rfl

theorem shift_read (i : Fin 1) : val_main_v45 (F := Ideal) x0 x1 (ix2 i j) = ∑ i, at' x0 x1 x2 x3 x4 g sc gate p i dshift j := by
  simp only [val_main_v45, val_main_v44, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, pointwise, zero_add]
  rfl

theorem scale_read (i : Fin 1) : val_main_v48 (F := Ideal) x0 x1 x2 x4 g gate p (ix2 i j) = ∑ i, at' x0 x1 x2 x3 x4 g sc gate p i dscale j := by
  simp only [val_main_v48, val_main_v47, val_main_v46, val_main_v33, val_main_v32, val_main_v31, val_main_v30, val_main_v29, val_main_v28, val_main_v27, val_main_v26, val_main_v25, val_main_v24, val_main_v23, val_main_v22, val_main_v21, val_main_v20, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, residual_read, pointwise, zero_add]
  refine Finset.sum_congr rfl fun i _ => ?_
  exact (mul_comm _ _).trans (mul_assoc _ _ _).symm

theorem gain_read (i : Fin 1) : val_main_v53 (F := Ideal) x0 x1 x2 x4 sc gate p (ix2 i j) = ∑ i, at' x0 x1 x2 x3 x4 g sc gate p i dgain j := by
  simp only [val_main_v53, val_main_v52, val_main_v51, val_main_v50, val_main_v49, val_main_v35, val_main_v34, val_main_v31, val_main_v30, val_main_v29, val_main_v28, val_main_v27, val_main_v26, val_main_v25, val_main_v24, val_main_v23, val_main_v22, val_main_v21, val_main_v20, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, residual_read, pointwise, zero_add]
  refine Finset.sum_congr rfl fun i _ => ?_
  exact (mul_left_comm _ _ _).trans (mul_assoc _ _ _).symm

theorem dres_read (h0 : Num x0) (h1 : Num x1) (h2 : Num x2) (h4 : Num x4) (hg : Num g) (hsc : Num sc) (hgate : Num gate) (hp : Num p) :
    val_main_v70 (F := Ideal) x0 x1 x2 x3 x4 g sc gate p = fun q => at' x0 x1 x2 x3 x4 g sc gate p (q 0) dres (q 1) := by
  refine Blocks.ext _ _ fun i j => ?_
  have e : (fun k => mulNT x0 x1 i k * (g (ix2 0 k) * (1 + sc (ix2 0 k)))) = fun k => mulNT x0 x1 i k * (1 + sc (ix2 0 k)) * g (ix2 0 k) :=
    funext fun k => (congrArg _ (mul_comm _ _)).trans (mul_assoc _ _ _).symm
  have hx := mixed_num hgate hp (num_comp h2 fun k => ix2 i k) (num_comp h4 fun k => ix2 i k)
  have hd := e ▸ down_num hg hsc (mulNT_num h0 h1 i)
  show _ = x3 (ix2 i j) + normBack (mixed gate p (fun k => x2 (ix2 i k)) (fun k => x4 (ix2 i k))) (fun k => mulNT x0 x1 i k * (g (ix2 0 k) * (1 + sc (ix2 0 k)))) j
  rw [e, ← pull_add_eq hx hd j]
  simp only [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v50, val_main_v49, val_main_v35, val_main_v34, val_main_v29, val_main_v28, val_main_v27, val_main_v26, val_main_v25, val_main_v24, val_main_v23, val_main_v22, val_main_v21, val_main_v20, val_main_v19, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, residual_read, pointwise, zero_add, Fin.sum_univ_one]
  rfl

theorem gate_read (h0 : Num x0) (h1 : Num x1) (h2 : Num x2) (h4 : Num x4) (hg : Num g) (hsc : Num sc) (hgate : Num gate) (hp : Num p) (i : Fin 1) :
    val_main_v76 (F := Ideal) x0 x1 x2 x3 x4 g sc gate p (ix2 i j) = ∑ i, at' x0 x1 x2 x3 x4 g sc gate p i dgate j := by
  simp only [val_main_v76, val_main_v75, val_main_v74, val_main_v71, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, dres_read x0 x1 x2 x3 x4 g sc gate p h0 h1 h2 h4 hg hsc hgate hp, pointwise, zero_add]
  rfl

theorem later_read (h0 : Num x0) (h1 : Num x1) (h2 : Num x2) (h4 : Num x4) (hg : Num g) (hsc : Num sc) (hgate : Num gate) (hp : Num p) (i : Fin 1) :
    val_main_v79 (F := Ideal) x0 x1 x2 x3 x4 g sc gate p (ix2 i j) = ∑ i, at' x0 x1 x2 x3 x4 g sc gate p i dlater j := by
  simp only [val_main_v79, val_main_v78, val_main_v77, val_main_v73, val_main_v72, val_main_v71, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, dres_read x0 x1 x2 x3 x4 g sc gate p h0 h1 h2 h4 hg hsc hgate hp, pointwise, zero_add]
  refine Finset.sum_congr rfl fun i _ => ?_
  exact (mul_comm _ _).trans (congrArg (· * _) (mul_comm _ _))

theorem prod_read (h0 : Num x0) (h1 : Num x1) (h2 : Num x2) (h3 : Num x3) (h4 : Num x4) (hg : Num g) (hsc : Num sc) (hgate : Num gate) (hp : Num p) :
    val_main_v96 (F := Ideal) x0 x1 x2 x3 x4 g sc gate p (ix2 i j) = at' x0 x1 x2 x3 x4 g sc gate p i dprod j := by
  have e : (fun k => at' x0 x1 x2 x3 x4 g sc gate p i dres k * gate (ix2 0 k) * p (ix2 0 k)) = fun k => gate (ix2 0 k) * at' x0 x1 x2 x3 x4 g sc gate p i dres k * p (ix2 0 k) :=
    funext fun k => congrArg (· * _) (mul_comm _ _)
  have hr : Num (at' x0 x1 x2 x3 x4 g sc gate p i dres) := dres_num hg hsc (mulNT_num h0 h1 i)
    (mixed_num hgate hp (num_comp h2 fun k => ix2 i k) (num_comp h4 fun k => ix2 i k)) (num_comp h3 fun k => ix2 i k)
  have hd := num_mul (num_mul (num_comp hgate fun k : Fin 1024 => ix2 0 k) hr) (num_comp hp fun k : Fin 1024 => ix2 0 k)
  show _ = normBack (fun k => x4 (ix2 i k)) (fun k => at' x0 x1 x2 x3 x4 g sc gate p i dres k * gate (ix2 0 k) * p (ix2 0 k)) j
  rw [e, ← pull_eq (num_comp h4 fun k => ix2 i k) hd j]
  simp only [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v73, val_main_v72, val_main_v71, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, dres_read x0 x1 x2 x3 x4 g sc gate p h0 h1 h2 h4 hg hsc hgate hp, pointwise, zero_add, Fin.sum_univ_one]
  rfl
end Reference

theorem frame_reference : Cert.quiescent_Reference5Ideal := fun m g _ =>
  (θ_run Cert.Reference5Ideal.defs _ _).mono
    (fun r h => ⟨fun c => (h c).2.2.2.2.2.2.2, Idealize.ShloMosaic.sem_eq_zero_of_no_sems (by decide) r.2⟩)
    (Cert.Reference5Ideal.Value.run (F := Ideal) m g)

/-- What the precondition says of the arguments. -/
theorem numbers (m : (ℓ : Loc nD τ sig) → Buf (Elt Ideal) ℓ) (hp : Cert.Pre_Kernel5Ideal_finite5 m) (c : Dev nD) :
    Num (m ((c : Thread nD τ).loc main_arg0) : S2048x5632.Idx → EReal)
      ∧ Num (m ((c : Thread nD τ).loc main_arg1) : S1024x5632.Idx → EReal)
      ∧ Num (m ((c : Thread nD τ).loc main_arg2) : S2048x1024.Idx → EReal)
      ∧ Num (m ((c : Thread nD τ).loc main_arg3) : S2048x1024.Idx → EReal)
      ∧ Num (m ((c : Thread nD τ).loc main_arg4) : S2048x1024.Idx → EReal)
      ∧ Num (m ((c : Thread nD τ).loc main_arg5) : S1x1024.Idx → EReal)
      ∧ Num (m ((c : Thread nD τ).loc main_arg6) : S1x1024.Idx → EReal)
      ∧ Num (m ((c : Thread nD τ).loc main_arg7) : S1x1024.Idx → EReal)
      ∧ Num (m ((c : Thread nD τ).loc main_arg8) : S1x1024.Idx → EReal) := by
  have h := congrFun (hp c) (Shape.Idx.first Cert.Pre_finite5.Gen.h_S_)
  dsimp only [Cert.Pre_finite5.fn, Cert.Pre_finite5.fn_part1, Cert.Pre_finite5.fn_part2] at h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨num_of_all _ _ (fun _ => rfl) _ _ _ _ h0, num_of_all _ _ (fun _ => rfl) _ _ _ _ h1, num_of_all _ _ (fun _ => rfl) _ _ _ _ h2, num_of_all _ _ (fun _ => rfl) _ _ _ _ h3, num_of_all _ _ (fun _ => rfl) _ _ _ _ h4, num_of_all _ _ (fun _ => rfl) _ _ _ _ h5, num_of_all _ _ (fun _ => rfl) _ _ _ _ h6, num_of_all _ _ (fun _ => rfl) _ _ _ _ h7, num_of_all _ _ (fun _ => rfl) _ _ _ _ h8⟩

/-- The terms of the sums out of which the kernel takes a factor are numbers. -/
theorem corr_numbers (m : (ℓ : Loc nD τ sig) → Buf (Elt Ideal) ℓ) (c : Dev nD) (h0 : Num (m ((c : Thread nD τ).loc main_arg0) : S2048x5632.Idx → EReal)) (h1 : Num (m ((c : Thread nD τ).loc main_arg1) : S1024x5632.Idx → EReal))
    (h2 : Num (m ((c : Thread nD τ).loc main_arg2) : S2048x1024.Idx → EReal)) (h4 : Num (m ((c : Thread nD τ).loc main_arg4) : S2048x1024.Idx → EReal))
    (h7 : Num (m ((c : Thread nD τ).loc main_arg7) : S1x1024.Idx → EReal)) (h8 : Num (m ((c : Thread nD τ).loc main_arg8) : S1x1024.Idx → EReal)) (j : Fin 1024) : Num fun i => rowOf m c dcorr i j := by
  have h : ∀ i, ∃ r : ℝ, rowOf m c dcorr i j = r := fun i =>
    num_at (dcorr_num (mulNT_num h0 h1 i) (mixed_num h7 h8 (num_comp h2 fun k => ix2 i k) (num_comp h4 fun k => ix2 i k))) j
  exact ⟨fun i => (h i).choose, funext fun i => (h i).choose_spec⟩

/-- The two memories agree on the arguments. -/
def Agree (m : (ℓ : Loc nD τ sig) → Buf (Elt Ideal) ℓ) (m' : (ℓ : Loc Cert.Reference5Ideal.nD Cert.Reference5Ideal.τ Cert.Reference5Ideal.sig) → Buf (Elt Ideal) ℓ) (c : Dev nD) : Prop :=
  m' ((c.tc : Thread Cert.Reference5Ideal.nD Cert.Reference5Ideal.τ).loc Cert.Reference5Ideal.main_arg0) = m ((c.tc : Thread nD τ).loc main_arg0)
    ∧ m' ((c.tc : Thread Cert.Reference5Ideal.nD Cert.Reference5Ideal.τ).loc Cert.Reference5Ideal.main_arg1) = m ((c.tc : Thread nD τ).loc main_arg1)
    ∧ m' ((c.tc : Thread Cert.Reference5Ideal.nD Cert.Reference5Ideal.τ).loc Cert.Reference5Ideal.main_arg2) = m ((c.tc : Thread nD τ).loc main_arg2)
    ∧ m' ((c.tc : Thread Cert.Reference5Ideal.nD Cert.Reference5Ideal.τ).loc Cert.Reference5Ideal.main_arg3) = m ((c.tc : Thread nD τ).loc main_arg3)
    ∧ m' ((c.tc : Thread Cert.Reference5Ideal.nD Cert.Reference5Ideal.τ).loc Cert.Reference5Ideal.main_arg4) = m ((c.tc : Thread nD τ).loc main_arg4)
    ∧ m' ((c.tc : Thread Cert.Reference5Ideal.nD Cert.Reference5Ideal.τ).loc Cert.Reference5Ideal.main_arg5) = m ((c.tc : Thread nD τ).loc main_arg5)
    ∧ m' ((c.tc : Thread Cert.Reference5Ideal.nD Cert.Reference5Ideal.τ).loc Cert.Reference5Ideal.main_arg6) = m ((c.tc : Thread nD τ).loc main_arg6)
    ∧ m' ((c.tc : Thread Cert.Reference5Ideal.nD Cert.Reference5Ideal.τ).loc Cert.Reference5Ideal.main_arg7) = m ((c.tc : Thread nD τ).loc main_arg7)
    ∧ m' ((c.tc : Thread Cert.Reference5Ideal.nD Cert.Reference5Ideal.τ).loc Cert.Reference5Ideal.main_arg8) = m ((c.tc : Thread nD τ).loc main_arg8)

/-! Each result of the reference, from agreeing memories. -/

theorem result9 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v70 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (dats m 0 c).arrAt 9 cfg0.N := by
  obtain ⟨h0, h1, h2, h3, h4, h5, h6, h7, h8⟩ := numbers m hp c
  rw [ha.1, ha.2.1, ha.2.2.1, ha.2.2.2.1, ha.2.2.2.2.1, ha.2.2.2.2.2.1, ha.2.2.2.2.2.2.1, ha.2.2.2.2.2.2.2.1, ha.2.2.2.2.2.2.2.2]
  exact Blocks.ext _ _ fun i j => (congrFun (dres_read _ _ _ _ _ _ _ _ _ h0 h1 h2 h4 h5 h6 h7 h8) _).trans (final9 m c i j).symm

theorem result10 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v96 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (dats m 0 c).arrAt 10 cfg0.N := by
  obtain ⟨h0, h1, h2, h3, h4, h5, h6, h7, h8⟩ := numbers m hp c
  rw [ha.1, ha.2.1, ha.2.2.1, ha.2.2.2.1, ha.2.2.2.2.1, ha.2.2.2.2.2.1, ha.2.2.2.2.2.2.1, ha.2.2.2.2.2.2.2.1, ha.2.2.2.2.2.2.2.2]
  exact Blocks.ext _ _ fun i j => (prod_read _ _ _ _ _ _ _ _ _ i j h0 h1 h2 h3 h4 h5 h6 h7 h8).trans (final10 m c i j).symm

theorem result11 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v45 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = (dats m 0 c).arrAt 11 cfg0.N := by
  obtain ⟨h0, h1, h2, h3, h4, h5, h6, h7, h8⟩ := numbers m hp c
  rw [ha.1, ha.2.1]
  exact Blocks.ext _ _ fun i j => (shift_read _ _ _ _ _ _ _ _ _ j i).trans (final11 m c i j).symm

theorem result12 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v48 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (dats m 0 c).arrAt 12 cfg0.N := by
  obtain ⟨h0, h1, h2, h3, h4, h5, h6, h7, h8⟩ := numbers m hp c
  rw [ha.1, ha.2.1, ha.2.2.1, ha.2.2.2.2.1, ha.2.2.2.2.2.1, ha.2.2.2.2.2.2.2.1, ha.2.2.2.2.2.2.2.2]
  exact Blocks.ext _ _ fun i j => (scale_read _ _ _ _ _ _ _ _ _ j i).trans (final12 m c (corr_numbers m c h0 h1 h2 h4 h7 h8) h5 i j).symm

theorem result13 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v53 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (dats m 0 c).arrAt 13 cfg0.N := by
  obtain ⟨h0, h1, h2, h3, h4, h5, h6, h7, h8⟩ := numbers m hp c
  rw [ha.1, ha.2.1, ha.2.2.1, ha.2.2.2.2.1, ha.2.2.2.2.2.2.1, ha.2.2.2.2.2.2.2.1, ha.2.2.2.2.2.2.2.2]
  exact Blocks.ext _ _ fun i j => (gain_read _ _ _ _ _ _ _ _ _ j i).trans (final13 m c (corr_numbers m c h0 h1 h2 h4 h7 h8) h6 i j).symm

theorem result14 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v76 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (dats m 0 c).arrAt 14 cfg0.N := by
  obtain ⟨h0, h1, h2, h3, h4, h5, h6, h7, h8⟩ := numbers m hp c
  rw [ha.1, ha.2.1, ha.2.2.1, ha.2.2.2.1, ha.2.2.2.2.1, ha.2.2.2.2.2.1, ha.2.2.2.2.2.2.1, ha.2.2.2.2.2.2.2.1, ha.2.2.2.2.2.2.2.2]
  exact Blocks.ext _ _ fun i j => (gate_read _ _ _ _ _ _ _ _ _ j h0 h1 h2 h4 h5 h6 h7 h8 i).trans (final14 m c i j).symm

theorem result15 (m : (ℓ : Loc nD τ sig) → Buf (Elt Ideal) ℓ) (m' : (ℓ : Loc Cert.Reference5Ideal.nD Cert.Reference5Ideal.τ Cert.Reference5Ideal.sig) → Buf (Elt Ideal) ℓ) (c : Dev nD) (hp : Cert.Pre_Kernel5Ideal_finite5 m) (ha : Agree m m' c) :
    Cert.Reference5Ideal.Read.val_main_v79 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) = (dats m 0 c).arrAt 15 cfg0.N := by
  obtain ⟨h0, h1, h2, h3, h4, h5, h6, h7, h8⟩ := numbers m hp c
  rw [ha.1, ha.2.1, ha.2.2.1, ha.2.2.2.1, ha.2.2.2.2.1, ha.2.2.2.2.2.1, ha.2.2.2.2.2.2.1, ha.2.2.2.2.2.2.2.1, ha.2.2.2.2.2.2.2.2]
  exact Blocks.ext _ _ fun i j => (later_read _ _ _ _ _ _ _ _ _ j h0 h1 h2 h4 h5 h6 h7 h8 i).trans (final15 m c i j).symm

/-- From memories that agree on the arguments, which are numbers, the call and its reference leave the same results. -/
theorem algebraic : Cert.algebraic_Kernel5Ideal_Reference5Ideal_pre_finite5 := by
  intro m g m' g' hp hargs
  refine ⟨_, _, _, _, _, _, _, (θ_run _ _ _).mono (fun r h c => h c) (Cert.Kernel5Ideal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference5Ideal.Value.run m' g')⟩
  · rw [Cert.Reference5Ideal.Read.val_main_v70_eq m' c]
    exact result9 m m' c hp (hargs c)
  · rw [Cert.Reference5Ideal.Read.val_main_v96_eq m' c]
    exact result10 m m' c hp (hargs c)
  · rw [Cert.Reference5Ideal.Read.val_main_v45_eq]
    exact result11 m m' c hp (hargs c)
  · rw [Cert.Reference5Ideal.Read.val_main_v48_eq]
    exact result12 m m' c hp (hargs c)
  · rw [Cert.Reference5Ideal.Read.val_main_v53_eq]
    exact result13 m m' c hp (hargs c)
  · rw [Cert.Reference5Ideal.Read.val_main_v76_eq m' c]
    exact result14 m m' c hp (hargs c)
  · rw [Cert.Reference5Ideal.Read.val_main_v79_eq m' c]
    exact result15 m m' c hp (hargs c)

end Cert.Proof.FfnInDx

end
-- ==== Proof.FfnIn.lean ====
/- The feed-forward's first product and its `silu(g) * u`, tile by tile. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Blocks
public import proofs.«01_k».proof.Proof.Numbers
public import proofs.«01_k».proof.Defs

@[expose] public section

set_option maxRecDepth 16384

noncomputable section

namespace Cert.Proof.FfnIn

open Cert.Kernel6Ideal Cert.Kernel6Ideal.Gen Idealize.ShloMosaic Idealize.ShloMosaic.TcCoe Idealize.SL.Sem
open Idealize.ShloMosaic.Pipeline (Dat)
open Cert.Proof.Blocks Cert.Proof.Numbers

/-- One entry of `silu(g) * u`. -/
def act (g u : EReal) : EReal := g * gate g * u

/-- The payload of a chunk's first store: the activation, of columns that hold 1408 of the gate and then 1408 of the up half. -/
theorem act_apply (x : S256x1024.Idx → EReal) (w : S1024x2816.Idx → EReal) (i : Fin 256) (j : Fin 1408) :
    k0_pay3 (F := Ideal) x w (ix2 i j) = act (mulNN x w i ⟨j.val, by omega⟩) (mulNN x w i ⟨1408 + j.val, by omega⟩) := by
  simp only [k0_pay3, k0_pay2, pointwise, zero_sub, zero_add, Matrix.cons_val_zero, Matrix.cons_val_one, Nat.zero_add, Fin.eta]
  rfl

theorem act_eq (x : S256x1024.Idx → EReal) (w : S1024x2816.Idx → EReal) : k0_pay6 (F := Ideal) x w = k0_pay3 x w := rfl

/-- The payload of its second store: the product itself. -/
theorem gu_apply (x : S256x1024.Idx → EReal) (w : S1024x2816.Idx → EReal) (i : Fin 256) (j : Fin 2816) :
    k0_pay4 (F := Ideal) x w (ix2 i j) = mulNN x w i j := by
  simp only [k0_pay4, k0_pay2, pointwise, zero_add]
  rfl

theorem gu_eq (x : S256x1024.Idx → EReal) (w : S1024x2816.Idx → EReal) : k0_pay1 (k0_pay5 (F := Ideal) x w) = k0_pay4 x w := rfl

theorem rows0 (x : S512x1024.Idx → EReal) (w : S1024x2816.Idx → EReal) (i : Fin 256) (i' : Fin 512) (h : i'.val = i.val) (j j' : Fin 2816) (h' : j'.val = j.val) :
    mulNN (View.ld (Val := Elt Ideal) (e' := .bf16) x r0_0) (View.ld (Val := Elt Ideal) (e' := .bf16) w r0_1) i j = mulNN x w i' j' := by
  obtain rfl : j' = j := Fin.ext h'
  refine mulNN_congr (fun k => congrArg x (eq_of_val _ _ _ ?_ ?_)) (fun k => congrFun (View.ld_unit_zero (Val := Elt Ideal) (e := .bf16) hz _ w) _)
  · show 0 + 1 * i.val = i'.val; omega
  · show 0 + 1 * k.val = k.val; omega

theorem rows1 (x : S512x1024.Idx → EReal) (w : S1024x2816.Idx → EReal) (i : Fin 256) (i' : Fin 512) (h : i'.val = 256 + i.val) (j j' : Fin 2816) (h' : j'.val = j.val) :
    mulNN (View.ld (Val := Elt Ideal) (e' := .bf16) x r0_4) (View.ld (Val := Elt Ideal) (e' := .bf16) w r0_1) i j = mulNN x w i' j' := by
  obtain rfl : j' = j := Fin.ext h'
  refine mulNN_congr (fun k => congrArg x (eq_of_val _ _ _ ?_ ?_)) (fun k => congrFun (View.ld_unit_zero (Val := Elt Ideal) (e := .bf16) hz _ w) _)
  · show 256 + 1 * i.val = i'.val; omega
  · show 0 + 1 * k.val = k.val; omega

/-- What a point leaves in its block of the activation. -/
theorem out2_apply (x : S512x1024.Idx → EReal) (w : S1024x2816.Idx → EReal) (i : Fin 512) (j : Fin 1408) :
    out0_2 (F := Ideal) x w (ix2 i j) = act (mulNN x w i ⟨j.val, by omega⟩) (mulNN x w i ⟨1408 + j.val, by omega⟩) := by
  refine View.canon_apply_of_pieces (Val := Elt Ideal) (e := .bf16)
    (fun y : S512x1408.Idx => act (mulNN x w (y 0) ⟨(y 1).val, by have := (y 1).isLt; change _ < 1408 at this; omega⟩)
      (mulNN x w (y 0) ⟨1408 + (y 1).val, by have := (y 1).isLt; change _ < 1408 at this; omega⟩)) _ ?_ _ (cover0_2 _ _ _)
  intro p hp y
  rcases List.mem_cons.1 hp with rfl | hp
  · refine (congrArg _ (ValueIdx.eq_ix2 (n0 := 256) (n1 := 1408) y)).trans ((act_apply _ _ _ _).trans ?_)
    refine congrArg₂ act (rows1 x w _ _ ?_ _ _ ?_) (rows1 x w _ _ ?_ _ _ ?_)
    · show 256 + 1 * (y 0).val = _; omega
    · show 0 + 1 * (y 1).val = (y 1).val; omega
    · show 256 + 1 * (y 0).val = _; omega
    · show 1408 + (0 + 1 * (y 1).val) = 1408 + (y 1).val; omega
  · rcases List.mem_singleton.1 hp with rfl
    refine (congrArg _ (ValueIdx.eq_ix2 (n0 := 256) (n1 := 1408) y)).trans ((act_apply _ _ _ _).trans ?_)
    refine congrArg₂ act (rows0 x w _ _ ?_ _ _ ?_) (rows0 x w _ _ ?_ _ _ ?_)
    · show 0 + 1 * (y 0).val = _; omega
    · show 0 + 1 * (y 1).val = (y 1).val; omega
    · show 0 + 1 * (y 0).val = _; omega
    · show 1408 + (0 + 1 * (y 1).val) = 1408 + (y 1).val; omega

/-- What a point leaves in its block of the product. -/
theorem out3_apply (x : S512x1024.Idx → EReal) (w : S1024x2816.Idx → EReal) (i : Fin 512) (j : Fin 2816) :
    out0_3 (F := Ideal) x w (ix2 i j) = mulNN x w i j := by
  refine View.canon_apply_of_pieces (Val := Elt Ideal) (e := .bf16) (fun y : S512x2816.Idx => mulNN x w (y 0) (y 1)) _ ?_ _ (cover0_3 _ _ _)
  intro p hp y
  rcases List.mem_cons.1 hp with rfl | hp
  · refine (congrArg _ (ValueIdx.eq_ix2 (n0 := 256) (n1 := 2816) y)).trans ((congrFun (gu_eq _ _) _).trans ((gu_apply _ _ _ _).trans ?_))
    refine rows1 x w _ _ ?_ _ _ ?_
    · show 256 + 1 * (y 0).val = _; omega
    · show 0 + 1 * (y 1).val = (y 1).val; omega
  · rcases List.mem_singleton.1 hp with rfl
    refine (congrArg _ (ValueIdx.eq_ix2 (n0 := 256) (n1 := 2816) y)).trans ((gu_apply _ _ _ _).trans ?_)
    refine rows0 x w _ _ ?_ _ _ ?_
    · show 0 + 1 * (y 0).val = _; omega
    · show 0 + 1 * (y 1).val = (y 1).val; omega

theorem at0 : ∀ t : Fin cfg0.N, win0_0.index t 0 = t.val / 2 ∧ win0_0.index t 1 = 0 := by decide +kernel
theorem at1 : ∀ t : Fin cfg0.N, win0_1.index t 0 = 0 ∧ win0_1.index t 1 = t.val % 2 := by decide +kernel
theorem at2 : ∀ t : Fin cfg0.N, win0_2.index t 0 = t.val / 2 ∧ win0_2.index t 1 = t.val % 2 := by decide +kernel
theorem at3 : ∀ t : Fin cfg0.N, win0_3.index t 0 = t.val / 2 ∧ win0_3.index t 1 = t.val % 2 := by decide +kernel

variable (m : (ℓ : Loc nD τ sig) → Buf (Elt Ideal) ℓ)

/-- A point's product is the whole arrays' product, at the point's rows and columns. -/
theorem product (c : Dev nD) (t : Fin cfg0.N) (i : Fin 512) (j : Fin 2816) (i' : Fin 2048) (j' : Fin 5632)
    (hi : i'.val = t.val / 2 * 512 + i.val) (hj : j'.val = t.val % 2 * 2816 + j.val) :
    mulNN (iblk m c 0 t : S512x1024.Idx → EReal) (iblk m c 1 t : S1024x2816.Idx → EReal) i j
      = mulNN (m ((c : Thread nD τ).loc main_arg0) : S2048x1024.Idx → EReal) (m ((c : Thread nD τ).loc main_arg1) : S1024x5632.Idx → EReal) i' j' := by
  refine mulNN_congr (fun k => ?_) (fun k => ?_)
  · rw [← V_main_arg0 m c]
    refine congrArg (V m c main_arg0) (eq_of_val _ _ _ ?_ ?_)
    · show win0_0.index t 0 * 512 + 1 * i.val = i'.val
      rw [(at0 t).1]; omega
    · show win0_0.index t 1 * 1024 + 1 * k.val = k.val
      rw [(at0 t).2]; omega
  · rw [← V_main_arg1 m c]
    refine congrArg (V m c main_arg1) (eq_of_val _ _ _ ?_ ?_)
    · show win0_1.index t 0 * 1024 + 1 * k.val = k.val
      rw [(at1 t).1]; omega
    · show win0_1.index t 1 * 2816 + 1 * j.val = j'.val
      rw [(at1 t).2]; omega

/-- An entry of the activation the call leaves. -/
theorem final2 (c : Dev nD) (i : Fin 2048) (j : Fin 2816) : ((dats m 0 c).arrAt 2 cfg0.N : S2048x2816.Idx → EReal) (ix2 i j)
    = act (mulNN (m ((c : Thread nD τ).loc main_arg0) : S2048x1024.Idx → EReal) (m ((c : Thread nD τ).loc main_arg1) : S1024x5632.Idx → EReal) i
        ⟨j.val / 1408 * 2816 + j.val % 1408, by omega⟩)
      (mulNN (m ((c : Thread nD τ).loc main_arg0) : S2048x1024.Idx → EReal) (m ((c : Thread nD τ).loc main_arg1) : S1024x5632.Idx → EReal) i
        ⟨j.val / 1408 * 2816 + 1408 + j.val % 1408, by omega⟩) := by
  have ht : i.val / 512 * 2 + j.val / 1408 < cfg0.N := by show _ < 8; omega
  have e0 : (i.val / 512 * 2 + j.val / 1408) / 2 = i.val / 512 := by omega
  have e1 : (i.val / 512 * 2 + j.val / 1408) % 2 = j.val / 1408 := by omega
  refine Eq.trans (congrArg _ (eq_of_val _ i j ?_ ?_).symm) ((congrFun ((Value.blocks2 m c ⟨_, ht⟩ (flush0_2 _)).trans
    (Value.flushed2 m c ⟨_, ht⟩)) (ix2 ⟨i.val % 512, Nat.mod_lt _ (by omega)⟩ ⟨j.val % 1408, Nat.mod_lt _ (by omega)⟩)).trans
    ((out2_apply _ _ _ _).trans (congrArg₂ act (product m c _ _ _ _ _ ?_ ?_) (product m c _ _ _ _ _ ?_ ?_))))
  · show win0_2.index ⟨_, ht⟩ 0 * 512 + 1 * (i.val % 512) = i.val
    rw [(at2 _).1, e0]; omega
  · show win0_2.index ⟨_, ht⟩ 1 * 1408 + 1 * (j.val % 1408) = j.val
    rw [(at2 _).2, e1]; omega
  all_goals dsimp only; omega

/-- An entry of the product the call leaves. -/
theorem final3 (c : Dev nD) (i : Fin 2048) (j : Fin 5632) : ((dats m 0 c).arrAt 3 cfg0.N : S2048x5632.Idx → EReal) (ix2 i j)
    = mulNN (m ((c : Thread nD τ).loc main_arg0) : S2048x1024.Idx → EReal) (m ((c : Thread nD τ).loc main_arg1) : S1024x5632.Idx → EReal) i j := by
  have ht : i.val / 512 * 2 + j.val / 2816 < cfg0.N := by show _ < 8; omega
  have e0 : (i.val / 512 * 2 + j.val / 2816) / 2 = i.val / 512 := by omega
  have e1 : (i.val / 512 * 2 + j.val / 2816) % 2 = j.val / 2816 := by omega
  refine Eq.trans (congrArg _ (eq_of_val _ i j ?_ ?_).symm) ((congrFun ((Value.blocks3 m c ⟨_, ht⟩ (flush0_3 _)).trans
    (Value.flushed3 m c ⟨_, ht⟩)) (ix2 ⟨i.val % 512, Nat.mod_lt _ (by omega)⟩ ⟨j.val % 2816, Nat.mod_lt _ (by omega)⟩)).trans
    ((out3_apply _ _ _ _).trans (product m c _ _ _ _ _ ?_ ?_)))
  · show win0_3.index ⟨_, ht⟩ 0 * 512 + 1 * (i.val % 512) = i.val
    rw [(at3 _).1, e0]; omega
  · show win0_3.index ⟨_, ht⟩ 1 * 2816 + 1 * (j.val % 2816) = j.val
    rw [(at3 _).2, e1]; omega
  all_goals dsimp only; omega

section Reference
open Cert.Reference6Ideal.Read

/-- The reference's product. -/
theorem product_read (x : S2048x1024.Idx → EReal) (w : S1024x5632.Idx → EReal) (i : Fin 2048) (j : Fin 5632) :
    val_main_v2 (F := Ideal) x w (ix2 i j) = mulNN x w i j := by
  simp only [val_main_v2, val_main_v1, val_main_v0, pointwise, zero_add]
  rfl

theorem gate_read (x : S2048x1024.Idx → EReal) (w : S1024x5632.Idx → EReal) (i : Fin 2048) (q : Fin 2816) :
    val_main_v6 (F := Ideal) x w (ix2 i q) = mulNN x w i ⟨q.val / 1408 * 2816 + q.val % 1408, by omega⟩ := by
  rw [val_main_v6_apply, val_main_v5_apply, val_main_v4_apply, val_main_v3_apply, ← product_read]
  refine congrArg _ (eq_of_val _ _ _ ?_ ?_)
  · dsimp [idx_main_v6, idx_main_v5, idx_main_v4, idx_main_v3, ix2]; omega
  · dsimp [idx_main_v6, idx_main_v5, idx_main_v4, idx_main_v3, ix2]; omega

theorem up_read (x : S2048x1024.Idx → EReal) (w : S1024x5632.Idx → EReal) (i : Fin 2048) (q : Fin 2816) :
    val_main_v9 (F := Ideal) x w (ix2 i q) = mulNN x w i ⟨q.val / 1408 * 2816 + 1408 + q.val % 1408, by omega⟩ := by
  rw [val_main_v9_apply, val_main_v8_apply, val_main_v7_apply, val_main_v3_apply, ← product_read]
  refine congrArg _ (eq_of_val _ _ _ ?_ ?_)
  · dsimp [idx_main_v9, idx_main_v8, idx_main_v7, idx_main_v3, ix2]; omega
  · dsimp [idx_main_v9, idx_main_v8, idx_main_v7, idx_main_v3, ix2]; omega

/-- The reference's logistic, at an entry. -/
theorem logistic_read (x : S2048x1024.Idx → EReal) (w : S1024x5632.Idx → EReal) (p : S2048x2816.Idx) :
    val_main_call0_v5 (F := Ideal) x w p = gate (val_main_v6 (F := Ideal) x w p) := by
  rw [val_main_call0_v5_apply, val_main_call0_v4_apply, val_main_call0_v3_apply, val_main_call0_v2_apply, val_main_call0_v1_apply, val_main_call0_v0_apply]
  unfold gate
  rw [← Ideal.ofBits_one_f32]
  rfl

/-- The reference's activation. -/
theorem act_read (x : S2048x1024.Idx → EReal) (w : S1024x5632.Idx → EReal) (i : Fin 2048) (q : Fin 2816) :
    val_main_v12 (F := Ideal) x w (ix2 i q) = act (mulNN x w i ⟨q.val / 1408 * 2816 + q.val % 1408, by omega⟩)
      (mulNN x w i ⟨q.val / 1408 * 2816 + 1408 + q.val % 1408, by omega⟩) := by
  rw [val_main_v12_apply, val_main_v11_apply, val_main_v10_apply, logistic_read, gate_read, up_read]
  rfl

end Reference

theorem frame_reference : Cert.quiescent_Reference6Ideal := fun m g _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m g)

/-- From memories that agree on the arguments the call and its reference leave the same results. -/
theorem algebraic : Cert.algebraic_Kernel6Ideal_Reference6Ideal := by
  intro m g m' g' _ hargs
  refine ⟨_, _, (θ_run _ _ _).mono (fun r h c => h c) (Cert.Kernel6Ideal.Value.run_blocks m g),
    (θ_run _ _ _).mono (fun r h c => ⟨(h c).1.trans ?_, (h c).2.1.trans ?_, (h c).2.2⟩) (Cert.Reference6Ideal.Value.run m' g')⟩
  · rw [Cert.Reference6Ideal.Read.val_main_v12_eq, (hargs c).1, (hargs c).2]
    exact Blocks.ext _ _ fun i j => (act_read _ _ i j).trans (final2 m c i j).symm
  · rw [Cert.Reference6Ideal.Read.val_main_v13_eq, (hargs c).1, (hargs c).2]
    exact Blocks.ext _ _ fun i j => (product_read _ _ i j).trans (final3 m c i j).symm

end Cert.Proof.FfnIn

end
-- ==== Proof.InProjADw.lean ====
/- The gradient of the other columns of the input projection: `hᵀ [dcq dckv dgf dgm dmisc]`, a column range after another. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Blocks
public import proofs.«01_k».proof.Defs

@[expose] public section

set_option maxRecDepth 16384

noncomputable section

namespace Cert.Proof.InProjADw

open Cert.Kernel7Ideal Cert.Kernel7Ideal.Gen Idealize.ShloMosaic Idealize.ShloMosaic.TcCoe Idealize.SL.Sem
open Idealize.ShloMosaic.Pipeline (Dat)
open Cert.Proof.Blocks

/-- An entry of `xᵀ [p1 … p5]`: the column's product with the piece that holds it. -/
def entry {R : Nat} (x : (Mat 2048 R).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (i : Fin R) (j : Fin 3200) : EReal :=
  if h1 : j.val < 768 then mulTN x p1 i ⟨j.val - 0, by omega⟩
  else if h2 : j.val < 1024 then mulTN x p2 i ⟨j.val - 768, by omega⟩
  else if h3 : j.val < 2048 then mulTN x p3 i ⟨j.val - 1024, by omega⟩
  else if h4 : j.val < 3072 then mulTN x p4 i ⟨j.val - 2048, by omega⟩
  else mulTN x p5 i ⟨j.val - 3072, by omega⟩

theorem entry_congr (x : (Mat 2048 512).Idx → EReal) (x' : (Mat 2048 1024).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (q1 : (Mat 2048 768).Idx → EReal) (q2 : (Mat 2048 256).Idx → EReal) (q3 : (Mat 2048 1024).Idx → EReal) (q4 : (Mat 2048 1024).Idx → EReal) (q5 : (Mat 2048 128).Idx → EReal)
    (i : Fin 512) (i' : Fin 1024) (j : Fin 3200) (hx : ∀ k, x (ix2 k i) = x' (ix2 k i'))
    (h1 : p1 = q1) (h2 : p2 = q2) (h3 : p3 = q3) (h4 : p4 = q4) (h5 : p5 = q5) : entry x p1 p2 p3 p4 p5 i j = entry x' q1 q2 q3 q4 q5 i' j := by
  subst h1 h2 h3 h4 h5
  unfold entry
  simp only [fun {N : Nat} (y : (Mat 2048 N).Idx → EReal) (j : Fin N) => mulTN_congr (y := y) (y' := y) (j := j) (j' := j) hx (fun _ => rfl)]

theorem entry1 {R : Nat} (x : (Mat 2048 R).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (i : Fin R) (j : Fin 3200) (q : Fin 768) (h : j.val = 0 + q.val) :
    entry x p1 p2 p3 p4 p5 i j = mulTN x p1 i q := by
  unfold entry
  rw [dif_pos (by omega)]
  exact congrArg _ (Fin.ext (by dsimp only; omega))

theorem entry2 {R : Nat} (x : (Mat 2048 R).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (i : Fin R) (j : Fin 3200) (q : Fin 256) (h : j.val = 768 + q.val) :
    entry x p1 p2 p3 p4 p5 i j = mulTN x p2 i q := by
  unfold entry
  rw [dif_neg (by omega), dif_pos (by omega)]
  exact congrArg _ (Fin.ext (by dsimp only; omega))

theorem entry3 {R : Nat} (x : (Mat 2048 R).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (i : Fin R) (j : Fin 3200) (q : Fin 1024) (h : j.val = 1024 + q.val) :
    entry x p1 p2 p3 p4 p5 i j = mulTN x p3 i q := by
  unfold entry
  rw [dif_neg (by omega), dif_neg (by omega), dif_pos (by omega)]
  exact congrArg _ (Fin.ext (by dsimp only; omega))

theorem entry4 {R : Nat} (x : (Mat 2048 R).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (i : Fin R) (j : Fin 3200) (q : Fin 1024) (h : j.val = 2048 + q.val) :
    entry x p1 p2 p3 p4 p5 i j = mulTN x p4 i q := by
  unfold entry
  rw [dif_neg (by omega), dif_neg (by omega), dif_neg (by omega), dif_pos (by omega)]
  exact congrArg _ (Fin.ext (by dsimp only; omega))

theorem entry5 {R : Nat} (x : (Mat 2048 R).Idx → EReal) (p1 : (Mat 2048 768).Idx → EReal) (p2 : (Mat 2048 256).Idx → EReal) (p3 : (Mat 2048 1024).Idx → EReal) (p4 : (Mat 2048 1024).Idx → EReal) (p5 : (Mat 2048 128).Idx → EReal) (i : Fin R) (j : Fin 3200) (q : Fin 128) (h : j.val = 3072 + q.val) :
    entry x p1 p2 p3 p4 p5 i j = mulTN x p5 i q := by
  unfold entry
  rw [dif_neg (by omega), dif_neg (by omega), dif_neg (by omega), dif_neg (by omega)]
  exact congrArg _ (Fin.ext (by dsimp only; omega))

/-- The stores of a point, last first. -/
def pieces (x : S2048x512.Idx → EReal) (p1 : S2048x768.Idx → EReal) (p2 : S2048x256.Idx → EReal) (p3 : S2048x1024.Idx → EReal) (p4 : S2048x1024.Idx → EReal) (p5 : S2048x128.Idx → EReal) : List (View.Piece (Elt Ideal) S512x3200 .bf16) :=
  [⟨Rect.unit (s := S512x3200) ![0, 3072] S512x128.size inb_S512x3200_S512x128_0_3072, k0_pay1 (F := Ideal) x p5 (constant S512x128 .f32 0#32)⟩,
    ⟨Rect.unit (s := S512x3200) ![0, 2048] S512x1024.size inb_S512x3200_S512x1024_0_2048, k0_pay5 (F := Ideal) x p4⟩,
    ⟨Rect.unit (s := S512x3200) ![0, 1024] S512x1024.size inb_S512x3200_S512x1024_0_1024, k0_pay4 (F := Ideal) x p3⟩,
    ⟨Rect.unit (s := S512x3200) ![0, 768] S512x256.size inb_S512x3200_S512x256_0_768, k0_pay3 (F := Ideal) x p2⟩,
    ⟨Rect.unit (s := S512x3200) ![0, 0] S512x768.size inb_S512x3200_S512x768_0_0, k0_pay2 (F := Ideal) x p1⟩]

theorem run_pieces (c : Dev nD) (i : grid0.Coords) (arg1 : Memref sig .tc .vmem S2048x512 .bf16) (harg1 : arg1.IsWhole) (arg2 : Memref sig .tc .vmem S2048x768 .bf16) (harg2 : arg2.IsWhole) (arg3 : Memref sig .tc .vmem S2048x256 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x3200 .bf16) (harg7 : arg7.IsWhole)
    (x : S2048x512.Idx → EReal) (p1 : S2048x768.Idx → EReal) (p2 : S2048x256.Idx → EReal) (p3 : S2048x1024.Idx → EReal) (p4 : S2048x1024.Idx → EReal) (p5 : S2048x128.Idx → EReal) :
    (kernelRun0_A (F := Ideal) c i arg1 harg1 arg2 harg2 arg3 harg3 arg4 harg4 arg5 harg5 arg6 harg6 arg7 harg7 x p1 p2 p3 p4 p5).1 = pieces x p1 p2 p3 p4 p5 := by
  unfold kernelRun0_A
  dsimp only
  unfold kernelRun0_A.sl.r kernelRun0_A.sl.r_1 kernelRun0_A.sl.cst_27
  simp only [View.readAt_eq_ld, Memref.IsWhole.read_unread]
  simp only [View.ld_unit_zero (S := S2048x128) hz, View.ld_unit_zero (S := S2048x256) hz, View.ld_unit_zero (S := S2048x512) hz, View.ld_unit_zero (S := S2048x768) hz, View.ld_unit_zero (S := S2048x1024) hz]
  rfl

theorem out_pieces (c : Dev nD) (i : grid0.Coords) (arg1 : Memref sig .tc .vmem S2048x512 .bf16) (harg1 : arg1.IsWhole) (arg2 : Memref sig .tc .vmem S2048x768 .bf16) (harg2 : arg2.IsWhole) (arg3 : Memref sig .tc .vmem S2048x256 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S512x3200 .bf16) (harg7 : arg7.IsWhole)
    (x : S2048x512.Idx → EReal) (p1 : S2048x768.Idx → EReal) (p2 : S2048x256.Idx → EReal) (p3 : S2048x1024.Idx → EReal) (p4 : S2048x1024.Idx → EReal) (p5 : S2048x128.Idx → EReal) :
    out0_A_6 (F := Ideal) c i arg1 harg1 arg2 harg2 arg3 harg3 arg4 harg4 arg5 harg5 arg6 harg6 arg7 harg7 x p1 p2 p3 p4 p5 = View.canon (pieces x p1 p2 p3 p4 p5) := by
  unfold out0_A_6
  rw [← run_pieces c i arg1 harg1 arg2 harg2 arg3 harg3 arg4 harg4 arg5 harg5 arg6 harg6 arg7 harg7 x p1 p2 p3 p4 p5]
  exact View.read_writes_eq_canon (Val := Elt Ideal) (e := .bf16) VO0_6 VO0_6.junk _ (cover0_A_6 (F := Ideal) c i arg1 harg1 arg2 harg2 arg3 harg3 arg4 harg4 arg5 harg5 arg6 harg6 arg7 harg7 x p1 p2 p3 p4 p5)

theorem pay1_apply (x : S2048x512.Idx → EReal) (p : S2048x768.Idx → EReal) (i : Fin 512) (j : Fin 768) :
    k0_pay2 (F := Ideal) x p (ix2 i j) = mulTN x p i j := by
  simp only [k0_pay2, pointwise, zero_add]
  rfl

theorem pay2_apply (x : S2048x512.Idx → EReal) (p : S2048x256.Idx → EReal) (i : Fin 512) (j : Fin 256) :
    k0_pay3 (F := Ideal) x p (ix2 i j) = mulTN x p i j := by
  simp only [k0_pay3, pointwise, zero_add]
  rfl

theorem pay3_apply (x : S2048x512.Idx → EReal) (p : S2048x1024.Idx → EReal) (i : Fin 512) (j : Fin 1024) :
    k0_pay4 (F := Ideal) x p (ix2 i j) = mulTN x p i j := by
  simp only [k0_pay4, pointwise, zero_add]
  rfl

theorem pay4_apply (x : S2048x512.Idx → EReal) (p : S2048x1024.Idx → EReal) (i : Fin 512) (j : Fin 1024) :
    k0_pay5 (F := Ideal) x p (ix2 i j) = mulTN x p i j := by
  simp only [k0_pay5, pointwise, zero_add]
  rfl

theorem pay5_apply (x : S2048x512.Idx → EReal) (p : S2048x128.Idx → EReal) (i : Fin 512) (j : Fin 128) :
    k0_pay1 (F := Ideal) x p (constant S512x128 .f32 0#32) (ix2 i j) = mulTN x p i j := by
  simp only [k0_pay1, pointwise, zero_add]
  rfl

/-- What a point leaves in its block. -/
theorem out_apply (x : S2048x512.Idx → EReal) (p1 : S2048x768.Idx → EReal) (p2 : S2048x256.Idx → EReal) (p3 : S2048x1024.Idx → EReal) (p4 : S2048x1024.Idx → EReal) (p5 : S2048x128.Idx → EReal) (hc : ∀ y : S512x3200.Idx, ∃ pc ∈ pieces x p1 p2 p3 p4 p5, y ∈ pc.1.set)
    (i : Fin 512) (j : Fin 3200) :
    View.canon (pieces x p1 p2 p3 p4 p5) (ix2 i j) = entry x p1 p2 p3 p4 p5 i j := by
  refine View.canon_apply_of_pieces (Val := Elt Ideal) (e := .bf16) (fun y : S512x3200.Idx => entry x p1 p2 p3 p4 p5 (y 0) (y 1)) _ ?_ _ (hc _)
  intro p hp y
  unfold pieces at hp
  rcases List.mem_cons.1 hp with rfl | hp
  · refine (congrArg _ (ValueIdx.eq_ix2 (n0 := 512) (n1 := 128) y)).trans ((pay5_apply _ _ _ _).trans ?_)
    refine Eq.trans ?_ (entry5 x p1 p2 p3 p4 p5 _ _ _ (show 3072 + 1 * (y 1).val = 3072 + (y 1).val by omega)).symm
    exact mulTN_congr (fun k => congrArg x (eq_of_val _ _ _ rfl (by show (y 0).val = 0 + 1 * (y 0).val; omega))) (fun k => rfl)
  rcases List.mem_cons.1 hp with rfl | hp
  · refine (congrArg _ (ValueIdx.eq_ix2 (n0 := 512) (n1 := 1024) y)).trans ((pay4_apply _ _ _ _).trans ?_)
    refine Eq.trans ?_ (entry4 x p1 p2 p3 p4 p5 _ _ _ (show 2048 + 1 * (y 1).val = 2048 + (y 1).val by omega)).symm
    exact mulTN_congr (fun k => congrArg x (eq_of_val _ _ _ rfl (by show (y 0).val = 0 + 1 * (y 0).val; omega))) (fun k => rfl)
  rcases List.mem_cons.1 hp with rfl | hp
  · refine (congrArg _ (ValueIdx.eq_ix2 (n0 := 512) (n1 := 1024) y)).trans ((pay3_apply _ _ _ _).trans ?_)
    refine Eq.trans ?_ (entry3 x p1 p2 p3 p4 p5 _ _ _ (show 1024 + 1 * (y 1).val = 1024 + (y 1).val by omega)).symm
    exact mulTN_congr (fun k => congrArg x (eq_of_val _ _ _ rfl (by show (y 0).val = 0 + 1 * (y 0).val; omega))) (fun k => rfl)
  rcases List.mem_cons.1 hp with rfl | hp
  · refine (congrArg _ (ValueIdx.eq_ix2 (n0 := 512) (n1 := 256) y)).trans ((pay2_apply _ _ _ _).trans ?_)
    refine Eq.trans ?_ (entry2 x p1 p2 p3 p4 p5 _ _ _ (show 768 + 1 * (y 1).val = 768 + (y 1).val by omega)).symm
    exact mulTN_congr (fun k => congrArg x (eq_of_val _ _ _ rfl (by show (y 0).val = 0 + 1 * (y 0).val; omega))) (fun k => rfl)
  rcases List.mem_singleton.1 hp with rfl
  · refine (congrArg _ (ValueIdx.eq_ix2 (n0 := 512) (n1 := 768) y)).trans ((pay1_apply _ _ _ _).trans ?_)
    refine Eq.trans ?_ (entry1 x p1 p2 p3 p4 p5 _ _ _ (show 0 + 1 * (y 1).val = 0 + (y 1).val by omega)).symm
    exact mulTN_congr (fun k => congrArg x (eq_of_val _ _ _ rfl (by show (y 0).val = 0 + 1 * (y 0).val; omega))) (fun k => rfl)

theorem at0 : ∀ t : Fin cfg0.N, win0_0.index t 0 = 0 ∧ win0_0.index t 1 = t.val := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = t.val ∧ win0_6.index t 1 = 0 := by decide +kernel

variable (m : (ℓ : Loc nD τ sig) → Buf (Elt Ideal) ℓ)

theorem whole1 (c : Dev nD) (t : Fin cfg0.N) : (iblk m c 1 t : S2048x768.Idx → EReal) = m ((c : Thread nD τ).loc main_arg1) :=
  Blocks.ext _ _ fun a b => by
    rw [← V_main_arg1 m c]
    refine congrArg (V m c main_arg1) (eq_of_val _ _ _ ?_ ?_)
    · show win0_1.index t 0 * 2048 + 1 * a.val = a.val
      rw [(at1 t).1]; omega
    · show win0_1.index t 1 * 768 + 1 * b.val = b.val
      rw [(at1 t).2]; omega

theorem whole2 (c : Dev nD) (t : Fin cfg0.N) : (iblk m c 2 t : S2048x256.Idx → EReal) = m ((c : Thread nD τ).loc main_arg2) :=
  Blocks.ext _ _ fun a b => by
    rw [← V_main_arg2 m c]
    refine congrArg (V m c main_arg2) (eq_of_val _ _ _ ?_ ?_)
    · show win0_2.index t 0 * 2048 + 1 * a.val = a.val
      rw [(at2 t).1]; omega
    · show win0_2.index t 1 * 256 + 1 * b.val = b.val
      rw [(at2 t).2]; omega

theorem whole3 (c : Dev nD) (t : Fin cfg0.N) : (iblk m c 3 t : S2048x1024.Idx → EReal) = m ((c : Thread nD τ).loc main_arg3) :=
  Blocks.ext _ _ fun a b => by
    rw [← V_main_arg3 m c]
    refine congrArg (V m c main_arg3) (eq_of_val _ _ _ ?_ ?_)
    · show win0_3.index t 0 * 2048 + 1 * a.val = a.val
      rw [(at3 t).1]; omega
    · show win0_3.index t 1 * 1024 + 1 * b.val = b.val
      rw [(at3 t).2]; omega

theorem whole4 (c : Dev nD) (t : Fin cfg0.N) : (iblk m c 4 t : S2048x1024.Idx → EReal) = m ((c : Thread nD τ).loc main_arg4) :=
  Blocks.ext _ _ fun a b => by
    rw [← V_main_arg4 m c]
    refine congrArg (V m c main_arg4) (eq_of_val _ _ _ ?_ ?_)
    · show win0_4.index t 0 * 2048 + 1 * a.val = a.val
      rw [(at4 t).1]; omega
    · show win0_4.index t 1 * 1024 + 1 * b.val = b.val
      rw [(at4 t).2]; omega

theorem whole5 (c : Dev nD) (t : Fin cfg0.N) : (iblk m c 5 t : S2048x128.Idx → EReal) = m ((c : Thread nD τ).loc main_arg5) :=
  Blocks.ext _ _ fun a b => by
    rw [← V_main_arg5 m c]
    refine congrArg (V m c main_arg5) (eq_of_val _ _ _ ?_ ?_)
    · show win0_5.index t 0 * 2048 + 1 * a.val = a.val
      rw [(at5 t).1]; omega
    · show win0_5.index t 1 * 128 + 1 * b.val = b.val
      rw [(at5 t).2]; omega

/-- An entry of the array the call leaves. -/
theorem final (c : Dev nD) (i : Fin 1024) (j : Fin 3200) : ((dats m 0 c).arrAt 6 cfg0.N : S1024x3200.Idx → EReal) (ix2 i j)
    = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i j := by
  have ht : i.val / 512 < cfg0.N := by show _ < 2; omega
  refine Eq.trans (congrArg _ (eq_of_val _ i j ?_ ?_).symm) ((congrFun ((Value.blocks6 m c ⟨_, ht⟩ (flush0_6 _)).trans
    (Value.flushed6_A m c ⟨_, ht⟩)) (ix2 ⟨i.val % 512, Nat.mod_lt _ (by omega)⟩ j)).trans ((congrFun (out_pieces c (grid0.coords ⟨_, ht⟩) _ _ _ _ _ _ _ _ _ _ _ _ _ _ _ _ _ _ _ _ ) _).trans ((out_apply _ _ _ _ _ _ (fun y => by rw [← run_pieces c (grid0.coords ⟨_, ht⟩) (ms0_0 ⟨_, ht⟩) (hs0_0 ⟨_, ht⟩) (ms0_1 ⟨_, ht⟩) (hs0_1 ⟨_, ht⟩) (ms0_2 ⟨_, ht⟩) (hs0_2 ⟨_, ht⟩) (ms0_3 ⟨_, ht⟩) (hs0_3 ⟨_, ht⟩) (ms0_4 ⟨_, ht⟩) (hs0_4 ⟨_, ht⟩) (ms0_5 ⟨_, ht⟩) (hs0_5 ⟨_, ht⟩) (ms0_6 ⟨_, ht⟩) (hs0_6 ⟨_, ht⟩)]; exact cover0_A_6 c _ _ _ _ _ _ _ _ _ _ _ _ _ _ _ _ _ _ _ _ _ y) _ _).trans ?_)))
  · show win0_6.index ⟨_, ht⟩ 0 * 512 + 1 * (i.val % 512) = i.val
    rw [(at6 _).1]; show i.val / 512 * 512 + _ = _; omega
  · show win0_6.index ⟨_, ht⟩ 1 * 3200 + 1 * j.val = j.val
    rw [(at6 _).2]; omega
  · refine entry_congr _ _ _ _ _ _ _ _ _ _ _ _ _ _ _ (fun k => ?_) (whole1 m c _) (whole2 m c _) (whole3 m c _) (whole4 m c _) (whole5 m c _)
    rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 512 + 1 * (i.val % 512) = i.val
      rw [(at0 _).2]; show i.val / 512 * 512 + _ = _; omega

section Reference
open Cert.Reference7Ideal.Read

/-! The columns side by side, in each range. -/

theorem cat1 (p1 : S2048x768.Idx → EReal) (p2 : S2048x256.Idx → EReal) (p3 : S2048x1024.Idx → EReal) (p4 : S2048x1024.Idx → EReal) (p5 : S2048x128.Idx → EReal) (a : Fin 2048) (j : Fin 3200) (q : Fin 768) (h : j.val = 0 + q.val) :
    val_main_v1 (F := Ideal) p1 p2 p3 p4 p5 (ix2 a j) = p1 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_pos (by omega)]
  exact congrArg p1 (congrArg (ix2 a) (Fin.ext (by dsimp only; omega)))

theorem cat2 (p1 : S2048x768.Idx → EReal) (p2 : S2048x256.Idx → EReal) (p3 : S2048x1024.Idx → EReal) (p4 : S2048x1024.Idx → EReal) (p5 : S2048x128.Idx → EReal) (a : Fin 2048) (j : Fin 3200) (q : Fin 256) (h : j.val = 768 + q.val) :
    val_main_v1 (F := Ideal) p1 p2 p3 p4 p5 (ix2 a j) = p2 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_pos (by omega)]
  exact congrArg p2 (congrArg (ix2 a) (Fin.ext (by dsimp only; omega)))

theorem cat3 (p1 : S2048x768.Idx → EReal) (p2 : S2048x256.Idx → EReal) (p3 : S2048x1024.Idx → EReal) (p4 : S2048x1024.Idx → EReal) (p5 : S2048x128.Idx → EReal) (a : Fin 2048) (j : Fin 3200) (q : Fin 1024) (h : j.val = 1024 + q.val) :
    val_main_v1 (F := Ideal) p1 p2 p3 p4 p5 (ix2 a j) = p3 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_neg (by omega), dif_pos (by omega)]
  exact congrArg p3 (congrArg (ix2 a) (Fin.ext (by dsimp only; omega)))

theorem cat4 (p1 : S2048x768.Idx → EReal) (p2 : S2048x256.Idx → EReal) (p3 : S2048x1024.Idx → EReal) (p4 : S2048x1024.Idx → EReal) (p5 : S2048x128.Idx → EReal) (a : Fin 2048) (j : Fin 3200) (q : Fin 1024) (h : j.val = 2048 + q.val) :
    val_main_v1 (F := Ideal) p1 p2 p3 p4 p5 (ix2 a j) = p4 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_neg (by omega), dif_neg (by omega), dif_pos (by omega)]
  exact congrArg p4 (congrArg (ix2 a) (Fin.ext (by dsimp only; omega)))

theorem cat5 (p1 : S2048x768.Idx → EReal) (p2 : S2048x256.Idx → EReal) (p3 : S2048x1024.Idx → EReal) (p4 : S2048x1024.Idx → EReal) (p5 : S2048x128.Idx → EReal) (a : Fin 2048) (j : Fin 3200) (q : Fin 128) (h : j.val = 3072 + q.val) :
    val_main_v1 (F := Ideal) p1 p2 p3 p4 p5 (ix2 a j) = p5 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_neg (by omega), dif_neg (by omega), dif_neg (by omega)]
  exact congrArg p5 (congrArg (ix2 a) (Fin.ext (by dsimp only; omega)))

/-- The reference's result, at an entry. -/
theorem reference_apply (x : S2048x1024.Idx → EReal) (p1 : S2048x768.Idx → EReal) (p2 : S2048x256.Idx → EReal) (p3 : S2048x1024.Idx → EReal) (p4 : S2048x1024.Idx → EReal) (p5 : S2048x128.Idx → EReal) (i : Fin 1024) (j : Fin 3200) :
    val_main_v7 (F := Ideal) x p1 p2 p3 p4 p5 (ix2 i j) = entry x p1 p2 p3 p4 p5 i j := by
  simp only [val_main_v7, val_main_v6, val_main_v5, val_main_v3, val_main_v2, pointwise]
  by_cases h1 : j.val < 768
  · rw [entry1 x p1 p2 p3 p4 p5 i j ⟨j.val - 0, by omega⟩ (by dsimp only; omega)]
    exact (zero_add _).trans (Finset.sum_congr rfl fun k _ => (mul_comm _ _).trans
      (congrArg (x (ix2 k i) * ·) (cat1 p1 p2 p3 p4 p5 k j ⟨j.val - 0, by omega⟩ (by dsimp only; omega))))
  by_cases h2 : j.val < 1024
  · rw [entry2 x p1 p2 p3 p4 p5 i j ⟨j.val - 768, by omega⟩ (by dsimp only; omega)]
    exact (zero_add _).trans (Finset.sum_congr rfl fun k _ => (mul_comm _ _).trans
      (congrArg (x (ix2 k i) * ·) (cat2 p1 p2 p3 p4 p5 k j ⟨j.val - 768, by omega⟩ (by dsimp only; omega))))
  by_cases h3 : j.val < 2048
  · rw [entry3 x p1 p2 p3 p4 p5 i j ⟨j.val - 1024, by omega⟩ (by dsimp only; omega)]
    exact (zero_add _).trans (Finset.sum_congr rfl fun k _ => (mul_comm _ _).trans
      (congrArg (x (ix2 k i) * ·) (cat3 p1 p2 p3 p4 p5 k j ⟨j.val - 1024, by omega⟩ (by dsimp only; omega))))
  by_cases h4 : j.val < 3072
  · rw [entry4 x p1 p2 p3 p4 p5 i j ⟨j.val - 2048, by omega⟩ (by dsimp only; omega)]
    exact (zero_add _).trans (Finset.sum_congr rfl fun k _ => (mul_comm _ _).trans
      (congrArg (x (ix2 k i) * ·) (cat4 p1 p2 p3 p4 p5 k j ⟨j.val - 2048, by omega⟩ (by dsimp only; omega))))
  · rw [entry5 x p1 p2 p3 p4 p5 i j ⟨j.val - 3072, by omega⟩ (by dsimp only; omega)]
    exact (zero_add _).trans (Finset.sum_congr rfl fun k _ => (mul_comm _ _).trans
      (congrArg (x (ix2 k i) * ·) (cat5 p1 p2 p3 p4 p5 k j ⟨j.val - 3072, by omega⟩ (by dsimp only; omega))))

end Reference

theorem frame_reference : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

/-- From memories that agree on the arguments the call and its reference leave the same result. -/
theorem algebraic : Cert.algebraic_Kernel7Ideal_Reference7Ideal := by
  intro m g m' g' _ hargs
  refine ⟨_, (θ_run _ _ _).mono (fun r h c => h c) (Cert.Kernel7Ideal.Value.run_blocks m g),
    (θ_run _ _ _).mono (fun r h c => ⟨(h c).1.trans ?_, (h c).2⟩) (Cert.Reference7Ideal.Value.run m' g')⟩
  rw [Cert.Reference7Ideal.Read.val_main_v7_eq, (hargs c).1, (hargs c).2.1, (hargs c).2.2.1, (hargs c).2.2.2.1, (hargs c).2.2.2.2.1, (hargs c).2.2.2.2.2]
  exact Blocks.ext _ _ fun i j => (reference_apply _ _ _ _ _ _ i j).trans (final m c i j).symm

end Cert.Proof.InProjADw

end
-- ==== Proof.InProjBDw.lean ====
/- The gradient of the query, key and value columns of the input projection: `hᵀ [dq dk dv]`, a column range after another. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Blocks
public import proofs.«01_k».proof.Defs

@[expose] public section

set_option maxRecDepth 16384

noncomputable section

namespace Cert.Proof.InProjBDw

open Cert.Kernel8Ideal Cert.Kernel8Ideal.Gen Idealize.ShloMosaic Idealize.ShloMosaic.TcCoe Idealize.SL.Sem
open Idealize.ShloMosaic.Pipeline (Dat)
open Cert.Proof.Blocks

/-- An entry of `xᵀ [p1 … p3]`: the column's product with the piece that holds it. -/
def entry {R : Nat} (x : (Mat 2048 R).Idx → EReal) (p1 : (Mat 2048 512).Idx → EReal) (p2 : (Mat 2048 512).Idx → EReal) (p3 : (Mat 2048 512).Idx → EReal) (i : Fin R) (j : Fin 1536) : EReal :=
  if h1 : j.val < 512 then mulTN x p1 i ⟨j.val - 0, by omega⟩
  else if h2 : j.val < 1024 then mulTN x p2 i ⟨j.val - 512, by omega⟩
  else mulTN x p3 i ⟨j.val - 1024, by omega⟩

theorem entry_congr (x : (Mat 2048 512).Idx → EReal) (x' : (Mat 2048 1024).Idx → EReal) (p1 : (Mat 2048 512).Idx → EReal) (p2 : (Mat 2048 512).Idx → EReal) (p3 : (Mat 2048 512).Idx → EReal) (q1 : (Mat 2048 512).Idx → EReal) (q2 : (Mat 2048 512).Idx → EReal) (q3 : (Mat 2048 512).Idx → EReal)
    (i : Fin 512) (i' : Fin 1024) (j : Fin 1536) (hx : ∀ k, x (ix2 k i) = x' (ix2 k i'))
    (h1 : p1 = q1) (h2 : p2 = q2) (h3 : p3 = q3) : entry x p1 p2 p3 i j = entry x' q1 q2 q3 i' j := by
  subst h1 h2 h3
  unfold entry
  simp only [fun {N : Nat} (y : (Mat 2048 N).Idx → EReal) (j : Fin N) => mulTN_congr (y := y) (y' := y) (j := j) (j' := j) hx (fun _ => rfl)]

theorem entry1 {R : Nat} (x : (Mat 2048 R).Idx → EReal) (p1 : (Mat 2048 512).Idx → EReal) (p2 : (Mat 2048 512).Idx → EReal) (p3 : (Mat 2048 512).Idx → EReal) (i : Fin R) (j : Fin 1536) (q : Fin 512) (h : j.val = 0 + q.val) :
    entry x p1 p2 p3 i j = mulTN x p1 i q := by
  unfold entry
  rw [dif_pos (by omega)]
  exact congrArg _ (Fin.ext (by dsimp only; omega))

theorem entry2 {R : Nat} (x : (Mat 2048 R).Idx → EReal) (p1 : (Mat 2048 512).Idx → EReal) (p2 : (Mat 2048 512).Idx → EReal) (p3 : (Mat 2048 512).Idx → EReal) (i : Fin R) (j : Fin 1536) (q : Fin 512) (h : j.val = 512 + q.val) :
    entry x p1 p2 p3 i j = mulTN x p2 i q := by
  unfold entry
  rw [dif_neg (by omega), dif_pos (by omega)]
  exact congrArg _ (Fin.ext (by dsimp only; omega))

theorem entry3 {R : Nat} (x : (Mat 2048 R).Idx → EReal) (p1 : (Mat 2048 512).Idx → EReal) (p2 : (Mat 2048 512).Idx → EReal) (p3 : (Mat 2048 512).Idx → EReal) (i : Fin R) (j : Fin 1536) (q : Fin 512) (h : j.val = 1024 + q.val) :
    entry x p1 p2 p3 i j = mulTN x p3 i q := by
  unfold entry
  rw [dif_neg (by omega), dif_neg (by omega)]
  exact congrArg _ (Fin.ext (by dsimp only; omega))

theorem pay1_apply (x : S2048x512.Idx → EReal) (p : S2048x512.Idx → EReal) (i : Fin 512) (j : Fin 512) :
    k0_pay1 (F := Ideal) x p (ix2 i j) = mulTN x p i j := by
  simp only [k0_pay1, pointwise, zero_add]
  rfl

theorem pay2_apply (x : S2048x512.Idx → EReal) (p : S2048x512.Idx → EReal) (i : Fin 512) (j : Fin 512) :
    k0_pay2 (F := Ideal) x p (ix2 i j) = mulTN x p i j := by
  simp only [k0_pay2, pointwise, zero_add]
  rfl

theorem pay3_apply (x : S2048x512.Idx → EReal) (p : S2048x512.Idx → EReal) (i : Fin 512) (j : Fin 512) :
    k0_pay3 (F := Ideal) x p (ix2 i j) = mulTN x p i j := by
  simp only [k0_pay3, pointwise, zero_add]
  rfl

/-- What a point leaves in its block. -/
theorem out_apply (x : S2048x512.Idx → EReal) (p1 : S2048x512.Idx → EReal) (p2 : S2048x512.Idx → EReal) (p3 : S2048x512.Idx → EReal) (i : Fin 512) (j : Fin 1536) :
    out0_4 (F := Ideal) x p1 p2 p3 (ix2 i j) = entry x p1 p2 p3 i j := by
  have e : out0_4 (F := Ideal) x p1 p2 p3 = View.canon (Val := Elt Ideal) [⟨r0_3, k0_pay3 (F := Ideal) x p3⟩, ⟨r0_2, k0_pay2 (F := Ideal) x p2⟩, ⟨r0_1, k0_pay1 (F := Ideal) x p1⟩] := by
    unfold out0_4
    simp only [View.ld_unit_zero (S := S2048x512) hz]
  rw [e]
  refine View.canon_apply_of_pieces (Val := Elt Ideal) (e := .bf16) (fun y : S512x1536.Idx => entry x p1 p2 p3 (y 0) (y 1)) _ ?_ _ (cover0_4 _ _ _ _)
  intro p hp y
  rcases List.mem_cons.1 hp with rfl | hp
  · refine (congrArg _ (ValueIdx.eq_ix2 (n0 := 512) (n1 := 512) y)).trans ((pay3_apply _ _ _ _).trans ?_)
    refine Eq.trans ?_ (entry3 x p1 p2 p3 _ _ _ (show 1024 + 1 * (y 1).val = 1024 + (y 1).val by omega)).symm
    exact mulTN_congr (fun k => congrArg x (eq_of_val _ _ _ rfl (by show (y 0).val = 0 + 1 * (y 0).val; omega))) (fun k => rfl)
  rcases List.mem_cons.1 hp with rfl | hp
  · refine (congrArg _ (ValueIdx.eq_ix2 (n0 := 512) (n1 := 512) y)).trans ((pay2_apply _ _ _ _).trans ?_)
    refine Eq.trans ?_ (entry2 x p1 p2 p3 _ _ _ (show 512 + 1 * (y 1).val = 512 + (y 1).val by omega)).symm
    exact mulTN_congr (fun k => congrArg x (eq_of_val _ _ _ rfl (by show (y 0).val = 0 + 1 * (y 0).val; omega))) (fun k => rfl)
  rcases List.mem_singleton.1 hp with rfl
  · refine (congrArg _ (ValueIdx.eq_ix2 (n0 := 512) (n1 := 512) y)).trans ((pay1_apply _ _ _ _).trans ?_)
    refine Eq.trans ?_ (entry1 x p1 p2 p3 _ _ _ (show 0 + 1 * (y 1).val = 0 + (y 1).val by omega)).symm
    exact mulTN_congr (fun k => congrArg x (eq_of_val _ _ _ rfl (by show (y 0).val = 0 + 1 * (y 0).val; omega))) (fun k => rfl)

theorem at0 : ∀ t : Fin cfg0.N, win0_0.index t 0 = 0 ∧ win0_0.index t 1 = t.val := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = t.val ∧ win0_4.index t 1 = 0 := by decide +kernel

variable (m : (ℓ : Loc nD τ sig) → Buf (Elt Ideal) ℓ)

theorem whole1 (c : Dev nD) (t : Fin cfg0.N) : (iblk m c 1 t : S2048x512.Idx → EReal) = m ((c : Thread nD τ).loc main_arg1) :=
  Blocks.ext _ _ fun a b => by
    rw [← V_main_arg1 m c]
    refine congrArg (V m c main_arg1) (eq_of_val _ _ _ ?_ ?_)
    · show win0_1.index t 0 * 2048 + 1 * a.val = a.val
      rw [(at1 t).1]; omega
    · show win0_1.index t 1 * 512 + 1 * b.val = b.val
      rw [(at1 t).2]; omega

theorem whole2 (c : Dev nD) (t : Fin cfg0.N) : (iblk m c 2 t : S2048x512.Idx → EReal) = m ((c : Thread nD τ).loc main_arg2) :=
  Blocks.ext _ _ fun a b => by
    rw [← V_main_arg2 m c]
    refine congrArg (V m c main_arg2) (eq_of_val _ _ _ ?_ ?_)
    · show win0_2.index t 0 * 2048 + 1 * a.val = a.val
      rw [(at2 t).1]; omega
    · show win0_2.index t 1 * 512 + 1 * b.val = b.val
      rw [(at2 t).2]; omega

theorem whole3 (c : Dev nD) (t : Fin cfg0.N) : (iblk m c 3 t : S2048x512.Idx → EReal) = m ((c : Thread nD τ).loc main_arg3) :=
  Blocks.ext _ _ fun a b => by
    rw [← V_main_arg3 m c]
    refine congrArg (V m c main_arg3) (eq_of_val _ _ _ ?_ ?_)
    · show win0_3.index t 0 * 2048 + 1 * a.val = a.val
      rw [(at3 t).1]; omega
    · show win0_3.index t 1 * 512 + 1 * b.val = b.val
      rw [(at3 t).2]; omega

/-- An entry of the array the call leaves. -/
theorem final (c : Dev nD) (i : Fin 1024) (j : Fin 1536) : ((dats m 0 c).arrAt 4 cfg0.N : S1024x1536.Idx → EReal) (ix2 i j)
    = entry (m ((c : Thread nD τ).loc main_arg0)) (m ((c : Thread nD τ).loc main_arg1)) (m ((c : Thread nD τ).loc main_arg2)) (m ((c : Thread nD τ).loc main_arg3)) i j := by
  have ht : i.val / 512 < cfg0.N := by show _ < 2; omega
  refine Eq.trans (congrArg _ (eq_of_val _ i j ?_ ?_).symm) ((congrFun ((Value.blocks4 m c ⟨_, ht⟩ (flush0_4 _)).trans
    (Value.flushed4 m c ⟨_, ht⟩)) (ix2 ⟨i.val % 512, Nat.mod_lt _ (by omega)⟩ j)).trans ((out_apply _ _ _ _ _ _).trans ?_))
  · show win0_4.index ⟨_, ht⟩ 0 * 512 + 1 * (i.val % 512) = i.val
    rw [(at4 _).1]; show i.val / 512 * 512 + _ = _; omega
  · show win0_4.index ⟨_, ht⟩ 1 * 1536 + 1 * j.val = j.val
    rw [(at4 _).2]; omega
  · refine entry_congr _ _ _ _ _ _ _ _ _ _ _ (fun k => ?_) (whole1 m c _) (whole2 m c _) (whole3 m c _)
    rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 512 + 1 * (i.val % 512) = i.val
      rw [(at0 _).2]; show i.val / 512 * 512 + _ = _; omega

section Reference
open Cert.Reference8Ideal.Read

/-! The columns side by side, in each range. -/

theorem cat1 (p1 : S2048x512.Idx → EReal) (p2 : S2048x512.Idx → EReal) (p3 : S2048x512.Idx → EReal) (a : Fin 2048) (j : Fin 1536) (q : Fin 512) (h : j.val = 0 + q.val) :
    val_main_v3 (F := Ideal) p1 p2 p3 (ix2 a j) = p1 (ix2 a q) := by
  simp only [val_main_v3, pointwise]
  simp only [Matrix.cons_val_zero, Matrix.cons_val_one, Nat.zero_add, if_true, Fin.val_zero, Fin.val_one, zero_ne_one, one_ne_zero, if_false, Fin.eta]
  rw [dif_pos (by omega)]
  exact congrArg p1 (congrArg (ix2 a) (Fin.ext (by dsimp only; omega)))

theorem cat2 (p1 : S2048x512.Idx → EReal) (p2 : S2048x512.Idx → EReal) (p3 : S2048x512.Idx → EReal) (a : Fin 2048) (j : Fin 1536) (q : Fin 512) (h : j.val = 512 + q.val) :
    val_main_v3 (F := Ideal) p1 p2 p3 (ix2 a j) = p2 (ix2 a q) := by
  simp only [val_main_v3, pointwise]
  simp only [Matrix.cons_val_zero, Matrix.cons_val_one, Nat.zero_add, if_true, Fin.val_zero, Fin.val_one, zero_ne_one, one_ne_zero, if_false, Fin.eta]
  rw [dif_neg (by omega), dif_pos (by omega)]
  exact congrArg p2 (congrArg (ix2 a) (Fin.ext (by dsimp only; omega)))

theorem cat3 (p1 : S2048x512.Idx → EReal) (p2 : S2048x512.Idx → EReal) (p3 : S2048x512.Idx → EReal) (a : Fin 2048) (j : Fin 1536) (q : Fin 512) (h : j.val = 1024 + q.val) :
    val_main_v3 (F := Ideal) p1 p2 p3 (ix2 a j) = p3 (ix2 a q) := by
  simp only [val_main_v3, pointwise]
  simp only [Matrix.cons_val_zero, Matrix.cons_val_one, Nat.zero_add, if_true, Fin.val_zero, Fin.val_one, zero_ne_one, one_ne_zero, if_false, Fin.eta]
  rw [dif_neg (by omega), dif_neg (by omega)]
  exact congrArg p3 (congrArg (ix2 a) (Fin.ext (by dsimp only; omega)))

/-- The reference's result, at an entry. -/
theorem reference_apply (x : S2048x1024.Idx → EReal) (p1 : S2048x512.Idx → EReal) (p2 : S2048x512.Idx → EReal) (p3 : S2048x512.Idx → EReal) (i : Fin 1024) (j : Fin 1536) :
    val_main_v7 (F := Ideal) x p1 p2 p3 (ix2 i j) = entry x p1 p2 p3 i j := by
  simp only [val_main_v7, val_main_v6, val_main_v5, val_main_v4, val_main_v1, pointwise]
  by_cases h1 : j.val < 512
  · rw [entry1 x p1 p2 p3 i j ⟨j.val - 0, by omega⟩ (by dsimp only; omega)]
    exact (zero_add _).trans (Finset.sum_congr rfl fun k _ => (mul_comm _ _).trans
      (congrArg (x (ix2 k i) * ·) (cat1 p1 p2 p3 k j ⟨j.val - 0, by omega⟩ (by dsimp only; omega))))
  by_cases h2 : j.val < 1024
  · rw [entry2 x p1 p2 p3 i j ⟨j.val - 512, by omega⟩ (by dsimp only; omega)]
    exact (zero_add _).trans (Finset.sum_congr rfl fun k _ => (mul_comm _ _).trans
      (congrArg (x (ix2 k i) * ·) (cat2 p1 p2 p3 k j ⟨j.val - 512, by omega⟩ (by dsimp only; omega))))
  · rw [entry3 x p1 p2 p3 i j ⟨j.val - 1024, by omega⟩ (by dsimp only; omega)]
    exact (zero_add _).trans (Finset.sum_congr rfl fun k _ => (mul_comm _ _).trans
      (congrArg (x (ix2 k i) * ·) (cat3 p1 p2 p3 k j ⟨j.val - 1024, by omega⟩ (by dsimp only; omega))))

end Reference

theorem frame_reference : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run (F := Ideal) m g)

/-- From memories that agree on the arguments the call and its reference leave the same result. -/
theorem algebraic : Cert.algebraic_Kernel8Ideal_Reference8Ideal := by
  intro m g m' g' _ hargs
  refine ⟨_, (θ_run _ _ _).mono (fun r h c => h c) (Cert.Kernel8Ideal.Value.run_blocks m g),
    (θ_run _ _ _).mono (fun r h c => ⟨(h c).1.trans ?_, (h c).2⟩) (Cert.Reference8Ideal.Value.run m' g')⟩
  rw [Cert.Reference8Ideal.Read.val_main_v7_eq, (hargs c).1, (hargs c).2.1, (hargs c).2.2.1, (hargs c).2.2.2]
  exact Blocks.ext _ _ fun i j => (reference_apply _ _ _ _ i j).trans (final m c i j).symm

end Cert.Proof.InProjBDw

end
-- ==== Proof.Ranges.lean ====
/- Column ranges of a matrix, and a sum over a contraction cut into ranges. -/
module

public import proofs.«01_k».proof.Proof.Blocks

@[expose] public section

noncomputable section

namespace Cert.Proof.Ranges

open Idealize.ShloMosaic Cert.Proof.Blocks

/-- The columns `o … o + w` of a matrix. -/
def cols {N K : Nat} (y : (Mat N K).Idx → EReal) (o w : Nat) (h : o + w ≤ K) : (Mat N w).Idx → EReal :=
  fun i => y (ix2 (i 0) ⟨o + (i 1).val, by have : (i 1).val < w := (i 1).isLt; omega⟩)

theorem sum_cut (a b : Nat) (f : Fin (a + b) → EReal) :
    ∑ k, f k = (∑ k : Fin a, f ⟨k.val, by omega⟩) + ∑ k : Fin b, f ⟨a + k.val, by omega⟩ :=
  Fin.sum_univ_add f

/-- A sum cut where the columns of the input projection's first half are. -/
theorem sum_cut5 (f : Fin 3200 → EReal) : ∑ k, f k = (∑ k : Fin 768, f ⟨0 + k.val, by omega⟩) + (∑ k : Fin 256, f ⟨768 + k.val, by omega⟩)
    + (∑ k : Fin 1024, f ⟨1024 + k.val, by omega⟩) + (∑ k : Fin 1024, f ⟨2048 + k.val, by omega⟩) + ∑ k : Fin 128, f ⟨3072 + k.val, by omega⟩ := by
  rw [show ∑ k, f k = _ from sum_cut 3072 128 f, sum_cut 2048 1024 (fun k : Fin 3072 => f ⟨k.val, by omega⟩),
    sum_cut 1024 1024 (fun k : Fin 2048 => f ⟨k.val, by omega⟩), sum_cut 768 256 (fun k : Fin 1024 => f ⟨k.val, by omega⟩)]
  simp only [Nat.zero_add]

/-- A sum cut where the columns of the input projection's second half are. -/
theorem sum_cut3 (f : Fin 1536 → EReal) : ∑ k, f k = (∑ k : Fin 512, f ⟨0 + k.val, by omega⟩) + (∑ k : Fin 512, f ⟨512 + k.val, by omega⟩)
    + ∑ k : Fin 512, f ⟨1024 + k.val, by omega⟩ := by
  rw [show ∑ k, f k = _ from sum_cut 1024 512 f, sum_cut 512 512 (fun k : Fin 1024 => f ⟨k.val, by omega⟩)]
  simp only [Nat.zero_add]

end Cert.Proof.Ranges

end
-- ==== Proof.InProjADx.lean ====
/- The gradient of the input projection's argument, the part the columns of the first half give:
   `[dcq dckv dgf dgm dmisc] wᵀ`, a product for each range of columns. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Ranges
public import proofs.«01_k».proof.Defs

@[expose] public section

set_option maxRecDepth 16384

noncomputable section

namespace Cert.Proof.InProjADx

open Cert.Kernel9Ideal Cert.Kernel9Ideal.Gen Idealize.ShloMosaic Idealize.ShloMosaic.TcCoe Idealize.SL.Sem
open Idealize.ShloMosaic.Pipeline (Dat)
open Cert.Proof.Blocks Cert.Proof.Ranges

/-- An entry of `[p1 … p5] wᵀ`. -/
def entry {R : Nat} (p1 : (Mat R 768).Idx → EReal) (p2 : (Mat R 256).Idx → EReal) (p3 : (Mat R 1024).Idx → EReal) (p4 : (Mat R 1024).Idx → EReal) (p5 : (Mat R 128).Idx → EReal) (w : (Mat 1024 3200).Idx → EReal) (i : Fin R) (j : Fin 1024) : EReal :=
  mulNT p1 (cols w 0 768 (by omega)) i j + mulNT p2 (cols w 768 256 (by omega)) i j + mulNT p3 (cols w 1024 1024 (by omega)) i j + mulNT p4 (cols w 2048 1024 (by omega)) i j + mulNT p5 (cols w 3072 128 (by omega)) i j

theorem entry_congr {R R' : Nat} (p1 : (Mat R 768).Idx → EReal) (p2 : (Mat R 256).Idx → EReal) (p3 : (Mat R 1024).Idx → EReal) (p4 : (Mat R 1024).Idx → EReal) (p5 : (Mat R 128).Idx → EReal) (q1 : (Mat R' 768).Idx → EReal) (q2 : (Mat R' 256).Idx → EReal) (q3 : (Mat R' 1024).Idx → EReal) (q4 : (Mat R' 1024).Idx → EReal) (q5 : (Mat R' 128).Idx → EReal) (w w' : (Mat 1024 3200).Idx → EReal) (i : Fin R) (i' : Fin R') (j : Fin 1024)
    (h1 : ∀ k, p1 (ix2 i k) = q1 (ix2 i' k)) (h2 : ∀ k, p2 (ix2 i k) = q2 (ix2 i' k)) (h3 : ∀ k, p3 (ix2 i k) = q3 (ix2 i' k)) (h4 : ∀ k, p4 (ix2 i k) = q4 (ix2 i' k)) (h5 : ∀ k, p5 (ix2 i k) = q5 (ix2 i' k)) (hw : w = w') :
    entry p1 p2 p3 p4 p5 w i j = entry q1 q2 q3 q4 q5 w' i' j := by
  subst hw
  unfold entry
  rw [mulNT_congr h1 (fun _ => rfl), mulNT_congr h2 (fun _ => rfl), mulNT_congr h3 (fun _ => rfl), mulNT_congr h4 (fun _ => rfl), mulNT_congr h5 (fun _ => rfl)]

theorem pay_apply (p1 : S512x768.Idx → EReal) (p2 : S512x256.Idx → EReal) (p3 : S512x1024.Idx → EReal) (p4 : S512x1024.Idx → EReal) (p5 : S512x128.Idx → EReal) (w1 : S1024x768.Idx → EReal) (w2 : S1024x256.Idx → EReal) (w3 : S1024x1024.Idx → EReal) (w4 : S1024x1024.Idx → EReal) (w5 : S1024x128.Idx → EReal) (i : Fin 512) (j : Fin 1024) :
    k0_pay1 (F := Ideal) p1 w1 p2 w2 p3 w3 p4 w4 p5 w5 (ix2 i j) = mulNT p1 w1 i j + mulNT p2 w2 i j + mulNT p3 w3 i j + mulNT p4 w4 i j + mulNT p5 w5 i j := by
  simp only [k0_pay1, pointwise, zero_add]
  rfl

/-- A load of a range of columns. -/
theorem ld_cols (w : S1024x3200.Idx → EReal) (o n : Nat) (h : o + n ≤ 3200) (inb) :
    (View.ld (Val := Elt Ideal) (e' := .bf16) w (Rect.unit (s := S1024x3200) ![0, o] ![1024, n] inb) : (Mat 1024 n).Idx → EReal) = cols w o n h :=
  funext fun y => congrArg w (eq_of_val _ _ _ (by show 0 + 1 * (y 0).val = (y 0).val; omega) (by show o + 1 * (y 1).val = o + (y 1).val; omega))

/-- A block of the result, at an entry. -/
theorem out_apply (p1 : S512x768.Idx → EReal) (p2 : S512x256.Idx → EReal) (p3 : S512x1024.Idx → EReal) (p4 : S512x1024.Idx → EReal) (p5 : S512x128.Idx → EReal) (w : S1024x3200.Idx → EReal) (i : Fin 512) (j : Fin 1024) :
    out0_6 (F := Ideal) p1 p2 p3 p4 p5 w (ix2 i j) = entry p1 p2 p3 p4 p5 w i j := by
  unfold out0_6
  rw [View.canon_unit_zero (Val := Elt Ideal) (e := .f32) hz]
  simp only [View.ld_unit_zero (S := S512x768) hz, View.ld_unit_zero (S := S512x256) hz, View.ld_unit_zero (S := S512x1024) hz, View.ld_unit_zero (S := S512x128) hz]
  refine (pay_apply _ _ _ _ _ _ _ _ _ _ i j).trans ?_
  unfold entry
  exact congrArg₂ (· + ·) (congrArg₂ (· + ·) (congrArg₂ (· + ·) (congrArg₂ (· + ·)
    (congrArg (mulNT p1 · i j) (ld_cols w 0 768 _ _)) (congrArg (mulNT p2 · i j) (ld_cols w 768 256 _ _)))
    (congrArg (mulNT p3 · i j) (ld_cols w 1024 1024 _ _))) (congrArg (mulNT p4 · i j) (ld_cols w 2048 1024 _ _)))
    (congrArg (mulNT p5 · i j) (ld_cols w 3072 128 _ _))

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = t.val ∧ win0_6.index t 1 = 0 := by decide +kernel

variable (m : (ℓ : Loc nD τ sig) → Buf (Elt Ideal) ℓ)

theorem whole5 (c : Dev nD) (t : Fin cfg0.N) : (iblk m c 5 t : S1024x3200.Idx → EReal) = m ((c : Thread nD τ).loc main_arg5) :=
  Blocks.ext _ _ fun a b => by
    rw [← V_main_arg5 m c]
    refine congrArg (V m c main_arg5) (eq_of_val _ _ _ ?_ ?_)
    · show win0_5.index t 0 * 1024 + 1 * a.val = a.val
      rw [(at5 t).1]; omega
    · show win0_5.index t 1 * 3200 + 1 * b.val = b.val
      rw [(at5 t).2]; omega

theorem rows0 (c : Dev nD) (t : Fin cfg0.N) (i : Fin 512) (i' : Fin 2048) (h : i'.val = t.val * 512 + i.val) (k : Fin 768) :
    (iblk m c 0 t : S512x768.Idx → EReal) (ix2 i k) = (m ((c : Thread nD τ).loc main_arg0) : S2048x768.Idx → EReal) (ix2 i' k) := by
  rw [← V_main_arg0 m c]
  refine congrArg (V m c main_arg0) (eq_of_val _ _ _ ?_ ?_)
  · show win0_0.index t 0 * 512 + 1 * i.val = i'.val
    rw [(at0 t).1]; omega
  · show win0_0.index t 1 * 768 + 1 * k.val = k.val
    rw [(at0 t).2]; omega

theorem rows1 (c : Dev nD) (t : Fin cfg0.N) (i : Fin 512) (i' : Fin 2048) (h : i'.val = t.val * 512 + i.val) (k : Fin 256) :
    (iblk m c 1 t : S512x256.Idx → EReal) (ix2 i k) = (m ((c : Thread nD τ).loc main_arg1) : S2048x256.Idx → EReal) (ix2 i' k) := by
  rw [← V_main_arg1 m c]
  refine congrArg (V m c main_arg1) (eq_of_val _ _ _ ?_ ?_)
  · show win0_1.index t 0 * 512 + 1 * i.val = i'.val
    rw [(at1 t).1]; omega
  · show win0_1.index t 1 * 256 + 1 * k.val = k.val
    rw [(at1 t).2]; omega

theorem rows2 (c : Dev nD) (t : Fin cfg0.N) (i : Fin 512) (i' : Fin 2048) (h : i'.val = t.val * 512 + i.val) (k : Fin 1024) :
    (iblk m c 2 t : S512x1024.Idx → EReal) (ix2 i k) = (m ((c : Thread nD τ).loc main_arg2) : S2048x1024.Idx → EReal) (ix2 i' k) := by
  rw [← V_main_arg2 m c]
  refine congrArg (V m c main_arg2) (eq_of_val _ _ _ ?_ ?_)
  · show win0_2.index t 0 * 512 + 1 * i.val = i'.val
    rw [(at2 t).1]; omega
  · show win0_2.index t 1 * 1024 + 1 * k.val = k.val
    rw [(at2 t).2]; omega

theorem rows3 (c : Dev nD) (t : Fin cfg0.N) (i : Fin 512) (i' : Fin 2048) (h : i'.val = t.val * 512 + i.val) (k : Fin 1024) :
    (iblk m c 3 t : S512x1024.Idx → EReal) (ix2 i k) = (m ((c : Thread nD τ).loc main_arg3) : S2048x1024.Idx → EReal) (ix2 i' k) := by
  rw [← V_main_arg3 m c]
  refine congrArg (V m c main_arg3) (eq_of_val _ _ _ ?_ ?_)
  · show win0_3.index t 0 * 512 + 1 * i.val = i'.val
    rw [(at3 t).1]; omega
  · show win0_3.index t 1 * 1024 + 1 * k.val = k.val
    rw [(at3 t).2]; omega

theorem rows4 (c : Dev nD) (t : Fin cfg0.N) (i : Fin 512) (i' : Fin 2048) (h : i'.val = t.val * 512 + i.val) (k : Fin 128) :
    (iblk m c 4 t : S512x128.Idx → EReal) (ix2 i k) = (m ((c : Thread nD τ).loc main_arg4) : S2048x128.Idx → EReal) (ix2 i' k) := by
  rw [← V_main_arg4 m c]
  refine congrArg (V m c main_arg4) (eq_of_val _ _ _ ?_ ?_)
  · show win0_4.index t 0 * 512 + 1 * i.val = i'.val
    rw [(at4 t).1]; omega
  · show win0_4.index t 1 * 128 + 1 * k.val = k.val
    rw [(at4 t).2]; omega

/-- An entry of the array the call leaves. -/
theorem final (c : Dev nD) (i : Fin 2048) (j : Fin 1024) : ((dats m 0 c).arrAt 6 cfg0.N : S2048x1024.Idx → EReal) (ix2 i j)
    = entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i j := by
  have ht : i.val / 512 < cfg0.N := by show _ < 4; omega
  refine Eq.trans (congrArg _ (eq_of_val _ i j ?_ ?_).symm) ((congrFun ((Value.blocks6 m c ⟨_, ht⟩ (flush0_6 _)).trans
    (Value.flushed6 m c ⟨_, ht⟩)) (ix2 ⟨i.val % 512, Nat.mod_lt _ (by omega)⟩ j)).trans ((out_apply _ _ _ _ _ _ _ _).trans ?_))
  · show win0_6.index ⟨_, ht⟩ 0 * 512 + 1 * (i.val % 512) = i.val
    rw [(at6 _).1]; show i.val / 512 * 512 + _ = _; omega
  · show win0_6.index ⟨_, ht⟩ 1 * 1024 + 1 * j.val = j.val
    rw [(at6 _).2]; omega
  · have hi : i.val = i.val / 512 * 512 + i.val % 512 := by omega
    exact entry_congr _ _ _ _ _ _ _ _ _ _ _ _ _ _ _ (rows0 m c ⟨_, ht⟩ _ _ hi) (rows1 m c ⟨_, ht⟩ _ _ hi) (rows2 m c ⟨_, ht⟩ _ _ hi)
      (rows3 m c ⟨_, ht⟩ _ _ hi) (rows4 m c ⟨_, ht⟩ _ _ hi) (whole5 m c _)

section Reference
open Cert.Reference9Ideal.Read

/-! The columns side by side, in each range. -/

theorem cat1 (p1 : Cert.Reference9Ideal.S2048x768.Idx → EReal) (p2 : Cert.Reference9Ideal.S2048x256.Idx → EReal) (p3 : Cert.Reference9Ideal.S2048x1024.Idx → EReal) (p4 : Cert.Reference9Ideal.S2048x1024.Idx → EReal) (p5 : Cert.Reference9Ideal.S2048x128.Idx → EReal) (a : Fin 2048) (q : Fin 768) :
    val_main_v1 (F := Ideal) p1 p2 p3 p4 p5 (ix2 a ⟨0 + q.val, by omega⟩) = p1 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_pos (by omega)]

theorem cat2 (p1 : Cert.Reference9Ideal.S2048x768.Idx → EReal) (p2 : Cert.Reference9Ideal.S2048x256.Idx → EReal) (p3 : Cert.Reference9Ideal.S2048x1024.Idx → EReal) (p4 : Cert.Reference9Ideal.S2048x1024.Idx → EReal) (p5 : Cert.Reference9Ideal.S2048x128.Idx → EReal) (a : Fin 2048) (q : Fin 256) :
    val_main_v1 (F := Ideal) p1 p2 p3 p4 p5 (ix2 a ⟨768 + q.val, by omega⟩) = p2 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_pos (by omega)]
  exact congrArg p2 (congrArg (ix2 a) (Fin.ext (by dsimp only; omega)))

theorem cat3 (p1 : Cert.Reference9Ideal.S2048x768.Idx → EReal) (p2 : Cert.Reference9Ideal.S2048x256.Idx → EReal) (p3 : Cert.Reference9Ideal.S2048x1024.Idx → EReal) (p4 : Cert.Reference9Ideal.S2048x1024.Idx → EReal) (p5 : Cert.Reference9Ideal.S2048x128.Idx → EReal) (a : Fin 2048) (q : Fin 1024) :
    val_main_v1 (F := Ideal) p1 p2 p3 p4 p5 (ix2 a ⟨1024 + q.val, by omega⟩) = p3 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_neg (by omega), dif_pos (by omega)]
  exact congrArg p3 (congrArg (ix2 a) (Fin.ext (by dsimp only; omega)))

theorem cat4 (p1 : Cert.Reference9Ideal.S2048x768.Idx → EReal) (p2 : Cert.Reference9Ideal.S2048x256.Idx → EReal) (p3 : Cert.Reference9Ideal.S2048x1024.Idx → EReal) (p4 : Cert.Reference9Ideal.S2048x1024.Idx → EReal) (p5 : Cert.Reference9Ideal.S2048x128.Idx → EReal) (a : Fin 2048) (q : Fin 1024) :
    val_main_v1 (F := Ideal) p1 p2 p3 p4 p5 (ix2 a ⟨2048 + q.val, by omega⟩) = p4 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_neg (by omega), dif_neg (by omega), dif_pos (by omega)]
  exact congrArg p4 (congrArg (ix2 a) (Fin.ext (by dsimp only; omega)))

theorem cat5 (p1 : Cert.Reference9Ideal.S2048x768.Idx → EReal) (p2 : Cert.Reference9Ideal.S2048x256.Idx → EReal) (p3 : Cert.Reference9Ideal.S2048x1024.Idx → EReal) (p4 : Cert.Reference9Ideal.S2048x1024.Idx → EReal) (p5 : Cert.Reference9Ideal.S2048x128.Idx → EReal) (a : Fin 2048) (q : Fin 128) :
    val_main_v1 (F := Ideal) p1 p2 p3 p4 p5 (ix2 a ⟨3072 + q.val, by omega⟩) = p5 (ix2 a q) := by
  simp only [val_main_v1, pointwise]
  simp only [Matrix.cons_val_zero, Matrix.cons_val_one, Nat.zero_add, if_true, Fin.val_zero, Fin.val_one, zero_ne_one, one_ne_zero, if_false, Fin.eta]
  rw [dif_neg (by omega), dif_neg (by omega), dif_neg (by omega), dif_neg (by omega)]
  exact congrArg p5 (congrArg (ix2 a) (Fin.ext (by dsimp only; omega)))

/-- The reference's result, at an entry. -/
theorem reference_apply (p1 : Cert.Reference9Ideal.S2048x768.Idx → EReal) (p2 : Cert.Reference9Ideal.S2048x256.Idx → EReal) (p3 : Cert.Reference9Ideal.S2048x1024.Idx → EReal) (p4 : Cert.Reference9Ideal.S2048x1024.Idx → EReal) (p5 : Cert.Reference9Ideal.S2048x128.Idx → EReal) (w : S1024x3200.Idx → EReal) (i : Fin 2048) (j : Fin 1024) :
    val_main_v5 (F := Ideal) p1 p2 p3 p4 p5 w (ix2 i j) = entry p1 p2 p3 p4 p5 w i j := by
  simp only [val_main_v5, val_main_v3, val_main_v2, pointwise]
  refine (zero_add _).trans ((sum_cut5 _).trans ?_)
  simp only [cat1, cat2, cat3, cat4, cat5]
  rfl

end Reference

theorem frame_reference : Cert.quiescent_Reference9Ideal := fun m g _ =>
  (θ_run Cert.Reference9Ideal.defs _ _).mono
    (fun r h => ⟨fun c => (h c).2, Idealize.ShloMosaic.sem_eq_zero_of_no_sems (by decide) r.2⟩)
    (Cert.Reference9Ideal.Value.run (F := Ideal) m g)

/-- From memories that agree on the arguments the call and its reference leave the same result. -/
theorem algebraic : Cert.algebraic_Kernel9Ideal_Reference9Ideal := by
  intro m g m' g' _ hargs
  refine ⟨_, (θ_run _ _ _).mono (fun r h c => h c) (Cert.Kernel9Ideal.Value.run_blocks m g),
    (θ_run _ _ _).mono (fun r h c => ⟨(h c).1.trans ?_, (h c).2⟩) (Cert.Reference9Ideal.Value.run m' g')⟩
  rw [Cert.Reference9Ideal.Read.val_main_v5_eq, (hargs c).1, (hargs c).2.1, (hargs c).2.2.1, (hargs c).2.2.2.1, (hargs c).2.2.2.2.1, (hargs c).2.2.2.2.2]
  exact Blocks.ext _ _ fun i j => (reference_apply _ _ _ _ _ _ i j).trans (final m c i j).symm

end Cert.Proof.InProjADx

end
-- ==== Proof.InProjBDx.lean ====
/- The gradient of the second input product, added to the first one's, and of the norm in front of both. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.NormGrad
public import proofs.«01_k».proof.Proof.Ranges
public import proofs.«01_k».proof.Defs
public import proofs.«01_k».proof.Proof.Gen.Pre_finite10
public import Idealize.ShloMosaic.Lib.Pipeline.ValueKit.Acc

@[expose] public section

set_option maxRecDepth 16384

noncomputable section

namespace Cert.Proof.InProjBDx

open Cert.Kernel10Ideal Cert.Kernel10Ideal.Gen Idealize.ShloMosaic Idealize.ShloMosaic.TcCoe Idealize.SL.Sem
open Idealize.ShloMosaic.Pipeline (Dat)
open Cert.Proof.Blocks Cert.Proof.Numbers Cert.Proof.Norms Cert.Proof.NormGrad Cert.Proof.Ranges

/-- An entry of `[a1 a2 a3] wᵀ + h`, of the three ranges of columns of `w`. -/
def joined {R : Nat} (a1 a2 a3 : (Mat R 512).Idx → EReal) (w1 w2 w3 : (Mat 1024 512).Idx → EReal) (h : (Mat R 1024).Idx → EReal) (i : Fin R) (j : Fin 1024) : EReal :=
  mulNT a1 w1 i j + mulNT a2 w2 i j + mulNT a3 w3 i j + h (ix2 i j)

theorem joined_congr {R R' : Nat} {a1 a2 a3 : (Mat R 512).Idx → EReal} {b1 b2 b3 : (Mat R' 512).Idx → EReal} {w1 w2 w3 v1 v2 v3 : (Mat 1024 512).Idx → EReal}
    {h : (Mat R 1024).Idx → EReal} {h' : (Mat R' 1024).Idx → EReal} {i : Fin R} {i' : Fin R'} {j : Fin 1024} (e1 : ∀ k, a1 (ix2 i k) = b1 (ix2 i' k))
    (e2 : ∀ k, a2 (ix2 i k) = b2 (ix2 i' k)) (e3 : ∀ k, a3 (ix2 i k) = b3 (ix2 i' k)) (u1 : w1 = v1) (u2 : w2 = v2) (u3 : w3 = v3) (eh : h (ix2 i j) = h' (ix2 i' j)) :
    joined a1 a2 a3 w1 w2 w3 h i j = joined b1 b2 b3 v1 v2 v3 h' i' j := by
  subst u1; subst u2; subst u3
  unfold joined
  rw [mulNT_congr e1 (fun _ => rfl), mulNT_congr e2 (fun _ => rfl), mulNT_congr e3 (fun _ => rfl), eh]

/-! A row of the results, from the row `d` of the products' gradient, and the rows `x` of the norm's argument and `e` of the later gradient. -/

/-- The gradient of the row `x`. -/
def dres (g sc : (Mat 1 1024).Idx → EReal) (d x e : Fin 1024 → EReal) (j : Fin 1024) : EReal :=
  e j + normBack x (fun k => d k * (g (ix2 0 k) * (1 + sc (ix2 0 k)))) j

/-- The row's parts of the gradients of the shift, of the scale and of the norm's gain. -/
def dshift (g sc : (Mat 1 1024).Idx → EReal) (d x e : Fin 1024 → EReal) (j : Fin 1024) : EReal := d j
def dcorr (g sc : (Mat 1 1024).Idx → EReal) (d x e : Fin 1024 → EReal) (j : Fin 1024) : EReal := d j * (x j * rstd x)
def dscale (g sc : (Mat 1 1024).Idx → EReal) (d x e : Fin 1024 → EReal) (j : Fin 1024) : EReal := d j * (x j * rstd x) * g (ix2 0 j)
def dgain (g sc : (Mat 1 1024).Idx → EReal) (d x e : Fin 1024 → EReal) (j : Fin 1024) : EReal := d j * (x j * rstd x) * (1 + sc (ix2 0 j))

section Payloads
variable (a1 a2 a3 : S256x512.Idx → EReal) (w1 w2 w3 : S1024x512.Idx → EReal) (h d x e : S256x1024.Idx → EReal) (g sc acc : S1x1024.Idx → EReal) (i : Fin 256) (j : Fin 1024)

theorem pay5_apply : k0_pay5 (F := Ideal) w1 a1 w2 a2 w3 a3 h (ix2 i j) = joined a1 a2 a3 w1 w2 w3 h i j := by
  simp only [k0_pay5, pointwise, zero_add]
  rfl

theorem pay15_eq : k0_pay15 (F := Ideal) w1 a1 w2 a2 w3 a3 h = k0_pay5 w1 a1 w2 a2 w3 a3 h := rfl
theorem pay16_eq : k0_pay16 (F := Ideal) x = k0_pay6 x := rfl

theorem pay10_apply : k0_pay10 (F := Ideal) x e g sc d (k0_pay6 x) (ix2 i j) = dres g sc (fun k => d (ix2 i k)) (fun k => x (ix2 i k)) (fun k => e (ix2 i k)) j := by
  simp only [k0_pay10, k0_pay8, k0_pay7, k0_pay6, pointwise, zero_add]
  rfl

/-- The sums over 256 rows, added to what was there. -/
theorem pay12_apply : k0_pay12 (F := Ideal) d acc (ix2 0 j)
    = acc (ix2 0 j) + ∑ r : Fin 256, dshift g sc (fun k => d (ix2 r k)) (fun k => x (ix2 r k)) (fun k => e (ix2 r k)) j := by
  simp only [k0_pay12, pointwise, zero_add]
  rfl

theorem pay13_apply : k0_pay13 (F := Ideal) x g d (k0_pay6 x) acc (ix2 0 j)
    = acc (ix2 0 j) + (∑ r : Fin 256, dcorr g sc (fun k => d (ix2 r k)) (fun k => x (ix2 r k)) (fun k => e (ix2 r k)) j) * g (ix2 0 j) := by
  simp only [k0_pay13, k0_pay9, k0_pay8, k0_pay7, k0_pay6, pointwise, zero_add]
  rfl

theorem pay14_apply : k0_pay14 (k0_pay11 (F := Ideal) x sc d (k0_pay6 x)) acc (ix2 0 j)
    = acc (ix2 0 j) + (∑ r : Fin 256, dcorr g sc (fun k => d (ix2 r k)) (fun k => x (ix2 r k)) (fun k => e (ix2 r k)) j) * (1 + sc (ix2 0 j)) := by
  simp only [k0_pay14, k0_pay11, k0_pay9, k0_pay8, k0_pay7, k0_pay6, pointwise, zero_add]
  rfl

theorem pay20_eq : k0_pay20 (F := Ideal) x e g sc d (k0_pay16 x) = k0_pay10 x e g sc d (k0_pay6 x) := rfl
theorem pay22_eq : k0_pay22 (F := Ideal) d acc = k0_pay12 d acc := rfl
theorem pay23_eq : k0_pay23 (F := Ideal) x g d (k0_pay16 x) acc = k0_pay13 x g d (k0_pay6 x) acc := rfl
theorem pay1_eq : k0_pay1 (k0_pay21 (F := Ideal) x sc d (k0_pay16 x)) acc = k0_pay14 (k0_pay11 x sc d (k0_pay6 x)) acc := rfl
end Payloads

/-- A load of a range of columns. -/
theorem ld_cols (w : S1024x1536.Idx → EReal) (o : Nat) (h : o + 512 ≤ 1536) (inb) :
    (View.ld (Val := Elt Ideal) (e' := .bf16) w (Rect.unit (s := S1024x1536) ![0, o] ![1024, 512] inb) : (Mat 1024 512).Idx → EReal) = cols w o 512 h :=
  funext fun y => congrArg w (eq_of_val _ _ _ (by show 0 + 1 * (y 0).val = (y 0).val; omega) (by show o + 1 * (y 1).val = o + (y 1).val; omega))

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = 0 ∧ win0_7.index t 1 = 0 := by decide +kernel
theorem at8 : ∀ t : Fin cfg0.N, win0_8.index t 0 = 0 ∧ win0_8.index t 1 = 0 := by decide +kernel
theorem at9 : ∀ t : Fin cfg0.N, win0_9.index t 0 = t.val ∧ win0_9.index t 1 = 0 := by decide +kernel
theorem at10 : ∀ t : Fin cfg0.N, win0_10.index t 0 = 0 ∧ win0_10.index t 1 = 0 := by decide +kernel
theorem at11 : ∀ t : Fin cfg0.N, win0_11.index t 0 = 0 ∧ win0_11.index t 1 = 0 := by decide +kernel
theorem at12 : ∀ t : Fin cfg0.N, win0_12.index t 0 = 0 ∧ win0_12.index t 1 = 0 := by decide +kernel

theorem point (t : Fin cfg0.N) : t.val < 4 := t.isLt

variable (m : (ℓ : Loc nD τ sig) → Buf (Elt Ideal) ℓ)

theorem entry0 (c : Dev nD) (t : Fin cfg0.N) (i : Fin 512) (k : Fin 512) (i' : Fin 2048) (k' : Fin 512) (hi : i'.val = t.val * 512 + i.val) (hk : k'.val = 0 * 512 + k.val) :
    (iblk m c 0 t : S512x512.Idx → EReal) (ix2 i k) = (m ((c : Thread nD τ).loc main_arg0) : S2048x512.Idx → EReal) (ix2 i' k') := by
  rw [← V_main_arg0 m c]
  refine congrArg (V m c main_arg0) (eq_of_val _ _ _ ?_ ?_)
  · show win0_0.index t 0 * 512 + 1 * i.val = i'.val
    rw [(at0 t).1, hi]; omega
  · show win0_0.index t 1 * 512 + 1 * k.val = k'.val
    rw [(at0 t).2, hk]; omega

theorem entry1 (c : Dev nD) (t : Fin cfg0.N) (i : Fin 512) (k : Fin 512) (i' : Fin 2048) (k' : Fin 512) (hi : i'.val = t.val * 512 + i.val) (hk : k'.val = 0 * 512 + k.val) :
    (iblk m c 1 t : S512x512.Idx → EReal) (ix2 i k) = (m ((c : Thread nD τ).loc main_arg1) : S2048x512.Idx → EReal) (ix2 i' k') := by
  rw [← V_main_arg1 m c]
  refine congrArg (V m c main_arg1) (eq_of_val _ _ _ ?_ ?_)
  · show win0_1.index t 0 * 512 + 1 * i.val = i'.val
    rw [(at1 t).1, hi]; omega
  · show win0_1.index t 1 * 512 + 1 * k.val = k'.val
    rw [(at1 t).2, hk]; omega

theorem entry2 (c : Dev nD) (t : Fin cfg0.N) (i : Fin 512) (k : Fin 512) (i' : Fin 2048) (k' : Fin 512) (hi : i'.val = t.val * 512 + i.val) (hk : k'.val = 0 * 512 + k.val) :
    (iblk m c 2 t : S512x512.Idx → EReal) (ix2 i k) = (m ((c : Thread nD τ).loc main_arg2) : S2048x512.Idx → EReal) (ix2 i' k') := by
  rw [← V_main_arg2 m c]
  refine congrArg (V m c main_arg2) (eq_of_val _ _ _ ?_ ?_)
  · show win0_2.index t 0 * 512 + 1 * i.val = i'.val
    rw [(at2 t).1, hi]; omega
  · show win0_2.index t 1 * 512 + 1 * k.val = k'.val
    rw [(at2 t).2, hk]; omega

theorem entry3 (c : Dev nD) (t : Fin cfg0.N) (i : Fin 1024) (k : Fin 1536) (i' : Fin 1024) (k' : Fin 1536) (hi : i'.val = 0 * 1024 + i.val) (hk : k'.val = 0 * 1536 + k.val) :
    (iblk m c 3 t : S1024x1536.Idx → EReal) (ix2 i k) = (m ((c : Thread nD τ).loc main_arg3) : S1024x1536.Idx → EReal) (ix2 i' k') := by
  rw [← V_main_arg3 m c]
  refine congrArg (V m c main_arg3) (eq_of_val _ _ _ ?_ ?_)
  · show win0_3.index t 0 * 1024 + 1 * i.val = i'.val
    rw [(at3 t).1, hi]; omega
  · show win0_3.index t 1 * 1536 + 1 * k.val = k'.val
    rw [(at3 t).2, hk]; omega

theorem entry4 (c : Dev nD) (t : Fin cfg0.N) (i : Fin 512) (k : Fin 1024) (i' : Fin 2048) (k' : Fin 1024) (hi : i'.val = t.val * 512 + i.val) (hk : k'.val = 0 * 1024 + k.val) :
    (iblk m c 4 t : S512x1024.Idx → EReal) (ix2 i k) = (m ((c : Thread nD τ).loc main_arg4) : S2048x1024.Idx → EReal) (ix2 i' k') := by
  rw [← V_main_arg4 m c]
  refine congrArg (V m c main_arg4) (eq_of_val _ _ _ ?_ ?_)
  · show win0_4.index t 0 * 512 + 1 * i.val = i'.val
    rw [(at4 t).1, hi]; omega
  · show win0_4.index t 1 * 1024 + 1 * k.val = k'.val
    rw [(at4 t).2, hk]; omega

theorem entry5 (c : Dev nD) (t : Fin cfg0.N) (i : Fin 512) (k : Fin 1024) (i' : Fin 2048) (k' : Fin 1024) (hi : i'.val = t.val * 512 + i.val) (hk : k'.val = 0 * 1024 + k.val) :
    (iblk m c 5 t : S512x1024.Idx → EReal) (ix2 i k) = (m ((c : Thread nD τ).loc main_arg5) : S2048x1024.Idx → EReal) (ix2 i' k') := by
  rw [← V_main_arg5 m c]
  refine congrArg (V m c main_arg5) (eq_of_val _ _ _ ?_ ?_)
  · show win0_5.index t 0 * 512 + 1 * i.val = i'.val
    rw [(at5 t).1, hi]; omega
  · show win0_5.index t 1 * 1024 + 1 * k.val = k'.val
    rw [(at5 t).2, hk]; omega

theorem entry6 (c : Dev nD) (t : Fin cfg0.N) (i : Fin 512) (k : Fin 1024) (i' : Fin 2048) (k' : Fin 1024) (hi : i'.val = t.val * 512 + i.val) (hk : k'.val = 0 * 1024 + k.val) :
    (iblk m c 6 t : S512x1024.Idx → EReal) (ix2 i k) = (m ((c : Thread nD τ).loc main_arg6) : S2048x1024.Idx → EReal) (ix2 i' k') := by
  rw [← V_main_arg6 m c]
  refine congrArg (V m c main_arg6) (eq_of_val _ _ _ ?_ ?_)
  · show win0_6.index t 0 * 512 + 1 * i.val = i'.val
    rw [(at6 t).1, hi]; omega
  · show win0_6.index t 1 * 1024 + 1 * k.val = k'.val
    rw [(at6 t).2, hk]; omega

theorem entry7 (c : Dev nD) (t : Fin cfg0.N) (i : Fin 1) (k : Fin 1024) (i' : Fin 1) (k' : Fin 1024) (hi : i'.val = 0 * 1 + i.val) (hk : k'.val = 0 * 1024 + k.val) :
    (iblk m c 7 t : S1x1024.Idx → EReal) (ix2 i k) = (m ((c : Thread nD τ).loc main_arg7) : S1x1024.Idx → EReal) (ix2 i' k') := by
  rw [← V_main_arg7 m c]
  refine congrArg (V m c main_arg7) (eq_of_val _ _ _ ?_ ?_)
  · show win0_7.index t 0 * 1 + 1 * i.val = i'.val
    rw [(at7 t).1, hi]; omega
  · show win0_7.index t 1 * 1024 + 1 * k.val = k'.val
    rw [(at7 t).2, hk]; omega

theorem entry8 (c : Dev nD) (t : Fin cfg0.N) (i : Fin 1) (k : Fin 1024) (i' : Fin 1) (k' : Fin 1024) (hi : i'.val = 0 * 1 + i.val) (hk : k'.val = 0 * 1024 + k.val) :
    (iblk m c 8 t : S1x1024.Idx → EReal) (ix2 i k) = (m ((c : Thread nD τ).loc main_arg8) : S1x1024.Idx → EReal) (ix2 i' k') := by
  rw [← V_main_arg8 m c]
  refine congrArg (V m c main_arg8) (eq_of_val _ _ _ ?_ ?_)
  · show win0_8.index t 0 * 1 + 1 * i.val = i'.val
    rw [(at8 t).1, hi]; omega
  · show win0_8.index t 1 * 1024 + 1 * k.val = k'.val
    rw [(at8 t).2, hk]; omega

theorem whole3 (c : Dev nD) (t : Fin cfg0.N) : (iblk m c 3 t : S1024x1536.Idx → EReal) = m ((c : Thread nD τ).loc main_arg3) :=
  Blocks.ext _ _ fun a b => entry3 m c t a b a b (by omega) (by omega)

theorem whole7 (c : Dev nD) (t : Fin cfg0.N) : (iblk m c 7 t : S1x1024.Idx → EReal) = m ((c : Thread nD τ).loc main_arg7) :=
  Blocks.ext _ _ fun a b => entry7 m c t a b a b (by omega) (by omega)

theorem whole8 (c : Dev nD) (t : Fin cfg0.N) : (iblk m c 8 t : S1x1024.Idx → EReal) = m ((c : Thread nD τ).loc main_arg8) :=
  Blocks.ext _ _ fun a b => entry8 m c t a b a b (by omega) (by omega)

/-- A row function, of the arguments' row `i`. -/
def rowOf (c : Dev nD) (f : (g sc : (Mat 1 1024).Idx → EReal) → (d x e : Fin 1024 → EReal) → Fin 1024 → EReal) (i : Fin 2048) : Fin 1024 → EReal :=
  f (m ((c : Thread nD τ).loc main_arg7)) (m ((c : Thread nD τ).loc main_arg8)) (joined (m ((c : Thread nD τ).loc main_arg0)) (m ((c : Thread nD τ).loc main_arg1)) (m ((c : Thread nD τ).loc main_arg2))
      (cols (m ((c : Thread nD τ).loc main_arg3)) 0 512 (by omega)) (cols (m ((c : Thread nD τ).loc main_arg3)) 512 512 (by omega)) (cols (m ((c : Thread nD τ).loc main_arg3)) 1024 512 (by omega)) (m ((c : Thread nD τ).loc main_arg4)) i)
    (fun k => (m ((c : Thread nD τ).loc main_arg5) : S2048x1024.Idx → EReal) (ix2 i k)) (fun k => (m ((c : Thread nD τ).loc main_arg6) : S2048x1024.Idx → EReal) (ix2 i k))

/-- A row function, of row `r` of 256 rows of the point's blocks. -/
theorem row_eq (c : Dev nD) (f : (g sc : (Mat 1 1024).Idx → EReal) → (d x e : Fin 1024 → EReal) → Fin 1024 → EReal) (t : Fin cfg0.N) (o : Nat) (ho : o ≤ 256)
    (inb : ∀ a, (![o, 0] : Fin 2 → Nat) a + (![256, 512] : Fin 2 → Nat) a ≤ S512x512.size a)
    (inb' : ∀ a, (![o, 0] : Fin 2 → Nat) a + (![256, 1024] : Fin 2 → Nat) a ≤ S512x1024.size a) (r : Fin 256) (i : Fin 2048) (hi : i.val = t.val * 512 + o + r.val) :
    f (iblk m c 7 t) (iblk m c 8 t)
      (fun k => k0_pay5 (F := Ideal) (View.ld (Val := Elt Ideal) (e' := .bf16) (iblk m c 3 t) (Rect.unit (s := S1024x1536) ![0, 0] ![1024, 512] inb_S1024x1536_S1024x512_0_0)) (View.ld (Val := Elt Ideal) (e' := .bf16) (iblk m c 0 t) (Rect.unit (s := S512x512) ![o, 0] ![256, 512] inb)) (View.ld (Val := Elt Ideal) (e' := .bf16) (iblk m c 3 t) (Rect.unit (s := S1024x1536) ![0, 512] ![1024, 512] inb_S1024x1536_S1024x512_0_512)) (View.ld (Val := Elt Ideal) (e' := .bf16) (iblk m c 1 t) (Rect.unit (s := S512x512) ![o, 0] ![256, 512] inb)) (View.ld (Val := Elt Ideal) (e' := .bf16) (iblk m c 3 t) (Rect.unit (s := S1024x1536) ![0, 1024] ![1024, 512] inb_S1024x1536_S1024x512_0_1024)) (View.ld (Val := Elt Ideal) (e' := .bf16) (iblk m c 2 t) (Rect.unit (s := S512x512) ![o, 0] ![256, 512] inb)) (View.ld (Val := Elt Ideal) (e' := .f32) (iblk m c 4 t) (Rect.unit (s := S512x1024) ![o, 0] ![256, 1024] inb')) (ix2 r k))
      (fun k => ((View.ld (Val := Elt Ideal) (e' := .f32) (iblk m c 5 t) (Rect.unit (s := S512x1024) ![o, 0] ![256, 1024] inb')) : S256x1024.Idx → EReal) (ix2 r k))
      (fun k => ((View.ld (Val := Elt Ideal) (e' := .f32) (iblk m c 6 t) (Rect.unit (s := S512x1024) ![o, 0] ![256, 1024] inb')) : S256x1024.Idx → EReal) (ix2 r k))
      = rowOf m c f i := by
  unfold rowOf
  have hr : o + r.val < 512 := by omega
  have hv : i.val = t.val * 512 + (⟨o + r.val, hr⟩ : Fin 512).val := by show i.val = t.val * 512 + (o + r.val); omega
  rw [whole7 m c t, whole8 m c t]
  refine congr (congr (congrArg _ (funext fun j => (pay5_apply _ _ _ _ _ _ _ _ _).trans (joined_congr (fun k => ?_) (fun k => ?_) (fun k => ?_) ?_ ?_ ?_ ?_)))
    (funext fun k => ?_)) (funext fun k => ?_)
  · exact (ld_row (e := .bf16) (iblk m c 0 t) o inb r ⟨_, hr⟩ rfl k).trans (entry0 m c t _ k i k hv (by omega))
  · exact (ld_row (e := .bf16) (iblk m c 1 t) o inb r ⟨_, hr⟩ rfl k).trans (entry1 m c t _ k i k hv (by omega))
  · exact (ld_row (e := .bf16) (iblk m c 2 t) o inb r ⟨_, hr⟩ rfl k).trans (entry2 m c t _ k i k hv (by omega))
  · exact (ld_cols _ 0 (by omega) _).trans (congrArg (cols · 0 512 (by omega)) (whole3 m c t))
  · exact (ld_cols _ 512 (by omega) _).trans (congrArg (cols · 512 512 (by omega)) (whole3 m c t))
  · exact (ld_cols _ 1024 (by omega) _).trans (congrArg (cols · 1024 512 (by omega)) (whole3 m c t))
  · exact (ld_row (e := .f32) (iblk m c 4 t) o inb' r ⟨_, hr⟩ rfl j).trans (entry4 m c t _ j i j hv (by omega))
  · exact (ld_row (e := .f32) (iblk m c 5 t) o inb' r ⟨_, hr⟩ rfl k).trans (entry5 m c t _ k i k hv (by omega))
  · exact (ld_row (e := .f32) (iblk m c 6 t) o inb' r ⟨_, hr⟩ rfl k).trans (entry6 m c t _ k i k hv (by omega))

/-- What point `t` leaves in its block. -/
theorem out9_apply (c : Dev nD) (t : Fin cfg0.N) (i : Fin 512) (j : Fin 1024) (i' : Fin 2048) (hi : i'.val = t.val * 512 + i.val) :
    ((outsAt0 m c t.val t.isLt).1 : S512x1024.Idx → EReal) (ix2 i j) = rowOf m c dres i' j := by
  have ht : t.val < 4 := t.isLt
  have hb : t.val * 512 + i.val < 2048 := by omega
  obtain rfl : i' = ⟨t.val * 512 + i.val, hb⟩ := Fin.ext hi
  by_cases h0 : t.val % 4 = 0
  · rw [outsAt0_A m c t h0]
    frame_out
    simp only [pay15_eq]
    refine canon_two (e := .f32) (fun i j => rowOf m c dres ⟨t.val * 512 + i.val, by omega⟩ j) _ _ (fun r j => ?_) (fun r j => ?_) i j
    · exact (pay10_apply _ _ _ _ _ r j).trans (congrFun (row_eq m c dres t 0 (by omega) _ _ r _ rfl) j)
    · exact ((congrFun (pay20_eq _ _ _ _ _) _).trans (pay10_apply _ _ _ _ _ r j)).trans (congrFun (row_eq m c dres t 256 (by omega) _ _ r _ (by show t.val * 512 + (256 + r.val) = _; omega)) j)
  · rw [outsAt0_B m c t h0]
    frame_out
    simp only [pay15_eq]
    refine canon_two (e := .f32) (fun i j => rowOf m c dres ⟨t.val * 512 + i.val, by omega⟩ j) _ _ (fun r j => ?_) (fun r j => ?_) i j
    · exact (pay10_apply _ _ _ _ _ r j).trans (congrFun (row_eq m c dres t 0 (by omega) _ _ r _ rfl) j)
    · exact ((congrFun (pay20_eq _ _ _ _ _) _).trans (pay10_apply _ _ _ _ _ r j)).trans (congrFun (row_eq m c dres t 256 (by omega) _ _ r _ (by show t.val * 512 + (256 + r.val) = _; omega)) j)

theorem final9 (c : Dev nD) (i : Fin 2048) (j : Fin 1024) : ((dats m 0 c).arrAt 9 cfg0.N : S2048x1024.Idx → EReal) (ix2 i j) = rowOf m c dres i j := by
  have ht : i.val / 512 < cfg0.N := by show _ < 4; omega
  refine Eq.trans (congrArg _ (eq_of_val _ i j ?_ ?_).symm) ((congrFun ((Value.blocks9 m c ⟨_, ht⟩ (flush0_9 _)).trans (Value.flushed9 m c ⟨_, ht⟩))
    (ix2 ⟨i.val % 512, Nat.mod_lt _ (by omega)⟩ j)).trans (out9_apply m c ⟨_, ht⟩ _ j i (by show i.val = i.val / 512 * 512 + i.val % 512; omega)))
  · show win0_9.index ⟨_, ht⟩ 0 * 512 + 1 * (i.val % 512) = i.val
    rw [(at9 _).1]; show i.val / 512 * 512 + _ = _; omega
  · show win0_9.index ⟨_, ht⟩ 1 * 1024 + 1 * j.val = j.val
    rw [(at9 _).2]; omega

/-- The sum the points gather. -/
theorem sum10 (c : Dev nD) (t : Fin cfg0.N) (ht : t.val + 1 = cfg0.N) (j : Fin 1024) :
    ((outsAt0 m c t.val t.isLt).2.1 : S1x1024.Idx → EReal) (ix2 0 j) = ∑ i, rowOf m c dshift i j := by
  rw [Pipeline.eq_sum_fin_of_reset_step_apply_last (fun n h (j : Fin 1024) => ((outsAt0 m c n h).2.1 : S1x1024.Idx → EReal) (ix2 0 j)) 4 (fun _ => 0)
    (fun t j => halves (fun i => rowOf m c dshift i j) t.val (point t)) ?_ ?_ (by decide) t ht j]
  · rw [zero_add]
    exact halves_sum cfg0.N rfl _
  · intro t h0 j
    rw [outsAt0_A m c t h0]
    frame_out
    simp only [pay15_eq]
    refine ((congrFun (pay22_eq _ _ ) _).trans (pay12_apply _ (View.ld (Val := Elt Ideal) (e' := .f32) (iblk m c 5 t) (Rect.unit (s := S512x1024) ![256, 0] ![256, 1024] inb_S512x1024_S256x1024_256_0)) (View.ld (Val := Elt Ideal) (e' := .f32) (iblk m c 6 t) (Rect.unit (s := S512x1024) ![256, 0] ![256, 1024] inb_S512x1024_S256x1024_256_0)) (iblk m c 7 t) (iblk m c 8 t) _ j)).trans ?_
    refine (congrArg₂ (· + ·) (pay12_apply _ (View.ld (Val := Elt Ideal) (e' := .f32) (iblk m c 5 t) (Rect.unit (s := S512x1024) ![0, 0] ![256, 1024] inb_S512x1024_S256x1024_0_0)) (View.ld (Val := Elt Ideal) (e' := .f32) (iblk m c 6 t) (Rect.unit (s := S512x1024) ![0, 0] ![256, 1024] inb_S512x1024_S256x1024_0_0)) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dshift t 0 (by omega) inb_S512x512_S256x512_0_0 _ r _ rfl) j
    · exact congrFun (row_eq m c dshift t 256 (by omega) inb_S512x512_S256x512_256_0 _ r _ rfl) j
  · intro t h0 j
    rw [outsAt0_B m c t h0]
    frame_out
    simp only [pay15_eq]
    refine ((congrFun (pay22_eq _ _ ) _).trans (pay12_apply _ (View.ld (Val := Elt Ideal) (e' := .f32) (iblk m c 5 t) (Rect.unit (s := S512x1024) ![256, 0] ![256, 1024] inb_S512x1024_S256x1024_256_0)) (View.ld (Val := Elt Ideal) (e' := .f32) (iblk m c 6 t) (Rect.unit (s := S512x1024) ![256, 0] ![256, 1024] inb_S512x1024_S256x1024_256_0)) (iblk m c 7 t) (iblk m c 8 t) _ j)).trans ?_
    refine (congrArg₂ (· + ·) (pay12_apply _ (View.ld (Val := Elt Ideal) (e' := .f32) (iblk m c 5 t) (Rect.unit (s := S512x1024) ![0, 0] ![256, 1024] inb_S512x1024_S256x1024_0_0)) (View.ld (Val := Elt Ideal) (e' := .f32) (iblk m c 6 t) (Rect.unit (s := S512x1024) ![0, 0] ![256, 1024] inb_S512x1024_S256x1024_0_0)) (iblk m c 7 t) (iblk m c 8 t) _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dshift t 0 (by omega) inb_S512x512_S256x512_0_0 _ r _ rfl) j
    · exact congrFun (row_eq m c dshift t 256 (by omega) inb_S512x512_S256x512_256_0 _ r _ rfl) j

theorem final10 (c : Dev nD) (i : Fin 1) (j : Fin 1024) : ((dats m 0 c).arrAt 10 cfg0.N : S1x1024.Idx → EReal) (ix2 i j) = ∑ i, rowOf m c dshift i j := by
  have h3 : 3 < cfg0.N := by decide
  have hf : (cfg0.win 10).flush ⟨3, h3⟩ = true := (flush0_10 _).2 rfl
  have hd : ∀ t t' : Fin cfg0.N, (cfg0.win 10).flush t = true → (cfg0.win 10).flush t' = true → t ≠ t' → Disjoint ((cfg0.win 10).blk t).view.set ((cfg0.win 10).blk t').view.set := by
    intro t t' h h' hne
    have h4 : t.val < 4 := t.isLt
    have h4' : t'.val < 4 := t'.isLt
    exact absurd (Fin.ext (by have := (flush0_10 t).1 h; have := (flush0_10 t').1 h'; omega)) hne
  refine Eq.trans (congrArg _ (eq_of_val _ i j ?_ ?_).symm) ((congrFun (((dats m 0 c).read_blk_arrAt_eq_flushed 10 hd cfg0.N ⟨3, h3⟩ h3 hf).trans (Value.flushed10 m c ⟨3, h3⟩))
    (ix2 0 j)).trans (sum10 m c ⟨3, h3⟩ rfl j))
  · show win0_10.index ⟨3, h3⟩ 0 * 1 + 1 * 0 = i.val
    rw [(at10 _).1]; omega
  · show win0_10.index ⟨3, h3⟩ 1 * 1024 + 1 * j.val = j.val
    rw [(at10 _).2]; omega

/-- The sum the points gather. -/
theorem sum11 (c : Dev nD) (hn : ∀ j, Num fun i => rowOf m c dcorr i j) (hv : Num (m ((c : Thread nD τ).loc main_arg7) : S1x1024.Idx → EReal)) (t : Fin cfg0.N) (ht : t.val + 1 = cfg0.N) (j : Fin 1024) :
    ((outsAt0 m c t.val t.isLt).2.2.1 : S1x1024.Idx → EReal) (ix2 0 j) = ∑ i, rowOf m c dscale i j := by
  rw [Pipeline.eq_sum_fin_of_reset_step_apply_last (fun n h (j : Fin 1024) => ((outsAt0 m c n h).2.2.1 : S1x1024.Idx → EReal) (ix2 0 j)) 4 (fun _ => 0)
    (fun t j => halves (fun i => rowOf m c dscale i j) t.val (point t)) ?_ ?_ (by decide) t ht j]
  · rw [zero_add]
    exact halves_sum cfg0.N rfl _
  · intro t h0 j
    rw [outsAt0_A m c t h0]
    frame_out
    simp only [pay15_eq]
    refine ((congrFun (pay23_eq _ _ _ _ ) _).trans (pay13_apply _ (View.ld (Val := Elt Ideal) (e' := .f32) (iblk m c 5 t) (Rect.unit (s := S512x1024) ![256, 0] ![256, 1024] inb_S512x1024_S256x1024_256_0)) (View.ld (Val := Elt Ideal) (e' := .f32) (iblk m c 6 t) (Rect.unit (s := S512x1024) ![256, 0] ![256, 1024] inb_S512x1024_S256x1024_256_0)) (iblk m c 7 t) (iblk m c 8 t) _ j)).trans ?_
    refine (congrArg₂ (· + ·) (pay13_apply _ (View.ld (Val := Elt Ideal) (e' := .f32) (iblk m c 5 t) (Rect.unit (s := S512x1024) ![0, 0] ![256, 1024] inb_S512x1024_S256x1024_0_0)) (View.ld (Val := Elt Ideal) (e' := .f32) (iblk m c 6 t) (Rect.unit (s := S512x1024) ![0, 0] ![256, 1024] inb_S512x1024_S256x1024_0_0)) (iblk m c 7 t) (iblk m c 8 t) _ j) rfl).trans ?_
    refine (add_assoc _ _ _).trans (congrArg₂ (· + ·) ?_ (congrArg₂ (· + ·) ?_ ?_))
    · exact Ideal.ofBits_zero_f32
    · refine (congrArg₂ (· * ·) (Finset.sum_congr rfl fun r _ => congrFun (row_eq m c dcorr t 0 (by omega) _ _ r _ rfl) j) (congrFun (whole7 m c t) _ |> fun h => h)).trans (sum_mul_number (num_comp (hn j) fun r : Fin 256 => (⟨t.val * 512 + 0 + r.val, by have := point t; omega⟩ : Fin 2048)) (num_at hv _))
    · refine (congrArg₂ (· * ·) (Finset.sum_congr rfl fun r _ => congrFun (row_eq m c dcorr t 256 (by omega) _ _ r _ rfl) j) (congrFun (whole7 m c t) _ |> fun h => h)).trans (sum_mul_number (num_comp (hn j) fun r : Fin 256 => (⟨t.val * 512 + 256 + r.val, by have := point t; omega⟩ : Fin 2048)) (num_at hv _))
  · intro t h0 j
    rw [outsAt0_B m c t h0]
    frame_out
    simp only [pay15_eq]
    refine ((congrFun (pay23_eq _ _ _ _ ) _).trans (pay13_apply _ (View.ld (Val := Elt Ideal) (e' := .f32) (iblk m c 5 t) (Rect.unit (s := S512x1024) ![256, 0] ![256, 1024] inb_S512x1024_S256x1024_256_0)) (View.ld (Val := Elt Ideal) (e' := .f32) (iblk m c 6 t) (Rect.unit (s := S512x1024) ![256, 0] ![256, 1024] inb_S512x1024_S256x1024_256_0)) (iblk m c 7 t) (iblk m c 8 t) _ j)).trans ?_
    refine (congrArg₂ (· + ·) (pay13_apply _ (View.ld (Val := Elt Ideal) (e' := .f32) (iblk m c 5 t) (Rect.unit (s := S512x1024) ![0, 0] ![256, 1024] inb_S512x1024_S256x1024_0_0)) (View.ld (Val := Elt Ideal) (e' := .f32) (iblk m c 6 t) (Rect.unit (s := S512x1024) ![0, 0] ![256, 1024] inb_S512x1024_S256x1024_0_0)) (iblk m c 7 t) (iblk m c 8 t) _ j) rfl).trans ?_
    refine (add_assoc _ _ _).trans (congrArg₂ (· + ·) ?_ (congrArg₂ (· + ·) ?_ ?_))
    · rfl
    · refine (congrArg₂ (· * ·) (Finset.sum_congr rfl fun r _ => congrFun (row_eq m c dcorr t 0 (by omega) _ _ r _ rfl) j) (congrFun (whole7 m c t) _ |> fun h => h)).trans (sum_mul_number (num_comp (hn j) fun r : Fin 256 => (⟨t.val * 512 + 0 + r.val, by have := point t; omega⟩ : Fin 2048)) (num_at hv _))
    · refine (congrArg₂ (· * ·) (Finset.sum_congr rfl fun r _ => congrFun (row_eq m c dcorr t 256 (by omega) _ _ r _ rfl) j) (congrFun (whole7 m c t) _ |> fun h => h)).trans (sum_mul_number (num_comp (hn j) fun r : Fin 256 => (⟨t.val * 512 + 256 + r.val, by have := point t; omega⟩ : Fin 2048)) (num_at hv _))

theorem final11 (c : Dev nD) (hn : ∀ j, Num fun i => rowOf m c dcorr i j) (hv : Num (m ((c : Thread nD τ).loc main_arg7) : S1x1024.Idx → EReal)) (i : Fin 1) (j : Fin 1024) : ((dats m 0 c).arrAt 11 cfg0.N : S1x1024.Idx → EReal) (ix2 i j) = ∑ i, rowOf m c dscale i j := by
  have h3 : 3 < cfg0.N := by decide
  have hf : (cfg0.win 11).flush ⟨3, h3⟩ = true := (flush0_11 _).2 rfl
  have hd : ∀ t t' : Fin cfg0.N, (cfg0.win 11).flush t = true → (cfg0.win 11).flush t' = true → t ≠ t' → Disjoint ((cfg0.win 11).blk t).view.set ((cfg0.win 11).blk t').view.set := by
    intro t t' h h' hne
    have h4 : t.val < 4 := t.isLt
    have h4' : t'.val < 4 := t'.isLt
    exact absurd (Fin.ext (by have := (flush0_11 t).1 h; have := (flush0_11 t').1 h'; omega)) hne
  refine Eq.trans (congrArg _ (eq_of_val _ i j ?_ ?_).symm) ((congrFun (((dats m 0 c).read_blk_arrAt_eq_flushed 11 hd cfg0.N ⟨3, h3⟩ h3 hf).trans (Value.flushed11 m c ⟨3, h3⟩))
    (ix2 0 j)).trans (sum11 m c hn hv ⟨3, h3⟩ rfl j))
  · show win0_11.index ⟨3, h3⟩ 0 * 1 + 1 * 0 = i.val
    rw [(at11 _).1]; omega
  · show win0_11.index ⟨3, h3⟩ 1 * 1024 + 1 * j.val = j.val
    rw [(at11 _).2]; omega

/-- The sum the points gather. -/
theorem sum12 (c : Dev nD) (hn : ∀ j, Num fun i => rowOf m c dcorr i j) (hv : Num (m ((c : Thread nD τ).loc main_arg8) : S1x1024.Idx → EReal)) (t : Fin cfg0.N) (ht : t.val + 1 = cfg0.N) (j : Fin 1024) :
    ((outsAt0 m c t.val t.isLt).2.2.2 : S1x1024.Idx → EReal) (ix2 0 j) = ∑ i, rowOf m c dgain i j := by
  rw [Pipeline.eq_sum_fin_of_reset_step_apply_last (fun n h (j : Fin 1024) => ((outsAt0 m c n h).2.2.2 : S1x1024.Idx → EReal) (ix2 0 j)) 4 (fun _ => 0)
    (fun t j => halves (fun i => rowOf m c dgain i j) t.val (point t)) ?_ ?_ (by decide) t ht j]
  · rw [zero_add]
    exact halves_sum cfg0.N rfl _
  · intro t h0 j
    rw [outsAt0_A m c t h0]
    frame_out
    simp only [pay15_eq]
    refine ((congrFun (pay1_eq _ _ _ _ ) _).trans (pay14_apply _ (View.ld (Val := Elt Ideal) (e' := .f32) (iblk m c 5 t) (Rect.unit (s := S512x1024) ![256, 0] ![256, 1024] inb_S512x1024_S256x1024_256_0)) (View.ld (Val := Elt Ideal) (e' := .f32) (iblk m c 6 t) (Rect.unit (s := S512x1024) ![256, 0] ![256, 1024] inb_S512x1024_S256x1024_256_0)) (iblk m c 7 t) (iblk m c 8 t) _ j)).trans ?_
    refine (congrArg₂ (· + ·) (pay14_apply _ (View.ld (Val := Elt Ideal) (e' := .f32) (iblk m c 5 t) (Rect.unit (s := S512x1024) ![0, 0] ![256, 1024] inb_S512x1024_S256x1024_0_0)) (View.ld (Val := Elt Ideal) (e' := .f32) (iblk m c 6 t) (Rect.unit (s := S512x1024) ![0, 0] ![256, 1024] inb_S512x1024_S256x1024_0_0)) (iblk m c 7 t) (iblk m c 8 t) _ j) rfl).trans ?_
    refine (add_assoc _ _ _).trans (congrArg₂ (· + ·) ?_ (congrArg₂ (· + ·) ?_ ?_))
    · exact Ideal.ofBits_zero_f32
    · refine (congrArg₂ (· * ·) (Finset.sum_congr rfl fun r _ => congrFun (row_eq m c dcorr t 0 (by omega) _ _ r _ rfl) j) (congrFun (whole8 m c t) _ |> fun h => congrArg (1 + ·) h)).trans (sum_mul_number (num_comp (hn j) fun r : Fin 256 => (⟨t.val * 512 + 0 + r.val, by have := point t; omega⟩ : Fin 2048)) (num_at (num_add (num_const ⟨1, EReal.coe_one.symm⟩) hv) _))
    · refine (congrArg₂ (· * ·) (Finset.sum_congr rfl fun r _ => congrFun (row_eq m c dcorr t 256 (by omega) _ _ r _ rfl) j) (congrFun (whole8 m c t) _ |> fun h => congrArg (1 + ·) h)).trans (sum_mul_number (num_comp (hn j) fun r : Fin 256 => (⟨t.val * 512 + 256 + r.val, by have := point t; omega⟩ : Fin 2048)) (num_at (num_add (num_const ⟨1, EReal.coe_one.symm⟩) hv) _))
  · intro t h0 j
    rw [outsAt0_B m c t h0]
    frame_out
    simp only [pay15_eq]
    refine ((congrFun (pay1_eq _ _ _ _ ) _).trans (pay14_apply _ (View.ld (Val := Elt Ideal) (e' := .f32) (iblk m c 5 t) (Rect.unit (s := S512x1024) ![256, 0] ![256, 1024] inb_S512x1024_S256x1024_256_0)) (View.ld (Val := Elt Ideal) (e' := .f32) (iblk m c 6 t) (Rect.unit (s := S512x1024) ![256, 0] ![256, 1024] inb_S512x1024_S256x1024_256_0)) (iblk m c 7 t) (iblk m c 8 t) _ j)).trans ?_
    refine (congrArg₂ (· + ·) (pay14_apply _ (View.ld (Val := Elt Ideal) (e' := .f32) (iblk m c 5 t) (Rect.unit (s := S512x1024) ![0, 0] ![256, 1024] inb_S512x1024_S256x1024_0_0)) (View.ld (Val := Elt Ideal) (e' := .f32) (iblk m c 6 t) (Rect.unit (s := S512x1024) ![0, 0] ![256, 1024] inb_S512x1024_S256x1024_0_0)) (iblk m c 7 t) (iblk m c 8 t) _ j) rfl).trans ?_
    refine (add_assoc _ _ _).trans (congrArg₂ (· + ·) ?_ (congrArg₂ (· + ·) ?_ ?_))
    · rfl
    · refine (congrArg₂ (· * ·) (Finset.sum_congr rfl fun r _ => congrFun (row_eq m c dcorr t 0 (by omega) _ _ r _ rfl) j) (congrFun (whole8 m c t) _ |> fun h => congrArg (1 + ·) h)).trans (sum_mul_number (num_comp (hn j) fun r : Fin 256 => (⟨t.val * 512 + 0 + r.val, by have := point t; omega⟩ : Fin 2048)) (num_at (num_add (num_const ⟨1, EReal.coe_one.symm⟩) hv) _))
    · refine (congrArg₂ (· * ·) (Finset.sum_congr rfl fun r _ => congrFun (row_eq m c dcorr t 256 (by omega) _ _ r _ rfl) j) (congrFun (whole8 m c t) _ |> fun h => congrArg (1 + ·) h)).trans (sum_mul_number (num_comp (hn j) fun r : Fin 256 => (⟨t.val * 512 + 256 + r.val, by have := point t; omega⟩ : Fin 2048)) (num_at (num_add (num_const ⟨1, EReal.coe_one.symm⟩) hv) _))

theorem final12 (c : Dev nD) (hn : ∀ j, Num fun i => rowOf m c dcorr i j) (hv : Num (m ((c : Thread nD τ).loc main_arg8) : S1x1024.Idx → EReal)) (i : Fin 1) (j : Fin 1024) : ((dats m 0 c).arrAt 12 cfg0.N : S1x1024.Idx → EReal) (ix2 i j) = ∑ i, rowOf m c dgain i j := by
  have h3 : 3 < cfg0.N := by decide
  have hf : (cfg0.win 12).flush ⟨3, h3⟩ = true := (flush0_12 _).2 rfl
  have hd : ∀ t t' : Fin cfg0.N, (cfg0.win 12).flush t = true → (cfg0.win 12).flush t' = true → t ≠ t' → Disjoint ((cfg0.win 12).blk t).view.set ((cfg0.win 12).blk t').view.set := by
    intro t t' h h' hne
    have h4 : t.val < 4 := t.isLt
    have h4' : t'.val < 4 := t'.isLt
    exact absurd (Fin.ext (by have := (flush0_12 t).1 h; have := (flush0_12 t').1 h'; omega)) hne
  refine Eq.trans (congrArg _ (eq_of_val _ i j ?_ ?_).symm) ((congrFun (((dats m 0 c).read_blk_arrAt_eq_flushed 12 hd cfg0.N ⟨3, h3⟩ h3 hf).trans (Value.flushed12 m c ⟨3, h3⟩))
    (ix2 0 j)).trans (sum12 m c hn hv ⟨3, h3⟩ rfl j))
  · show win0_12.index ⟨3, h3⟩ 0 * 1 + 1 * 0 = i.val
    rw [(at12 _).1]; omega
  · show win0_12.index ⟨3, h3⟩ 1 * 1024 + 1 * j.val = j.val
    rw [(at12 _).2]; omega

section Numbers
variable {g sc : (Mat 1 1024).Idx → EReal} {d x e : Fin 1024 → EReal}

theorem one_num : ∃ r : ℝ, (1 : EReal) = r := ⟨1, EReal.coe_one.symm⟩

theorem cols_num {w : S1024x1536.Idx → EReal} (hw : Num w) (o : Nat) (h : o + 512 ≤ 1536) : Num (cols w o 512 h) :=
  num_comp hw fun y : (Mat 1024 512).Idx => ix2 (y 0) ⟨o + (y 1).val, by have : (y 1).val < 512 := (y 1).isLt; omega⟩

theorem down_num (hg : Num g) (hsc : Num sc) (hd : Num d) : Num fun k => d k * (g (ix2 0 k) * (1 + sc (ix2 0 k))) :=
  num_mul hd (num_mul (num_comp hg fun j => ix2 0 j) (num_add (num_const one_num) (num_comp hsc fun j => ix2 0 j)))

theorem dcorr_num (hd : Num d) (hx : Num x) : Num (dcorr g sc d x e) := num_mul hd (num_mul hx (num_const (rstd_number hx)))
end Numbers

section Reference
open Cert.Reference10Ideal.Read
variable (x0 x1 x2 : S2048x512.Idx → EReal) (w : S1024x1536.Idx → EReal) (h x e : S2048x1024.Idx → EReal) (g sc : S1x1024.Idx → EReal) (i : Fin 2048) (j : Fin 1024)

/-- A row of the products' gradient. -/
abbrev whole : Fin 2048 → Fin 1024 → EReal :=
  joined x0 x1 x2 (cols w 0 512 (by omega)) (cols w 512 512 (by omega)) (cols w 1024 512 (by omega)) h

theorem whole_num (h0 : Num x0) (h1 : Num x1) (h2 : Num x2) (hw : Num w) (hh : Num h) : Num (whole x0 x1 x2 w h i) :=
  num_add (num_add (num_add (mulNT_num h0 (cols_num hw _ _) i) (mulNT_num h1 (cols_num hw _ _) i)) (mulNT_num h2 (cols_num hw _ _) i)) (num_comp hh fun k => ix2 i k)

/-- A row function, of row `i`. -/
abbrev at' (f : (g sc : (Mat 1 1024).Idx → EReal) → (d x e : Fin 1024 → EReal) → Fin 1024 → EReal) : Fin 1024 → EReal :=
  f g sc (whole x0 x1 x2 w h i) (fun k => x (ix2 i k)) (fun k => e (ix2 i k))

/-! The columns side by side, in each range. -/

theorem cat1 (q : Fin 512) : val_main_v1 (F := Ideal) x0 x1 x2 (ix2 i ⟨0 + q.val, by omega⟩) = x0 (ix2 i q) := by
  simp only [val_main_v1, val_main_v0, pointwise]
  simp only [Matrix.cons_val_zero, Matrix.cons_val_one, Nat.zero_add, if_true, Fin.val_zero, Fin.val_one, zero_ne_one, one_ne_zero, if_false, Fin.eta]
  rw [dif_pos (by omega)]

theorem cat2 (q : Fin 512) : val_main_v1 (F := Ideal) x0 x1 x2 (ix2 i ⟨512 + q.val, by omega⟩) = x1 (ix2 i q) := by
  simp only [val_main_v1, val_main_v0, pointwise]
  simp only [Matrix.cons_val_zero, Matrix.cons_val_one, Nat.zero_add, if_true, Fin.val_zero, Fin.val_one, zero_ne_one, one_ne_zero, if_false, Fin.eta]
  rw [dif_neg (by omega), dif_pos (by omega)]
  exact congrArg x1 (congrArg (ix2 i) (Fin.ext (by dsimp only; omega)))

theorem cat3 (q : Fin 512) : val_main_v1 (F := Ideal) x0 x1 x2 (ix2 i ⟨1024 + q.val, by omega⟩) = x2 (ix2 i q) := by
  simp only [val_main_v1, val_main_v0, pointwise]
  simp only [Matrix.cons_val_zero, Matrix.cons_val_one, Nat.zero_add, if_true, Fin.val_zero, Fin.val_one, zero_ne_one, one_ne_zero, if_false, Fin.eta]
  rw [dif_neg (by omega), dif_neg (by omega)]
  exact congrArg x2 (congrArg (ix2 i) (Fin.ext (by dsimp only; omega)))

theorem product_read : val_main_v27 (F := Ideal) x0 x1 x2 w h = fun q => whole x0 x1 x2 w h (q 0) (q 1) := by
  refine Blocks.ext _ _ fun i j => ?_
  have hs : val_main_v26 (F := Ideal) x0 x1 x2 w (ix2 i j) = ∑ k : Fin 1536, val_main_v1 (F := Ideal) x0 x1 x2 (ix2 i k) * w (ix2 j k) := by
    simp only [val_main_v26, val_main_v24, pointwise, zero_add]
  refine (congrArg (h (ix2 i j) + ·) (hs.trans (sum_cut3 _))).trans ((add_comm _ _).trans (congrArg (· + h (ix2 i j)) ?_))
  refine congrArg₂ (· + ·) (congrArg₂ (· + ·) ?_ ?_) ?_
  · exact Finset.sum_congr rfl fun q _ => congrArg (· * _) (cat1 x0 x1 x2 i q)
  · exact Finset.sum_congr rfl fun q _ => congrArg (· * _) (cat2 x0 x1 x2 i q)
  · exact Finset.sum_congr rfl fun q _ => congrArg (· * _) (cat3 x0 x1 x2 i q)

theorem product_read' : val_main_v28 (F := Ideal) x0 x1 x2 w h = fun q => whole x0 x1 x2 w h (q 0) (q 1) := by
  refine Blocks.ext _ _ fun i j => ?_
  simp only [val_main_v28, product_read, pointwise]

theorem shift_read (i : Fin 1) : val_main_v30 (F := Ideal) x0 x1 x2 w h (ix2 i j) = ∑ i, at' x0 x1 x2 w h x e g sc i dshift j := by
  simp only [val_main_v30, val_main_v29, val_main_cst, val_main_cst_0, val_main_cst_1, val_main_cst_2, val_main_cst_3, val_main_cst_4, val_main_cst_5, val_main_cst_6, val_main_cst_7, val_main_cst_8, val_main_cst_9, val_main_cst_10, product_read, pointwise, zero_add]
  rfl

theorem scale_read (i : Fin 1) : val_main_v33 (F := Ideal) x0 x1 x2 w h x g (ix2 i j) = ∑ i, at' x0 x1 x2 w h x e g sc i dscale j := by
  simp only [val_main_v33, val_main_v32, val_main_v31, val_main_v17, val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9, val_main_cst_10, product_read', pointwise, zero_add]
  refine Finset.sum_congr rfl fun i _ => ?_
  exact (mul_comm _ _).trans (mul_assoc _ _ _).symm

theorem gain_read (i : Fin 1) : val_main_v38 (F := Ideal) x0 x1 x2 w h x sc (ix2 i j) = ∑ i, at' x0 x1 x2 w h x e g sc i dgain j := by
  simp only [val_main_v38, val_main_v37, val_main_v36, val_main_v35, val_main_v34, val_main_v19, val_main_v18, val_main_v15, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9, val_main_cst_10, product_read', pointwise, zero_add]
  refine Finset.sum_congr rfl fun i _ => ?_
  exact (mul_left_comm _ _ _).trans (mul_assoc _ _ _).symm

theorem dres_read (h0 : Num x0) (h1 : Num x1) (h2 : Num x2) (hw : Num w) (hh : Num h) (hx : Num x) (hg : Num g) (hsc : Num sc) :
    val_main_v55 (F := Ideal) x0 x1 x2 w h x e g sc (ix2 i j) = at' x0 x1 x2 w h x e g sc i dres j := by
  have eq : (fun k => whole x0 x1 x2 w h i k * (g (ix2 0 k) * (1 + sc (ix2 0 k)))) = fun k => whole x0 x1 x2 w h i k * (1 + sc (ix2 0 k)) * g (ix2 0 k) :=
    funext fun k => (congrArg _ (mul_comm _ _)).trans (mul_assoc _ _ _).symm
  have hd := eq ▸ down_num hg hsc (whole_num x0 x1 x2 w h i h0 h1 h2 hw hh)
  show _ = e (ix2 i j) + normBack (fun k => x (ix2 i k)) (fun k => whole x0 x1 x2 w h i k * (g (ix2 0 k) * (1 + sc (ix2 0 k)))) j
  rw [eq, ← pull_add_eq (num_comp hx fun k => ix2 i k) hd j]
  simp only [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v35, val_main_v34, val_main_v19, val_main_v18, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9, val_main_cst_10, product_read', pointwise, zero_add, Fin.sum_univ_one]
  rfl
end Reference

theorem frame_reference : Cert.quiescent_Reference10Ideal := fun m g _ =>
  (θ_run Cert.Reference10Ideal.defs _ _).mono
    (fun r h => ⟨fun c => (h c).2.2.2.2, Idealize.ShloMosaic.sem_eq_zero_of_no_sems (by decide) r.2⟩)
    (Cert.Reference10Ideal.Value.run (F := Ideal) m g)

/-- What the precondition says of the arguments. -/
theorem numbers (m : (ℓ : Loc nD τ sig) → Buf (Elt Ideal) ℓ) (hp : Cert.Pre_Kernel10Ideal_finite10 m) (c : Dev nD) :
    Num (m ((c : Thread nD τ).loc main_arg0) : S2048x512.Idx → EReal)
      ∧ Num (m ((c : Thread nD τ).loc main_arg1) : S2048x512.Idx → EReal)
      ∧ Num (m ((c : Thread nD τ).loc main_arg2) : S2048x512.Idx → EReal)
      ∧ Num (m ((c : Thread nD τ).loc main_arg3) : S1024x1536.Idx → EReal)
      ∧ Num (m ((c : Thread nD τ).loc main_arg4) : S2048x1024.Idx → EReal)
      ∧ Num (m ((c : Thread nD τ).loc main_arg5) : S2048x1024.Idx → EReal)
      ∧ Num (m ((c : Thread nD τ).loc main_arg6) : S2048x1024.Idx → EReal)
      ∧ Num (m ((c : Thread nD τ).loc main_arg7) : S1x1024.Idx → EReal)
      ∧ Num (m ((c : Thread nD τ).loc main_arg8) : S1x1024.Idx → EReal) := by
  have h := congrFun (hp c) (Shape.Idx.first Cert.Pre_finite10.Gen.h_S_)
  dsimp only [Cert.Pre_finite10.fn, Cert.Pre_finite10.fn_part1, Cert.Pre_finite10.fn_part2] at h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨num_of_all _ _ (fun _ => rfl) _ _ _ _ h0, num_of_all _ _ (fun _ => rfl) _ _ _ _ h1, num_of_all _ _ (fun _ => rfl) _ _ _ _ h2, num_of_all _ _ (fun _ => rfl) _ _ _ _ h3, num_of_all _ _ (fun _ => rfl) _ _ _ _ h4, num_of_all _ _ (fun _ => rfl) _ _ _ _ h5, num_of_all _ _ (fun _ => rfl) _ _ _ _ h6, num_of_all _ _ (fun _ => rfl) _ _ _ _ h7, num_of_all _ _ (fun _ => rfl) _ _ _ _ h8⟩

/-- The terms of the sums out of which the kernel takes a factor are numbers. -/
theorem corr_numbers (m : (ℓ : Loc nD τ sig) → Buf (Elt Ideal) ℓ) (c : Dev nD) (h0 : Num (m ((c : Thread nD τ).loc main_arg0) : S2048x512.Idx → EReal)) (h1 : Num (m ((c : Thread nD τ).loc main_arg1) : S2048x512.Idx → EReal))
    (h2 : Num (m ((c : Thread nD τ).loc main_arg2) : S2048x512.Idx → EReal)) (h3 : Num (m ((c : Thread nD τ).loc main_arg3) : S1024x1536.Idx → EReal)) (h4 : Num (m ((c : Thread nD τ).loc main_arg4) : S2048x1024.Idx → EReal)) (h5 : Num (m ((c : Thread nD τ).loc main_arg5) : S2048x1024.Idx → EReal)) (j : Fin 1024) : Num fun i => rowOf m c dcorr i j := by
  have h : ∀ i, ∃ r : ℝ, rowOf m c dcorr i j = r := fun i =>
    num_at (dcorr_num (whole_num _ _ _ _ _ i h0 h1 h2 h3 h4) (num_comp h5 fun k => ix2 i k)) j
  exact ⟨fun i => (h i).choose, funext fun i => (h i).choose_spec⟩

/-- From memories that agree on the arguments, which are numbers, the call and its reference leave the same results. -/
theorem algebraic : Cert.algebraic_Kernel10Ideal_Reference10Ideal_pre_finite10 := by
  intro m g m' g' hp hargs
  refine ⟨_, _, _, _, (θ_run _ _ _).mono (fun r h c => h c) (Cert.Kernel10Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference10Ideal.Value.run m' g')⟩
  · obtain ⟨h0, h1, h2, h3, h4, h5, h6, h7, h8⟩ := numbers m hp c
    rw [Cert.Reference10Ideal.Read.val_main_v55_eq m' c, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2]
    exact Blocks.ext _ _ fun i j => (dres_read _ _ _ _ _ _ _ _ _ i j h0 h1 h2 h3 h4 h5 h7 h8).trans (final9 m c i j).symm
  · obtain ⟨h0, h1, h2, h3, h4, h5, h6, h7, h8⟩ := numbers m hp c
    rw [Cert.Reference10Ideal.Read.val_main_v30_eq, (hargs c).1, (hargs c).2.1, (hargs c).2.2.1, (hargs c).2.2.2.1, (hargs c).2.2.2.2.1]
    exact Blocks.ext _ _ fun i j => (shift_read _ _ _ _ _ _ _ _ _ j i).trans (final10 m c i j).symm
  · obtain ⟨h0, h1, h2, h3, h4, h5, h6, h7, h8⟩ := numbers m hp c
    refine Eq.trans (Cert.Reference10Ideal.Read.val_main_v33_eq (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg7))) ?_
    rw [(hargs c).1, (hargs c).2.1, (hargs c).2.2.1, (hargs c).2.2.2.1, (hargs c).2.2.2.2.1, (hargs c).2.2.2.2.2.1, (hargs c).2.2.2.2.2.2.2.1]
    exact Blocks.ext _ _ fun i j => (scale_read _ _ _ _ _ _ _ _ _ j i).trans (final11 m c (corr_numbers m c h0 h1 h2 h3 h4 h5) h7 i j).symm
  · obtain ⟨h0, h1, h2, h3, h4, h5, h6, h7, h8⟩ := numbers m hp c
    refine Eq.trans (Cert.Reference10Ideal.Read.val_main_v38_eq (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg8))) ?_
    rw [(hargs c).1, (hargs c).2.1, (hargs c).2.2.1, (hargs c).2.2.2.1, (hargs c).2.2.2.2.1, (hargs c).2.2.2.2.2.1, (hargs c).2.2.2.2.2.2.2.2]
    exact Blocks.ext _ _ fun i j => (gain_read _ _ _ _ _ _ _ _ _ j i).trans (final12 m c (corr_numbers m c h0 h1 h2 h3 h4 h5) h8 i j).symm

end Cert.Proof.InProjBDx

end
-- ==== Proof.InProjB.lean ====
/- The second half of the mixer's input product, `h w`. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Blocks
public import proofs.«01_k».proof.Defs

@[expose] public section

set_option maxRecDepth 16384

noncomputable section

namespace Cert.Proof.InProjB

open Cert.Kernel11Ideal Cert.Kernel11Ideal.Gen Idealize.ShloMosaic Idealize.ShloMosaic.TcCoe Idealize.SL.Sem
open Idealize.ShloMosaic.Pipeline (Dat)
open Cert.Proof.Blocks

/-- A block of the result, at an entry. -/
theorem out_apply (x : S1024x1024.Idx → EReal) (y : S1024x768.Idx → EReal) (i : Fin 1024) (j : Fin 768) :
    out0_2 (F := Ideal) x y (ix2 i j) = mulNN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = t.val / 2 ∧ win0_0.index t 1 = 0 := by decide +kernel
theorem at1 : ∀ t : Fin cfg0.N, win0_1.index t 0 = 0 ∧ win0_1.index t 1 = t.val % 2 := by decide +kernel
theorem at2 : ∀ t : Fin cfg0.N, win0_2.index t 0 = t.val / 2 ∧ win0_2.index t 1 = t.val % 2 := by decide +kernel

variable (m : (ℓ : Loc nD τ sig) → Buf (Elt Ideal) ℓ)

/-- An entry of the array the call leaves. -/
theorem final (c : Dev nD) (i : Fin 2048) (j : Fin 1536) : ((dats m 0 c).arrAt 2 cfg0.N : S2048x1536.Idx → EReal) (ix2 i j)
    = mulNN (M := 2048) (K := 1024) (N := 1536) (m ((c : Thread nD τ).loc main_arg0)) (m ((c : Thread nD τ).loc main_arg1)) i j := by
  have ht : i.val / 1024 * 2 + j.val / 768 < cfg0.N := by show _ < 4; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1024, Nat.mod_lt _ (by omega)⟩ ⟨j.val % 768, Nat.mod_lt _ (by omega)⟩)).trans
    ((out_apply _ _ _ _).trans (mulNN_congr (fun k => ?_) (fun k => ?_))))
  · show win0_2.index ⟨_, ht⟩ 0 * 1024 + 1 * (i.val % 1024) = i.val
    rw [(at2 _).1]
    show (i.val / 1024 * 2 + j.val / 768) / 2 * 1024 + 1 * (i.val % 1024) = i.val
    omega
  · show win0_2.index ⟨_, ht⟩ 1 * 768 + 1 * (j.val % 768) = j.val
    rw [(at2 _).2]
    show (i.val / 1024 * 2 + j.val / 768) % 2 * 768 + 1 * (j.val % 768) = j.val
    omega
  · rw [← V_main_arg0 m c]
    refine congrArg (V m c main_arg0) (eq_of_val _ _ _ ?_ ?_)
    · show win0_0.index ⟨_, ht⟩ 0 * 1024 + 1 * (i.val % 1024) = i.val
      rw [(at0 _).1]
      show (i.val / 1024 * 2 + j.val / 768) / 2 * 1024 + 1 * (i.val % 1024) = i.val
      omega
    · show win0_0.index ⟨_, ht⟩ 1 * 1024 + 1 * k.val = k.val
      rw [(at0 _).2]; omega
  · rw [← V_main_arg1 m c]
    refine congrArg (V m c main_arg1) (eq_of_val _ _ _ ?_ ?_)
    · show win0_1.index ⟨_, ht⟩ 0 * 1024 + 1 * k.val = k.val
      rw [(at1 _).1]; omega
    · show win0_1.index ⟨_, ht⟩ 1 * 768 + 1 * (j.val % 768) = j.val
      rw [(at1 _).2]
      show (i.val / 1024 * 2 + j.val / 768) % 2 * 768 + 1 * (j.val % 768) = j.val
      omega

/-- The reference's result, at an entry. -/
theorem reference_apply (x : S2048x1024.Idx → EReal) (y : S1024x1536.Idx → EReal) (i : Fin 2048) (j : Fin 1536) :
    Cert.Reference11Ideal.Read.val_main_v3 (F := Ideal) x y (ix2 i j) = mulNN x y i j := by
  simp only [Cert.Reference11Ideal.Read.val_main_v3, Cert.Reference11Ideal.Read.val_main_v2, Cert.Reference11Ideal.Read.val_main_v1, Cert.Reference11Ideal.Read.val_main_v0, pointwise]
  exact zero_add _

theorem frame_reference : Cert.quiescent_Reference11Ideal := fun m g _ =>
  (θ_run Cert.Reference11Ideal.defs _ _).mono
    (fun r h => ⟨fun c => (h c).2, Idealize.ShloMosaic.sem_eq_zero_of_no_sems (by decide) r.2⟩)
    (Cert.Reference11Ideal.Value.run (F := Ideal) m g)

/-- From memories that agree on the arguments the call and its reference leave the same result. -/
theorem algebraic : Cert.algebraic_Kernel11Ideal_Reference11Ideal := by
  intro m g m' g' _ hargs
  refine ⟨_, (θ_run _ _ _).mono (fun r h c => h c) (Cert.Kernel11Ideal.Value.run_blocks m g),
    (θ_run _ _ _).mono (fun r h c => ⟨(h c).1.trans ?_, (h c).2⟩) (Cert.Reference11Ideal.Value.run m' g')⟩
  rw [Cert.Reference11Ideal.Read.val_main_v3_eq, (hargs c).1, (hargs c).2]
  exact Blocks.ext _ _ fun i j => (reference_apply _ _ i j).trans (final m c i j).symm

end Cert.Proof.InProjB

end
-- ==== Proof.InProjA.lean ====
/- The first half of the input projection: the modulated norm of a tile's rows, and its product with the weight, 256 rows at a time. -/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Norms
public import proofs.«01_k».proof.Defs

@[expose] public section

set_option maxRecDepth 16384

noncomputable section

namespace Cert.Proof.InProjA

open Cert.Kernel12Ideal Cert.Kernel12Ideal.Gen Idealize.ShloMosaic Idealize.ShloMosaic.TcCoe Idealize.SL.Sem
open Idealize.ShloMosaic.Pipeline (Dat)
open Cert.Proof.Blocks Cert.Proof.Norms

/-- The modulated norm of a matrix's rows. -/
def normed {R : Nat} (x : (Mat R 1024).Idx → EReal) (g sc sh : (Mat 1 1024).Idx → EReal) : (Mat R 1024).Idx → EReal :=
  fun p => modulated (fun k => x (ix2 (p 0) k)) g sc sh (p 1)

theorem normed_congr {R R' : Nat} (x : (Mat R 1024).Idx → EReal) (x' : (Mat R' 1024).Idx → EReal) (g sc sh g' sc' sh' : (Mat 1 1024).Idx → EReal)
    (i : Fin R) (i' : Fin R') (j : Fin 1024) (hx : ∀ k, x (ix2 i k) = x' (ix2 i' k)) (hg : g = g') (hsc : sc = sc') (hsh : sh = sh') :
    normed x g sc sh (ix2 i j) = normed x' g' sc' sh' (ix2 i' j) := by
  subst hg hsc hsh
  exact congrArg (modulated · g sc sh j) (funext hx)

theorem pay1_eq (x : S512x1024.Idx → EReal) (g sc sh : S1x1024.Idx → EReal) : k0_pay1 (F := Ideal) x g sc sh = normed x g sc sh :=
  Blocks.ext _ _ fun i j => by
    simp only [k0_pay1, pointwise]
    rfl

theorem pay2_apply (h : S256x1024.Idx → EReal) (w : S1024x3200.Idx → EReal) (i : Fin 256) (j : Fin 3200) :
    k0_pay2 (F := Ideal) h w (ix2 i j) = mulNN h w i j := by
  simp only [k0_pay2, pointwise, zero_add]
  rfl

theorem pay3_eq (h : S256x1024.Idx → EReal) (w : S1024x3200.Idx → EReal) : k0_pay3 (F := Ideal) h w = k0_pay2 h w := rfl

/-- The stores of a point into its block of the product, last first. -/
def pieces (x : S512x1024.Idx → EReal) (w : S1024x3200.Idx → EReal) (g sc sh : S1x1024.Idx → EReal) : List (View.Piece (Elt Ideal) S512x3200 .f32) :=
  [⟨Rect.unit (s := S512x3200) ![256, 0] S256x3200.size inb_S512x3200_S256x3200_256_0,
      k0_pay3 (F := Ideal) (View.ld (Val := Elt Ideal) (e' := .bf16) (k0_pay1 (F := Ideal) x g sc sh) (Rect.unit (s := S512x1024) ![256, 0] S256x1024.size inb_S512x1024_S256x1024_256_0)) w⟩,
    ⟨Rect.unit (s := S512x3200) ![0, 0] S256x3200.size inb_S512x3200_S256x3200_0_0,
      k0_pay2 (F := Ideal) (View.ld (Val := Elt Ideal) (e' := .bf16) (k0_pay1 (F := Ideal) x g sc sh) (Rect.unit (s := S512x1024) ![0, 0] S256x1024.size inb_S512x1024_S256x1024_0_0)) w⟩]

section Run
variable (c : Dev nD) (i : grid0.Coords) (arg2 : Memref sig .tc .vmem S512x1024 .f32) (harg2 : arg2.IsWhole) (arg3 : Memref sig .tc .vmem S1024x3200 .bf16) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S512x3200 .f32) (harg7 : arg7.IsWhole) (arg8 : Memref sig .tc .vmem S512x1024 .bf16) (harg8 : arg8.IsWhole) (arg9 : Memref sig .tc .vmem S512x1024 .bf16) (harg9 : arg9.IsWhole) (hc0 : cond0_0 i)
  (x : S512x1024.Idx → EReal) (w : S1024x3200.Idx → EReal) (g sc sh : S1x1024.Idx → EReal)

theorem run_pieces :
    (kernelRun0_A (F := Ideal) c i arg2 harg2 arg3 harg3 arg4 harg4 arg5 harg5 arg6 harg6 arg7 harg7 arg8 harg8 arg9 harg9 hc0 x w g sc sh).1 = pieces x w g sc sh := by
  unfold kernelRun0_A
  dsimp only
  unfold kernelRun0_A.sl.v7 kernelRun0_A.sl.v3 kernelRun0_A.sl.HS0_1
  simp only [View.readAt_eq_ld, Memref.IsWhole.read_unread, View.readCov_eq_canon']
  simp only [View.ld_unit_zero (S := S512x1024) hz, View.ld_unit_zero (S := S1024x3200) hz, View.ld_unit_zero (S := S1x1024) hz, View.canon_unit_zero (Val := Elt Ideal) (S := S512x1024) (e := .bf16) hz]
  rfl

theorem run_normed :
    (kernelRun0_A (F := Ideal) c i arg2 harg2 arg3 harg3 arg4 harg4 arg5 harg5 arg6 harg6 arg7 harg7 arg8 harg8 arg9 harg9 hc0 x w g sc sh).2.1
      = [⟨Rect.unit (s := S512x1024) ![0, 0] S512x1024.size inb_S512x1024_S512x1024_0_0, k0_pay1 (F := Ideal) x g sc sh⟩] := by
  unfold kernelRun0_A
  dsimp only
  unfold kernelRun0_A.sl.v37 kernelRun0_A.sl.HS0_1
  simp only [View.readAt_eq_ld, Memref.IsWhole.read_unread, View.readCov_eq_canon']
  simp only [View.ld_unit_zero (S := S512x1024) hz, View.ld_unit_zero (S := S1x1024) hz, View.canon_unit_zero (Val := Elt Ideal) (S := S512x1024) (e := .bf16) hz]
  refine congrArg (fun v => [(⟨_, v⟩ : View.Piece (Elt Ideal) S512x1024 .bf16)]) ?_
  exact View.ld_unit_zero (Val := Elt Ideal) (e := .bf16) hz _ (k0_pay1 (F := Ideal) x g sc sh)

theorem out6_eq : out0_A_6 (F := Ideal) c i arg2 harg2 arg3 harg3 arg4 harg4 arg5 harg5 arg6 harg6 arg7 harg7 arg8 harg8 arg9 harg9 hc0 x w g sc sh = normed x g sc sh := by
  unfold out0_A_6
  refine (View.read_writes_eq_canon (Val := Elt Ideal) (e := .bf16) VO0_6 VO0_6.junk _ (cover0_A_6 (F := Ideal) c i arg2 harg2 arg3 harg3 arg4 harg4 arg5 harg5 arg6 harg6 arg7 harg7 arg8 harg8 arg9 harg9 hc0 x w g sc sh)).trans ?_
  rw [run_normed c i arg2 harg2 arg3 harg3 arg4 harg4 arg5 harg5 arg6 harg6 arg7 harg7 arg8 harg8 arg9 harg9 hc0 x w g sc sh]
  exact (View.canon_unit_zero (Val := Elt Ideal) (e := .bf16) hz _ _).trans (pay1_eq x g sc sh)

theorem ld_rows (h : S512x1024.Idx → EReal) (o : Nat) (inb) (a : Fin 256) (i : Fin 512) (hi : i.val = o + 1 * a.val) (k : Fin 1024) :
    (View.ld (Val := Elt Ideal) (e' := .bf16) h (Rect.unit (s := S512x1024) ![o, 0] S256x1024.size inb) : S256x1024.Idx → EReal) (ix2 a k) = h (ix2 i k) :=
  congrArg h (eq_of_val _ _ _ hi.symm (by show 0 + 1 * k.val = k.val; omega))

theorem out5_apply (a : Fin 512) (j : Fin 3200) :
    out0_A_5 (F := Ideal) c i arg2 harg2 arg3 harg3 arg4 harg4 arg5 harg5 arg6 harg6 arg7 harg7 arg8 harg8 arg9 harg9 hc0 x w g sc sh (ix2 a j) = mulNN (normed x g sc sh) w a j := by
  have cover : ∀ y, ∃ p ∈ pieces x w g sc sh, y ∈ p.1.set := fun y => by
    rw [← run_pieces c i arg2 harg2 arg3 harg3 arg4 harg4 arg5 harg5 arg6 harg6 arg7 harg7 arg8 harg8 arg9 harg9 hc0 x w g sc sh]
    exact cover0_A_5 (F := Ideal) c i arg2 harg2 arg3 harg3 arg4 harg4 arg5 harg5 arg6 harg6 arg7 harg7 arg8 harg8 arg9 harg9 hc0 x w g sc sh y
  unfold out0_A_5
  rw [run_pieces c i arg2 harg2 arg3 harg3 arg4 harg4 arg5 harg5 arg6 harg6 arg7 harg7 arg8 harg8 arg9 harg9 hc0 x w g sc sh]
  refine (congrFun (View.read_writes_eq_canon (Val := Elt Ideal) (e := .f32) VO0_5 VO0_5.junk _ cover) _).trans ?_
  refine View.canon_apply_of_pieces (Val := Elt Ideal) (e := .f32) (fun y : S512x3200.Idx => mulNN (normed x g sc sh) w (y 0) (y 1)) _ ?_ _ (cover _)
  intro p hp y
  unfold pieces at hp
  rw [pay1_eq] at hp
  rcases List.mem_cons.1 hp with rfl | hp
  · refine (congrArg _ (ValueIdx.eq_ix2 (n0 := 256) (n1 := 3200) y)).trans ((congrFun (pay3_eq _ _) _).trans ((pay2_apply _ _ _ _).trans ?_))
    exact mulNN_congr (fun k => ld_rows _ 256 _ _ _ rfl k) (fun k => congrArg w (eq_of_val _ _ _ rfl (by show (y 1).val = 0 + 1 * (y 1).val; omega)))
  rcases List.mem_singleton.1 hp with rfl
  · refine (congrArg _ (ValueIdx.eq_ix2 (n0 := 256) (n1 := 3200) y)).trans ((pay2_apply _ _ _ _).trans ?_)
    exact mulNN_congr (fun k => ld_rows _ 0 _ _ _ rfl k) (fun k => congrArg w (eq_of_val _ _ _ rfl (by show (y 1).val = 0 + 1 * (y 1).val; omega)))
end Run

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel

variable (m : (ℓ : Loc nD τ sig) → Buf (Elt Ideal) ℓ)

theorem rows0 (c : Dev nD) (t : Fin cfg0.N) (i : Fin 512) (i' : Fin 2048) (h : i'.val = t.val * 512 + i.val) (k : Fin 1024) :
    (iblk m c 0 t : S512x1024.Idx → EReal) (ix2 i k) = (m ((c : Thread nD τ).loc main_arg0) : S2048x1024.Idx → EReal) (ix2 i' k) := by
  rw [← V_main_arg0 m c]
  refine congrArg (V m c main_arg0) (eq_of_val _ _ _ ?_ ?_)
  · show win0_0.index t 0 * 512 + 1 * i.val = i'.val
    rw [(at0 t).1]; omega
  · show win0_0.index t 1 * 1024 + 1 * k.val = k.val
    rw [(at0 t).2]; omega

theorem whole1 (c : Dev nD) (t : Fin cfg0.N) : (iblk m c 1 t : S1024x3200.Idx → EReal) = m ((c : Thread nD τ).loc main_arg1) :=
  Blocks.ext _ _ fun a b => by
    rw [← V_main_arg1 m c]
    refine congrArg (V m c main_arg1) (eq_of_val _ _ _ ?_ ?_)
    · show win0_1.index t 0 * 1024 + 1 * a.val = a.val
      rw [(at1 t).1]; omega
    · show win0_1.index t 1 * 3200 + 1 * b.val = b.val
      rw [(at1 t).2]; omega

theorem whole2 (c : Dev nD) (t : Fin cfg0.N) : (iblk m c 2 t : S1x1024.Idx → EReal) = m ((c : Thread nD τ).loc main_arg2) :=
  Blocks.ext _ _ fun a b => by
    rw [← V_main_arg2 m c]
    refine congrArg (V m c main_arg2) (eq_of_val _ _ _ ?_ ?_)
    · show win0_2.index t 0 * 1 + 1 * a.val = a.val
      rw [(at2 t).1]; omega
    · show win0_2.index t 1 * 1024 + 1 * b.val = b.val
      rw [(at2 t).2]; omega

theorem whole3 (c : Dev nD) (t : Fin cfg0.N) : (iblk m c 3 t : S1x1024.Idx → EReal) = m ((c : Thread nD τ).loc main_arg3) :=
  Blocks.ext _ _ fun a b => by
    rw [← V_main_arg3 m c]
    refine congrArg (V m c main_arg3) (eq_of_val _ _ _ ?_ ?_)
    · show win0_3.index t 0 * 1 + 1 * a.val = a.val
      rw [(at3 t).1]; omega
    · show win0_3.index t 1 * 1024 + 1 * b.val = b.val
      rw [(at3 t).2]; omega

theorem whole4 (c : Dev nD) (t : Fin cfg0.N) : (iblk m c 4 t : S1x1024.Idx → EReal) = m ((c : Thread nD τ).loc main_arg4) :=
  Blocks.ext _ _ fun a b => by
    rw [← V_main_arg4 m c]
    refine congrArg (V m c main_arg4) (eq_of_val _ _ _ ?_ ?_)
    · show win0_4.index t 0 * 1 + 1 * a.val = a.val
      rw [(at4 t).1]; omega
    · show win0_4.index t 1 * 1024 + 1 * b.val = b.val
      rw [(at4 t).2]; omega

/-- An entry of the product the call leaves. -/
theorem final5 (c : Dev nD) (i : Fin 2048) (j : Fin 3200) : ((dats m 0 c).arrAt 5 cfg0.N : S2048x3200.Idx → EReal) (ix2 i j)
    = mulNN (normed (R := 2048) (m ((c : Thread nD τ).loc main_arg0)) (m ((c : Thread nD τ).loc main_arg2)) (m ((c : Thread nD τ).loc main_arg3)) (m ((c : Thread nD τ).loc main_arg4)))
      (m ((c : Thread nD τ).loc main_arg1) : S1024x3200.Idx → EReal) i j := by
  have ht : i.val / 512 < cfg0.N := by show _ < 4; omega
  refine Eq.trans (congrArg _ (eq_of_val _ i j ?_ ?_).symm) ((congrFun ((Value.blocks5 m c ⟨_, ht⟩ (flush0_5 _)).trans
    (Value.flushed5_A m c ⟨_, ht⟩)) (ix2 ⟨i.val % 512, Nat.mod_lt _ (by omega)⟩ j)).trans ((out5_apply c _ _ _ _ _ _ _ _ _ _ _ _ _ _ _ _ _ _ _ _ _ _ _ _ _).trans ?_))
  · show win0_5.index ⟨_, ht⟩ 0 * 512 + 1 * (i.val % 512) = i.val
    rw [(at5 _).1]; show i.val / 512 * 512 + _ = _; omega
  · show win0_5.index ⟨_, ht⟩ 1 * 3200 + 1 * j.val = j.val
    rw [(at5 _).2]; omega
  · exact mulNN_congr (fun k => normed_congr _ _ _ _ _ _ _ _ _ _ _ (rows0 m c ⟨_, ht⟩ _ _ (by show i.val = i.val / 512 * 512 + i.val % 512; omega)) (whole2 m c _) (whole3 m c _) (whole4 m c _))
      (fun k => congrFun (whole1 m c _) _)

/-- An entry of the norm the call leaves. -/
theorem final6 (c : Dev nD) (i : Fin 2048) (j : Fin 1024) : ((dats m 0 c).arrAt 6 cfg0.N : S2048x1024.Idx → EReal) (ix2 i j)
    = normed (R := 2048) (m ((c : Thread nD τ).loc main_arg0)) (m ((c : Thread nD τ).loc main_arg2)) (m ((c : Thread nD τ).loc main_arg3)) (m ((c : Thread nD τ).loc main_arg4)) (ix2 i j) := by
  have ht : i.val / 512 < cfg0.N := by show _ < 4; omega
  refine Eq.trans (congrArg _ (eq_of_val _ i j ?_ ?_).symm) ((congrFun ((Value.blocks6 m c ⟨_, ht⟩ (flush0_6 _)).trans
    (Value.flushed6_A m c ⟨_, ht⟩)) (ix2 ⟨i.val % 512, Nat.mod_lt _ (by omega)⟩ j)).trans ((congrFun (out6_eq c _ _ _ _ _ _ _ _ _ _ _ _ _ _ _ _ _ _ _ _ _ _ _) _).trans ?_))
  · show win0_6.index ⟨_, ht⟩ 0 * 512 + 1 * (i.val % 512) = i.val
    rw [(at6 _).1]; show i.val / 512 * 512 + _ = _; omega
  · show win0_6.index ⟨_, ht⟩ 1 * 1024 + 1 * j.val = j.val
    rw [(at6 _).2]; omega
  · exact normed_congr _ _ _ _ _ _ _ _ _ _ _ (rows0 m c ⟨_, ht⟩ _ _ (by show i.val = i.val / 512 * 512 + i.val % 512; omega)) (whole2 m c _) (whole3 m c _) (whole4 m c _)

section Reference
open Cert.Reference12Ideal.Read

/-- The reference's norm. -/
theorem normed_read (x : S2048x1024.Idx → EReal) (g sc sh : S1x1024.Idx → EReal) : val_main_v17 (F := Ideal) x g sc sh = normed x g sc sh :=
  Blocks.ext _ _ fun i j => by
    simp only [val_main_v17, val_main_v16, val_main_v15, val_main_v14, val_main_v13, val_main_v12, val_main_v11, val_main_v10, val_main_v9, val_main_v8, val_main_v7,
      val_main_v6, val_main_v5, val_main_v4, val_main_v3, val_main_v2, val_main_v1, val_main_v0, val_main_cst, val_main_cst_0, val_main_cst_1, val_main_cst_2, pointwise, zero_add]
    rfl

/-- The reference's product. -/
theorem product_read (x : S2048x1024.Idx → EReal) (w : S1024x3200.Idx → EReal) (g sc sh : S1x1024.Idx → EReal) (i : Fin 2048) (j : Fin 3200) :
    val_main_v19 (F := Ideal) x w g sc sh (ix2 i j) = mulNN (normed x g sc sh) w i j := by
  rw [← normed_read]
  simp only [val_main_v19, val_main_v18, pointwise, zero_add]
  rfl

theorem rounded_read (x : S2048x1024.Idx → EReal) (g sc sh : S1x1024.Idx → EReal) : val_main_v20 (F := Ideal) x g sc sh = normed x g sc sh :=
  normed_read x g sc sh

end Reference

theorem frame_reference : Cert.quiescent_Reference12Ideal := fun m g _ =>
  (θ_run Cert.Reference12Ideal.defs _ _).mono
    (fun r h => ⟨fun c => (h c).2.2, Idealize.ShloMosaic.sem_eq_zero_of_no_sems (by decide) r.2⟩)
    (Cert.Reference12Ideal.Value.run (F := Ideal) m g)

/-- From memories that agree on the arguments the call and its reference leave the same results. -/
theorem algebraic : Cert.algebraic_Kernel12Ideal_Reference12Ideal := by
  intro m g m' g' _ hargs
  refine ⟨_, _, (θ_run _ _ _).mono (fun r h c => h c) (Cert.Kernel12Ideal.Value.run_blocks m g),
    (θ_run _ _ _).mono (fun r h c => ⟨(h c).1.trans ?_, (h c).2.1.trans ?_, (h c).2.2⟩) (Cert.Reference12Ideal.Value.run m' g')⟩
  · rw [Cert.Reference12Ideal.Read.val_main_v19_eq, (hargs c).1, (hargs c).2.1, (hargs c).2.2.1, (hargs c).2.2.2.1, (hargs c).2.2.2.2]
    exact Blocks.ext _ _ fun i j => (product_read _ _ _ _ _ i j).trans (final5 m c i j).symm
  · rw [Cert.Reference12Ideal.Read.val_main_v20_eq, (hargs c).1, (hargs c).2.2.1, (hargs c).2.2.2.1, (hargs c).2.2.2.2]
    exact Blocks.ext _ _ fun i j => (congrFun (rounded_read _ _ _ _) _).trans (final6 m c i j).symm

end Cert.Proof.InProjA

end
-- ==== Proof.FfnOut.lean ====
/- The feed-forward's output product with the norm of its rows, the loss and the loss's gradient. -/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.NormGrad
public import proofs.«01_k».proof.Defs
public import proofs.«01_k».proof.Proof.Gen.Pre_finite13
public import Idealize.ShloMosaic.Lib.Pipeline.ValueKit.Acc

@[expose] public section

set_option maxRecDepth 16384

noncomputable section

namespace Cert.Proof.FfnOut

open Cert.Kernel13Ideal Cert.Kernel13Ideal.Gen Idealize.ShloMosaic Idealize.ShloMosaic.TcCoe Idealize.SL.Sem
open Idealize.ShloMosaic.Pipeline (Dat)
open Cert.Proof.Blocks Cert.Proof.Numbers Cert.Proof.Norms Cert.Proof.NormGrad

/-! A row of the results, from the product's row `y`, the residual `xv` and the target `tv`. -/

/-- The error. -/
def err (gate g : (Mat 1 1024).Idx → EReal) (y xv tv : Fin 1024 → EReal) (j : Fin 1024) : EReal :=
  xv j + gate (ix2 0 j) * (y j * rstd y * g (ix2 0 j)) - tv j

/-- The gradient of the residual: the word is 1/1024. -/
def dres (gate g : (Mat 1 1024).Idx → EReal) (y xv tv : Fin 1024 → EReal) (j : Fin 1024) : EReal :=
  err gate g y xv tv j * Ideal.ofBits FTy.f32 0x3A800000#32

/-- The gradient of the product. -/
def dprod (gate g : (Mat 1 1024).Idx → EReal) (y xv tv : Fin 1024 → EReal) : Fin 1024 → EReal :=
  normBack y fun k => dres gate g y xv tv k * gate (ix2 0 k) * g (ix2 0 k)

/-- The row's part of the loss, of the gate's gradient and of the scale's. -/
def square (gate g : (Mat 1 1024).Idx → EReal) (y xv tv : Fin 1024 → EReal) (j : Fin 1024) : EReal := err gate g y xv tv j * err gate g y xv tv j
def dgate (gate g : (Mat 1 1024).Idx → EReal) (y xv tv : Fin 1024 → EReal) (j : Fin 1024) : EReal :=
  dres gate g y xv tv j * (y j * rstd y * g (ix2 0 j))
def dscale (gate g : (Mat 1 1024).Idx → EReal) (y xv tv : Fin 1024 → EReal) (j : Fin 1024) : EReal :=
  dres gate g y xv tv j * gate (ix2 0 j) * (y j * rstd y)

section Payloads
variable (x : S256x2816.Idx → EReal) (w : S2816x1024.Idx → EReal) (xv tv : S256x1024.Idx → EReal) (gate g acc : S1x1024.Idx → EReal) (i : Fin 256) (j : Fin 1024)

theorem pay12_apply : k0_pay12 (F := Ideal) x w xv tv gate g (ix2 i j) = err gate g (mulNN x w i) (fun k => xv (ix2 i k)) (fun k => tv (ix2 i k)) j := by
  simp only [k0_pay12, k0_pay11, k0_pay10, k0_pay9, k0_pay8, pointwise, zero_add]
  rfl

theorem pay13_apply : k0_pay13 (F := Ideal) x w xv tv gate g (ix2 i j) = dres gate g (mulNN x w i) (fun k => xv (ix2 i k)) (fun k => tv (ix2 i k)) j := by
  simp only [k0_pay13, pointwise, pay12_apply]
  rfl

theorem pay10_apply : k0_pay10 (F := Ideal) x w (ix2 i j) = mulNN x w i j * rstd (mulNN x w i) := by
  simp only [k0_pay10, k0_pay9, k0_pay8, pointwise, zero_add]
  rfl

theorem pay26_eq : k0_pay26 (F := Ideal) x w xv tv gate g = k0_pay13 x w xv tv gate g := rfl

theorem pay17_apply : k0_pay17 (k0_pay9 (F := Ideal) x w) (k0_pay10 x w) (k0_pay15 x w xv tv gate g) (k0_pay16 x w xv tv gate g) (ix2 i j)
    = dprod gate g (mulNN x w i) (fun k => xv (ix2 i k)) (fun k => tv (ix2 i k)) j := by
  simp only [k0_pay17, k0_pay16, k0_pay15, k0_pay14, k0_pay13, k0_pay12, k0_pay11, k0_pay10, k0_pay9, k0_pay8, pointwise, zero_add]
  rfl

theorem pay1_eq : k0_pay1 (k0_pay28 (F := Ideal) x w xv tv gate g) = k0_pay17 (k0_pay9 x w) (k0_pay10 x w) (k0_pay15 x w xv tv gate g) (k0_pay16 x w xv tv gate g) := rfl

/-- The sums over 256 rows, added to what was there. -/
theorem pay18_apply : k0_pay18 (k0_pay12 (F := Ideal) x w xv tv gate g) acc (ix2 0 j)
    = acc (ix2 0 j) + ∑ r : Fin 256, square gate g (mulNN x w r) (fun k => xv (ix2 r k)) (fun k => tv (ix2 r k)) j := by
  simp only [k0_pay18, pointwise, pay12_apply, zero_add]
  rfl

theorem pay19_apply : k0_pay19 (k0_pay11 (F := Ideal) x w g) (k0_pay13 x w xv tv gate g) acc (ix2 0 j)
    = acc (ix2 0 j) + ∑ r : Fin 256, dgate gate g (mulNN x w r) (fun k => xv (ix2 r k)) (fun k => tv (ix2 r k)) j := by
  simp only [k0_pay19, k0_pay11, pointwise, pay13_apply, pay10_apply, zero_add]
  rfl

theorem pay20_apply : k0_pay20 (k0_pay10 (F := Ideal) x w) (k0_pay14 x w xv tv gate g) acc (ix2 0 j)
    = acc (ix2 0 j) + ∑ r : Fin 256, dscale gate g (mulNN x w r) (fun k => xv (ix2 r k)) (fun k => tv (ix2 r k)) j := by
  simp only [k0_pay20, k0_pay14, pointwise, pay13_apply, pay10_apply, zero_add]
  rfl

theorem pay2_eq : k0_pay2 (k0_pay29 (F := Ideal) x w xv tv gate g) acc = k0_pay18 (k0_pay12 x w xv tv gate g) acc := rfl
theorem pay3_eq : k0_pay3 (k0_pay30 (F := Ideal) x w xv tv gate g) acc = k0_pay19 (k0_pay11 x w g) (k0_pay13 x w xv tv gate g) acc := rfl
theorem pay4_eq : k0_pay4 (k0_pay23 (F := Ideal) x w) (k0_pay27 x w xv tv gate g) acc = k0_pay20 (k0_pay10 x w) (k0_pay14 x w xv tv gate g) acc := rfl
end Payloads

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = 0 ∧ win0_8.index t 1 = 0 := by decide +kernel
theorem at9 : ∀ t : Fin cfg0.N, win0_9.index t 0 = 0 ∧ win0_9.index t 1 = 0 := by decide +kernel
theorem at10 : ∀ t : Fin cfg0.N, win0_10.index t 0 = 0 ∧ win0_10.index t 1 = 0 := by decide +kernel

theorem point (t : Fin cfg0.N) : t.val < 4 := t.isLt

variable (m : (ℓ : Loc nD τ sig) → Buf (Elt Ideal) ℓ)

theorem entry0 (c : Dev nD) (t : Fin cfg0.N) (i : Fin 512) (k : Fin 2816) (i' : Fin 2048) (k' : Fin 2816) (hi : i'.val = t.val * 512 + i.val) (hk : k'.val = 0 * 2816 + k.val) :
    (iblk m c 0 t : S512x2816.Idx → EReal) (ix2 i k) = (m ((c : Thread nD τ).loc main_arg0) : S2048x2816.Idx → EReal) (ix2 i' k') := by
  rw [← V_main_arg0 m c]
  refine congrArg (V m c main_arg0) (eq_of_val _ _ _ ?_ ?_)
  · show win0_0.index t 0 * 512 + 1 * i.val = i'.val
    rw [(at0 t).1, hi]; omega
  · show win0_0.index t 1 * 2816 + 1 * k.val = k'.val
    rw [(at0 t).2, hk]; omega

theorem entry1 (c : Dev nD) (t : Fin cfg0.N) (i : Fin 2816) (k : Fin 1024) (i' : Fin 2816) (k' : Fin 1024) (hi : i'.val = 0 * 2816 + i.val) (hk : k'.val = 0 * 1024 + k.val) :
    (iblk m c 1 t : S2816x1024.Idx → EReal) (ix2 i k) = (m ((c : Thread nD τ).loc main_arg1) : S2816x1024.Idx → EReal) (ix2 i' k') := by
  rw [← V_main_arg1 m c]
  refine congrArg (V m c main_arg1) (eq_of_val _ _ _ ?_ ?_)
  · show win0_1.index t 0 * 2816 + 1 * i.val = i'.val
    rw [(at1 t).1, hi]; omega
  · show win0_1.index t 1 * 1024 + 1 * k.val = k'.val
    rw [(at1 t).2, hk]; omega

theorem entry2 (c : Dev nD) (t : Fin cfg0.N) (i : Fin 512) (k : Fin 1024) (i' : Fin 2048) (k' : Fin 1024) (hi : i'.val = t.val * 512 + i.val) (hk : k'.val = 0 * 1024 + k.val) :
    (iblk m c 2 t : S512x1024.Idx → EReal) (ix2 i k) = (m ((c : Thread nD τ).loc main_arg2) : S2048x1024.Idx → EReal) (ix2 i' k') := by
  rw [← V_main_arg2 m c]
  refine congrArg (V m c main_arg2) (eq_of_val _ _ _ ?_ ?_)
  · show win0_2.index t 0 * 512 + 1 * i.val = i'.val
    rw [(at2 t).1, hi]; omega
  · show win0_2.index t 1 * 1024 + 1 * k.val = k'.val
    rw [(at2 t).2, hk]; omega

theorem entry3 (c : Dev nD) (t : Fin cfg0.N) (i : Fin 512) (k : Fin 1024) (i' : Fin 2048) (k' : Fin 1024) (hi : i'.val = t.val * 512 + i.val) (hk : k'.val = 0 * 1024 + k.val) :
    (iblk m c 3 t : S512x1024.Idx → EReal) (ix2 i k) = (m ((c : Thread nD τ).loc main_arg3) : S2048x1024.Idx → EReal) (ix2 i' k') := by
  rw [← V_main_arg3 m c]
  refine congrArg (V m c main_arg3) (eq_of_val _ _ _ ?_ ?_)
  · show win0_3.index t 0 * 512 + 1 * i.val = i'.val
    rw [(at3 t).1, hi]; omega
  · show win0_3.index t 1 * 1024 + 1 * k.val = k'.val
    rw [(at3 t).2, hk]; omega

theorem entry4 (c : Dev nD) (t : Fin cfg0.N) (i : Fin 1) (k : Fin 1024) (i' : Fin 1) (k' : Fin 1024) (hi : i'.val = 0 * 1 + i.val) (hk : k'.val = 0 * 1024 + k.val) :
    (iblk m c 4 t : S1x1024.Idx → EReal) (ix2 i k) = (m ((c : Thread nD τ).loc main_arg4) : S1x1024.Idx → EReal) (ix2 i' k') := by
  rw [← V_main_arg4 m c]
  refine congrArg (V m c main_arg4) (eq_of_val _ _ _ ?_ ?_)
  · show win0_4.index t 0 * 1 + 1 * i.val = i'.val
    rw [(at4 t).1, hi]; omega
  · show win0_4.index t 1 * 1024 + 1 * k.val = k'.val
    rw [(at4 t).2, hk]; omega

theorem entry5 (c : Dev nD) (t : Fin cfg0.N) (i : Fin 1) (k : Fin 1024) (i' : Fin 1) (k' : Fin 1024) (hi : i'.val = 0 * 1 + i.val) (hk : k'.val = 0 * 1024 + k.val) :
    (iblk m c 5 t : S1x1024.Idx → EReal) (ix2 i k) = (m ((c : Thread nD τ).loc main_arg5) : S1x1024.Idx → EReal) (ix2 i' k') := by
  rw [← V_main_arg5 m c]
  refine congrArg (V m c main_arg5) (eq_of_val _ _ _ ?_ ?_)
  · show win0_5.index t 0 * 1 + 1 * i.val = i'.val
    rw [(at5 t).1, hi]; omega
  · show win0_5.index t 1 * 1024 + 1 * k.val = k'.val
    rw [(at5 t).2, hk]; omega

theorem whole1 (c : Dev nD) (t : Fin cfg0.N) : (iblk m c 1 t : S2816x1024.Idx → EReal) = m ((c : Thread nD τ).loc main_arg1) :=
  Blocks.ext _ _ fun a b => entry1 m c t a b a b (by omega) (by omega)

theorem whole4 (c : Dev nD) (t : Fin cfg0.N) : (iblk m c 4 t : S1x1024.Idx → EReal) = m ((c : Thread nD τ).loc main_arg4) :=
  Blocks.ext _ _ fun a b => entry4 m c t a b a b (by omega) (by omega)

theorem whole5 (c : Dev nD) (t : Fin cfg0.N) : (iblk m c 5 t : S1x1024.Idx → EReal) = m ((c : Thread nD τ).loc main_arg5) :=
  Blocks.ext _ _ fun a b => entry5 m c t a b a b (by omega) (by omega)

/-- A row function, of the arguments' row `i`. -/
def rowOf (c : Dev nD) (f : (gate g : (Mat 1 1024).Idx → EReal) → (y xv tv : Fin 1024 → EReal) → Fin 1024 → EReal) (i : Fin 2048) : Fin 1024 → EReal :=
  f (m ((c : Thread nD τ).loc main_arg4)) (m ((c : Thread nD τ).loc main_arg5)) (mulNN (M := 2048) (K := 2816) (N := 1024) (m ((c : Thread nD τ).loc main_arg0)) (m ((c : Thread nD τ).loc main_arg1)) i)
    (fun k => (m ((c : Thread nD τ).loc main_arg2) : S2048x1024.Idx → EReal) (ix2 i k)) (fun k => (m ((c : Thread nD τ).loc main_arg3) : S2048x1024.Idx → EReal) (ix2 i k))

/-- A row function, of row `r` of 256 rows of the point's blocks. -/
theorem row_eq (c : Dev nD) (f : (gate g : (Mat 1 1024).Idx → EReal) → (y xv tv : Fin 1024 → EReal) → Fin 1024 → EReal) (t : Fin cfg0.N) (o : Nat) (ho : o ≤ 256)
    (inb : ∀ a, (![o, 0] : Fin 2 → Nat) a + (![256, 2816] : Fin 2 → Nat) a ≤ S512x2816.size a)
    (inb' : ∀ a, (![o, 0] : Fin 2 → Nat) a + (![256, 1024] : Fin 2 → Nat) a ≤ S512x1024.size a) (r : Fin 256) (i : Fin 2048) (hi : i.val = t.val * 512 + o + r.val) :
    f (iblk m c 4 t) (iblk m c 5 t) (mulNN (M := 256) (K := 2816) (N := 1024) (View.ld (Val := Elt Ideal) (e' := .bf16) (iblk m c 0 t) (Rect.unit (s := S512x2816) ![o, 0] ![256, 2816] inb)) (iblk m c 1 t) r)
      (fun k => (View.ld (Val := Elt Ideal) (e' := .f32) (iblk m c 2 t) (Rect.unit (s := S512x1024) ![o, 0] ![256, 1024] inb') : S256x1024.Idx → EReal) (ix2 r k))
      (fun k => (View.ld (Val := Elt Ideal) (e' := .f32) (iblk m c 3 t) (Rect.unit (s := S512x1024) ![o, 0] ![256, 1024] inb') : S256x1024.Idx → EReal) (ix2 r k))
      = rowOf m c f i := by
  unfold rowOf
  have hr : o + r.val < 512 := by omega
  refine congr (congr (congr (congrArg₂ f (whole4 m c t) (whole5 m c t)) (funext fun j => mulNN_congr (fun k => ?_) (fun k => ?_))) (funext fun k => ?_)) (funext fun k => ?_)
  · exact (ld_row (e := .bf16) (iblk m c 0 t) o inb r ⟨_, hr⟩ rfl k).trans (entry0 m c t _ k i k (by show i.val = t.val * 512 + (o + r.val); omega) (by omega))
  · rw [whole1 m c t]
  · exact (ld_row (e := .f32) (iblk m c 2 t) o inb' r ⟨_, hr⟩ rfl k).trans (entry2 m c t _ k i k (by show i.val = t.val * 512 + (o + r.val); omega) (by omega))
  · exact (ld_row (e := .f32) (iblk m c 3 t) o inb' r ⟨_, hr⟩ rfl k).trans (entry3 m c t _ k i k (by show i.val = t.val * 512 + (o + r.val); omega) (by omega))

/-- What point `t` leaves in its block. -/
theorem out6_apply (c : Dev nD) (t : Fin cfg0.N) (i : Fin 512) (j : Fin 1024) (i' : Fin 2048) (hi : i'.val = t.val * 512 + i.val) :
    ((outsAt0 m c t.val t.isLt).1 : S512x1024.Idx → EReal) (ix2 i j) = rowOf m c dres i' j := by
  have ht : t.val < 4 := t.isLt
  have hb : t.val * 512 + i.val < 2048 := by omega
  obtain rfl : i' = ⟨t.val * 512 + i.val, hb⟩ := Fin.ext hi
  by_cases h0 : t.val % 4 = 0
  · rw [outsAt0_A m c t h0]
    frame_out
    refine canon_two (e := .f32) (fun i j => rowOf m c dres ⟨t.val * 512 + i.val, by omega⟩ j) _ _ (fun r j => ?_) (fun r j => ?_) i j
    · exact (pay13_apply _ _ _ _ _ _ r j).trans (congrFun (row_eq m c dres t 0 (by omega) _ _ r _ rfl) j)
    · exact ((congrFun (pay26_eq _ _ _ _ _ _) _).trans (pay13_apply _ _ _ _ _ _ r j)).trans (congrFun (row_eq m c dres t 256 (by omega) _ _ r _ (by show t.val * 512 + (256 + r.val) = _; omega)) j)
  · rw [outsAt0_B m c t h0]
    frame_out
    refine canon_two (e := .f32) (fun i j => rowOf m c dres ⟨t.val * 512 + i.val, by omega⟩ j) _ _ (fun r j => ?_) (fun r j => ?_) i j
    · exact (pay13_apply _ _ _ _ _ _ r j).trans (congrFun (row_eq m c dres t 0 (by omega) _ _ r _ rfl) j)
    · exact ((congrFun (pay26_eq _ _ _ _ _ _) _).trans (pay13_apply _ _ _ _ _ _ r j)).trans (congrFun (row_eq m c dres t 256 (by omega) _ _ r _ (by show t.val * 512 + (256 + r.val) = _; omega)) j)

theorem final6 (c : Dev nD) (i : Fin 2048) (j : Fin 1024) : ((dats m 0 c).arrAt 6 cfg0.N : S2048x1024.Idx → EReal) (ix2 i j) = rowOf m c dres i j := by
  have ht : i.val / 512 < cfg0.N := by show _ < 4; omega
  refine Eq.trans (congrArg _ (eq_of_val _ i j ?_ ?_).symm) ((congrFun ((Value.blocks6 m c ⟨_, ht⟩ (flush0_6 _)).trans (Value.flushed6 m c ⟨_, ht⟩))
    (ix2 ⟨i.val % 512, Nat.mod_lt _ (by omega)⟩ j)).trans (out6_apply m c ⟨_, ht⟩ _ j i (by show i.val = i.val / 512 * 512 + i.val % 512; omega)))
  · show win0_6.index ⟨_, ht⟩ 0 * 512 + 1 * (i.val % 512) = i.val
    rw [(at6 _).1]; show i.val / 512 * 512 + _ = _; omega
  · show win0_6.index ⟨_, ht⟩ 1 * 1024 + 1 * j.val = j.val
    rw [(at6 _).2]; omega

/-- What point `t` leaves in its block. -/
theorem out7_apply (c : Dev nD) (t : Fin cfg0.N) (i : Fin 512) (j : Fin 1024) (i' : Fin 2048) (hi : i'.val = t.val * 512 + i.val) :
    ((outsAt0 m c t.val t.isLt).2.1 : S512x1024.Idx → EReal) (ix2 i j) = rowOf m c dprod i' j := by
  have ht : t.val < 4 := t.isLt
  have hb : t.val * 512 + i.val < 2048 := by omega
  obtain rfl : i' = ⟨t.val * 512 + i.val, hb⟩ := Fin.ext hi
  by_cases h0 : t.val % 4 = 0
  · rw [outsAt0_A m c t h0]
    frame_out
    refine canon_two (e := .bf16) (fun i j => rowOf m c dprod ⟨t.val * 512 + i.val, by omega⟩ j) _ _ (fun r j => ?_) (fun r j => ?_) i j
    · exact (pay17_apply _ _ _ _ _ _ r j).trans (congrFun (row_eq m c dprod t 0 (by omega) _ _ r _ rfl) j)
    · exact ((congrFun (pay1_eq _ _ _ _ _ _) _).trans (pay17_apply _ _ _ _ _ _ r j)).trans (congrFun (row_eq m c dprod t 256 (by omega) _ _ r _ (by show t.val * 512 + (256 + r.val) = _; omega)) j)
  · rw [outsAt0_B m c t h0]
    frame_out
    refine canon_two (e := .bf16) (fun i j => rowOf m c dprod ⟨t.val * 512 + i.val, by omega⟩ j) _ _ (fun r j => ?_) (fun r j => ?_) i j
    · exact (pay17_apply _ _ _ _ _ _ r j).trans (congrFun (row_eq m c dprod t 0 (by omega) _ _ r _ rfl) j)
    · exact ((congrFun (pay1_eq _ _ _ _ _ _) _).trans (pay17_apply _ _ _ _ _ _ r j)).trans (congrFun (row_eq m c dprod t 256 (by omega) _ _ r _ (by show t.val * 512 + (256 + r.val) = _; omega)) j)

theorem final7 (c : Dev nD) (i : Fin 2048) (j : Fin 1024) : ((dats m 0 c).arrAt 7 cfg0.N : S2048x1024.Idx → EReal) (ix2 i j) = rowOf m c dprod i j := by
  have ht : i.val / 512 < cfg0.N := by show _ < 4; omega
  refine Eq.trans (congrArg _ (eq_of_val _ i j ?_ ?_).symm) ((congrFun ((Value.blocks7 m c ⟨_, ht⟩ (flush0_7 _)).trans (Value.flushed7 m c ⟨_, ht⟩))
    (ix2 ⟨i.val % 512, Nat.mod_lt _ (by omega)⟩ j)).trans (out7_apply m c ⟨_, ht⟩ _ j i (by show i.val = i.val / 512 * 512 + i.val % 512; omega)))
  · show win0_7.index ⟨_, ht⟩ 0 * 512 + 1 * (i.val % 512) = i.val
    rw [(at7 _).1]; show i.val / 512 * 512 + _ = _; omega
  · show win0_7.index ⟨_, ht⟩ 1 * 1024 + 1 * j.val = j.val
    rw [(at7 _).2]; omega

/-- The sum the points gather. -/
theorem sum8 (c : Dev nD) (t : Fin cfg0.N) (ht : t.val + 1 = cfg0.N) (j : Fin 1024) :
    ((outsAt0 m c t.val t.isLt).2.2.1 : S1x1024.Idx → EReal) (ix2 0 j) = ∑ i, rowOf m c square i j := by
  rw [Pipeline.eq_sum_fin_of_reset_step_apply_last (fun n h (j : Fin 1024) => ((outsAt0 m c n h).2.2.1 : S1x1024.Idx → EReal) (ix2 0 j)) 4 (fun _ => 0)
    (fun t j => halves (fun i => rowOf m c square i j) t.val (point t)) ?_ ?_ (by decide) t ht j]
  · rw [zero_add]
    exact halves_sum cfg0.N rfl _
  · intro t h0 j
    rw [outsAt0_A m c t h0]
    frame_out
    refine ((congrFun (pay2_eq _ _ _ _ _ _ _ ) _).trans (pay18_apply _ _ _ _ _ _ _ j)).trans ?_
    refine (congrArg₂ (· + ·) (pay18_apply _ _ _ _ _ _ _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c square t 0 (by omega) _ _ r _ rfl) j
    · exact congrFun (row_eq m c square t 256 (by omega) _ _ r _ rfl) j
  · intro t h0 j
    rw [outsAt0_B m c t h0]
    frame_out
    refine ((congrFun (pay2_eq _ _ _ _ _ _ _ ) _).trans (pay18_apply _ _ _ _ _ _ _ j)).trans ?_
    refine (congrArg₂ (· + ·) (pay18_apply _ _ _ _ _ _ _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c square t 0 (by omega) _ _ r _ rfl) j
    · exact congrFun (row_eq m c square t 256 (by omega) _ _ r _ rfl) j

theorem final8 (c : Dev nD) (i : Fin 1) (j : Fin 1024) : ((dats m 0 c).arrAt 8 cfg0.N : S1x1024.Idx → EReal) (ix2 i j) = ∑ i, rowOf m c square i j := by
  have h3 : 3 < cfg0.N := by decide
  have hf : (cfg0.win 8).flush ⟨3, h3⟩ = true := (flush0_8 _).2 rfl
  have hd : ∀ t t' : Fin cfg0.N, (cfg0.win 8).flush t = true → (cfg0.win 8).flush t' = true → t ≠ t' → Disjoint ((cfg0.win 8).blk t).view.set ((cfg0.win 8).blk t').view.set := by
    intro t t' h h' hne
    have h4 : t.val < 4 := t.isLt
    have h4' : t'.val < 4 := t'.isLt
    exact absurd (Fin.ext (by have := (flush0_8 t).1 h; have := (flush0_8 t').1 h'; omega)) hne
  refine Eq.trans (congrArg _ (eq_of_val _ i j ?_ ?_).symm) ((congrFun (((dats m 0 c).read_blk_arrAt_eq_flushed 8 hd cfg0.N ⟨3, h3⟩ h3 hf).trans (Value.flushed8 m c ⟨3, h3⟩))
    (ix2 0 j)).trans (sum8 m c ⟨3, h3⟩ rfl j))
  · show win0_8.index ⟨3, h3⟩ 0 * 1 + 1 * 0 = i.val
    rw [(at8 _).1]; omega
  · show win0_8.index ⟨3, h3⟩ 1 * 1024 + 1 * j.val = j.val
    rw [(at8 _).2]; omega

/-- The sum the points gather. -/
theorem sum9 (c : Dev nD) (t : Fin cfg0.N) (ht : t.val + 1 = cfg0.N) (j : Fin 1024) :
    ((outsAt0 m c t.val t.isLt).2.2.2.1 : S1x1024.Idx → EReal) (ix2 0 j) = ∑ i, rowOf m c dgate i j := by
  rw [Pipeline.eq_sum_fin_of_reset_step_apply_last (fun n h (j : Fin 1024) => ((outsAt0 m c n h).2.2.2.1 : S1x1024.Idx → EReal) (ix2 0 j)) 4 (fun _ => 0)
    (fun t j => halves (fun i => rowOf m c dgate i j) t.val (point t)) ?_ ?_ (by decide) t ht j]
  · rw [zero_add]
    exact halves_sum cfg0.N rfl _
  · intro t h0 j
    rw [outsAt0_A m c t h0]
    frame_out
    refine ((congrFun (pay3_eq _ _ _ _ _ _ _ ) _).trans (pay19_apply _ _ _ _ _ _ _ j)).trans ?_
    refine (congrArg₂ (· + ·) (pay19_apply _ _ _ _ _ _ _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dgate t 0 (by omega) _ _ r _ rfl) j
    · exact congrFun (row_eq m c dgate t 256 (by omega) _ _ r _ rfl) j
  · intro t h0 j
    rw [outsAt0_B m c t h0]
    frame_out
    refine ((congrFun (pay3_eq _ _ _ _ _ _ _ ) _).trans (pay19_apply _ _ _ _ _ _ _ j)).trans ?_
    refine (congrArg₂ (· + ·) (pay19_apply _ _ _ _ _ _ _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dgate t 0 (by omega) _ _ r _ rfl) j
    · exact congrFun (row_eq m c dgate t 256 (by omega) _ _ r _ rfl) j

theorem final9 (c : Dev nD) (i : Fin 1) (j : Fin 1024) : ((dats m 0 c).arrAt 9 cfg0.N : S1x1024.Idx → EReal) (ix2 i j) = ∑ i, rowOf m c dgate i j := by
  have h3 : 3 < cfg0.N := by decide
  have hf : (cfg0.win 9).flush ⟨3, h3⟩ = true := (flush0_9 _).2 rfl
  have hd : ∀ t t' : Fin cfg0.N, (cfg0.win 9).flush t = true → (cfg0.win 9).flush t' = true → t ≠ t' → Disjoint ((cfg0.win 9).blk t).view.set ((cfg0.win 9).blk t').view.set := by
    intro t t' h h' hne
    have h4 : t.val < 4 := t.isLt
    have h4' : t'.val < 4 := t'.isLt
    exact absurd (Fin.ext (by have := (flush0_9 t).1 h; have := (flush0_9 t').1 h'; omega)) hne
  refine Eq.trans (congrArg _ (eq_of_val _ i j ?_ ?_).symm) ((congrFun (((dats m 0 c).read_blk_arrAt_eq_flushed 9 hd cfg0.N ⟨3, h3⟩ h3 hf).trans (Value.flushed9 m c ⟨3, h3⟩))
    (ix2 0 j)).trans (sum9 m c ⟨3, h3⟩ rfl j))
  · show win0_9.index ⟨3, h3⟩ 0 * 1 + 1 * 0 = i.val
    rw [(at9 _).1]; omega
  · show win0_9.index ⟨3, h3⟩ 1 * 1024 + 1 * j.val = j.val
    rw [(at9 _).2]; omega

/-- The sum the points gather. -/
theorem sum10 (c : Dev nD) (t : Fin cfg0.N) (ht : t.val + 1 = cfg0.N) (j : Fin 1024) :
    ((outsAt0 m c t.val t.isLt).2.2.2.2 : S1x1024.Idx → EReal) (ix2 0 j) = ∑ i, rowOf m c dscale i j := by
  rw [Pipeline.eq_sum_fin_of_reset_step_apply_last (fun n h (j : Fin 1024) => ((outsAt0 m c n h).2.2.2.2 : S1x1024.Idx → EReal) (ix2 0 j)) 4 (fun _ => 0)
    (fun t j => halves (fun i => rowOf m c dscale i j) t.val (point t)) ?_ ?_ (by decide) t ht j]
  · rw [zero_add]
    exact halves_sum cfg0.N rfl _
  · intro t h0 j
    rw [outsAt0_A m c t h0]
    frame_out
    refine ((congrFun (pay4_eq _ _ _ _ _ _ _ ) _).trans (pay20_apply _ _ _ _ _ _ _ j)).trans ?_
    refine (congrArg₂ (· + ·) (pay20_apply _ _ _ _ _ _ _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dscale t 0 (by omega) _ _ r _ rfl) j
    · exact congrFun (row_eq m c dscale t 256 (by omega) _ _ r _ rfl) j
  · intro t h0 j
    rw [outsAt0_B m c t h0]
    frame_out
    refine ((congrFun (pay4_eq _ _ _ _ _ _ _ ) _).trans (pay20_apply _ _ _ _ _ _ _ j)).trans ?_
    refine (congrArg₂ (· + ·) (pay20_apply _ _ _ _ _ _ _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dscale t 0 (by omega) _ _ r _ rfl) j
    · exact congrFun (row_eq m c dscale t 256 (by omega) _ _ r _ rfl) j

theorem final10 (c : Dev nD) (i : Fin 1) (j : Fin 1024) : ((dats m 0 c).arrAt 10 cfg0.N : S1x1024.Idx → EReal) (ix2 i j) = ∑ i, rowOf m c dscale i j := by
  have h3 : 3 < cfg0.N := by decide
  have hf : (cfg0.win 10).flush ⟨3, h3⟩ = true := (flush0_10 _).2 rfl
  have hd : ∀ t t' : Fin cfg0.N, (cfg0.win 10).flush t = true → (cfg0.win 10).flush t' = true → t ≠ t' → Disjoint ((cfg0.win 10).blk t).view.set ((cfg0.win 10).blk t').view.set := by
    intro t t' h h' hne
    have h4 : t.val < 4 := t.isLt
    have h4' : t'.val < 4 := t'.isLt
    exact absurd (Fin.ext (by have := (flush0_10 t).1 h; have := (flush0_10 t').1 h'; omega)) hne
  refine Eq.trans (congrArg _ (eq_of_val _ i j ?_ ?_).symm) ((congrFun (((dats m 0 c).read_blk_arrAt_eq_flushed 10 hd cfg0.N ⟨3, h3⟩ h3 hf).trans (Value.flushed10 m c ⟨3, h3⟩))
    (ix2 0 j)).trans (sum10 m c ⟨3, h3⟩ rfl j))
  · show win0_10.index ⟨3, h3⟩ 0 * 1 + 1 * 0 = i.val
    rw [(at10 _).1]; omega
  · show win0_10.index ⟨3, h3⟩ 1 * 1024 + 1 * j.val = j.val
    rw [(at10 _).2]; omega

section Numbers
variable {gate g : (Mat 1 1024).Idx → EReal} {y xv tv : Fin 1024 → EReal}

theorem err_num (hgate : Num gate) (hg : Num g) (hy : Num y) (hx : Num xv) (ht : Num tv) : Num (err gate g y xv tv) :=
  num_sub (num_add hx (num_mul (num_comp hgate fun j => ix2 0 j) (num_mul (num_mul hy (num_const (rstd_number hy))) (num_comp hg fun j => ix2 0 j)))) ht

theorem word_recip : ∃ r : ℝ, Ideal.ofBits FTy.f32 0x3A800000#32 = r := by
  refine ⟨8388608 * (2 ^ 33)⁻¹, ?_⟩
  simp [Ideal.ofBits, Ideal.ieee]

theorem dres_num (hgate : Num gate) (hg : Num g) (hy : Num y) (hx : Num xv) (ht : Num tv) : Num (dres gate g y xv tv) :=
  num_mul (err_num hgate hg hy hx ht) (num_const word_recip)

theorem down_num (hgate : Num gate) (hg : Num g) (hy : Num y) (hx : Num xv) (ht : Num tv) : Num fun k => dres gate g y xv tv k * gate (ix2 0 k) * g (ix2 0 k) :=
  num_mul (num_mul (dres_num hgate hg hy hx ht) (num_comp hgate fun j => ix2 0 j)) (num_comp hg fun j => ix2 0 j)

/-- A half, over 1024, twice. -/
theorem word_twice : Ideal.div (Ideal.ofBits FTy.f32 0x3F000000#32 * 1) (Ideal.ofBits FTy.f32 1149239296#32) * Ideal.ofBits FTy.f32 0x40000000#32
    = Ideal.ofBits FTy.f32 0x3A800000#32 := by
  rw [word_1024, mul_one, Ideal.div_coe (by norm_num)]
  simp [Ideal.ofBits, Ideal.ieee]
  norm_cast
  norm_num
end Numbers

section Reference
open Cert.Reference13Ideal.Read
variable (x : S2048x2816.Idx → EReal) (w : S2816x1024.Idx → EReal) (xv tv : S2048x1024.Idx → EReal) (gate g : S1x1024.Idx → EReal) (i : Fin 2048) (j : Fin 1024)

/-- A row function, of row `i`. -/
abbrev at' (f : (gate g : (Mat 1 1024).Idx → EReal) → (y xv tv : Fin 1024 → EReal) → Fin 1024 → EReal) : Fin 1024 → EReal :=
  f gate g (mulNN x w i) (fun k => xv (ix2 i k)) (fun k => tv (ix2 i k))

theorem product_read : val_main_v2 (F := Ideal) x w = fun p => mulNN x w (p 0) (p 1) := by
  refine Blocks.ext _ _ fun i j => ?_
  simp only [val_main_v2, val_main_v1, val_main_v0, pointwise, zero_add]
  rfl

theorem error_read : val_main_v21 (F := Ideal) x w xv tv gate g = fun p => at' x w xv tv gate g (p 0) err (p 1) := by
  refine Blocks.ext _ _ fun i j => ?_
  simp only [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, pointwise, zero_add]
  rfl

theorem residual_read : val_main_v35 (F := Ideal) x w xv tv gate g = fun p => at' x w xv tv gate g (p 0) dres (p 1) := by
  refine Blocks.ext _ _ fun i j => ?_
  simp only [val_main_v35, val_main_v34, val_main_v33, val_main_v32, val_main_v31, val_main_v30, val_main_v29, val_main_v28, val_main_v27, val_main_v26, val_main_v25, val_main_v24, val_main_v23, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, error_read, pointwise, zero_add]
  rw [← mul_assoc, word_twice, mul_comm]
  rfl

theorem squares_read (i : Fin 1) : val_main_v78 (F := Ideal) x w xv tv gate g (ix2 i j) = ∑ i, at' x w xv tv gate g i square j := by
  simp only [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, pointwise, zero_add]
  rfl

theorem gate_read (i : Fin 1) : val_main_v40 (F := Ideal) x w xv tv gate g (ix2 i j) = ∑ i, at' x w xv tv gate g i dgate j := by
  simp only [val_main_v40, val_main_v39, val_main_v38, val_main_v37, val_main_v36, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, residual_read, pointwise, zero_add]
  rfl

theorem scale_read (i : Fin 1) : val_main_v43 (F := Ideal) x w xv tv gate g (ix2 i j) = ∑ i, at' x w xv tv gate g i dscale j := by
  simp only [val_main_v43, val_main_v42, val_main_v41, val_main_v37, val_main_v36, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, residual_read, pointwise, zero_add]
  refine Finset.sum_congr rfl fun i _ => ?_
  refine (mul_comm _ _).trans (congrArg (· * _) (mul_comm _ _))

theorem prod_read (hx : Num x) (hw : Num w) (hv : Num xv) (ht : Num tv) (hgate : Num gate) (hg : Num g) :
    val_main_v79 (F := Ideal) x w xv tv gate g (ix2 i j) = at' x w xv tv gate g i dprod j := by
  have hy : Num (mulNN x w i) := mulNN_num hx hw i
  have hd : Num fun k => gate (ix2 0 k) * at' x w xv tv gate g i dres k * g (ix2 0 k) := by
    simp only [mul_comm (gate _)]
    exact down_num hgate hg hy (num_comp hv _) (num_comp ht _)
  have e : at' x w xv tv gate g i dprod j = normBack (mulNN x w i) (fun k => gate (ix2 0 k) * at' x w xv tv gate g i dres k * g (ix2 0 k)) j := by
    simp only [mul_comm (gate _)]
    rfl
  rw [e, ← pull_eq hy hd j]
  simp only [val_main_v79, val_main_v59, val_main_v58, val_main_v57, val_main_v56, val_main_v55, val_main_v54, val_main_v53, val_main_v52, val_main_v51, val_main_v50, val_main_v49, val_main_v48, val_main_v47, val_main_v46, val_main_v45, val_main_v44, val_main_v37, val_main_v36, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, product_read, residual_read, pointwise, zero_add, Fin.sum_univ_one]
  rfl
end Reference

theorem frame_reference : Cert.quiescent_Reference13Ideal := fun m g _ =>
  (θ_run Cert.Reference13Ideal.defs _ _).mono
    (fun r h => ⟨fun c => (h c).2.2.2.2.2, Idealize.ShloMosaic.sem_eq_zero_of_no_sems (by decide) r.2⟩)
    (Cert.Reference13Ideal.Value.run (F := Ideal) m g)

/-- What the precondition says of the arguments. -/
theorem numbers (m : (ℓ : Loc nD τ sig) → Buf (Elt Ideal) ℓ) (hp : Cert.Pre_Kernel13Ideal_finite13 m) (c : Dev nD) :
    Num (m ((c : Thread nD τ).loc main_arg0) : S2048x2816.Idx → EReal)
      ∧ Num (m ((c : Thread nD τ).loc main_arg1) : S2816x1024.Idx → EReal)
      ∧ Num (m ((c : Thread nD τ).loc main_arg2) : S2048x1024.Idx → EReal)
      ∧ Num (m ((c : Thread nD τ).loc main_arg3) : S2048x1024.Idx → EReal)
      ∧ Num (m ((c : Thread nD τ).loc main_arg4) : S1x1024.Idx → EReal)
      ∧ Num (m ((c : Thread nD τ).loc main_arg5) : S1x1024.Idx → EReal) := by
  have h := congrFun (hp c) (Shape.Idx.first Cert.Pre_finite13.Gen.h_S_)
  dsimp only [Cert.Pre_finite13.fn, Cert.Pre_finite13.fn_part1] at h
  obtain ⟨h, h5⟩ := and_one h
  obtain ⟨h, h4⟩ := and_one h
  obtain ⟨h, h3⟩ := and_one h
  obtain ⟨h, h2⟩ := and_one h
  obtain ⟨h0, h1⟩ := and_one h
  exact ⟨num_of_all _ _ (fun _ => rfl) _ _ _ _ h0, num_of_all _ _ (fun _ => rfl) _ _ _ _ h1, num_of_all _ _ (fun _ => rfl) _ _ _ _ h2, num_of_all _ _ (fun _ => rfl) _ _ _ _ h3, num_of_all _ _ (fun _ => rfl) _ _ _ _ h4, num_of_all _ _ (fun _ => rfl) _ _ _ _ h5⟩

/-- From memories that agree on the arguments, which are numbers, the call and its reference leave the same results. -/
theorem algebraic : Cert.algebraic_Kernel13Ideal_Reference13Ideal_pre_finite13 := by
  intro m g m' g' hp hargs
  refine ⟨_, _, _, _, _, (θ_run _ _ _).mono (fun r h c => h c) (Cert.Kernel13Ideal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.Reference13Ideal.Value.run m' g')⟩
  · obtain ⟨h0, h1, h2, h3, h4, h5⟩ := numbers m hp c
    rw [Cert.Reference13Ideal.Read.val_main_v35_eq, (hargs c).1, (hargs c).2.1, (hargs c).2.2.1, (hargs c).2.2.2.1, (hargs c).2.2.2.2.1, (hargs c).2.2.2.2.2]
    exact Blocks.ext _ _ fun i j => (congrFun (residual_read _ _ _ _ _ _ ) _).trans (final6 m c i j).symm
  · obtain ⟨h0, h1, h2, h3, h4, h5⟩ := numbers m hp c
    rw [Cert.Reference13Ideal.Read.val_main_v79_eq m' c, (hargs c).1, (hargs c).2.1, (hargs c).2.2.1, (hargs c).2.2.2.1, (hargs c).2.2.2.2.1, (hargs c).2.2.2.2.2]
    exact Blocks.ext _ _ fun i j => (prod_read _ _ _ _ _ _ i j h0 h1 h2 h3 h4 h5).trans (final7 m c i j).symm
  · obtain ⟨h0, h1, h2, h3, h4, h5⟩ := numbers m hp c
    rw [Cert.Reference13Ideal.Read.val_main_v78_eq, (hargs c).1, (hargs c).2.1, (hargs c).2.2.1, (hargs c).2.2.2.1, (hargs c).2.2.2.2.1, (hargs c).2.2.2.2.2]
    exact Blocks.ext _ _ fun i j => (squares_read _ _ _ _ _ _ j i).trans (final8 m c i j).symm
  · obtain ⟨h0, h1, h2, h3, h4, h5⟩ := numbers m hp c
    rw [Cert.Reference13Ideal.Read.val_main_v40_eq, (hargs c).1, (hargs c).2.1, (hargs c).2.2.1, (hargs c).2.2.2.1, (hargs c).2.2.2.2.1, (hargs c).2.2.2.2.2]
    exact Blocks.ext _ _ fun i j => (gate_read _ _ _ _ _ _ j i).trans (final9 m c i j).symm
  · obtain ⟨h0, h1, h2, h3, h4, h5⟩ := numbers m hp c
    rw [Cert.Reference13Ideal.Read.val_main_v43_eq, (hargs c).1, (hargs c).2.1, (hargs c).2.2.1, (hargs c).2.2.2.1, (hargs c).2.2.2.2.1, (hargs c).2.2.2.2.2]
    exact Blocks.ext _ _ fun i j => (scale_read _ _ _ _ _ _ j i).trans (final10 m c i j).symm

end Cert.Proof.FfnOut

end
-- ==== Proof.OutProj.lean ====
/- The output projection with the norm of its rows, the residual, and the norm before the feed-forward part. -/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Norms
public import proofs.«01_k».proof.Defs

@[expose] public section

set_option maxRecDepth 16384

noncomputable section

namespace Cert.Proof.OutProj

open Cert.Kernel14Ideal Cert.Kernel14Ideal.Gen Idealize.ShloMosaic Idealize.ShloMosaic.TcCoe Idealize.SL.Sem
open Idealize.ShloMosaic.Pipeline (Dat)
open Cert.Proof.Blocks Cert.Proof.Norms

/-- The residual: the row `xv`, and the norm of the product's row, scaled by `g` and by `gate`. -/
def added {R : Nat} (x : (Mat R 1024).Idx → EReal) (w : (Mat 1024 1024).Idx → EReal) (xv : (Mat R 1024).Idx → EReal) (gate g : (Mat 1 1024).Idx → EReal)
    (i : Fin R) (j : Fin 1024) : EReal :=
  xv (ix2 i j) + gate (ix2 0 j) * (mulNN x w i j * rstd (mulNN x w i) * g (ix2 0 j))

theorem product_row {R R' : Nat} {x : (Mat R 1024).Idx → EReal} {x' : (Mat R' 1024).Idx → EReal} {w w' : (Mat 1024 1024).Idx → EReal} {i : Fin R} {i' : Fin R'}
    (hx : ∀ k, x (ix2 i k) = x' (ix2 i' k)) (hw : w = w') : mulNN x w i = mulNN x' w' i' :=
  funext fun j => mulNN_congr hx fun k => by rw [hw]

theorem added_row {R R' : Nat} {x xv : (Mat R 1024).Idx → EReal} {x' xv' : (Mat R' 1024).Idx → EReal} {w w' : (Mat 1024 1024).Idx → EReal} {gate g gate' g' : (Mat 1 1024).Idx → EReal}
    {i : Fin R} {i' : Fin R'} (hx : ∀ k, x (ix2 i k) = x' (ix2 i' k)) (hw : w = w') (hv : ∀ k, xv (ix2 i k) = xv' (ix2 i' k)) (hgate : gate = gate') (hg : g = g') :
    added x w xv gate g i = added x' w' xv' gate' g' i' :=
  funext fun j => by
    unfold added
    rw [product_row hx hw, hv, hgate, hg]

section Payloads
variable (x : S256x1024.Idx → EReal) (w : S1024x1024.Idx → EReal) (xv : S256x1024.Idx → EReal) (gate g gpre sc sh : S1x1024.Idx → EReal) (i : Fin 256) (j : Fin 1024)

theorem pay3_apply : k0_pay3 (F := Ideal) x w (ix2 i j) = mulNN x w i j := by
  simp only [k0_pay3, pointwise, zero_add]
  rfl

theorem pay8_eq : k0_pay8 (F := Ideal) x w = k0_pay3 x w := rfl

theorem pay4_apply : k0_pay4 (F := Ideal) x w xv gate g (ix2 i j) = added x w xv gate g i j := by
  simp only [k0_pay4, k0_pay3, pointwise, zero_add]
  rfl

theorem pay1_eq : k0_pay1 xv gate g (k0_pay9 x w) = k0_pay4 (F := Ideal) x w xv gate g := rfl

/-- A row's second norm, as the first 256 rows of a block compute it. -/
theorem pay7_apply : k0_pay7 sc sh (k0_pay5 x w xv gate g) (k0_pay6 (F := Ideal) gpre) (ix2 i j) = modulated (added x w xv gate g i) gpre sc sh j := by
  simp only [k0_pay7, k0_pay5, k0_pay6, k0_pay4, k0_pay3, pointwise, zero_add]
  unfold modulated
  rw [← Ideal.ofBits_one_f32]
  rfl

theorem pay2_eq : k0_pay2 xv gate g gpre sc sh (k0_pay9 x w) = k0_pay7 sc sh (k0_pay5 x w xv gate g) (k0_pay6 (F := Ideal) gpre) := rfl
end Payloads

section Block
variable (x : S512x1024.Idx → EReal) (w : S1024x1024.Idx → EReal) (xv : S512x1024.Idx → EReal) (gate g gpre sc sh : S1x1024.Idx → EReal)

theorem ld_row (e : EltTy) (x : S512x1024.Idx → Elt Ideal e) (o : Nat) (inb : ∀ a, (![o, 0] : Fin 2 → Nat) a + S256x1024.size a ≤ S512x1024.size a) (y : S256x1024.Idx) (k : Fin 1024) :
    (View.ld (Val := Elt Ideal) (e' := e) x (Rect.unit (s := S512x1024) ![o, 0] S256x1024.size inb) : S256x1024.Idx → Elt Ideal e) (ix2 (y 0) k)
      = x (ix2 ((Rect.unit (s := S512x1024) ![o, 0] S256x1024.size inb).idx y 0) k) :=
  congrArg x (eq_of_val _ _ _ rfl (by show 0 + 1 * k.val = k.val; omega))

theorem at_col (o : Nat) (inb : ∀ a, (![o, 0] : Fin 2 → Nat) a + S256x1024.size a ≤ S512x1024.size a) (y : S256x1024.Idx) :
    (y 1 : Fin 1024) = (Rect.unit (s := S512x1024) ![o, 0] S256x1024.size inb).idx y 1 :=
  Fin.ext (by show (y 1).val = 0 + 1 * (y 1).val; omega)

theorem whole (e : EltTy) (v : S1x1024.Idx → Elt Ideal e) : View.ld (Val := Elt Ideal) (e' := e) v r0_2 = v := View.ld_unit_zero hz _ v
theorem whole_w (w : S1024x1024.Idx → Elt Ideal .bf16) : View.ld (Val := Elt Ideal) (e' := .bf16) w r0_1 = w := View.ld_unit_zero hz _ w

theorem out10_apply (i : Fin 512) (j : Fin 1024) : out0_10 (F := Ideal) x w xv gate g gpre sc sh (ix2 i j) = mulNN x w i j := by
  refine View.canon_apply_of_pieces (Val := Elt Ideal) (e := .f32) (fun z : S512x1024.Idx => mulNN x w (z 0) (z 1)) _ ?_ _ (cover0_10 _ _ _)
  intro p hp y
  simp only [List.mem_cons, List.not_mem_nil, or_false] at hp
  rw [whole_w, pay8_eq] at hp
  rcases hp with rfl | rfl <;>
  · refine (congrArg _ (ValueIdx.eq_ix2 (n0 := 256) (n1 := 1024) y)).trans ((pay3_apply _ _ _ _).trans ?_)
    exact congr (product_row (ld_row .bf16 x _ (by decide) y) rfl) (at_col _ (by decide) y)

theorem out8_apply (i : Fin 512) (j : Fin 1024) : out0_8 (F := Ideal) x w xv gate g gpre sc sh (ix2 i j) = added x w xv gate g i j := by
  refine View.canon_apply_of_pieces (Val := Elt Ideal) (e := .f32) (fun z : S512x1024.Idx => added x w xv gate g (z 0) (z 1)) _ ?_ _ (cover0_8 _ _ _)
  intro p hp y
  simp only [List.mem_cons, List.not_mem_nil, or_false] at hp
  unfold k0_pay10 at hp
  rw [pay1_eq, whole_w, whole .f32 gate, whole .f32 g] at hp
  rcases hp with rfl | rfl <;>
  · refine (congrArg _ (ValueIdx.eq_ix2 (n0 := 256) (n1 := 1024) y)).trans ((pay4_apply _ _ _ _ _ _ _).trans ?_)
    exact congr (added_row (ld_row .bf16 x _ (by decide) y) rfl (ld_row .f32 xv _ (by decide) y) rfl rfl) (at_col _ (by decide) y)

theorem out9_apply (i : Fin 512) (j : Fin 1024) : out0_9 (F := Ideal) x w xv gate g gpre sc sh (ix2 i j) = modulated (added x w xv gate g i) gpre sc sh j := by
  refine View.canon_apply_of_pieces (Val := Elt Ideal) (e := .bf16) (fun z : S512x1024.Idx => modulated (added x w xv gate g (z 0)) gpre sc sh (z 1)) _ ?_ _ (cover0_9 _ _ _)
  intro p hp y
  simp only [List.mem_cons, List.not_mem_nil, or_false] at hp
  unfold k0_pay10 at hp
  rw [pay2_eq, whole_w, whole .f32 gate, whole .f32 g, whole .f32 gpre, whole .f32 sc, whole .f32 sh] at hp
  rcases hp with rfl | rfl <;>
  · refine (congrArg _ (ValueIdx.eq_ix2 (n0 := 256) (n1 := 1024) y)).trans ((pay7_apply _ _ _ _ _ _ _ _ _ _).trans ?_)
    exact congrArg₂ (fun r j => modulated r gpre sc sh j) (added_row (ld_row .bf16 x _ (by decide) y) rfl (ld_row .f32 xv _ (by decide) y) rfl rfl) (at_col _ (by decide) y)
end Block

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel
theorem at8 : ∀ t : Fin cfg0.N, win0_8.index t 0 = t.val ∧ win0_8.index t 1 = 0 := by decide +kernel
theorem at9 : ∀ t : Fin cfg0.N, win0_9.index t 0 = t.val ∧ win0_9.index t 1 = 0 := by decide +kernel
theorem at10 : ∀ t : Fin cfg0.N, win0_10.index t 0 = t.val ∧ win0_10.index t 1 = 0 := by decide +kernel

variable (m : (ℓ : Loc nD τ sig) → Buf (Elt Ideal) ℓ)

theorem entry0 (c : Dev nD) (t : Fin cfg0.N) (i : Fin 512) (k : Fin 1024) (i' : Fin 2048) (k' : Fin 1024) (hi : i'.val = t.val * 512 + i.val) (hk : k'.val = 0 * 1024 + k.val) :
    (iblk m c 0 t : S512x1024.Idx → EReal) (ix2 i k) = (m ((c : Thread nD τ).loc main_arg0) : S2048x1024.Idx → EReal) (ix2 i' k') := by
  rw [← V_main_arg0 m c]
  refine congrArg (V m c main_arg0) (eq_of_val _ _ _ ?_ ?_)
  · show win0_0.index t 0 * 512 + 1 * i.val = i'.val
    rw [(at0 t).1, hi]; omega
  · show win0_0.index t 1 * 1024 + 1 * k.val = k'.val
    rw [(at0 t).2, hk]; omega

theorem entry1 (c : Dev nD) (t : Fin cfg0.N) (i : Fin 1024) (k : Fin 1024) (i' : Fin 1024) (k' : Fin 1024) (hi : i'.val = 0 * 1024 + i.val) (hk : k'.val = 0 * 1024 + k.val) :
    (iblk m c 1 t : S1024x1024.Idx → EReal) (ix2 i k) = (m ((c : Thread nD τ).loc main_arg1) : S1024x1024.Idx → EReal) (ix2 i' k') := by
  rw [← V_main_arg1 m c]
  refine congrArg (V m c main_arg1) (eq_of_val _ _ _ ?_ ?_)
  · show win0_1.index t 0 * 1024 + 1 * i.val = i'.val
    rw [(at1 t).1, hi]; omega
  · show win0_1.index t 1 * 1024 + 1 * k.val = k'.val
    rw [(at1 t).2, hk]; omega

theorem entry2 (c : Dev nD) (t : Fin cfg0.N) (i : Fin 512) (k : Fin 1024) (i' : Fin 2048) (k' : Fin 1024) (hi : i'.val = t.val * 512 + i.val) (hk : k'.val = 0 * 1024 + k.val) :
    (iblk m c 2 t : S512x1024.Idx → EReal) (ix2 i k) = (m ((c : Thread nD τ).loc main_arg2) : S2048x1024.Idx → EReal) (ix2 i' k') := by
  rw [← V_main_arg2 m c]
  refine congrArg (V m c main_arg2) (eq_of_val _ _ _ ?_ ?_)
  · show win0_2.index t 0 * 512 + 1 * i.val = i'.val
    rw [(at2 t).1, hi]; omega
  · show win0_2.index t 1 * 1024 + 1 * k.val = k'.val
    rw [(at2 t).2, hk]; omega

theorem entry3 (c : Dev nD) (t : Fin cfg0.N) (i : Fin 1) (k : Fin 1024) (i' : Fin 1) (k' : Fin 1024) (hi : i'.val = 0 * 1 + i.val) (hk : k'.val = 0 * 1024 + k.val) :
    (iblk m c 3 t : S1x1024.Idx → EReal) (ix2 i k) = (m ((c : Thread nD τ).loc main_arg3) : S1x1024.Idx → EReal) (ix2 i' k') := by
  rw [← V_main_arg3 m c]
  refine congrArg (V m c main_arg3) (eq_of_val _ _ _ ?_ ?_)
  · show win0_3.index t 0 * 1 + 1 * i.val = i'.val
    rw [(at3 t).1, hi]; omega
  · show win0_3.index t 1 * 1024 + 1 * k.val = k'.val
    rw [(at3 t).2, hk]; omega

theorem entry4 (c : Dev nD) (t : Fin cfg0.N) (i : Fin 1) (k : Fin 1024) (i' : Fin 1) (k' : Fin 1024) (hi : i'.val = 0 * 1 + i.val) (hk : k'.val = 0 * 1024 + k.val) :
    (iblk m c 4 t : S1x1024.Idx → EReal) (ix2 i k) = (m ((c : Thread nD τ).loc main_arg4) : S1x1024.Idx → EReal) (ix2 i' k') := by
  rw [← V_main_arg4 m c]
  refine congrArg (V m c main_arg4) (eq_of_val _ _ _ ?_ ?_)
  · show win0_4.index t 0 * 1 + 1 * i.val = i'.val
    rw [(at4 t).1, hi]; omega
  · show win0_4.index t 1 * 1024 + 1 * k.val = k'.val
    rw [(at4 t).2, hk]; omega

theorem entry5 (c : Dev nD) (t : Fin cfg0.N) (i : Fin 1) (k : Fin 1024) (i' : Fin 1) (k' : Fin 1024) (hi : i'.val = 0 * 1 + i.val) (hk : k'.val = 0 * 1024 + k.val) :
    (iblk m c 5 t : S1x1024.Idx → EReal) (ix2 i k) = (m ((c : Thread nD τ).loc main_arg5) : S1x1024.Idx → EReal) (ix2 i' k') := by
  rw [← V_main_arg5 m c]
  refine congrArg (V m c main_arg5) (eq_of_val _ _ _ ?_ ?_)
  · show win0_5.index t 0 * 1 + 1 * i.val = i'.val
    rw [(at5 t).1, hi]; omega
  · show win0_5.index t 1 * 1024 + 1 * k.val = k'.val
    rw [(at5 t).2, hk]; omega

theorem entry6 (c : Dev nD) (t : Fin cfg0.N) (i : Fin 1) (k : Fin 1024) (i' : Fin 1) (k' : Fin 1024) (hi : i'.val = 0 * 1 + i.val) (hk : k'.val = 0 * 1024 + k.val) :
    (iblk m c 6 t : S1x1024.Idx → EReal) (ix2 i k) = (m ((c : Thread nD τ).loc main_arg6) : S1x1024.Idx → EReal) (ix2 i' k') := by
  rw [← V_main_arg6 m c]
  refine congrArg (V m c main_arg6) (eq_of_val _ _ _ ?_ ?_)
  · show win0_6.index t 0 * 1 + 1 * i.val = i'.val
    rw [(at6 t).1, hi]; omega
  · show win0_6.index t 1 * 1024 + 1 * k.val = k'.val
    rw [(at6 t).2, hk]; omega

theorem entry7 (c : Dev nD) (t : Fin cfg0.N) (i : Fin 1) (k : Fin 1024) (i' : Fin 1) (k' : Fin 1024) (hi : i'.val = 0 * 1 + i.val) (hk : k'.val = 0 * 1024 + k.val) :
    (iblk m c 7 t : S1x1024.Idx → EReal) (ix2 i k) = (m ((c : Thread nD τ).loc main_arg7) : S1x1024.Idx → EReal) (ix2 i' k') := by
  rw [← V_main_arg7 m c]
  refine congrArg (V m c main_arg7) (eq_of_val _ _ _ ?_ ?_)
  · show win0_7.index t 0 * 1 + 1 * i.val = i'.val
    rw [(at7 t).1, hi]; omega
  · show win0_7.index t 1 * 1024 + 1 * k.val = k'.val
    rw [(at7 t).2, hk]; omega

theorem whole1 (c : Dev nD) (t : Fin cfg0.N) : (iblk m c 1 t : S1024x1024.Idx → EReal) = m ((c : Thread nD τ).loc main_arg1) :=
  Blocks.ext _ _ fun a b => entry1 m c t a b a b (by omega) (by omega)

theorem whole3 (c : Dev nD) (t : Fin cfg0.N) : (iblk m c 3 t : S1x1024.Idx → EReal) = m ((c : Thread nD τ).loc main_arg3) :=
  Blocks.ext _ _ fun a b => entry3 m c t a b a b (by omega) (by omega)

theorem whole4 (c : Dev nD) (t : Fin cfg0.N) : (iblk m c 4 t : S1x1024.Idx → EReal) = m ((c : Thread nD τ).loc main_arg4) :=
  Blocks.ext _ _ fun a b => entry4 m c t a b a b (by omega) (by omega)

theorem whole5 (c : Dev nD) (t : Fin cfg0.N) : (iblk m c 5 t : S1x1024.Idx → EReal) = m ((c : Thread nD τ).loc main_arg5) :=
  Blocks.ext _ _ fun a b => entry5 m c t a b a b (by omega) (by omega)

theorem whole6 (c : Dev nD) (t : Fin cfg0.N) : (iblk m c 6 t : S1x1024.Idx → EReal) = m ((c : Thread nD τ).loc main_arg6) :=
  Blocks.ext _ _ fun a b => entry6 m c t a b a b (by omega) (by omega)

theorem whole7 (c : Dev nD) (t : Fin cfg0.N) : (iblk m c 7 t : S1x1024.Idx → EReal) = m ((c : Thread nD τ).loc main_arg7) :=
  Blocks.ext _ _ fun a b => entry7 m c t a b a b (by omega) (by omega)

theorem final8 (c : Dev nD) (i : Fin 2048) (j : Fin 1024) : ((dats m 0 c).arrAt 8 cfg0.N : S2048x1024.Idx → EReal) (ix2 i j)
    = added (R := 2048) (m ((c : Thread nD τ).loc main_arg0)) (m ((c : Thread nD τ).loc main_arg1)) (m ((c : Thread nD τ).loc main_arg2)) (m ((c : Thread nD τ).loc main_arg3)) (m ((c : Thread nD τ).loc main_arg4)) i j := by
  have ht : i.val / 512 < cfg0.N := by show _ < 4; omega
  have hi : i.val = i.val / 512 * 512 + i.val % 512 := by omega
  refine Eq.trans (congrArg _ (eq_of_val _ i j ?_ ?_).symm) ((congrFun ((Value.blocks8 m c ⟨_, ht⟩ (flush0_8 _)).trans (Value.flushed8 m c ⟨_, ht⟩))
    (ix2 ⟨i.val % 512, Nat.mod_lt _ (by omega)⟩ j)).trans ((out8_apply _ _ _ _ _ _ _ _ _ _).trans ?_))
  · show win0_8.index ⟨_, ht⟩ 0 * 512 + 1 * (i.val % 512) = i.val
    rw [(at8 _).1]; show i.val / 512 * 512 + _ = _; omega
  · show win0_8.index ⟨_, ht⟩ 1 * 1024 + 1 * j.val = j.val
    rw [(at8 _).2]; omega
  · exact congrFun (added_row (fun k => entry0 m c ⟨_, ht⟩ _ k _ k hi (by omega)) (whole1 m c _) (fun k => entry2 m c ⟨_, ht⟩ _ k _ k hi (by omega)) (whole3 m c _) (whole4 m c _)) j

theorem final9 (c : Dev nD) (i : Fin 2048) (j : Fin 1024) : ((dats m 0 c).arrAt 9 cfg0.N : S2048x1024.Idx → EReal) (ix2 i j)
    = modulated (added (R := 2048) (m ((c : Thread nD τ).loc main_arg0)) (m ((c : Thread nD τ).loc main_arg1)) (m ((c : Thread nD τ).loc main_arg2)) (m ((c : Thread nD τ).loc main_arg3)) (m ((c : Thread nD τ).loc main_arg4)) i) (m ((c : Thread nD τ).loc main_arg5)) (m ((c : Thread nD τ).loc main_arg6)) (m ((c : Thread nD τ).loc main_arg7)) j := by
  have ht : i.val / 512 < cfg0.N := by show _ < 4; omega
  have hi : i.val = i.val / 512 * 512 + i.val % 512 := by omega
  refine Eq.trans (congrArg _ (eq_of_val _ i j ?_ ?_).symm) ((congrFun ((Value.blocks9 m c ⟨_, ht⟩ (flush0_9 _)).trans (Value.flushed9 m c ⟨_, ht⟩))
    (ix2 ⟨i.val % 512, Nat.mod_lt _ (by omega)⟩ j)).trans ((out9_apply _ _ _ _ _ _ _ _ _ _).trans ?_))
  · show win0_9.index ⟨_, ht⟩ 0 * 512 + 1 * (i.val % 512) = i.val
    rw [(at9 _).1]; show i.val / 512 * 512 + _ = _; omega
  · show win0_9.index ⟨_, ht⟩ 1 * 1024 + 1 * j.val = j.val
    rw [(at9 _).2]; omega
  · exact by rw [whole5 m c _, whole6 m c _, whole7 m c _]; exact congrArg (modulated · _ _ _ j) (added_row (fun k => entry0 m c ⟨_, ht⟩ _ k _ k hi (by omega)) (whole1 m c _) (fun k => entry2 m c ⟨_, ht⟩ _ k _ k hi (by omega)) (whole3 m c _) (whole4 m c _))

theorem final10 (c : Dev nD) (i : Fin 2048) (j : Fin 1024) : ((dats m 0 c).arrAt 10 cfg0.N : S2048x1024.Idx → EReal) (ix2 i j)
    = mulNN (M := 2048) (K := 1024) (N := 1024) (m ((c : Thread nD τ).loc main_arg0)) (m ((c : Thread nD τ).loc main_arg1)) i j := by
  have ht : i.val / 512 < cfg0.N := by show _ < 4; omega
  have hi : i.val = i.val / 512 * 512 + i.val % 512 := by omega
  refine Eq.trans (congrArg _ (eq_of_val _ i j ?_ ?_).symm) ((congrFun ((Value.blocks10 m c ⟨_, ht⟩ (flush0_10 _)).trans (Value.flushed10 m c ⟨_, ht⟩))
    (ix2 ⟨i.val % 512, Nat.mod_lt _ (by omega)⟩ j)).trans ((out10_apply _ _ _ _ _ _ _ _ _ _).trans ?_))
  · show win0_10.index ⟨_, ht⟩ 0 * 512 + 1 * (i.val % 512) = i.val
    rw [(at10 _).1]; show i.val / 512 * 512 + _ = _; omega
  · show win0_10.index ⟨_, ht⟩ 1 * 1024 + 1 * j.val = j.val
    rw [(at10 _).2]; omega
  · exact congrFun (product_row (fun k => entry0 m c ⟨_, ht⟩ _ k _ k hi (by omega)) (whole1 m c _)) j

section Reference
open Cert.Reference14Ideal.Read
variable (x : S2048x1024.Idx → EReal) (w : S1024x1024.Idx → EReal) (xv : S2048x1024.Idx → EReal) (gate g gpre sc sh : S1x1024.Idx → EReal) (i : Fin 2048) (j : Fin 1024)

theorem product_read : val_main_v2 (F := Ideal) x w (ix2 i j) = mulNN x w i j := by
  simp only [val_main_v2, val_main_v1, val_main_v0, pointwise, zero_add]
  rfl

theorem added_read : val_main_v17 (F := Ideal) x w xv gate g (ix2 i j) = added x w xv gate g i j := by
  simp only [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, pointwise, zero_add]
  rfl

theorem normed_read : val_main_v36 (F := Ideal) x w xv gate g gpre sc sh (ix2 i j) = modulated (added x w xv gate g i) gpre sc sh j := by
  rw [show added x w xv gate g i = fun k => val_main_v17 (F := Ideal) x w xv gate g (ix2 i k) from funext fun k => (added_read x w xv gate g i k).symm]
  unfold modulated
  rw [← Ideal.ofBits_one_f32]
  simp only [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4, val_main_cst_5, pointwise, zero_add]
  rfl

end Reference

theorem frame_reference : Cert.quiescent_Reference14Ideal := fun m g _ =>
  (θ_run Cert.Reference14Ideal.defs _ _).mono
    (fun r h => ⟨fun c => (h c).2.2.2, Idealize.ShloMosaic.sem_eq_zero_of_no_sems (by decide) r.2⟩)
    (Cert.Reference14Ideal.Value.run (F := Ideal) m g)

/-- From memories that agree on the arguments the call and its reference leave the same results. -/
theorem algebraic : Cert.algebraic_Kernel14Ideal_Reference14Ideal := by
  intro m g m' g' _ hargs
  refine ⟨_, _, _, (θ_run _ _ _).mono (fun r h c => h c) (Cert.Kernel14Ideal.Value.run_blocks m g),
    (θ_run _ _ _).mono (fun r h c => ⟨(h c).1.trans ?_, (h c).2.1.trans ?_, (h c).2.2.1.trans ?_, (h c).2.2.2⟩) (Cert.Reference14Ideal.Value.run m' g')⟩
  · rw [Cert.Reference14Ideal.Read.val_main_v17_eq, (hargs c).1, (hargs c).2.1, (hargs c).2.2.1, (hargs c).2.2.2.1, (hargs c).2.2.2.2.1]
    exact Blocks.ext _ _ fun i j => (added_read _ _ _ _ _ i j).trans (final8 m c i j).symm
  · rw [Cert.Reference14Ideal.Read.val_main_v36_eq, (hargs c).1, (hargs c).2.1, (hargs c).2.2.1, (hargs c).2.2.2.1, (hargs c).2.2.2.2.1, (hargs c).2.2.2.2.2.1, (hargs c).2.2.2.2.2.2.1, (hargs c).2.2.2.2.2.2.2]
    exact Blocks.ext _ _ fun i j => (normed_read _ _ _ _ _ _ _ _ i j).trans (final9 m c i j).symm
  · rw [Cert.Reference14Ideal.Read.val_main_v2_eq, (hargs c).1, (hargs c).2.1]
    exact Blocks.ext _ _ fun i j => (product_read _ _ i j).trans (final10 m c i j).symm

end Cert.Proof.OutProj

end
-- ==== Proof.OutProjDx.lean ====
/- The gradients of the gated sum of the two branches, from the gradient of the product behind it, 256 rows at a time. -/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Numbers
public import proofs.«01_k».proof.Proof.Norms
public import proofs.«01_k».proof.Defs

@[expose] public section

set_option maxRecDepth 16384

noncomputable section

namespace Cert.Proof.OutProjDx

open Cert.Kernel15Ideal Cert.Kernel15Ideal.Gen Idealize.ShloMosaic Idealize.ShloMosaic.TcCoe Idealize.SL.Sem
open Idealize.ShloMosaic.Pipeline (Dat)
open Cert.Proof.Blocks Cert.Proof.Numbers

/-- The gradient of a branch: that of the sum, by the branch's gate. -/
def branch {R K N : Nat} (x : (Mat R K).Idx → EReal) (w : (Mat N K).Idx → EReal) (f : (Mat R N).Idx → EReal) (i : Fin R) (j : Fin N) : EReal :=
  mulNT x w i j * gate (f (ix2 i j))

/-- The gradient of a gate's logit: that of the sum, by the branch `p` and by the logistic's derivative. -/
def logit {R K N : Nat} (x : (Mat R K).Idx → EReal) (w : (Mat N K).Idx → EReal) (f p : (Mat R N).Idx → EReal) (i : Fin R) (j : Fin N) : EReal :=
  mulNT x w i j * p (ix2 i j) * (gate (f (ix2 i j)) * (1 - gate (f (ix2 i j))))

theorem branch_congr {R R' K N N' : Nat} {x : (Mat R K).Idx → EReal} {w : (Mat N K).Idx → EReal} {f : (Mat R N).Idx → EReal}
    {x' : (Mat R' K).Idx → EReal} {w' : (Mat N' K).Idx → EReal} {f' : (Mat R' N').Idx → EReal} {i : Fin R} {j : Fin N} {i' : Fin R'} {j' : Fin N'}
    (hx : ∀ k, x (ix2 i k) = x' (ix2 i' k)) (hw : ∀ k, w (ix2 j k) = w' (ix2 j' k)) (hf : f (ix2 i j) = f' (ix2 i' j')) :
    branch x w f i j = branch x' w' f' i' j' := by
  unfold branch
  rw [hf, mulNT_congr hx hw]

theorem logit_congr {R R' K N N' : Nat} {x : (Mat R K).Idx → EReal} {w : (Mat N K).Idx → EReal} {f p : (Mat R N).Idx → EReal}
    {x' : (Mat R' K).Idx → EReal} {w' : (Mat N' K).Idx → EReal} {f' p' : (Mat R' N').Idx → EReal} {i : Fin R} {j : Fin N} {i' : Fin R'} {j' : Fin N'}
    (hx : ∀ k, x (ix2 i k) = x' (ix2 i' k)) (hw : ∀ k, w (ix2 j k) = w' (ix2 j' k)) (hf : f (ix2 i j) = f' (ix2 i' j')) (hp : p (ix2 i j) = p' (ix2 i' j')) :
    logit x w f p i j = logit x' w' f' p' i' j' := by
  unfold logit
  rw [hf, hp, mulNT_congr hx hw]

theorem pay8_apply (x : S256x1024.Idx → EReal) (w : S512x1024.Idx → EReal) (f : S256x512.Idx → EReal) (i : Fin 256) (j : Fin 512) :
    k0_pay8 (F := Ideal) x w f (ix2 i j) = branch x w f i j := by
  simp only [k0_pay8, k0_pay2, k0_pay3, pointwise, zero_sub, zero_add]
  rfl

theorem pay6_apply (x : S256x1024.Idx → EReal) (w : S512x1024.Idx → EReal) (f p : S256x512.Idx → EReal) (i : Fin 256) (j : Fin 512) :
    k0_pay6 (F := Ideal) x w f p (ix2 i j) = logit x w f p i j := by
  simp only [k0_pay6, k0_pay2, k0_pay3, pointwise, zero_sub, zero_add]
  rfl

section Same
variable (x : S256x1024.Idx → EReal) (w : S512x1024.Idx → EReal) (f p : S256x512.Idx → EReal)
theorem pay36_eq : k0_pay36 (k0_pay30 x w) f p = k0_pay10 (k0_pay6 (F := Ideal) x w f p) := rfl
theorem pay28_eq : k0_pay28 (k0_pay21 x w) p (k0_pay22 f) k0_pay23 = k0_pay10 (k0_pay6 (F := Ideal) x w f p) := rfl
theorem pay19_eq : k0_pay19 (k0_pay12 x w) p (k0_pay13 f) = k0_pay10 (k0_pay6 (F := Ideal) x w f p) := rfl
theorem pay1_eq : k0_pay1 (k0_pay33 (k0_pay30 x w) f p) = k0_pay10 (k0_pay6 (F := Ideal) x w f p) := rfl
theorem pay29_eq : k0_pay29 (k0_pay21 x w) f p = k0_pay10 (k0_pay6 (F := Ideal) x w f p) := rfl
theorem pay20_eq : k0_pay20 (k0_pay12 x w) p (k0_pay14 f) = k0_pay10 (k0_pay6 (F := Ideal) x w f p) := rfl
theorem pay11_eq : k0_pay11 (k0_pay7 x w f p) = k0_pay10 (k0_pay6 (F := Ideal) x w f p) := rfl
end Same

/-- 256 rows of a block, from row `o` on. -/
def rows (e : EltTy) (x : S1024x512.Idx → Elt Ideal e) (o : Nat) (inb : ∀ a, (![o, 0] : Fin 2 → Nat) a + S256x512.size a ≤ S1024x512.size a) : S256x512.Idx → Elt Ideal e :=
  View.ld (Val := Elt Ideal) (e' := e) x (Rect.unit (s := S1024x512) ![o, 0] S256x512.size inb)

/-- 256 whole rows, from row `o` on. -/
def wide (x : S1024x1024.Idx → EReal) (o : Nat) (inx : ∀ a, (![o, 0] : Fin 2 → Nat) a + S256x1024.size a ≤ S1024x1024.size a) : S256x1024.Idx → EReal :=
  View.ld (Val := Elt Ideal) (e' := .bf16) x (Rect.unit (s := S1024x1024) ![o, 0] S256x1024.size inx)

/-- The store of a branch's gradient, 256 rows. -/
def branchPiece (x : S1024x1024.Idx → EReal) (w : S512x1024.Idx → EReal) (f : S1024x512.Idx → EReal) (o : Nat) (inx : ∀ a, (![o, 0] : Fin 2 → Nat) a + S256x1024.size a ≤ S1024x1024.size a) (inb : ∀ a, (![o, 0] : Fin 2 → Nat) a + S256x512.size a ≤ S1024x512.size a) : View.Piece (Elt Ideal) S1024x512 .bf16 :=
  ⟨Rect.unit (s := S1024x512) ![o, 0] S256x512.size inb, k0_pay8 (F := Ideal) (wide x o inx) w (rows .f32 f o inb)⟩

/-- The store of a logit's gradient, 256 rows. -/
def logitPiece (x : S1024x1024.Idx → EReal) (w : S512x1024.Idx → EReal) (f p : S1024x512.Idx → EReal) (o : Nat) (inx : ∀ a, (![o, 0] : Fin 2 → Nat) a + S256x1024.size a ≤ S1024x1024.size a) (inb : ∀ a, (![o, 0] : Fin 2 → Nat) a + S256x512.size a ≤ S1024x512.size a) : View.Piece (Elt Ideal) S1024x512 .bf16 :=
  ⟨Rect.unit (s := S1024x512) ![o, 0] S256x512.size inb, k0_pay10 (k0_pay6 (F := Ideal) (wide x o inx) w (rows .f32 f o inb) (rows .bf16 p o inb))⟩

/-- The four stores of a branch's gradient, last first. -/
def branchPieces (x : S1024x1024.Idx → EReal) (w : S512x1024.Idx → EReal) (f : S1024x512.Idx → EReal) : List (View.Piece (Elt Ideal) S1024x512 .bf16) :=
  [branchPiece x w f 768 inb_S1024x1024_S256x1024_768_0 inb_S1024x512_S256x512_768_0, branchPiece x w f 512 inb_S1024x1024_S256x1024_512_0 inb_S1024x512_S256x512_512_0,
    branchPiece x w f 256 inb_S1024x1024_S256x1024_256_0 inb_S1024x512_S256x512_256_0, branchPiece x w f 0 inb_S1024x1024_S256x1024_0_0 inb_S1024x512_S256x512_0_0]

/-- The four stores of a logit's gradient, last first. -/
def logitPieces (x : S1024x1024.Idx → EReal) (w : S512x1024.Idx → EReal) (f p : S1024x512.Idx → EReal) : List (View.Piece (Elt Ideal) S1024x512 .bf16) :=
  [logitPiece x w f p 768 inb_S1024x1024_S256x1024_768_0 inb_S1024x512_S256x512_768_0, logitPiece x w f p 512 inb_S1024x1024_S256x1024_512_0 inb_S1024x512_S256x512_512_0,
    logitPiece x w f p 256 inb_S1024x1024_S256x1024_256_0 inb_S1024x512_S256x512_256_0, logitPiece x w f p 0 inb_S1024x1024_S256x1024_0_0 inb_S1024x512_S256x512_0_0]

section Rows
variable (o : Nat) (inx : ∀ a, (![o, 0] : Fin 2 → Nat) a + S256x1024.size a ≤ S1024x1024.size a) (inb : ∀ a, (![o, 0] : Fin 2 → Nat) a + S256x512.size a ≤ S1024x512.size a) (y : S256x512.Idx)

theorem at_row (x : S1024x1024.Idx → EReal) (k : Fin 1024) : wide x o inx (ix2 (y 0) k) = x (ix2 ((Rect.unit (s := S1024x512) ![o, 0] S256x512.size inb).idx y 0) k) :=
  congrArg x (eq_of_val _ _ _ rfl (by show 0 + 1 * k.val = k.val; omega))

theorem at_entry (x : S1024x512.Idx → EReal) : rows .bf16 x o inb (ix2 (y 0) (y 1))
    = x (ix2 ((Rect.unit (s := S1024x512) ![o, 0] S256x512.size inb).idx y 0) ((Rect.unit (s := S1024x512) ![o, 0] S256x512.size inb).idx y 1)) :=
  congrArg x (eq_of_val _ _ _ rfl rfl)

theorem at_col (k : Fin 1024) : (ix2 (y 1) k : S512x1024.Idx) = ix2 ((Rect.unit (s := S1024x512) ![o, 0] S256x512.size inb).idx y 1) k :=
  eq_of_val _ _ _ (by show (y 1).val = 0 + 1 * (y 1).val; omega) rfl

variable (x : S1024x1024.Idx → EReal) (w : S512x1024.Idx → EReal) (f p : S1024x512.Idx → EReal)

theorem branchPiece_reads : (branchPiece x w f o inx inb).2 y = (fun z : S1024x512.Idx => branch x w f (z 0) (z 1)) ((branchPiece x w f o inx inb).1.idx y) := by
  refine (congrArg _ (ValueIdx.eq_ix2 (n0 := 256) (n1 := 512) y)).trans ((pay8_apply _ _ _ _ _).trans ?_)
  exact branch_congr (fun k => at_row o inx inb y x k) (fun k => congrArg w (at_col o inb y k)) (at_entry o inb y f)

theorem logitPiece_reads : (logitPiece x w f p o inx inb).2 y = (fun z : S1024x512.Idx => logit x w f p (z 0) (z 1)) ((logitPiece x w f p o inx inb).1.idx y) := by
  refine (congrArg _ (ValueIdx.eq_ix2 (n0 := 256) (n1 := 512) y)).trans ((pay6_apply _ _ _ _ _ _).trans ?_)
  exact logit_congr (fun k => at_row o inx inb y x k) (fun k => congrArg w (at_col o inb y k)) (at_entry o inb y f) (at_entry o inb y p)
end Rows

/-- What covers a block of the first form is that form, entry by entry. -/
theorem branchPieces_read (x : S1024x1024.Idx → EReal) (w : S512x1024.Idx → EReal) (f : S1024x512.Idx → EReal) (z : S1024x512.Idx)
    (cover : ∃ q ∈ branchPieces x w f, z ∈ q.1.set) : View.canon (branchPieces x w f) z = branch x w f (z 0) (z 1) := by
  refine View.canon_apply_of_pieces (Val := Elt Ideal) (e := .bf16) (fun z : S1024x512.Idx => branch x w f (z 0) (z 1)) _ ?_ _ cover
  intro q hq y
  simp only [branchPieces, List.mem_cons, List.not_mem_nil, or_false] at hq
  rcases hq with rfl | rfl | rfl | rfl <;> exact branchPiece_reads _ _ _ y x w f

theorem logitPieces_read (x : S1024x1024.Idx → EReal) (w : S512x1024.Idx → EReal) (f p : S1024x512.Idx → EReal) (z : S1024x512.Idx)
    (cover : ∃ q ∈ logitPieces x w f p, z ∈ q.1.set) : View.canon (logitPieces x w f p) z = logit x w f p (z 0) (z 1) := by
  refine View.canon_apply_of_pieces (Val := Elt Ideal) (e := .bf16) (fun z : S1024x512.Idx => logit x w f p (z 0) (z 1)) _ ?_ _ cover
  intro q hq y
  simp only [logitPieces, List.mem_cons, List.not_mem_nil, or_false] at hq
  rcases hq with rfl | rfl | rfl | rfl <;> exact logitPiece_reads _ _ _ y x w f p

section Run
variable (c : Dev nD) (i : grid0.Coords)
  (arg2 : Memref sig .tc .vmem S1024x1024 .bf16) (harg2 : arg2.IsWhole) (arg3 : Memref sig .tc .vmem S512x1024 .bf16) (harg3 : arg3.IsWhole) (arg4 : Memref sig .tc .vmem S1024x512 .f32) (harg4 : arg4.IsWhole)
  (arg5 : Memref sig .tc .vmem S1024x512 .f32) (harg5 : arg5.IsWhole) (arg6 : Memref sig .tc .vmem S1024x512 .bf16) (harg6 : arg6.IsWhole) (arg7 : Memref sig .tc .vmem S1024x512 .bf16) (harg7 : arg7.IsWhole)
  (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole)
  (arg11 : Memref sig .tc .vmem S1024x512 .bf16) (harg11 : arg11.IsWhole)
  (x : S1024x1024.Idx → EReal) (w : S512x1024.Idx → EReal) (f g p q : S1024x512.Idx → EReal)

theorem run6 : (kernelRun0_A (F := Ideal) c i arg2 harg2 arg3 harg3 arg4 harg4 arg5 harg5 arg6 harg6 arg7 harg7 arg8 harg8 arg9 harg9 arg10 harg10 arg11 harg11 x w f g p q).1 = branchPieces x w f := by
  unfold kernelRun0_A
  dsimp only
  unfold kernelRun0_A.sl.r_9 kernelRun0_A.sl.r_16 kernelRun0_A.sl.r_11 kernelRun0_A.sl.r_15 kernelRun0_A.sl.r_3
  simp only [View.readAt_eq_ld, Memref.IsWhole.read_unread]
  simp only [View.ld_unit_zero (S := S512x1024) hz]
  rfl

theorem out6_apply (a : Fin 1024) (j : Fin 512) : out0_A_6 (F := Ideal) c i arg2 harg2 arg3 harg3 arg4 harg4 arg5 harg5 arg6 harg6 arg7 harg7 arg8 harg8 arg9 harg9 arg10 harg10 arg11 harg11 x w f g p q (ix2 a j) = branch x w f a j := by
  have cover := cover0_A_6 (F := Ideal) c i arg2 harg2 arg3 harg3 arg4 harg4 arg5 harg5 arg6 harg6 arg7 harg7 arg8 harg8 arg9 harg9 arg10 harg10 arg11 harg11 x w f g p q
  unfold out0_A_6
  rw [run6 c i arg2 harg2 arg3 harg3 arg4 harg4 arg5 harg5 arg6 harg6 arg7 harg7 arg8 harg8 arg9 harg9 arg10 harg10 arg11 harg11 x w f g p q] at cover ⊢
  exact (congrFun (View.read_writes_eq_canon (Val := Elt Ideal) (e := .bf16) VO0_6 VO0_6.junk _ cover) _).trans (branchPieces_read x w f _ (cover _))

theorem run7 : (kernelRun0_A (F := Ideal) c i arg2 harg2 arg3 harg3 arg4 harg4 arg5 harg5 arg6 harg6 arg7 harg7 arg8 harg8 arg9 harg9 arg10 harg10 arg11 harg11 x w f g p q).2.1 = branchPieces x w g := by
  unfold kernelRun0_A
  dsimp only
  unfold kernelRun0_A.sl.r_16 kernelRun0_A.sl.r_11 kernelRun0_A.sl.r_12 kernelRun0_A.sl.r_10 kernelRun0_A.sl.r
  simp only [View.readAt_eq_ld, Memref.IsWhole.read_unread]
  simp only [View.ld_unit_zero (S := S512x1024) hz]
  rfl

theorem out7_apply (a : Fin 1024) (j : Fin 512) : out0_A_7 (F := Ideal) c i arg2 harg2 arg3 harg3 arg4 harg4 arg5 harg5 arg6 harg6 arg7 harg7 arg8 harg8 arg9 harg9 arg10 harg10 arg11 harg11 x w f g p q (ix2 a j) = branch x w g a j := by
  have cover := cover0_A_7 (F := Ideal) c i arg2 harg2 arg3 harg3 arg4 harg4 arg5 harg5 arg6 harg6 arg7 harg7 arg8 harg8 arg9 harg9 arg10 harg10 arg11 harg11 x w f g p q
  unfold out0_A_7
  rw [run7 c i arg2 harg2 arg3 harg3 arg4 harg4 arg5 harg5 arg6 harg6 arg7 harg7 arg8 harg8 arg9 harg9 arg10 harg10 arg11 harg11 x w f g p q] at cover ⊢
  exact (congrFun (View.read_writes_eq_canon (Val := Elt Ideal) (e := .bf16) VO0_7 VO0_7.junk _ cover) _).trans (branchPieces_read x w g _ (cover _))

theorem run8 : (kernelRun0_A (F := Ideal) c i arg2 harg2 arg3 harg3 arg4 harg4 arg5 harg5 arg6 harg6 arg7 harg7 arg8 harg8 arg9 harg9 arg10 harg10 arg11 harg11 x w f g p q).2.2.1 = logitPieces x w f p := by
  unfold kernelRun0_A
  dsimp only
  unfold kernelRun0_A.sl.r_18 kernelRun0_A.sl.r_16 kernelRun0_A.sl.r_11 kernelRun0_A.sl.r_13 kernelRun0_A.sl.r_15 kernelRun0_A.sl.r_4 kernelRun0_A.sl.r_5 kernelRun0_A.sl.r_7 kernelRun0_A.sl.r_1
  simp only [View.readAt_eq_ld, Memref.IsWhole.read_unread]
  simp only [View.ld_unit_zero (S := S512x1024) hz]
  rw [pay36_eq, pay28_eq, pay19_eq]
  rfl

theorem out8_apply (a : Fin 1024) (j : Fin 512) : out0_A_8 (F := Ideal) c i arg2 harg2 arg3 harg3 arg4 harg4 arg5 harg5 arg6 harg6 arg7 harg7 arg8 harg8 arg9 harg9 arg10 harg10 arg11 harg11 x w f g p q (ix2 a j) = logit x w f p a j := by
  have cover := cover0_A_8 (F := Ideal) c i arg2 harg2 arg3 harg3 arg4 harg4 arg5 harg5 arg6 harg6 arg7 harg7 arg8 harg8 arg9 harg9 arg10 harg10 arg11 harg11 x w f g p q
  unfold out0_A_8
  rw [run8 c i arg2 harg2 arg3 harg3 arg4 harg4 arg5 harg5 arg6 harg6 arg7 harg7 arg8 harg8 arg9 harg9 arg10 harg10 arg11 harg11 x w f g p q] at cover ⊢
  exact (congrFun (View.read_writes_eq_canon (Val := Elt Ideal) (e := .bf16) VO0_8 VO0_8.junk _ cover) _).trans (logitPieces_read x w f p _ (cover _))

theorem run9 : (kernelRun0_A (F := Ideal) c i arg2 harg2 arg3 harg3 arg4 harg4 arg5 harg5 arg6 harg6 arg7 harg7 arg8 harg8 arg9 harg9 arg10 harg10 arg11 harg11 x w f g p q).2.2.2.1 = logitPieces x w g q := by
  unfold kernelRun0_A
  dsimp only
  unfold kernelRun0_A.sl.r_17 kernelRun0_A.sl.r_16 kernelRun0_A.sl.r_11 kernelRun0_A.sl.r_12 kernelRun0_A.sl.r_14 kernelRun0_A.sl.r_4 kernelRun0_A.sl.r_6 kernelRun0_A.sl.r_8 kernelRun0_A.sl.r_2
  simp only [View.readAt_eq_ld, Memref.IsWhole.read_unread]
  simp only [View.ld_unit_zero (S := S512x1024) hz]
  rw [pay1_eq, pay29_eq, pay20_eq, pay11_eq]
  rfl

theorem out9_apply (a : Fin 1024) (j : Fin 512) : out0_A_9 (F := Ideal) c i arg2 harg2 arg3 harg3 arg4 harg4 arg5 harg5 arg6 harg6 arg7 harg7 arg8 harg8 arg9 harg9 arg10 harg10 arg11 harg11 x w f g p q (ix2 a j) = logit x w g q a j := by
  have cover := cover0_A_9 (F := Ideal) c i arg2 harg2 arg3 harg3 arg4 harg4 arg5 harg5 arg6 harg6 arg7 harg7 arg8 harg8 arg9 harg9 arg10 harg10 arg11 harg11 x w f g p q
  unfold out0_A_9
  rw [run9 c i arg2 harg2 arg3 harg3 arg4 harg4 arg5 harg5 arg6 harg6 arg7 harg7 arg8 harg8 arg9 harg9 arg10 harg10 arg11 harg11 x w f g p q] at cover ⊢
  exact (congrFun (View.read_writes_eq_canon (Val := Elt Ideal) (e := .bf16) VO0_9 VO0_9.junk _ cover) _).trans (logitPieces_read x w g q _ (cover _))

end Run

theorem at0 : ∀ t : Fin cfg0.N, win0_0.index t 0 = t.val / 2 ∧ win0_0.index t 1 = 0 := by decide +kernel
theorem at1 : ∀ t : Fin cfg0.N, win0_1.index t 0 = t.val % 2 ∧ win0_1.index t 1 = 0 := by decide +kernel
theorem at2 : ∀ t : Fin cfg0.N, win0_2.index t 0 = t.val / 2 ∧ win0_2.index t 1 = 2 + t.val % 2 := by decide +kernel
theorem at3 : ∀ t : Fin cfg0.N, win0_3.index t 0 = t.val / 2 ∧ win0_3.index t 1 = 4 + t.val % 2 := by decide +kernel
theorem at4 : ∀ t : Fin cfg0.N, win0_4.index t 0 = t.val / 2 ∧ win0_4.index t 1 = t.val % 2 := by decide +kernel
theorem at5 : ∀ t : Fin cfg0.N, win0_5.index t 0 = t.val / 2 ∧ win0_5.index t 1 = t.val % 2 := by decide +kernel
theorem at6 : ∀ t : Fin cfg0.N, win0_6.index t 0 = t.val / 2 ∧ win0_6.index t 1 = t.val % 2 := by decide +kernel
theorem at7 : ∀ t : Fin cfg0.N, win0_7.index t 0 = t.val / 2 ∧ win0_7.index t 1 = t.val % 2 := by decide +kernel
theorem at8 : ∀ t : Fin cfg0.N, win0_8.index t 0 = t.val / 2 ∧ win0_8.index t 1 = t.val % 2 := by decide +kernel
theorem at9 : ∀ t : Fin cfg0.N, win0_9.index t 0 = t.val / 2 ∧ win0_9.index t 1 = t.val % 2 := by decide +kernel

variable (m : (ℓ : Loc nD τ sig) → Buf (Elt Ideal) ℓ)

theorem entry0 (c : Dev nD) (t : Fin cfg0.N) (i : Fin 1024) (k : Fin 1024) (i' : Fin 2048) (k' : Fin 1024) (hi : i'.val = (t.val / 2) * 1024 + i.val) (hk : k'.val = 0 * 1024 + k.val) :
    (iblk m c 0 t : S1024x1024.Idx → EReal) (ix2 i k) = (m ((c : Thread nD τ).loc main_arg0) : S2048x1024.Idx → EReal) (ix2 i' k') := by
  rw [← V_main_arg0 m c]
  refine congrArg (V m c main_arg0) (eq_of_val _ _ _ ?_ ?_)
  · show win0_0.index t 0 * 1024 + 1 * i.val = i'.val
    rw [(at0 t).1, hi]; omega
  · show win0_0.index t 1 * 1024 + 1 * k.val = k'.val
    rw [(at0 t).2, hk]; omega

theorem entry1 (c : Dev nD) (t : Fin cfg0.N) (i : Fin 512) (k : Fin 1024) (i' : Fin 1024) (k' : Fin 1024) (hi : i'.val = (t.val % 2) * 512 + i.val) (hk : k'.val = 0 * 1024 + k.val) :
    (iblk m c 1 t : S512x1024.Idx → EReal) (ix2 i k) = (m ((c : Thread nD τ).loc main_arg1) : S1024x1024.Idx → EReal) (ix2 i' k') := by
  rw [← V_main_arg1 m c]
  refine congrArg (V m c main_arg1) (eq_of_val _ _ _ ?_ ?_)
  · show win0_1.index t 0 * 512 + 1 * i.val = i'.val
    rw [(at1 t).1, hi]; omega
  · show win0_1.index t 1 * 1024 + 1 * k.val = k'.val
    rw [(at1 t).2, hk]; omega

theorem entry2 (c : Dev nD) (t : Fin cfg0.N) (i : Fin 1024) (k : Fin 512) (i' : Fin 2048) (k' : Fin 3200) (hi : i'.val = (t.val / 2) * 1024 + i.val) (hk : k'.val = (2 + t.val % 2) * 512 + k.val) :
    (X0_2 m c t : S1024x512.Idx → EReal) (ix2 i k) = (m ((c : Thread nD τ).loc main_arg2) : S2048x3200.Idx → EReal) (ix2 i' k') := by
  rw [← V_main_arg2 m c]
  unfold X0_2 Pipeline.Window.fill
  rw [dif_pos (moved0_2 t _)]
  refine congrArg (V m c main_arg2) (eq_of_val _ _ _ ?_ ?_)
  · show win0_2.index t 0 * 1024 + 1 * i.val = i'.val
    rw [(at2 t).1, hi]; omega
  · show win0_2.index t 1 * 512 + 1 * k.val = k'.val
    rw [(at2 t).2, hk]; omega

theorem entry3 (c : Dev nD) (t : Fin cfg0.N) (i : Fin 1024) (k : Fin 512) (i' : Fin 2048) (k' : Fin 3200) (hi : i'.val = (t.val / 2) * 1024 + i.val) (hk : k'.val = (4 + t.val % 2) * 512 + k.val) :
    (X0_3 m c t : S1024x512.Idx → EReal) (ix2 i k) = (m ((c : Thread nD τ).loc main_arg2) : S2048x3200.Idx → EReal) (ix2 i' k') := by
  rw [← V_main_arg2 m c]
  unfold X0_3 Pipeline.Window.fill
  rw [dif_pos (moved0_3 t _)]
  refine congrArg (V m c main_arg2) (eq_of_val _ _ _ ?_ ?_)
  · show win0_3.index t 0 * 1024 + 1 * i.val = i'.val
    rw [(at3 t).1, hi]; omega
  · show win0_3.index t 1 * 512 + 1 * k.val = k'.val
    rw [(at3 t).2, hk]; omega

theorem entry4 (c : Dev nD) (t : Fin cfg0.N) (i : Fin 1024) (k : Fin 512) (i' : Fin 2048) (k' : Fin 1024) (hi : i'.val = (t.val / 2) * 1024 + i.val) (hk : k'.val = (t.val % 2) * 512 + k.val) :
    (iblk m c 4 t : S1024x512.Idx → EReal) (ix2 i k) = (m ((c : Thread nD τ).loc main_arg3) : S2048x1024.Idx → EReal) (ix2 i' k') := by
  rw [← V_main_arg3 m c]
  refine congrArg (V m c main_arg3) (eq_of_val _ _ _ ?_ ?_)
  · show win0_4.index t 0 * 1024 + 1 * i.val = i'.val
    rw [(at4 t).1, hi]; omega
  · show win0_4.index t 1 * 512 + 1 * k.val = k'.val
    rw [(at4 t).2, hk]; omega

theorem entry5 (c : Dev nD) (t : Fin cfg0.N) (i : Fin 1024) (k : Fin 512) (i' : Fin 2048) (k' : Fin 1024) (hi : i'.val = (t.val / 2) * 1024 + i.val) (hk : k'.val = (t.val % 2) * 512 + k.val) :
    (iblk m c 5 t : S1024x512.Idx → EReal) (ix2 i k) = (m ((c : Thread nD τ).loc main_arg4) : S2048x1024.Idx → EReal) (ix2 i' k') := by
  rw [← V_main_arg4 m c]
  refine congrArg (V m c main_arg4) (eq_of_val _ _ _ ?_ ?_)
  · show win0_5.index t 0 * 1024 + 1 * i.val = i'.val
    rw [(at5 t).1, hi]; omega
  · show win0_5.index t 1 * 512 + 1 * k.val = k'.val
    rw [(at5 t).2, hk]; omega

/-- Columns `o` to `o + 1023` of the first projection. -/
def part (o : Nat) (ho : o + 1024 ≤ 3200) (x : S2048x3200.Idx → EReal) : S2048x1024.Idx → EReal := fun q => x (ix2 (q 0) ⟨o + (q 1).val, by have : (q 1).val < 1024 := (q 1).isLt; omega⟩)

theorem final6 (c : Dev nD) (i : Fin 2048) (j : Fin 1024) : ((dats m 0 c).arrAt 6 cfg0.N : S2048x1024.Idx → EReal) (ix2 i j)
    = branch (R := 2048) (N := 1024) (m ((c : Thread nD τ).loc main_arg0) : S2048x1024.Idx → EReal) (m ((c : Thread nD τ).loc main_arg1) : S1024x1024.Idx → EReal)
      (part 1024 (by omega) (m ((c : Thread nD τ).loc main_arg2))) i j := by
  have ht : i.val / 1024 * 2 + j.val / 512 < cfg0.N := by show _ < 4; omega
  have hi : i.val = (i.val / 1024 * 2 + j.val / 512) / 2 * 1024 + i.val % 1024 := by omega
  have hj : j.val = (i.val / 1024 * 2 + j.val / 512) % 2 * 512 + j.val % 512 := by omega
  refine Eq.trans (congrArg _ (eq_of_val _ i j ?_ ?_).symm) ((congrFun ((Value.blocks6 m c ⟨_, ht⟩ (flush0_6 _)).trans (Value.flushed6_A m c ⟨_, ht⟩))
    (ix2 ⟨i.val % 1024, Nat.mod_lt _ (by omega)⟩ ⟨j.val % 512, Nat.mod_lt _ (by omega)⟩)).trans ((out6_apply c _ _ _ _ _ _ _ _ _ _ _ _ _ _ _ _ _ _ _ _ _ _ _ _ _ _ _ _ _).trans ?_))
  · show win0_6.index ⟨_, ht⟩ 0 * 1024 + 1 * (i.val % 1024) = i.val
    rw [(at6 _).1]; show (i.val / 1024 * 2 + j.val / 512) / 2 * 1024 + _ = _; omega
  · show win0_6.index ⟨_, ht⟩ 1 * 512 + 1 * (j.val % 512) = j.val
    rw [(at6 _).2]; show (i.val / 1024 * 2 + j.val / 512) % 2 * 512 + _ = _; omega
  · exact branch_congr (fun k => entry0 m c ⟨_, ht⟩ _ k _ k hi (by omega)) (fun k => entry1 m c ⟨_, ht⟩ _ k _ k hj (by omega))
      (entry2 m c ⟨_, ht⟩ _ _ _ _ hi (by show 1024 + j.val = (2 + (i.val / 1024 * 2 + j.val / 512) % 2) * 512 + j.val % 512; omega))

theorem final7 (c : Dev nD) (i : Fin 2048) (j : Fin 1024) : ((dats m 0 c).arrAt 7 cfg0.N : S2048x1024.Idx → EReal) (ix2 i j)
    = branch (R := 2048) (N := 1024) (m ((c : Thread nD τ).loc main_arg0) : S2048x1024.Idx → EReal) (m ((c : Thread nD τ).loc main_arg1) : S1024x1024.Idx → EReal)
      (part 2048 (by omega) (m ((c : Thread nD τ).loc main_arg2))) i j := by
  have ht : i.val / 1024 * 2 + j.val / 512 < cfg0.N := by show _ < 4; omega
  have hi : i.val = (i.val / 1024 * 2 + j.val / 512) / 2 * 1024 + i.val % 1024 := by omega
  have hj : j.val = (i.val / 1024 * 2 + j.val / 512) % 2 * 512 + j.val % 512 := by omega
  refine Eq.trans (congrArg _ (eq_of_val _ i j ?_ ?_).symm) ((congrFun ((Value.blocks7 m c ⟨_, ht⟩ (flush0_7 _)).trans (Value.flushed7_A m c ⟨_, ht⟩))
    (ix2 ⟨i.val % 1024, Nat.mod_lt _ (by omega)⟩ ⟨j.val % 512, Nat.mod_lt _ (by omega)⟩)).trans ((out7_apply c _ _ _ _ _ _ _ _ _ _ _ _ _ _ _ _ _ _ _ _ _ _ _ _ _ _ _ _ _).trans ?_))
  · show win0_7.index ⟨_, ht⟩ 0 * 1024 + 1 * (i.val % 1024) = i.val
    rw [(at7 _).1]; show (i.val / 1024 * 2 + j.val / 512) / 2 * 1024 + _ = _; omega
  · show win0_7.index ⟨_, ht⟩ 1 * 512 + 1 * (j.val % 512) = j.val
    rw [(at7 _).2]; show (i.val / 1024 * 2 + j.val / 512) % 2 * 512 + _ = _; omega
  · exact branch_congr (fun k => entry0 m c ⟨_, ht⟩ _ k _ k hi (by omega)) (fun k => entry1 m c ⟨_, ht⟩ _ k _ k hj (by omega))
      (entry3 m c ⟨_, ht⟩ _ _ _ _ hi (by show 2048 + j.val = (4 + (i.val / 1024 * 2 + j.val / 512) % 2) * 512 + j.val % 512; omega))

theorem final8 (c : Dev nD) (i : Fin 2048) (j : Fin 1024) : ((dats m 0 c).arrAt 8 cfg0.N : S2048x1024.Idx → EReal) (ix2 i j)
    = logit (R := 2048) (N := 1024) (m ((c : Thread nD τ).loc main_arg0) : S2048x1024.Idx → EReal) (m ((c : Thread nD τ).loc main_arg1) : S1024x1024.Idx → EReal)
      (part 1024 (by omega) (m ((c : Thread nD τ).loc main_arg2))) (m ((c : Thread nD τ).loc main_arg3)) i j := by
  have ht : i.val / 1024 * 2 + j.val / 512 < cfg0.N := by show _ < 4; omega
  have hi : i.val = (i.val / 1024 * 2 + j.val / 512) / 2 * 1024 + i.val % 1024 := by omega
  have hj : j.val = (i.val / 1024 * 2 + j.val / 512) % 2 * 512 + j.val % 512 := by omega
  refine Eq.trans (congrArg _ (eq_of_val _ i j ?_ ?_).symm) ((congrFun ((Value.blocks8 m c ⟨_, ht⟩ (flush0_8 _)).trans (Value.flushed8_A m c ⟨_, ht⟩))
    (ix2 ⟨i.val % 1024, Nat.mod_lt _ (by omega)⟩ ⟨j.val % 512, Nat.mod_lt _ (by omega)⟩)).trans ((out8_apply c _ _ _ _ _ _ _ _ _ _ _ _ _ _ _ _ _ _ _ _ _ _ _ _ _ _ _ _ _).trans ?_))
  · show win0_8.index ⟨_, ht⟩ 0 * 1024 + 1 * (i.val % 1024) = i.val
    rw [(at8 _).1]; show (i.val / 1024 * 2 + j.val / 512) / 2 * 1024 + _ = _; omega
  · show win0_8.index ⟨_, ht⟩ 1 * 512 + 1 * (j.val % 512) = j.val
    rw [(at8 _).2]; show (i.val / 1024 * 2 + j.val / 512) % 2 * 512 + _ = _; omega
  · exact logit_congr (fun k => entry0 m c ⟨_, ht⟩ _ k _ k hi (by omega)) (fun k => entry1 m c ⟨_, ht⟩ _ k _ k hj (by omega))
      (entry2 m c ⟨_, ht⟩ _ _ _ _ hi (by show 1024 + j.val = (2 + (i.val / 1024 * 2 + j.val / 512) % 2) * 512 + j.val % 512; omega)) (entry4 m c ⟨_, ht⟩ _ _ _ _ hi hj)

theorem final9 (c : Dev nD) (i : Fin 2048) (j : Fin 1024) : ((dats m 0 c).arrAt 9 cfg0.N : S2048x1024.Idx → EReal) (ix2 i j)
    = logit (R := 2048) (N := 1024) (m ((c : Thread nD τ).loc main_arg0) : S2048x1024.Idx → EReal) (m ((c : Thread nD τ).loc main_arg1) : S1024x1024.Idx → EReal)
      (part 2048 (by omega) (m ((c : Thread nD τ).loc main_arg2))) (m ((c : Thread nD τ).loc main_arg4)) i j := by
  have ht : i.val / 1024 * 2 + j.val / 512 < cfg0.N := by show _ < 4; omega
  have hi : i.val = (i.val / 1024 * 2 + j.val / 512) / 2 * 1024 + i.val % 1024 := by omega
  have hj : j.val = (i.val / 1024 * 2 + j.val / 512) % 2 * 512 + j.val % 512 := by omega
  refine Eq.trans (congrArg _ (eq_of_val _ i j ?_ ?_).symm) ((congrFun ((Value.blocks9 m c ⟨_, ht⟩ (flush0_9 _)).trans (Value.flushed9_A m c ⟨_, ht⟩))
    (ix2 ⟨i.val % 1024, Nat.mod_lt _ (by omega)⟩ ⟨j.val % 512, Nat.mod_lt _ (by omega)⟩)).trans ((out9_apply c _ _ _ _ _ _ _ _ _ _ _ _ _ _ _ _ _ _ _ _ _ _ _ _ _ _ _ _ _).trans ?_))
  · show win0_9.index ⟨_, ht⟩ 0 * 1024 + 1 * (i.val % 1024) = i.val
    rw [(at9 _).1]; show (i.val / 1024 * 2 + j.val / 512) / 2 * 1024 + _ = _; omega
  · show win0_9.index ⟨_, ht⟩ 1 * 512 + 1 * (j.val % 512) = j.val
    rw [(at9 _).2]; show (i.val / 1024 * 2 + j.val / 512) % 2 * 512 + _ = _; omega
  · exact logit_congr (fun k => entry0 m c ⟨_, ht⟩ _ k _ k hi (by omega)) (fun k => entry1 m c ⟨_, ht⟩ _ k _ k hj (by omega))
      (entry3 m c ⟨_, ht⟩ _ _ _ _ hi (by show 2048 + j.val = (4 + (i.val / 1024 * 2 + j.val / 512) % 2) * 512 + j.val % 512; omega)) (entry5 m c ⟨_, ht⟩ _ _ _ _ hi hj)

section Reference
open Cert.Reference15Ideal.Read

/-- The reference's gradient of the sum. -/
theorem product_read (x : S2048x1024.Idx → EReal) (w : S1024x1024.Idx → EReal) (i : Fin 2048) (j : Fin 1024) : val_main_v28 (F := Ideal) x w (ix2 i j) = mulNT x w i j := by
  simp only [val_main_v28, val_main_v27, val_main_v25, pointwise, zero_add]
  rfl

theorem fox_read (f : S2048x3200.Idx → EReal) (i : Fin 2048) (j : Fin 1024) : val_main_v9 (F := Ideal) f (ix2 i j) = gate (part 1024 (by omega) f (ix2 i j)) := by
  rw [val_main_v9_apply, val_main_v8_apply, val_main_v7_apply, val_main_v6_apply, val_main_v5_apply, val_main_v4_apply, val_main_v2_apply,
    show f (idx_main_v2 (ix2 i j)) = part 1024 (by omega) f (ix2 i j) from congrArg f (eq_of_val _ _ _ rfl rfl)]
  unfold gate
  rw [← Ideal.ofBits_one_f32]
  rfl

theorem mla_read (f : S2048x3200.Idx → EReal) (i : Fin 2048) (j : Fin 1024) : val_main_v19 (F := Ideal) f (ix2 i j) = gate (part 2048 (by omega) f (ix2 i j)) := by
  rw [val_main_v19_apply, val_main_v18_apply, val_main_v17_apply, val_main_v16_apply, val_main_v15_apply, val_main_v14_apply, val_main_v3_apply,
    show f (idx_main_v3 (ix2 i j)) = part 2048 (by omega) f (ix2 i j) from congrArg f (eq_of_val _ _ _ rfl rfl)]
  unfold gate
  rw [← Ideal.ofBits_one_f32]
  rfl

theorem fox_branch_read (x : S2048x1024.Idx → EReal) (w : S1024x1024.Idx → EReal) (f : S2048x3200.Idx → EReal) (i : Fin 2048) (j : Fin 1024) : val_main_v35 (F := Ideal) x w f (ix2 i j) = branch x w (part 1024 (by omega) f) i j := by
  rw [val_main_v35_apply, val_main_v32_apply, fox_read, product_read]
  exact mul_comm _ _

theorem mla_branch_read (x : S2048x1024.Idx → EReal) (w : S1024x1024.Idx → EReal) (f : S2048x3200.Idx → EReal) (i : Fin 2048) (j : Fin 1024) : val_main_v36 (F := Ideal) x w f (ix2 i j) = branch x w (part 2048 (by omega) f) i j := by
  rw [val_main_v36_apply, val_main_v29_apply, mla_read, product_read]
  exact mul_comm _ _

theorem fox_logit_read (x : S2048x1024.Idx → EReal) (w : S1024x1024.Idx → EReal) (f : S2048x3200.Idx → EReal) (p : S2048x1024.Idx → EReal) (i : Fin 2048) (j : Fin 1024) :
    val_main_v37 (F := Ideal) x w f p (ix2 i j) = logit x w (part 1024 (by omega) f) p i j := by
  rw [val_main_v37_apply, val_main_v34_apply, val_main_v33_apply, val_main_v12_apply, val_main_v11_apply, val_main_v10_apply, val_main_cst_1_apply, val_main_v0_apply, fox_read, product_read]
  unfold logit
  rw [← Ideal.ofBits_one_f32]
  rfl

theorem mla_logit_read (x : S2048x1024.Idx → EReal) (w : S1024x1024.Idx → EReal) (f : S2048x3200.Idx → EReal) (p : S2048x1024.Idx → EReal) (i : Fin 2048) (j : Fin 1024) :
    val_main_v38 (F := Ideal) x w f p (ix2 i j) = logit x w (part 2048 (by omega) f) p i j := by
  rw [val_main_v38_apply, val_main_v31_apply, val_main_v30_apply, val_main_v22_apply, val_main_v21_apply, val_main_v20_apply, val_main_cst_4_apply, val_main_v1_apply, mla_read, product_read]
  unfold logit
  rw [← Ideal.ofBits_one_f32]
  rfl

end Reference

theorem frame_reference : Cert.quiescent_Reference15Ideal := fun m g _ =>
  (θ_run Cert.Reference15Ideal.defs _ _).mono
    (fun r h => ⟨fun c => (h c).2.2.2.2, Idealize.ShloMosaic.sem_eq_zero_of_no_sems (by decide) r.2⟩)
    (Cert.Reference15Ideal.Value.run (F := Ideal) m g)

/-- From memories that agree on the arguments the call and its reference leave the same results. -/
theorem algebraic : Cert.algebraic_Kernel15Ideal_Reference15Ideal := by
  intro m g m' g' _ hargs
  refine ⟨_, _, _, _, (θ_run _ _ _).mono (fun r h c => h c) (Cert.Kernel15Ideal.Value.run_blocks m g),
    (θ_run _ _ _).mono (fun r h c => ⟨(h c).1.trans ?_, (h c).2.1.trans ?_, (h c).2.2.1.trans ?_, (h c).2.2.2.1.trans ?_, (h c).2.2.2.2⟩) (Cert.Reference15Ideal.Value.run m' g')⟩
  · rw [Cert.Reference15Ideal.Read.val_main_v35_eq, (hargs c).1, (hargs c).2.1, (hargs c).2.2.1]
    exact Blocks.ext _ _ fun i j => (fox_branch_read _ _ _ i j).trans (final6 m c i j).symm
  · rw [Cert.Reference15Ideal.Read.val_main_v36_eq, (hargs c).1, (hargs c).2.1, (hargs c).2.2.1]
    exact Blocks.ext _ _ fun i j => (mla_branch_read _ _ _ i j).trans (final7 m c i j).symm
  · rw [Cert.Reference15Ideal.Read.val_main_v37_eq, (hargs c).1, (hargs c).2.1, (hargs c).2.2.1, (hargs c).2.2.2.1]
    exact Blocks.ext _ _ fun i j => (fox_logit_read _ _ _ _ i j).trans (final8 m c i j).symm
  · rw [Cert.Reference15Ideal.Read.val_main_v38_eq, (hargs c).1, (hargs c).2.1, (hargs c).2.2.1, (hargs c).2.2.2.2]
    exact Blocks.ext _ _ fun i j => (mla_logit_read _ _ _ _ i j).trans (final9 m c i j).symm

end Cert.Proof.OutProjDx

end
-- ==== Proof.OutProjDw.lean ====
/- The gradient of the mixer's output weight, `mergedᵀ dy`. -/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Blocks
public import proofs.«01_k».proof.Defs

@[expose] public section

set_option maxRecDepth 16384

noncomputable section

namespace Cert.Proof.OutProjDw

open Cert.Kernel16Ideal Cert.Kernel16Ideal.Gen Idealize.ShloMosaic Idealize.ShloMosaic.TcCoe Idealize.SL.Sem
open Idealize.ShloMosaic.Pipeline (Dat)
open Cert.Proof.Blocks

/-- A block of the result, at an entry. -/
theorem out_apply (x : S2048x1024.Idx → EReal) (y : S2048x1024.Idx → EReal) (i : Fin 1024) (j : Fin 1024) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 1024) (j : Fin 1024) : ((dats m 0 c).arrAt 2 cfg0.N : S1024x1024.Idx → EReal) (ix2 i j)
    = mulTN (M := 1024) (K := 2048) (N := 1024) (m ((c : Thread nD τ).loc main_arg0)) (m ((c : Thread nD τ).loc main_arg1)) i j := by
  have ht : i.val / 1024 * 1 + j.val / 1024 < cfg0.N := by show _ < 1; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1024, Nat.mod_lt _ (by omega)⟩ ⟨j.val % 1024, Nat.mod_lt _ (by omega)⟩)).trans
    ((out_apply _ _ _ _).trans (mulTN_congr (fun k => ?_) (fun k => ?_))))
  · show win0_2.index ⟨_, ht⟩ 0 * 1024 + 1 * (i.val % 1024) = i.val
    rw [(at2 _).1]
    show (i.val / 1024 * 1 + j.val / 1024) / 1 * 1024 + 1 * (i.val % 1024) = i.val
    omega
  · show win0_2.index ⟨_, ht⟩ 1 * 1024 + 1 * (j.val % 1024) = j.val
    rw [(at2 _).2]
    show (i.val / 1024 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 1024 + 1 * (i.val % 1024) = i.val
      rw [(at0 _).2]
      show (i.val / 1024 * 1 + j.val / 1024) / 1 * 1024 + 1 * (i.val % 1024) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 1024 + 1 * (j.val % 1024) = j.val
      rw [(at1 _).2]
      show (i.val / 1024 * 1 + j.val / 1024) % 1 * 1024 + 1 * (j.val % 1024) = j.val
      omega

/-- The reference's result, at an entry. -/
theorem reference_apply (x : S2048x1024.Idx → EReal) (y : S2048x1024.Idx → EReal) (i : Fin 1024) (j : Fin 1024) :
    Cert.Reference16Ideal.Read.val_main_v6 (F := Ideal) x y (ix2 i j) = mulTN x y i j := by
  simp only [Cert.Reference16Ideal.Read.val_main_v6, Cert.Reference16Ideal.Read.val_main_v5, Cert.Reference16Ideal.Read.val_main_v4, Cert.Reference16Ideal.Read.val_main_v3, Cert.Reference16Ideal.Read.val_main_v2, Cert.Reference16Ideal.Read.val_main_v1, pointwise]
  exact (zero_add _).trans (Finset.sum_congr rfl fun k _ => mul_comm _ _)

theorem frame_reference : Cert.quiescent_Reference16Ideal := fun m g _ =>
  (θ_run Cert.Reference16Ideal.defs _ _).mono
    (fun r h => ⟨fun c => (h c).2, Idealize.ShloMosaic.sem_eq_zero_of_no_sems (by decide) r.2⟩)
    (Cert.Reference16Ideal.Value.run (F := Ideal) m g)

/-- From memories that agree on the arguments the call and its reference leave the same result. -/
theorem algebraic : Cert.algebraic_Kernel16Ideal_Reference16Ideal := by
  intro m g m' g' _ hargs
  refine ⟨_, (θ_run _ _ _).mono (fun r h c => h c) (Cert.Kernel16Ideal.Value.run_blocks m g),
    (θ_run _ _ _).mono (fun r h c => ⟨(h c).1.trans ?_, (h c).2⟩) (Cert.Reference16Ideal.Value.run m' g')⟩
  rw [Cert.Reference16Ideal.Read.val_main_v6_eq, (hargs c).1, (hargs c).2]
  exact Blocks.ext _ _ fun i j => (reference_apply _ _ i j).trans (final m c i j).symm

end Cert.Proof.OutProjDw

end
-- ==== Proof.Proj.lean ====
/- A branch's output product, `o w`. -/
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Blocks
public import proofs.«01_k».proof.Defs

@[expose] public section

set_option maxRecDepth 16384

noncomputable section

namespace Cert.Proof.Proj

open Cert.Kernel17Ideal Cert.Kernel17Ideal.Gen Idealize.ShloMosaic Idealize.ShloMosaic.TcCoe Idealize.SL.Sem
open Idealize.ShloMosaic.Pipeline (Dat)
open Cert.Proof.Blocks

/-- A block of the result, at an entry. -/
theorem out_apply (x : S1024x512.Idx → EReal) (y : S512x1024.Idx → EReal) (i : Fin 1024) (j : Fin 1024) :
    out0_2 (F := Ideal) x y (ix2 i j) = mulNN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = t.val / 1 ∧ win0_0.index t 1 = 0 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 2048) (j : Fin 1024) : ((dats m 0 c).arrAt 2 cfg0.N : S2048x1024.Idx → EReal) (ix2 i j)
    = mulNN (M := 2048) (K := 512) (N := 1024) (m ((c : Thread nD τ).loc main_arg0)) (m ((c : Thread nD τ).loc main_arg1)) i j := by
  have ht : i.val / 1024 * 1 + j.val / 1024 < cfg0.N := by show _ < 2; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1024, Nat.mod_lt _ (by omega)⟩ ⟨j.val % 1024, Nat.mod_lt _ (by omega)⟩)).trans
    ((out_apply _ _ _ _).trans (mulNN_congr (fun k => ?_) (fun k => ?_))))
  · show win0_2.index ⟨_, ht⟩ 0 * 1024 + 1 * (i.val % 1024) = i.val
    rw [(at2 _).1]
    show (i.val / 1024 * 1 + j.val / 1024) / 1 * 1024 + 1 * (i.val % 1024) = i.val
    omega
  · show win0_2.index ⟨_, ht⟩ 1 * 1024 + 1 * (j.val % 1024) = j.val
    rw [(at2 _).2]
    show (i.val / 1024 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 1024 + 1 * (i.val % 1024) = i.val
      rw [(at0 _).1]
      show (i.val / 1024 * 1 + j.val / 1024) / 1 * 1024 + 1 * (i.val % 1024) = i.val
      omega
    · show win0_0.index ⟨_, ht⟩ 1 * 512 + 1 * k.val = k.val
      rw [(at0 _).2]; omega
  · rw [← V_main_arg1 m c]
    refine congrArg (V m c main_arg1) (eq_of_val _ _ _ ?_ ?_)
    · show win0_1.index ⟨_, ht⟩ 0 * 512 + 1 * k.val = k.val
      rw [(at1 _).1]; omega
    · show win0_1.index ⟨_, ht⟩ 1 * 1024 + 1 * (j.val % 1024) = j.val
      rw [(at1 _).2]
      show (i.val / 1024 * 1 + j.val / 1024) % 1 * 1024 + 1 * (j.val % 1024) = j.val
      omega

/-- The reference's result, at an entry. -/
theorem reference_apply (x : S2048x512.Idx → EReal) (y : S512x1024.Idx → EReal) (i : Fin 2048) (j : Fin 1024) :
    Cert.Reference17Ideal.Read.val_main_v3 (F := Ideal) x y (ix2 i j) = mulNN x y i j := by
  simp only [Cert.Reference17Ideal.Read.val_main_v3, Cert.Reference17Ideal.Read.val_main_v2, Cert.Reference17Ideal.Read.val_main_v1, Cert.Reference17Ideal.Read.val_main_v0, pointwise]
  exact zero_add _

theorem frame_reference : Cert.quiescent_Reference17Ideal := fun m g _ =>
  (θ_run Cert.Reference17Ideal.defs _ _).mono
    (fun r h => ⟨fun c => (h c).2, Idealize.ShloMosaic.sem_eq_zero_of_no_sems (by decide) r.2⟩)
    (Cert.Reference17Ideal.Value.run (F := Ideal) m g)

/-- From memories that agree on the arguments the call and its reference leave the same result. -/
theorem algebraic : Cert.algebraic_Kernel17Ideal_Reference17Ideal := by
  intro m g m' g' _ hargs
  refine ⟨_, (θ_run _ _ _).mono (fun r h c => h c) (Cert.Kernel17Ideal.Value.run_blocks m g),
    (θ_run _ _ _).mono (fun r h c => ⟨(h c).1.trans ?_, (h c).2⟩) (Cert.Reference17Ideal.Value.run m' g')⟩
  rw [Cert.Reference17Ideal.Read.val_main_v3_eq, (hargs c).1, (hargs c).2]
  exact Blocks.ext _ _ fun i j => (reference_apply _ _ i j).trans (final m c i j).symm

end Cert.Proof.Proj

end
-- ==== Proof.ProjMerge.lean ====
/- The second branch's projection and the gated sum of the two branches, 256 rows at a time. -/
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Numbers
public import proofs.«01_k».proof.Proof.Norms
public import proofs.«01_k».proof.Defs

@[expose] public section

set_option maxRecDepth 16384

noncomputable section

namespace Cert.Proof.ProjMerge

open Cert.Kernel18Ideal Cert.Kernel18Ideal.Gen Idealize.ShloMosaic Idealize.ShloMosaic.TcCoe Idealize.SL.Sem
open Idealize.ShloMosaic.Pipeline (Dat)
open Cert.Proof.Blocks Cert.Proof.Numbers

/-- The gated sum of a matrix `p` and a product. -/
def merged {R K N : Nat} (x : (Mat R K).Idx → EReal) (w : (Mat K N).Idx → EReal) (f g p : (Mat R N).Idx → EReal) (i : Fin R) (j : Fin N) : EReal :=
  gate (f (ix2 i j)) * p (ix2 i j) + gate (g (ix2 i j)) * mulNN x w i j

theorem pay4_apply (x : S256x512.Idx → EReal) (w : S512x512.Idx → EReal) (f g p : S256x512.Idx → EReal) (i : Fin 256) (j : Fin 512) :
    k0_pay4 (F := Ideal) x w f g p (ix2 i j) = merged x w f g p i j := by
  simp only [k0_pay4, k0_pay3, pointwise, zero_sub, zero_add]
  rfl

theorem pay5_apply (x : S256x512.Idx → EReal) (w : S512x512.Idx → EReal) (i : Fin 256) (j : Fin 512) : k0_pay5 (F := Ideal) x w (ix2 i j) = mulNN x w i j := by
  simp only [k0_pay5, k0_pay3, pointwise, zero_add]
  rfl

/-- 256 rows of a block, from row `o` on. -/
def rows (e : EltTy) (x : S1024x512.Idx → Elt Ideal e) (o : Nat) (inb : ∀ a, (![o, 0] : Fin 2 → Nat) a + S256x512.size a ≤ S1024x512.size a) : S256x512.Idx → Elt Ideal e :=
  View.ld (Val := Elt Ideal) (e' := e) x (Rect.unit (s := S1024x512) ![o, 0] S256x512.size inb)

/-- The store of the gated sum of 256 rows. -/
def sumPiece (x : S1024x512.Idx → EReal) (w : S512x512.Idx → EReal) (f g p : S1024x512.Idx → EReal) (o : Nat) (inb : ∀ a, (![o, 0] : Fin 2 → Nat) a + S256x512.size a ≤ S1024x512.size a) : View.Piece (Elt Ideal) S1024x512 .bf16 :=
  ⟨Rect.unit (s := S1024x512) ![o, 0] S256x512.size inb,
    k0_pay4 (F := Ideal) (rows .bf16 x o inb) w (rows .f32 f o inb) (rows .f32 g o inb) (rows .bf16 p o inb)⟩

/-- The store of the product of 256 rows. -/
def prodPiece (x : S1024x512.Idx → EReal) (w : S512x512.Idx → EReal) (o : Nat) (inb : ∀ a, (![o, 0] : Fin 2 → Nat) a + S256x512.size a ≤ S1024x512.size a) : View.Piece (Elt Ideal) S1024x512 .bf16 :=
  ⟨Rect.unit (s := S1024x512) ![o, 0] S256x512.size inb, k0_pay5 (F := Ideal) (rows .bf16 x o inb) w⟩

theorem merged_congr {R R' K N N' : Nat} {x : (Mat R K).Idx → EReal} {w : (Mat K N).Idx → EReal} {f g p : (Mat R N).Idx → EReal}
    {x' : (Mat R' K).Idx → EReal} {w' : (Mat K N').Idx → EReal} {f' g' p' : (Mat R' N').Idx → EReal} {i : Fin R} {j : Fin N} {i' : Fin R'} {j' : Fin N'}
    (hx : ∀ k, x (ix2 i k) = x' (ix2 i' k)) (hw : ∀ k, w (ix2 k j) = w' (ix2 k j')) (hf : f (ix2 i j) = f' (ix2 i' j')) (hg : g (ix2 i j) = g' (ix2 i' j'))
    (hp : p (ix2 i j) = p' (ix2 i' j')) : merged x w f g p i j = merged x' w' f' g' p' i' j' := by
  unfold merged
  rw [hf, hg, hp, mulNN_congr hx hw]

section Rows
variable (x : S1024x512.Idx → EReal) (o : Nat) (inb : ∀ a, (![o, 0] : Fin 2 → Nat) a + S256x512.size a ≤ S1024x512.size a) (y : S256x512.Idx)

theorem at_row (k : Fin 512) : rows .bf16 x o inb (ix2 (y 0) k) = x (ix2 ((Rect.unit (s := S1024x512) ![o, 0] S256x512.size inb).idx y 0) k) :=
  congrArg x (eq_of_val _ _ _ rfl (by show 0 + 1 * k.val = k.val; omega))

theorem at_entry : rows .bf16 x o inb (ix2 (y 0) (y 1))
    = x (ix2 ((Rect.unit (s := S1024x512) ![o, 0] S256x512.size inb).idx y 0) ((Rect.unit (s := S1024x512) ![o, 0] S256x512.size inb).idx y 1)) :=
  congrArg x (eq_of_val _ _ _ rfl rfl)

theorem at_col (k : Fin 512) : (ix2 k (y 1) : S512x512.Idx) = ix2 k ((Rect.unit (s := S1024x512) ![o, 0] S256x512.size inb).idx y 1) :=
  eq_of_val _ _ _ rfl (by show (y 1).val = 0 + 1 * (y 1).val; omega)
end Rows

section Run
variable (c : Dev nD) (i : grid0.Coords) (arg2 : Memref sig .tc .vmem S1024x512 .bf16) (harg2 : arg2.IsWhole) (arg3 : Memref sig .tc .vmem S512x512 .bf16) (harg3 : arg3.IsWhole)
  (arg4 : Memref sig .tc .vmem S1024x512 .f32) (harg4 : arg4.IsWhole) (arg5 : Memref sig .tc .vmem S1024x512 .f32) (harg5 : arg5.IsWhole) (arg6 : Memref sig .tc .vmem S1024x512 .bf16) (harg6 : arg6.IsWhole)
  (arg7 : Memref sig .tc .vmem S1024x512 .bf16) (harg7 : arg7.IsWhole) (arg8 : Memref sig .tc .vmem S1024x512 .bf16) (harg8 : arg8.IsWhole)
  (x : S1024x512.Idx → EReal) (w : S512x512.Idx → EReal) (f g p : S1024x512.Idx → EReal)

theorem run_sums :
    (kernelRun0_A (F := Ideal) c i arg2 harg2 arg3 harg3 arg4 harg4 arg5 harg5 arg6 harg6 arg7 harg7 arg8 harg8 x w f g p).1
      = [sumPiece x w f g p 768 inb_S1024x512_S256x512_768_0, sumPiece x w f g p 512 inb_S1024x512_S256x512_512_0,
        sumPiece x w f g p 256 inb_S1024x512_S256x512_256_0, sumPiece x w f g p 0 inb_S1024x512_S256x512_0_0] := by
  unfold kernelRun0_A
  dsimp only
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8
  simp only [View.readAt_eq_ld, Memref.IsWhole.read_unread]
  simp only [View.ld_unit_zero (S := S512x512) hz]
  rfl

theorem run_prods :
    (kernelRun0_A (F := Ideal) c i arg2 harg2 arg3 harg3 arg4 harg4 arg5 harg5 arg6 harg6 arg7 harg7 arg8 harg8 x w f g p).2.1
      = [prodPiece x w 768 inb_S1024x512_S256x512_768_0, prodPiece x w 512 inb_S1024x512_S256x512_512_0,
        prodPiece x w 256 inb_S1024x512_S256x512_256_0, prodPiece x w 0 inb_S1024x512_S256x512_0_0] := by
  unfold kernelRun0_A
  dsimp only
  unfold kernelRun0_A.sl.r kernelRun0_A.sl.r_1 kernelRun0_A.sl.r_2 kernelRun0_A.sl.r_5
  simp only [View.readAt_eq_ld, Memref.IsWhole.read_unread]
  simp only [View.ld_unit_zero (S := S512x512) hz]
  rfl

theorem sumPiece_reads (o : Nat) (inb : ∀ a, (![o, 0] : Fin 2 → Nat) a + S256x512.size a ≤ S1024x512.size a) (y) : (sumPiece x w f g p o inb).2 y
    = (fun z : S1024x512.Idx => merged x w f g p (z 0) (z 1)) ((sumPiece x w f g p o inb).1.idx y) := by
  refine (congrArg _ (ValueIdx.eq_ix2 (n0 := 256) (n1 := 512) y)).trans ((pay4_apply _ _ _ _ _ _ _).trans ?_)
  exact merged_congr (fun k => at_row x o inb y k) (fun k => congrArg w (at_col o inb y k)) (at_entry f o inb y) (at_entry g o inb y) (at_entry p o inb y)

theorem prodPiece_reads (o : Nat) (inb : ∀ a, (![o, 0] : Fin 2 → Nat) a + S256x512.size a ≤ S1024x512.size a) (y) : (prodPiece x w o inb).2 y
    = (fun z : S1024x512.Idx => mulNN x w (z 0) (z 1)) ((prodPiece x w o inb).1.idx y) := by
  refine (congrArg _ (ValueIdx.eq_ix2 (n0 := 256) (n1 := 512) y)).trans ((pay5_apply _ _ _ _).trans ?_)
  exact mulNN_congr (fun k => at_row x o inb y k) (fun k => congrArg w (at_col o inb y k))

theorem out5_apply (a : Fin 1024) (j : Fin 512) : out0_A_5 (F := Ideal) c i arg2 harg2 arg3 harg3 arg4 harg4 arg5 harg5 arg6 harg6 arg7 harg7 arg8 harg8 x w f g p (ix2 a j) = merged x w f g p a j := by
  have cover := cover0_A_5 (F := Ideal) c i arg2 harg2 arg3 harg3 arg4 harg4 arg5 harg5 arg6 harg6 arg7 harg7 arg8 harg8 x w f g p
  unfold out0_A_5
  rw [run_sums c i arg2 harg2 arg3 harg3 arg4 harg4 arg5 harg5 arg6 harg6 arg7 harg7 arg8 harg8 x w f g p] at cover ⊢
  refine (congrFun (View.read_writes_eq_canon (Val := Elt Ideal) (e := .bf16) VO0_5 VO0_5.junk _ cover) _).trans ?_
  refine View.canon_apply_of_pieces (Val := Elt Ideal) (e := .bf16) (fun z : S1024x512.Idx => merged x w f g p (z 0) (z 1)) _ ?_ _ (cover _)
  intro q hq y
  simp only [List.mem_cons, List.not_mem_nil, or_false] at hq
  rcases hq with rfl | rfl | rfl | rfl <;> exact sumPiece_reads x w f g p _ _ y

theorem out6_apply (a : Fin 1024) (j : Fin 512) : out0_A_6 (F := Ideal) c i arg2 harg2 arg3 harg3 arg4 harg4 arg5 harg5 arg6 harg6 arg7 harg7 arg8 harg8 x w f g p (ix2 a j) = mulNN x w a j := by
  have cover := cover0_A_6 (F := Ideal) c i arg2 harg2 arg3 harg3 arg4 harg4 arg5 harg5 arg6 harg6 arg7 harg7 arg8 harg8 x w f g p
  unfold out0_A_6
  rw [run_prods c i arg2 harg2 arg3 harg3 arg4 harg4 arg5 harg5 arg6 harg6 arg7 harg7 arg8 harg8 x w f g p] at cover ⊢
  refine (congrFun (View.read_writes_eq_canon (Val := Elt Ideal) (e := .bf16) VO0_6 VO0_6.junk _ cover) _).trans ?_
  refine View.canon_apply_of_pieces (Val := Elt Ideal) (e := .bf16) (fun z : S1024x512.Idx => mulNN x w (z 0) (z 1)) _ ?_ _ (cover _)
  intro q hq y
  simp only [List.mem_cons, List.not_mem_nil, or_false] at hq
  rcases hq with rfl | rfl | rfl | rfl <;> exact prodPiece_reads x w _ _ y
end Run

theorem at0 : ∀ t : Fin cfg0.N, win0_0.index t 0 = t.val / 2 ∧ win0_0.index t 1 = 0 := by decide +kernel
theorem at1 : ∀ t : Fin cfg0.N, win0_1.index t 0 = 0 ∧ win0_1.index t 1 = t.val % 2 := by decide +kernel
theorem at2 : ∀ t : Fin cfg0.N, win0_2.index t 0 = t.val / 2 ∧ win0_2.index t 1 = 2 + t.val % 2 := by decide +kernel
theorem at3 : ∀ t : Fin cfg0.N, win0_3.index t 0 = t.val / 2 ∧ win0_3.index t 1 = 4 + t.val % 2 := by decide +kernel
theorem at4 : ∀ t : Fin cfg0.N, win0_4.index t 0 = t.val / 2 ∧ win0_4.index t 1 = t.val % 2 := by decide +kernel
theorem at5 : ∀ t : Fin cfg0.N, win0_5.index t 0 = t.val / 2 ∧ win0_5.index t 1 = t.val % 2 := by decide +kernel
theorem at6 : ∀ t : Fin cfg0.N, win0_6.index t 0 = t.val / 2 ∧ win0_6.index t 1 = t.val % 2 := by decide +kernel

variable (m : (ℓ : Loc nD τ sig) → Buf (Elt Ideal) ℓ)

theorem entry0 (c : Dev nD) (t : Fin cfg0.N) (i : Fin 1024) (k : Fin 512) (i' : Fin 2048) (k' : Fin 512) (hi : i'.val = (t.val / 2) * 1024 + i.val) (hk : k'.val = 0 * 512 + k.val) :
    (iblk m c 0 t : S1024x512.Idx → EReal) (ix2 i k) = (m ((c : Thread nD τ).loc main_arg0) : S2048x512.Idx → EReal) (ix2 i' k') := by
  rw [← V_main_arg0 m c]
  refine congrArg (V m c main_arg0) (eq_of_val _ _ _ ?_ ?_)
  · show win0_0.index t 0 * 1024 + 1 * i.val = i'.val
    rw [(at0 t).1, hi]; omega
  · show win0_0.index t 1 * 512 + 1 * k.val = k'.val
    rw [(at0 t).2, hk]; omega

theorem entry1 (c : Dev nD) (t : Fin cfg0.N) (i : Fin 512) (k : Fin 512) (i' : Fin 512) (k' : Fin 1024) (hi : i'.val = 0 * 512 + i.val) (hk : k'.val = (t.val % 2) * 512 + k.val) :
    (iblk m c 1 t : S512x512.Idx → EReal) (ix2 i k) = (m ((c : Thread nD τ).loc main_arg1) : S512x1024.Idx → EReal) (ix2 i' k') := by
  rw [← V_main_arg1 m c]
  refine congrArg (V m c main_arg1) (eq_of_val _ _ _ ?_ ?_)
  · show win0_1.index t 0 * 512 + 1 * i.val = i'.val
    rw [(at1 t).1, hi]; omega
  · show win0_1.index t 1 * 512 + 1 * k.val = k'.val
    rw [(at1 t).2, hk]; omega

theorem entry2 (c : Dev nD) (t : Fin cfg0.N) (i : Fin 1024) (k : Fin 512) (i' : Fin 2048) (k' : Fin 3200) (hi : i'.val = (t.val / 2) * 1024 + i.val) (hk : k'.val = (2 + t.val % 2) * 512 + k.val) :
    (X0_2 m c t : S1024x512.Idx → EReal) (ix2 i k) = (m ((c : Thread nD τ).loc main_arg2) : S2048x3200.Idx → EReal) (ix2 i' k') := by
  rw [← V_main_arg2 m c]
  unfold X0_2 Pipeline.Window.fill
  rw [dif_pos (moved0_2 t _)]
  refine congrArg (V m c main_arg2) (eq_of_val _ _ _ ?_ ?_)
  · show win0_2.index t 0 * 1024 + 1 * i.val = i'.val
    rw [(at2 t).1, hi]; omega
  · show win0_2.index t 1 * 512 + 1 * k.val = k'.val
    rw [(at2 t).2, hk]; omega

theorem entry3 (c : Dev nD) (t : Fin cfg0.N) (i : Fin 1024) (k : Fin 512) (i' : Fin 2048) (k' : Fin 3200) (hi : i'.val = (t.val / 2) * 1024 + i.val) (hk : k'.val = (4 + t.val % 2) * 512 + k.val) :
    (X0_3 m c t : S1024x512.Idx → EReal) (ix2 i k) = (m ((c : Thread nD τ).loc main_arg2) : S2048x3200.Idx → EReal) (ix2 i' k') := by
  rw [← V_main_arg2 m c]
  unfold X0_3 Pipeline.Window.fill
  rw [dif_pos (moved0_3 t _)]
  refine congrArg (V m c main_arg2) (eq_of_val _ _ _ ?_ ?_)
  · show win0_3.index t 0 * 1024 + 1 * i.val = i'.val
    rw [(at3 t).1, hi]; omega
  · show win0_3.index t 1 * 512 + 1 * k.val = k'.val
    rw [(at3 t).2, hk]; omega

theorem entry4 (c : Dev nD) (t : Fin cfg0.N) (i : Fin 1024) (k : Fin 512) (i' : Fin 2048) (k' : Fin 1024) (hi : i'.val = (t.val / 2) * 1024 + i.val) (hk : k'.val = (t.val % 2) * 512 + k.val) :
    (iblk m c 4 t : S1024x512.Idx → EReal) (ix2 i k) = (m ((c : Thread nD τ).loc main_arg3) : S2048x1024.Idx → EReal) (ix2 i' k') := by
  rw [← V_main_arg3 m c]
  refine congrArg (V m c main_arg3) (eq_of_val _ _ _ ?_ ?_)
  · show win0_4.index t 0 * 1024 + 1 * i.val = i'.val
    rw [(at4 t).1, hi]; omega
  · show win0_4.index t 1 * 512 + 1 * k.val = k'.val
    rw [(at4 t).2, hk]; omega

/-- Columns `o` to `o + 1023` of the first projection. -/
def part (o : Nat) (ho : o + 1024 ≤ 3200) (x : S2048x3200.Idx → EReal) : S2048x1024.Idx → EReal := fun q => x (ix2 (q 0) ⟨o + (q 1).val, by have := (q 1).isLt; show _ < 3200; have : (q 1).val < 1024 := this; omega⟩)

/-- An entry of the gated sum the call leaves. -/
theorem final5 (c : Dev nD) (i : Fin 2048) (j : Fin 1024) : ((dats m 0 c).arrAt 5 cfg0.N : S2048x1024.Idx → EReal) (ix2 i j)
    = merged (R := 2048) (N := 1024) (m ((c : Thread nD τ).loc main_arg0) : S2048x512.Idx → EReal) (m ((c : Thread nD τ).loc main_arg1) : S512x1024.Idx → EReal)
      (part 1024 (by omega) (m ((c : Thread nD τ).loc main_arg2))) (part 2048 (by omega) (m ((c : Thread nD τ).loc main_arg2))) (m ((c : Thread nD τ).loc main_arg3)) i j := by
  have ht : i.val / 1024 * 2 + j.val / 512 < cfg0.N := by show _ < 4; omega
  have hi : i.val = (i.val / 1024 * 2 + j.val / 512) / 2 * 1024 + i.val % 1024 := by omega
  have hj : j.val = (i.val / 1024 * 2 + j.val / 512) % 2 * 512 + j.val % 512 := by omega
  refine Eq.trans (congrArg _ (eq_of_val _ i j ?_ ?_).symm) ((congrFun ((Value.blocks5 m c ⟨_, ht⟩ (flush0_5 _)).trans (Value.flushed5_A m c ⟨_, ht⟩))
    (ix2 ⟨i.val % 1024, Nat.mod_lt _ (by omega)⟩ ⟨j.val % 512, Nat.mod_lt _ (by omega)⟩)).trans ((out5_apply c _ _ _ _ _ _ _ _ _ _ _ _ _ _ _ _ _ _ _ _ _ _).trans ?_))
  · show win0_5.index ⟨_, ht⟩ 0 * 1024 + 1 * (i.val % 1024) = i.val
    rw [(at5 _).1]; show (i.val / 1024 * 2 + j.val / 512) / 2 * 1024 + _ = _; omega
  · show win0_5.index ⟨_, ht⟩ 1 * 512 + 1 * (j.val % 512) = j.val
    rw [(at5 _).2]; show (i.val / 1024 * 2 + j.val / 512) % 2 * 512 + _ = _; omega
  · exact merged_congr (fun k => entry0 m c ⟨_, ht⟩ _ k _ k hi (by omega)) (fun k => entry1 m c ⟨_, ht⟩ k _ k _ (by omega) hj)
      (entry2 m c ⟨_, ht⟩ _ _ _ _ hi (by show 1024 + j.val = (2 + (i.val / 1024 * 2 + j.val / 512) % 2) * 512 + j.val % 512; omega))
      (entry3 m c ⟨_, ht⟩ _ _ _ _ hi (by show 2048 + j.val = (4 + (i.val / 1024 * 2 + j.val / 512) % 2) * 512 + j.val % 512; omega)) (entry4 m c ⟨_, ht⟩ _ _ _ _ hi hj)

/-- An entry of the product the call leaves. -/
theorem final6 (c : Dev nD) (i : Fin 2048) (j : Fin 1024) : ((dats m 0 c).arrAt 6 cfg0.N : S2048x1024.Idx → EReal) (ix2 i j)
    = mulNN (m ((c : Thread nD τ).loc main_arg0) : S2048x512.Idx → EReal) (m ((c : Thread nD τ).loc main_arg1) : S512x1024.Idx → EReal) i j := by
  have ht : i.val / 1024 * 2 + j.val / 512 < cfg0.N := by show _ < 4; omega
  have hi : i.val = (i.val / 1024 * 2 + j.val / 512) / 2 * 1024 + i.val % 1024 := by omega
  have hj : j.val = (i.val / 1024 * 2 + j.val / 512) % 2 * 512 + j.val % 512 := by omega
  refine Eq.trans (congrArg _ (eq_of_val _ i j ?_ ?_).symm) ((congrFun ((Value.blocks6 m c ⟨_, ht⟩ (flush0_6 _)).trans (Value.flushed6_A m c ⟨_, ht⟩))
    (ix2 ⟨i.val % 1024, Nat.mod_lt _ (by omega)⟩ ⟨j.val % 512, Nat.mod_lt _ (by omega)⟩)).trans ((out6_apply c _ _ _ _ _ _ _ _ _ _ _ _ _ _ _ _ _ _ _ _ _ _).trans ?_))
  · show win0_6.index ⟨_, ht⟩ 0 * 1024 + 1 * (i.val % 1024) = i.val
    rw [(at6 _).1]; show (i.val / 1024 * 2 + j.val / 512) / 2 * 1024 + _ = _; omega
  · show win0_6.index ⟨_, ht⟩ 1 * 512 + 1 * (j.val % 512) = j.val
    rw [(at6 _).2]; show (i.val / 1024 * 2 + j.val / 512) % 2 * 512 + _ = _; omega
  · exact mulNN_congr (fun k => entry0 m c ⟨_, ht⟩ _ k _ k hi (by omega)) (fun k => entry1 m c ⟨_, ht⟩ k _ k _ (by omega) hj)

section Reference
open Cert.Reference18Ideal.Read

/-- The reference's product. -/
theorem product_read (x : S2048x512.Idx → EReal) (w : S512x1024.Idx → EReal) (i : Fin 2048) (j : Fin 1024) : val_main_v2 (F := Ideal) x w (ix2 i j) = mulNN x w i j := by
  simp only [val_main_v2, val_main_v1, val_main_v0, pointwise, zero_add]
  rfl

/-- The reference's gated sum. -/
theorem merged_read (x : S2048x512.Idx → EReal) (w : S512x1024.Idx → EReal) (f : S2048x3200.Idx → EReal) (p : S2048x1024.Idx → EReal) (i : Fin 2048) (j : Fin 1024) :
    val_main_v21 (F := Ideal) x w f p (ix2 i j) = merged x w (part 1024 (by omega) f) (part 2048 (by omega) f) p i j := by
  unfold merged
  rw [← product_read]
  simp only [val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply]
  rw [val_main_v3_apply, val_main_v4_apply, show f (idx_main_v3 (ix2 i j)) = part 1024 (by omega) f (ix2 i j) from congrArg f (eq_of_val _ _ _ rfl rfl),
    show f (idx_main_v4 (ix2 i j)) = part 2048 (by omega) f (ix2 i j) from congrArg f (eq_of_val _ _ _ rfl rfl)]
  unfold gate
  rw [← Ideal.ofBits_one_f32]
  rfl
end Reference

theorem frame_reference : Cert.quiescent_Reference18Ideal := fun m g _ =>
  (θ_run Cert.Reference18Ideal.defs _ _).mono
    (fun r h => ⟨fun c => (h c).2.2, Idealize.ShloMosaic.sem_eq_zero_of_no_sems (by decide) r.2⟩)
    (Cert.Reference18Ideal.Value.run (F := Ideal) m g)

/-- From memories that agree on the arguments the call and its reference leave the same results. -/
theorem algebraic : Cert.algebraic_Kernel18Ideal_Reference18Ideal := by
  intro m g m' g' _ hargs
  refine ⟨_, _, (θ_run _ _ _).mono (fun r h c => h c) (Cert.Kernel18Ideal.Value.run_blocks m g),
    (θ_run _ _ _).mono (fun r h c => ⟨(h c).1.trans ?_, (h c).2.1.trans ?_, (h c).2.2⟩) (Cert.Reference18Ideal.Value.run m' g')⟩
  · rw [Cert.Reference18Ideal.Read.val_main_v21_eq, (hargs c).1, (hargs c).2.1, (hargs c).2.2.1, (hargs c).2.2.2]
    exact Blocks.ext _ _ fun i j => (merged_read _ _ _ _ i j).trans (final5 m c i j).symm
  · rw [Cert.Reference18Ideal.Read.val_main_v22_eq, (hargs c).1, (hargs c).2.1]
    exact Blocks.ext _ _ fun i j => (product_read _ _ i j).trans (final6 m c i j).symm

end Cert.Proof.ProjMerge

end
-- ==== Proof.ProjDx.lean ====
/- The gradient of a branch's output, `dp wᵀ`. -/
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Blocks
public import proofs.«01_k».proof.Defs

@[expose] public section

set_option maxRecDepth 16384

noncomputable section

namespace Cert.Proof.ProjDx

open Cert.Kernel19Ideal Cert.Kernel19Ideal.Gen Idealize.ShloMosaic Idealize.ShloMosaic.TcCoe Idealize.SL.Sem
open Idealize.ShloMosaic.Pipeline (Dat)
open Cert.Proof.Blocks

/-- A block of the result, at an entry. -/
theorem out_apply (x : S1024x1024.Idx → EReal) (y : S512x1024.Idx → EReal) (i : Fin 1024) (j : Fin 512) :
    out0_2 (F := Ideal) x y (ix2 i j) = mulNT x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = t.val / 1 ∧ win0_0.index t 1 = 0 := by decide +kernel
theorem at1 : ∀ t : Fin cfg0.N, win0_1.index t 0 = t.val % 1 ∧ win0_1.index t 1 = 0 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 2048) (j : Fin 512) : ((dats m 0 c).arrAt 2 cfg0.N : S2048x512.Idx → EReal) (ix2 i j)
    = mulNT (M := 2048) (K := 1024) (N := 512) (m ((c : Thread nD τ).loc main_arg0)) (m ((c : Thread nD τ).loc main_arg1)) i j := by
  have ht : i.val / 1024 * 1 + j.val / 512 < cfg0.N := by show _ < 2; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1024, Nat.mod_lt _ (by omega)⟩ ⟨j.val % 512, Nat.mod_lt _ (by omega)⟩)).trans
    ((out_apply _ _ _ _).trans (mulNT_congr (fun k => ?_) (fun k => ?_))))
  · show win0_2.index ⟨_, ht⟩ 0 * 1024 + 1 * (i.val % 1024) = i.val
    rw [(at2 _).1]
    show (i.val / 1024 * 1 + j.val / 512) / 1 * 1024 + 1 * (i.val % 1024) = i.val
    omega
  · show win0_2.index ⟨_, ht⟩ 1 * 512 + 1 * (j.val % 512) = j.val
    rw [(at2 _).2]
    show (i.val / 1024 * 1 + j.val / 512) % 1 * 512 + 1 * (j.val % 512) = j.val
    omega
  · rw [← V_main_arg0 m c]
    refine congrArg (V m c main_arg0) (eq_of_val _ _ _ ?_ ?_)
    · show win0_0.index ⟨_, ht⟩ 0 * 1024 + 1 * (i.val % 1024) = i.val
      rw [(at0 _).1]
      show (i.val / 1024 * 1 + j.val / 512) / 1 * 1024 + 1 * (i.val % 1024) = i.val
      omega
    · show win0_0.index ⟨_, ht⟩ 1 * 1024 + 1 * k.val = k.val
      rw [(at0 _).2]; omega
  · rw [← V_main_arg1 m c]
    refine congrArg (V m c main_arg1) (eq_of_val _ _ _ ?_ ?_)
    · show win0_1.index ⟨_, ht⟩ 0 * 512 + 1 * (j.val % 512) = j.val
      rw [(at1 _).1]
      show (i.val / 1024 * 1 + j.val / 512) % 1 * 512 + 1 * (j.val % 512) = j.val
      omega
    · show win0_1.index ⟨_, ht⟩ 1 * 1024 + 1 * k.val = k.val
      rw [(at1 _).2]; omega

/-- The reference's result, at an entry. -/
theorem reference_apply (x : S2048x1024.Idx → EReal) (y : S512x1024.Idx → EReal) (i : Fin 2048) (j : Fin 512) :
    Cert.Reference19Ideal.Read.val_main_v5 (F := Ideal) x y (ix2 i j) = mulNT x y i j := by
  simp only [Cert.Reference19Ideal.Read.val_main_v5, Cert.Reference19Ideal.Read.val_main_v4, Cert.Reference19Ideal.Read.val_main_v3, Cert.Reference19Ideal.Read.val_main_v2, Cert.Reference19Ideal.Read.val_main_v1, pointwise]
  exact zero_add _

theorem frame_reference : Cert.quiescent_Reference19Ideal := fun m g _ =>
  (θ_run Cert.Reference19Ideal.defs _ _).mono
    (fun r h => ⟨fun c => (h c).2, Idealize.ShloMosaic.sem_eq_zero_of_no_sems (by decide) r.2⟩)
    (Cert.Reference19Ideal.Value.run (F := Ideal) m g)

/-- From memories that agree on the arguments the call and its reference leave the same result. -/
theorem algebraic : Cert.algebraic_Kernel19Ideal_Reference19Ideal := by
  intro m g m' g' _ hargs
  refine ⟨_, (θ_run _ _ _).mono (fun r h c => h c) (Cert.Kernel19Ideal.Value.run_blocks m g),
    (θ_run _ _ _).mono (fun r h c => ⟨(h c).1.trans ?_, (h c).2⟩) (Cert.Reference19Ideal.Value.run m' g')⟩
  rw [Cert.Reference19Ideal.Read.val_main_v5_eq, (hargs c).1, (hargs c).2]
  exact Blocks.ext _ _ fun i j => (reference_apply _ _ i j).trans (final m c i j).symm

end Cert.Proof.ProjDx

end
-- ==== Proof.ProjDw.lean ====
/- The gradient of a branch's output weight, `oᵀ dp`. -/
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Blocks
public import proofs.«01_k».proof.Defs

@[expose] public section

set_option maxRecDepth 16384

noncomputable section

namespace Cert.Proof.ProjDw

open Cert.Kernel20Ideal Cert.Kernel20Ideal.Gen Idealize.ShloMosaic Idealize.ShloMosaic.TcCoe Idealize.SL.Sem
open Idealize.ShloMosaic.Pipeline (Dat)
open Cert.Proof.Blocks

/-- A block of the result, at an entry. -/
theorem out_apply (x : S2048x512.Idx → EReal) (y : S2048x1024.Idx → EReal) (i : Fin 512) (j : Fin 1024) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 512) (j : Fin 1024) : ((dats m 0 c).arrAt 2 cfg0.N : S512x1024.Idx → EReal) (ix2 i j)
    = mulTN (M := 512) (K := 2048) (N := 1024) (m ((c : Thread nD τ).loc main_arg0)) (m ((c : Thread nD τ).loc main_arg1)) i j := by
  have ht : i.val / 512 * 1 + j.val / 1024 < cfg0.N := by show _ < 1; omega
  refine Eq.trans (congrArg _ (eq_of_val _ i j ?_ ?_).symm) ((congrFun ((Value.blocks2 m c ⟨_, ht⟩ (flush0_2 _)).trans
    (Value.flushed2 m c ⟨_, ht⟩)) (ix2 ⟨i.val % 512, Nat.mod_lt _ (by omega)⟩ ⟨j.val % 1024, Nat.mod_lt _ (by omega)⟩)).trans
    ((out_apply _ _ _ _).trans (mulTN_congr (fun k => ?_) (fun k => ?_))))
  · show win0_2.index ⟨_, ht⟩ 0 * 512 + 1 * (i.val % 512) = i.val
    rw [(at2 _).1]
    show (i.val / 512 * 1 + j.val / 1024) / 1 * 512 + 1 * (i.val % 512) = i.val
    omega
  · show win0_2.index ⟨_, ht⟩ 1 * 1024 + 1 * (j.val % 1024) = j.val
    rw [(at2 _).2]
    show (i.val / 512 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 512 + 1 * (i.val % 512) = i.val
      rw [(at0 _).2]
      show (i.val / 512 * 1 + j.val / 1024) / 1 * 512 + 1 * (i.val % 512) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 1024 + 1 * (j.val % 1024) = j.val
      rw [(at1 _).2]
      show (i.val / 512 * 1 + j.val / 1024) % 1 * 1024 + 1 * (j.val % 1024) = j.val
      omega

/-- The reference's result, at an entry. -/
theorem reference_apply (x : S2048x512.Idx → EReal) (y : S2048x1024.Idx → EReal) (i : Fin 512) (j : Fin 1024) :
    Cert.Reference20Ideal.Read.val_main_v6 (F := Ideal) x y (ix2 i j) = mulTN x y i j := by
  simp only [Cert.Reference20Ideal.Read.val_main_v6, Cert.Reference20Ideal.Read.val_main_v5, Cert.Reference20Ideal.Read.val_main_v4, Cert.Reference20Ideal.Read.val_main_v3, Cert.Reference20Ideal.Read.val_main_v2, Cert.Reference20Ideal.Read.val_main_v1, pointwise]
  exact (zero_add _).trans (Finset.sum_congr rfl fun k _ => mul_comm _ _)

theorem frame_reference : Cert.quiescent_Reference20Ideal := fun m g _ =>
  (θ_run Cert.Reference20Ideal.defs _ _).mono
    (fun r h => ⟨fun c => (h c).2, Idealize.ShloMosaic.sem_eq_zero_of_no_sems (by decide) r.2⟩)
    (Cert.Reference20Ideal.Value.run (F := Ideal) m g)

/-- From memories that agree on the arguments the call and its reference leave the same result. -/
theorem algebraic : Cert.algebraic_Kernel20Ideal_Reference20Ideal := by
  intro m g m' g' _ hargs
  refine ⟨_, (θ_run _ _ _).mono (fun r h c => h c) (Cert.Kernel20Ideal.Value.run_blocks m g),
    (θ_run _ _ _).mono (fun r h c => ⟨(h c).1.trans ?_, (h c).2⟩) (Cert.Reference20Ideal.Value.run m' g')⟩
  rw [Cert.Reference20Ideal.Read.val_main_v6_eq, (hargs c).1, (hargs c).2]
  exact Blocks.ext _ _ fun i j => (reference_apply _ _ i j).trans (final m c i j).symm

end Cert.Proof.ProjDw

end
-- ==== Proof.QueryDw.lean ====
/- The gradient of the query's low-rank weight, `cqᵀ dq`. -/
module

public import proofs.«01_k».proof.Proof.Gen.Kernel21Ideal.Value
public import proofs.«01_k».proof.Proof.Gen.Reference21Ideal.Run
public import proofs.«01_k».proof.Proof.Gen.Reference21Ideal.Read
public import proofs.«01_k».proof.Proof.Blocks
public import proofs.«01_k».proof.Defs

@[expose] public section

set_option maxRecDepth 16384

noncomputable section

namespace Cert.Proof.QueryDw

open Cert.Kernel21Ideal Cert.Kernel21Ideal.Gen Idealize.ShloMosaic Idealize.ShloMosaic.TcCoe Idealize.SL.Sem
open Idealize.ShloMosaic.Pipeline (Dat)
open Cert.Proof.Blocks

/-- A block of the result, at an entry. -/
theorem out_apply (x : S2048x768.Idx → EReal) (y : S2048x1024.Idx → EReal) (i : Fin 768) (j : Fin 1024) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 768) (j : Fin 1024) : ((dats m 0 c).arrAt 2 cfg0.N : S768x1024.Idx → EReal) (ix2 i j)
    = mulTN (M := 768) (K := 2048) (N := 1024) (m ((c : Thread nD τ).loc main_arg0)) (m ((c : Thread nD τ).loc main_arg1)) i j := by
  have ht : i.val / 768 * 1 + j.val / 1024 < cfg0.N := by show _ < 1; omega
  refine Eq.trans (congrArg _ (eq_of_val _ i j ?_ ?_).symm) ((congrFun ((Value.blocks2 m c ⟨_, ht⟩ (flush0_2 _)).trans
    (Value.flushed2 m c ⟨_, ht⟩)) (ix2 ⟨i.val % 768, Nat.mod_lt _ (by omega)⟩ ⟨j.val % 1024, Nat.mod_lt _ (by omega)⟩)).trans
    ((out_apply _ _ _ _).trans (mulTN_congr (fun k => ?_) (fun k => ?_))))
  · show win0_2.index ⟨_, ht⟩ 0 * 768 + 1 * (i.val % 768) = i.val
    rw [(at2 _).1]
    show (i.val / 768 * 1 + j.val / 1024) / 1 * 768 + 1 * (i.val % 768) = i.val
    omega
  · show win0_2.index ⟨_, ht⟩ 1 * 1024 + 1 * (j.val % 1024) = j.val
    rw [(at2 _).2]
    show (i.val / 768 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 768 + 1 * (i.val % 768) = i.val
      rw [(at0 _).2]
      show (i.val / 768 * 1 + j.val / 1024) / 1 * 768 + 1 * (i.val % 768) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 1024 + 1 * (j.val % 1024) = j.val
      rw [(at1 _).2]
      show (i.val / 768 * 1 + j.val / 1024) % 1 * 1024 + 1 * (j.val % 1024) = j.val
      omega

/-- The reference's result, at an entry. -/
theorem reference_apply (x : S2048x768.Idx → EReal) (y : S2048x1024.Idx → EReal) (i : Fin 768) (j : Fin 1024) :
    Cert.Reference21Ideal.Read.val_main_v6 (F := Ideal) x y (ix2 i j) = mulTN x y i j := by
  simp only [Cert.Reference21Ideal.Read.val_main_v6, Cert.Reference21Ideal.Read.val_main_v5, Cert.Reference21Ideal.Read.val_main_v4, Cert.Reference21Ideal.Read.val_main_v3, Cert.Reference21Ideal.Read.val_main_v2, Cert.Reference21Ideal.Read.val_main_v1, pointwise]
  exact (zero_add _).trans (Finset.sum_congr rfl fun k _ => mul_comm _ _)

theorem frame_reference : Cert.quiescent_Reference21Ideal := fun m g _ =>
  (θ_run Cert.Reference21Ideal.defs _ _).mono
    (fun r h => ⟨fun c => (h c).2, Idealize.ShloMosaic.sem_eq_zero_of_no_sems (by decide) r.2⟩)
    (Cert.Reference21Ideal.Value.run (F := Ideal) m g)

/-- From memories that agree on the arguments the call and its reference leave the same result. -/
theorem algebraic : Cert.algebraic_Kernel21Ideal_Reference21Ideal := by
  intro m g m' g' _ hargs
  refine ⟨_, (θ_run _ _ _).mono (fun r h c => h c) (Cert.Kernel21Ideal.Value.run_blocks m g),
    (θ_run _ _ _).mono (fun r h c => ⟨(h c).1.trans ?_, (h c).2⟩) (Cert.Reference21Ideal.Value.run m' g')⟩
  rw [Cert.Reference21Ideal.Read.val_main_v6_eq, (hargs c).1, (hargs c).2]
  exact Blocks.ext _ _ fun i j => (reference_apply _ _ i j).trans (final m c i j).symm

end Cert.Proof.QueryDw

end
-- ==== Proof.KeyDw.lean ====
/- The gradient of the key's low-rank weight, `ckvᵀ dk`. -/
module

public import proofs.«01_k».proof.Proof.Gen.Kernel22Ideal.Value
public import proofs.«01_k».proof.Proof.Gen.Reference22Ideal.Run
public import proofs.«01_k».proof.Proof.Gen.Reference22Ideal.Read
public import proofs.«01_k».proof.Proof.Blocks
public import proofs.«01_k».proof.Defs

@[expose] public section

set_option maxRecDepth 16384

noncomputable section

namespace Cert.Proof.KeyDw

open Cert.Kernel22Ideal Cert.Kernel22Ideal.Gen Idealize.ShloMosaic Idealize.ShloMosaic.TcCoe Idealize.SL.Sem
open Idealize.ShloMosaic.Pipeline (Dat)
open Cert.Proof.Blocks

/-- A block of the result, at an entry. -/
theorem out_apply (x : S2048x256.Idx → EReal) (y : S2048x1024.Idx → EReal) (i : Fin 256) (j : Fin 1024) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 256) (j : Fin 1024) : ((dats m 0 c).arrAt 2 cfg0.N : S256x1024.Idx → EReal) (ix2 i j)
    = mulTN (M := 256) (K := 2048) (N := 1024) (m ((c : Thread nD τ).loc main_arg0)) (m ((c : Thread nD τ).loc main_arg1)) i j := by
  have ht : i.val / 256 * 1 + j.val / 1024 < cfg0.N := by show _ < 1; omega
  refine Eq.trans (congrArg _ (eq_of_val _ i j ?_ ?_).symm) ((congrFun ((Value.blocks2 m c ⟨_, ht⟩ (flush0_2 _)).trans
    (Value.flushed2 m c ⟨_, ht⟩)) (ix2 ⟨i.val % 256, Nat.mod_lt _ (by omega)⟩ ⟨j.val % 1024, Nat.mod_lt _ (by omega)⟩)).trans
    ((out_apply _ _ _ _).trans (mulTN_congr (fun k => ?_) (fun k => ?_))))
  · show win0_2.index ⟨_, ht⟩ 0 * 256 + 1 * (i.val % 256) = i.val
    rw [(at2 _).1]
    show (i.val / 256 * 1 + j.val / 1024) / 1 * 256 + 1 * (i.val % 256) = i.val
    omega
  · show win0_2.index ⟨_, ht⟩ 1 * 1024 + 1 * (j.val % 1024) = j.val
    rw [(at2 _).2]
    show (i.val / 256 * 1 + j.val / 1024) % 1 * 1024 + 1 * (j.val % 1024) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 256 + 1 * (i.val % 256) = i.val
      rw [(at0 _).2]
      show (i.val / 256 * 1 + j.val / 1024) / 1 * 256 + 1 * (i.val % 256) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 1024 + 1 * (j.val % 1024) = j.val
      rw [(at1 _).2]
      show (i.val / 256 * 1 + j.val / 1024) % 1 * 1024 + 1 * (j.val % 1024) = j.val
      omega

/-- The reference's result, at an entry. -/
theorem reference_apply (x : S2048x256.Idx → EReal) (y : S2048x1024.Idx → EReal) (i : Fin 256) (j : Fin 1024) :
    Cert.Reference22Ideal.Read.val_main_v6 (F := Ideal) x y (ix2 i j) = mulTN x y i j := by
  simp only [Cert.Reference22Ideal.Read.val_main_v6, Cert.Reference22Ideal.Read.val_main_v5, Cert.Reference22Ideal.Read.val_main_v4, Cert.Reference22Ideal.Read.val_main_v3, Cert.Reference22Ideal.Read.val_main_v2, Cert.Reference22Ideal.Read.val_main_v1, pointwise]
  exact (zero_add _).trans (Finset.sum_congr rfl fun k _ => mul_comm _ _)

theorem frame_reference : Cert.quiescent_Reference22Ideal := fun m g _ =>
  (θ_run Cert.Reference22Ideal.defs _ _).mono
    (fun r h => ⟨fun c => (h c).2, Idealize.ShloMosaic.sem_eq_zero_of_no_sems (by decide) r.2⟩)
    (Cert.Reference22Ideal.Value.run (F := Ideal) m g)

/-- From memories that agree on the arguments the call and its reference leave the same result. -/
theorem algebraic : Cert.algebraic_Kernel22Ideal_Reference22Ideal := by
  intro m g m' g' _ hargs
  refine ⟨_, (θ_run _ _ _).mono (fun r h c => h c) (Cert.Kernel22Ideal.Value.run_blocks m g),
    (θ_run _ _ _).mono (fun r h c => ⟨(h c).1.trans ?_, (h c).2⟩) (Cert.Reference22Ideal.Value.run m' g')⟩
  rw [Cert.Reference22Ideal.Read.val_main_v6_eq, (hargs c).1, (hargs c).2]
  exact Blocks.ext _ _ fun i j => (reference_apply _ _ i j).trans (final m c i j).symm

end Cert.Proof.KeyDw

end
-- ==== Proof.ValueDw.lean ====
/- The gradient of the value's low-rank weight, `ckvᵀ dv`. -/
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Blocks
public import proofs.«01_k».proof.Defs

@[expose] public section

set_option maxRecDepth 16384

noncomputable section

namespace Cert.Proof.ValueDw

open Cert.Kernel23Ideal Cert.Kernel23Ideal.Gen Idealize.ShloMosaic Idealize.ShloMosaic.TcCoe Idealize.SL.Sem
open Idealize.ShloMosaic.Pipeline (Dat)
open Cert.Proof.Blocks

/-- A block of the result, at an entry. -/
theorem out_apply (x : S2048x256.Idx → EReal) (y : S2048x512.Idx → EReal) (i : Fin 256) (j : Fin 512) :
    out0_2 (F := Ideal) x y (ix2 i j) = mulTN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = 0 ∧ win0_0.index t 1 = t.val / 1 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 256) (j : Fin 512) : ((dats m 0 c).arrAt 2 cfg0.N : S256x512.Idx → EReal) (ix2 i j)
    = mulTN (M := 256) (K := 2048) (N := 512) (m ((c : Thread nD τ).loc main_arg0)) (m ((c : Thread nD τ).loc main_arg1)) i j := by
  have ht : i.val / 256 * 1 + j.val / 512 < cfg0.N := by show _ < 1; omega
  refine Eq.trans (congrArg _ (eq_of_val _ i j ?_ ?_).symm) ((congrFun ((Value.blocks2 m c ⟨_, ht⟩ (flush0_2 _)).trans
    (Value.flushed2 m c ⟨_, ht⟩)) (ix2 ⟨i.val % 256, Nat.mod_lt _ (by omega)⟩ ⟨j.val % 512, Nat.mod_lt _ (by omega)⟩)).trans
    ((out_apply _ _ _ _).trans (mulTN_congr (fun k => ?_) (fun k => ?_))))
  · show win0_2.index ⟨_, ht⟩ 0 * 256 + 1 * (i.val % 256) = i.val
    rw [(at2 _).1]
    show (i.val / 256 * 1 + j.val / 512) / 1 * 256 + 1 * (i.val % 256) = i.val
    omega
  · show win0_2.index ⟨_, ht⟩ 1 * 512 + 1 * (j.val % 512) = j.val
    rw [(at2 _).2]
    show (i.val / 256 * 1 + j.val / 512) % 1 * 512 + 1 * (j.val % 512) = j.val
    omega
  · rw [← V_main_arg0 m c]
    refine congrArg (V m c main_arg0) (eq_of_val _ _ _ ?_ ?_)
    · show win0_0.index ⟨_, ht⟩ 0 * 2048 + 1 * k.val = k.val
      rw [(at0 _).1]; omega
    · show win0_0.index ⟨_, ht⟩ 1 * 256 + 1 * (i.val % 256) = i.val
      rw [(at0 _).2]
      show (i.val / 256 * 1 + j.val / 512) / 1 * 256 + 1 * (i.val % 256) = i.val
      omega
  · rw [← V_main_arg1 m c]
    refine congrArg (V m c main_arg1) (eq_of_val _ _ _ ?_ ?_)
    · show win0_1.index ⟨_, ht⟩ 0 * 2048 + 1 * k.val = k.val
      rw [(at1 _).1]; omega
    · show win0_1.index ⟨_, ht⟩ 1 * 512 + 1 * (j.val % 512) = j.val
      rw [(at1 _).2]
      show (i.val / 256 * 1 + j.val / 512) % 1 * 512 + 1 * (j.val % 512) = j.val
      omega

/-- The reference's result, at an entry. -/
theorem reference_apply (x : S2048x256.Idx → EReal) (y : S2048x512.Idx → EReal) (i : Fin 256) (j : Fin 512) :
    Cert.Reference23Ideal.Read.val_main_v6 (F := Ideal) x y (ix2 i j) = mulTN x y i j := by
  simp only [Cert.Reference23Ideal.Read.val_main_v6, Cert.Reference23Ideal.Read.val_main_v5, Cert.Reference23Ideal.Read.val_main_v4, Cert.Reference23Ideal.Read.val_main_v3, Cert.Reference23Ideal.Read.val_main_v2, Cert.Reference23Ideal.Read.val_main_v1, pointwise]
  exact (zero_add _).trans (Finset.sum_congr rfl fun k _ => mul_comm _ _)

theorem frame_reference : Cert.quiescent_Reference23Ideal := fun m g _ =>
  (θ_run Cert.Reference23Ideal.defs _ _).mono
    (fun r h => ⟨fun c => (h c).2, Idealize.ShloMosaic.sem_eq_zero_of_no_sems (by decide) r.2⟩)
    (Cert.Reference23Ideal.Value.run (F := Ideal) m g)

/-- From memories that agree on the arguments the call and its reference leave the same result. -/
theorem algebraic : Cert.algebraic_Kernel23Ideal_Reference23Ideal := by
  intro m g m' g' _ hargs
  refine ⟨_, (θ_run _ _ _).mono (fun r h c => h c) (Cert.Kernel23Ideal.Value.run_blocks m g),
    (θ_run _ _ _).mono (fun r h c => ⟨(h c).1.trans ?_, (h c).2⟩) (Cert.Reference23Ideal.Value.run m' g')⟩
  rw [Cert.Reference23Ideal.Read.val_main_v6_eq, (hargs c).1, (hargs c).2]
  exact Blocks.ext _ _ fun i j => (reference_apply _ _ i j).trans (final m c i j).symm

end Cert.Proof.ValueDw

end
-- ==== Proof.ValueUp.lean ====
/- The values from their low-rank form, `ckv w`. -/
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Blocks
public import proofs.«01_k».proof.Defs

@[expose] public section

set_option maxRecDepth 16384

noncomputable section

namespace Cert.Proof.ValueUp

open Cert.Kernel24Ideal Cert.Kernel24Ideal.Gen Idealize.ShloMosaic Idealize.ShloMosaic.TcCoe Idealize.SL.Sem
open Idealize.ShloMosaic.Pipeline (Dat)
open Cert.Proof.Blocks

/-- A block of the result, at an entry. -/
theorem out_apply (x : S1024x256.Idx → EReal) (y : S256x512.Idx → EReal) (i : Fin 1024) (j : Fin 512) :
    out0_2 (F := Ideal) x y (ix2 i j) = mulNN x y i j := by
  unfold out0_2
  rw [View.canon_unit_zero (Val := Elt Ideal) (e := .bf16) hz, View.ld_unit_zero hz, View.ld_unit_zero hz]
  simp only [k0_pay1, pointwise]
  exact zero_add _

theorem at0 : ∀ t : Fin cfg0.N, win0_0.index t 0 = t.val / 1 ∧ win0_0.index t 1 = 0 := by decide +kernel
theorem at1 : ∀ t : Fin cfg0.N, win0_1.index t 0 = 0 ∧ win0_1.index t 1 = t.val % 1 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 2048) (j : Fin 512) : ((dats m 0 c).arrAt 2 cfg0.N : S2048x512.Idx → EReal) (ix2 i j)
    = mulNN (M := 2048) (K := 256) (N := 512) (m ((c : Thread nD τ).loc main_arg0)) (m ((c : Thread nD τ).loc main_arg1)) i j := by
  have ht : i.val / 1024 * 1 + j.val / 512 < cfg0.N := by show _ < 2; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1024, Nat.mod_lt _ (by omega)⟩ ⟨j.val % 512, Nat.mod_lt _ (by omega)⟩)).trans
    ((out_apply _ _ _ _).trans (mulNN_congr (fun k => ?_) (fun k => ?_))))
  · show win0_2.index ⟨_, ht⟩ 0 * 1024 + 1 * (i.val % 1024) = i.val
    rw [(at2 _).1]
    show (i.val / 1024 * 1 + j.val / 512) / 1 * 1024 + 1 * (i.val % 1024) = i.val
    omega
  · show win0_2.index ⟨_, ht⟩ 1 * 512 + 1 * (j.val % 512) = j.val
    rw [(at2 _).2]
    show (i.val / 1024 * 1 + j.val / 512) % 1 * 512 + 1 * (j.val % 512) = j.val
    omega
  · rw [← V_main_arg0 m c]
    refine congrArg (V m c main_arg0) (eq_of_val _ _ _ ?_ ?_)
    · show win0_0.index ⟨_, ht⟩ 0 * 1024 + 1 * (i.val % 1024) = i.val
      rw [(at0 _).1]
      show (i.val / 1024 * 1 + j.val / 512) / 1 * 1024 + 1 * (i.val % 1024) = i.val
      omega
    · show win0_0.index ⟨_, ht⟩ 1 * 256 + 1 * k.val = k.val
      rw [(at0 _).2]; omega
  · rw [← V_main_arg1 m c]
    refine congrArg (V m c main_arg1) (eq_of_val _ _ _ ?_ ?_)
    · show win0_1.index ⟨_, ht⟩ 0 * 256 + 1 * k.val = k.val
      rw [(at1 _).1]; omega
    · show win0_1.index ⟨_, ht⟩ 1 * 512 + 1 * (j.val % 512) = j.val
      rw [(at1 _).2]
      show (i.val / 1024 * 1 + j.val / 512) % 1 * 512 + 1 * (j.val % 512) = j.val
      omega

/-- The reference's result, at an entry. -/
theorem reference_apply (x : S2048x256.Idx → EReal) (y : S256x512.Idx → EReal) (i : Fin 2048) (j : Fin 512) :
    Cert.Reference24Ideal.Read.val_main_v3 (F := Ideal) x y (ix2 i j) = mulNN x y i j := by
  simp only [Cert.Reference24Ideal.Read.val_main_v3, Cert.Reference24Ideal.Read.val_main_v2, Cert.Reference24Ideal.Read.val_main_v1, Cert.Reference24Ideal.Read.val_main_v0, pointwise]
  exact zero_add _

theorem frame_reference : Cert.quiescent_Reference24Ideal := fun m g _ =>
  (θ_run Cert.Reference24Ideal.defs _ _).mono
    (fun r h => ⟨fun c => (h c).2, Idealize.ShloMosaic.sem_eq_zero_of_no_sems (by decide) r.2⟩)
    (Cert.Reference24Ideal.Value.run (F := Ideal) m g)

/-- From memories that agree on the arguments the call and its reference leave the same result. -/
theorem algebraic : Cert.algebraic_Kernel24Ideal_Reference24Ideal := by
  intro m g m' g' _ hargs
  refine ⟨_, (θ_run _ _ _).mono (fun r h c => h c) (Cert.Kernel24Ideal.Value.run_blocks m g),
    (θ_run _ _ _).mono (fun r h c => ⟨(h c).1.trans ?_, (h c).2⟩) (Cert.Reference24Ideal.Value.run m' g')⟩
  rw [Cert.Reference24Ideal.Read.val_main_v3_eq, (hargs c).1, (hargs c).2]
  exact Blocks.ext _ _ fun i j => (reference_apply _ _ i j).trans (final m c i j).symm

end Cert.Proof.ValueUp

end
-- ==== Proof.KeyDx.lean ====
/- The gradient of the keys' low-rank form, `dk wᵀ`. -/
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Blocks
public import proofs.«01_k».proof.Defs

@[expose] public section

set_option maxRecDepth 16384

noncomputable section

namespace Cert.Proof.KeyDx

open Cert.Kernel25Ideal Cert.Kernel25Ideal.Gen Idealize.ShloMosaic Idealize.ShloMosaic.TcCoe Idealize.SL.Sem
open Idealize.ShloMosaic.Pipeline (Dat)
open Cert.Proof.Blocks

/-- A block of the result, at an entry. -/
theorem out_apply (x : S1024x1024.Idx → EReal) (y : S256x1024.Idx → EReal) (i : Fin 1024) (j : Fin 256) :
    out0_2 (F := Ideal) x y (ix2 i j) = mulNT x y i j := by
  unfold out0_2
  rw [View.canon_unit_zero (Val := Elt Ideal) (e := .f32) hz, View.ld_unit_zero hz, View.ld_unit_zero hz]
  simp only [k0_pay1, pointwise]
  exact zero_add _

theorem at0 : ∀ t : Fin cfg0.N, win0_0.index t 0 = t.val / 1 ∧ win0_0.index t 1 = 0 := by decide +kernel
theorem at1 : ∀ t : Fin cfg0.N, win0_1.index t 0 = t.val % 1 ∧ win0_1.index t 1 = 0 := by decide +kernel
theorem at2 : ∀ t : Fin cfg0.N, win0_2.index t 0 = t.val / 1 ∧ win0_2.index t 1 = t.val % 1 := by decide +kernel

variable (m : (ℓ : Loc nD τ sig) → Buf (Elt Ideal) ℓ)

/-- An entry of the array the call leaves. -/
theorem final (c : Dev nD) (i : Fin 2048) (j : Fin 256) : ((dats m 0 c).arrAt 2 cfg0.N : S2048x256.Idx → EReal) (ix2 i j)
    = mulNT (M := 2048) (K := 1024) (N := 256) (m ((c : Thread nD τ).loc main_arg0)) (m ((c : Thread nD τ).loc main_arg1)) i j := by
  have ht : i.val / 1024 * 1 + j.val / 256 < cfg0.N := by show _ < 2; omega
  refine Eq.trans (congrArg _ (eq_of_val _ i j ?_ ?_).symm) ((congrFun ((Value.blocks2 m c ⟨_, ht⟩ (flush0_2 _)).trans
    (Value.flushed2 m c ⟨_, ht⟩)) (ix2 ⟨i.val % 1024, Nat.mod_lt _ (by omega)⟩ ⟨j.val % 256, Nat.mod_lt _ (by omega)⟩)).trans
    ((out_apply _ _ _ _).trans (mulNT_congr (fun k => ?_) (fun k => ?_))))
  · show win0_2.index ⟨_, ht⟩ 0 * 1024 + 1 * (i.val % 1024) = i.val
    rw [(at2 _).1]
    show (i.val / 1024 * 1 + j.val / 256) / 1 * 1024 + 1 * (i.val % 1024) = i.val
    omega
  · show win0_2.index ⟨_, ht⟩ 1 * 256 + 1 * (j.val % 256) = j.val
    rw [(at2 _).2]
    show (i.val / 1024 * 1 + j.val / 256) % 1 * 256 + 1 * (j.val % 256) = j.val
    omega
  · rw [← V_main_arg0 m c]
    refine congrArg (V m c main_arg0) (eq_of_val _ _ _ ?_ ?_)
    · show win0_0.index ⟨_, ht⟩ 0 * 1024 + 1 * (i.val % 1024) = i.val
      rw [(at0 _).1]
      show (i.val / 1024 * 1 + j.val / 256) / 1 * 1024 + 1 * (i.val % 1024) = i.val
      omega
    · show win0_0.index ⟨_, ht⟩ 1 * 1024 + 1 * k.val = k.val
      rw [(at0 _).2]; omega
  · rw [← V_main_arg1 m c]
    refine congrArg (V m c main_arg1) (eq_of_val _ _ _ ?_ ?_)
    · show win0_1.index ⟨_, ht⟩ 0 * 256 + 1 * (j.val % 256) = j.val
      rw [(at1 _).1]
      show (i.val / 1024 * 1 + j.val / 256) % 1 * 256 + 1 * (j.val % 256) = j.val
      omega
    · show win0_1.index ⟨_, ht⟩ 1 * 1024 + 1 * k.val = k.val
      rw [(at1 _).2]; omega

/-- The reference's result, at an entry. -/
theorem reference_apply (x : S2048x1024.Idx → EReal) (y : S256x1024.Idx → EReal) (i : Fin 2048) (j : Fin 256) :
    Cert.Reference25Ideal.Read.val_main_v4 (F := Ideal) x y (ix2 i j) = mulNT x y i j := by
  simp only [Cert.Reference25Ideal.Read.val_main_v4, Cert.Reference25Ideal.Read.val_main_v3, Cert.Reference25Ideal.Read.val_main_v2, Cert.Reference25Ideal.Read.val_main_v1, pointwise]
  exact zero_add _

theorem frame_reference : Cert.quiescent_Reference25Ideal := fun m g _ =>
  (θ_run Cert.Reference25Ideal.defs _ _).mono
    (fun r h => ⟨fun c => (h c).2, Idealize.ShloMosaic.sem_eq_zero_of_no_sems (by decide) r.2⟩)
    (Cert.Reference25Ideal.Value.run (F := Ideal) m g)

/-- From memories that agree on the arguments the call and its reference leave the same result. -/
theorem algebraic : Cert.algebraic_Kernel25Ideal_Reference25Ideal := by
  intro m g m' g' _ hargs
  refine ⟨_, (θ_run _ _ _).mono (fun r h c => h c) (Cert.Kernel25Ideal.Value.run_blocks m g),
    (θ_run _ _ _).mono (fun r h c => ⟨(h c).1.trans ?_, (h c).2⟩) (Cert.Reference25Ideal.Value.run m' g')⟩
  rw [Cert.Reference25Ideal.Read.val_main_v4_eq, (hargs c).1, (hargs c).2]
  exact Blocks.ext _ _ fun i j => (reference_apply _ _ i j).trans (final m c i j).symm

end Cert.Proof.KeyDx

end
-- ==== Proof.QueryDx.lean ====
/- The gradient of the query's product and of the norm of the query's latent rows in front of it. -/
module

public import proofs.«01_k».proof.Proof.Gen.Kernel26Ideal.Value
public import proofs.«01_k».proof.Proof.Gen.Reference26Ideal.Run
public import proofs.«01_k».proof.Proof.Gen.Reference26Ideal.Read
public import proofs.«01_k».proof.Proof.NormGrad
public import proofs.«01_k».proof.Defs
public import proofs.«01_k».proof.Proof.Gen.Pre_finite26
public import Idealize.ShloMosaic.Lib.Pipeline.ValueKit.Acc

@[expose] public section

set_option maxRecDepth 16384

noncomputable section

namespace Cert.Proof.QueryDx

open Cert.Kernel26Ideal Cert.Kernel26Ideal.Gen Idealize.ShloMosaic Idealize.ShloMosaic.TcCoe Idealize.SL.Sem
open Idealize.ShloMosaic.Pipeline (Dat)
open Cert.Proof.Blocks Cert.Proof.Numbers Cert.Proof.Norms Cert.Proof.NormGrad

/-! A row of the results, from the row `d` of the product's gradient and the row `x` of the norm's argument. -/

/-- The gradient of the row `x`. -/
def dres (g : (Mat 1 768).Idx → EReal) (d x : Fin 768 → EReal) (j : Fin 768) : EReal :=
  normBackOf 0x44400000#32 x (fun k => d k * g (ix2 0 k)) j

/-- The row's part of the gradient of the norm's gain. -/
def dgain (g : (Mat 1 768).Idx → EReal) (d x : Fin 768 → EReal) (j : Fin 768) : EReal := d j * (x j * rstdOf 0x44400000#32 x)

section Payloads
variable (a : S256x1024.Idx → EReal) (w : S768x1024.Idx → EReal) (x : S256x768.Idx → EReal) (g acc : S1x768.Idx → EReal) (i : Fin 256) (j : Fin 768)

theorem pay3_eq : k0_pay3 (F := Ideal) a w = fun q => mulNT a w (q 0) (q 1) := by
  refine Blocks.ext _ _ fun i j => ?_
  simp only [k0_pay3, pointwise, zero_add]
  rfl

theorem pay7_apply : k0_pay7 (F := Ideal) a w x g (ix2 i j) = dres g (mulNT a w i) (fun k => x (ix2 i k)) j := by
  simp only [k0_pay7, k0_pay5, k0_pay4, pay3_eq, pointwise, zero_add]
  rfl

/-- The sum over 256 rows, added to what was there. -/
theorem pay8_apply : k0_pay8 (F := Ideal) (k0_pay6 a w x) acc (ix2 0 j)
    = acc (ix2 0 j) + ∑ r : Fin 256, dgain g (mulNT a w r) (fun k => x (ix2 r k)) j := by
  simp only [k0_pay8, k0_pay6, k0_pay5, k0_pay4, pay3_eq, pointwise, zero_add]
  rfl

theorem pay13_eq : k0_pay13 (F := Ideal) a w x g = k0_pay7 a w x g := rfl
theorem pay1_eq : k0_pay1 (F := Ideal) (k0_pay12 a w x) acc = k0_pay8 (k0_pay6 a w x) acc := rfl
end Payloads

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = 0 ∧ win0_5.index t 1 = 0 := by decide +kernel

theorem point (t : Fin cfg0.N) : t.val < 4 := t.isLt

variable (m : (ℓ : Loc nD τ sig) → Buf (Elt Ideal) ℓ)

theorem entry0 (c : Dev nD) (t : Fin cfg0.N) (i : Fin 512) (k : Fin 1024) (i' : Fin 2048) (k' : Fin 1024) (hi : i'.val = t.val * 512 + i.val) (hk : k'.val = 0 * 1024 + k.val) :
    (iblk m c 0 t : S512x1024.Idx → EReal) (ix2 i k) = (m ((c : Thread nD τ).loc main_arg0) : S2048x1024.Idx → EReal) (ix2 i' k') := by
  rw [← V_main_arg0 m c]
  refine congrArg (V m c main_arg0) (eq_of_val _ _ _ ?_ ?_)
  · show win0_0.index t 0 * 512 + 1 * i.val = i'.val
    rw [(at0 t).1, hi]; omega
  · show win0_0.index t 1 * 1024 + 1 * k.val = k'.val
    rw [(at0 t).2, hk]; omega

theorem entry1 (c : Dev nD) (t : Fin cfg0.N) (i : Fin 768) (k : Fin 1024) (i' : Fin 768) (k' : Fin 1024) (hi : i'.val = 0 * 768 + i.val) (hk : k'.val = 0 * 1024 + k.val) :
    (iblk m c 1 t : S768x1024.Idx → EReal) (ix2 i k) = (m ((c : Thread nD τ).loc main_arg1) : S768x1024.Idx → EReal) (ix2 i' k') := by
  rw [← V_main_arg1 m c]
  refine congrArg (V m c main_arg1) (eq_of_val _ _ _ ?_ ?_)
  · show win0_1.index t 0 * 768 + 1 * i.val = i'.val
    rw [(at1 t).1, hi]; omega
  · show win0_1.index t 1 * 1024 + 1 * k.val = k'.val
    rw [(at1 t).2, hk]; omega

theorem entry2 (c : Dev nD) (t : Fin cfg0.N) (i : Fin 512) (k : Fin 768) (i' : Fin 2048) (k' : Fin 3200) (hi : i'.val = t.val * 512 + i.val) (hk : k'.val = 0 * 768 + k.val) :
    (X0_2 m c t : S512x768.Idx → EReal) (ix2 i k) = (m ((c : Thread nD τ).loc main_arg2) : S2048x3200.Idx → EReal) (ix2 i' k') := by
  rw [← V_main_arg2 m c]
  unfold X0_2 Pipeline.Window.fill
  rw [dif_pos (moved0_2 t _)]
  refine congrArg (V m c main_arg2) (eq_of_val _ _ _ ?_ ?_)
  · show win0_2.index t 0 * 512 + 1 * i.val = i'.val
    rw [(at2 t).1, hi]; omega
  · show win0_2.index t 1 * 768 + 1 * k.val = k'.val
    rw [(at2 t).2, hk]; omega

theorem entry3 (c : Dev nD) (t : Fin cfg0.N) (i : Fin 1) (k : Fin 768) (i' : Fin 1) (k' : Fin 768) (hi : i'.val = 0 * 1 + i.val) (hk : k'.val = 0 * 768 + k.val) :
    (iblk m c 3 t : S1x768.Idx → EReal) (ix2 i k) = (m ((c : Thread nD τ).loc main_arg3) : S1x768.Idx → EReal) (ix2 i' k') := by
  rw [← V_main_arg3 m c]
  refine congrArg (V m c main_arg3) (eq_of_val _ _ _ ?_ ?_)
  · show win0_3.index t 0 * 1 + 1 * i.val = i'.val
    rw [(at3 t).1, hi]; omega
  · show win0_3.index t 1 * 768 + 1 * k.val = k'.val
    rw [(at3 t).2, hk]; omega

theorem whole1 (c : Dev nD) (t : Fin cfg0.N) : (iblk m c 1 t : S768x1024.Idx → EReal) = m ((c : Thread nD τ).loc main_arg1) :=
  Blocks.ext _ _ fun a b => entry1 m c t a b a b (by omega) (by omega)

theorem whole3 (c : Dev nD) (t : Fin cfg0.N) : (iblk m c 3 t : S1x768.Idx → EReal) = m ((c : Thread nD τ).loc main_arg3) :=
  Blocks.ext _ _ fun a b => entry3 m c t a b a b (by omega) (by omega)

/-- The first 768 columns of a row. -/
def first (y : S2048x3200.Idx → EReal) (i : Fin 2048) : Fin 768 → EReal := fun k => y (ix2 i ⟨k.val, by omega⟩)

/-- A row function, of the arguments' row `i`. -/
def rowOf (c : Dev nD) (f : (g : (Mat 1 768).Idx → EReal) → (d x : Fin 768 → EReal) → Fin 768 → EReal) (i : Fin 2048) : Fin 768 → EReal :=
  f (m ((c : Thread nD τ).loc main_arg3)) (mulNT (m ((c : Thread nD τ).loc main_arg0)) (m ((c : Thread nD τ).loc main_arg1)) i) (first (m ((c : Thread nD τ).loc main_arg2)) i)

/-- A row function, of row `r` of 256 rows of the point's blocks. -/
theorem row_eq (c : Dev nD) (f : (g : (Mat 1 768).Idx → EReal) → (d x : Fin 768 → EReal) → Fin 768 → EReal) (t : Fin cfg0.N) (o : Nat) (ho : o ≤ 256)
    (inb : ∀ a, (![o, 0] : Fin 2 → Nat) a + (![256, 1024] : Fin 2 → Nat) a ≤ S512x1024.size a)
    (inb' : ∀ a, (![o, 0] : Fin 2 → Nat) a + (![256, 768] : Fin 2 → Nat) a ≤ S512x768.size a) (r : Fin 256) (i : Fin 2048) (hi : i.val = t.val * 512 + o + r.val) :
    f (iblk m c 3 t) (mulNT (N := 768) (K := 1024) (M := 256) (View.ld (Val := Elt Ideal) (e' := .bf16) (iblk m c 0 t) (Rect.unit (s := S512x1024) ![o, 0] ![256, 1024] inb)) (iblk m c 1 t) r) (fun k => ((View.ld (Val := Elt Ideal) (e' := .f32) (X0_2 m c t) (Rect.unit (s := S512x768) ![o, 0] ![256, 768] inb')) : S256x768.Idx → EReal) (ix2 r k))
      = rowOf m c f i := by
  unfold rowOf
  have hr : o + r.val < 512 := by omega
  have hv : i.val = t.val * 512 + (⟨o + r.val, hr⟩ : Fin 512).val := by show i.val = t.val * 512 + (o + r.val); omega
  rw [whole1 m c t, whole3 m c t]
  refine congr (congrArg _ (funext fun j => mulNT_congr (fun k => ?_) (fun _ => rfl))) (funext fun k => ?_)
  · exact (ld_row (e := .bf16) (iblk m c 0 t) o inb r ⟨_, hr⟩ rfl k).trans (entry0 m c t _ k i k hv (by omega))
  · exact (ld_row (e := .f32) (X0_2 m c t) o inb' r ⟨_, hr⟩ rfl k).trans (entry2 m c t _ k i ⟨k.val, by omega⟩ hv (by show k.val = 0 * 768 + k.val; omega))

/-- What point `t` leaves in its block. -/
theorem out4_apply (c : Dev nD) (t : Fin cfg0.N) (i : Fin 512) (j : Fin 768) (i' : Fin 2048) (hi : i'.val = t.val * 512 + i.val) :
    ((outsAt0 m c t.val t.isLt).1 : S512x768.Idx → EReal) (ix2 i j) = rowOf m c dres i' j := by
  have ht : t.val < 4 := t.isLt
  have hb : t.val * 512 + i.val < 2048 := by omega
  obtain rfl : i' = ⟨t.val * 512 + i.val, hb⟩ := Fin.ext hi
  by_cases h0 : t.val % 4 = 0
  · rw [outsAt0_A m c t h0]
    frame_out
    refine canon_two (e := .bf16) (fun i j => rowOf m c dres ⟨t.val * 512 + i.val, by omega⟩ j) _ _ (fun r j => ?_) (fun r j => ?_) i j
    · exact (pay7_apply _ _ _ _ r j).trans (congrFun (row_eq m c dres t 0 (by omega) _ _ r _ rfl) j)
    · exact (congrFun (pay13_eq _ _ _ _) _).trans ((pay7_apply _ _ _ _ r j).trans (congrFun (row_eq m c dres t 256 (by omega) _ _ r _ (by show t.val * 512 + (256 + r.val) = _; omega)) j))
  · rw [outsAt0_B m c t h0]
    frame_out
    refine canon_two (e := .bf16) (fun i j => rowOf m c dres ⟨t.val * 512 + i.val, by omega⟩ j) _ _ (fun r j => ?_) (fun r j => ?_) i j
    · exact (pay7_apply _ _ _ _ r j).trans (congrFun (row_eq m c dres t 0 (by omega) _ _ r _ rfl) j)
    · exact (congrFun (pay13_eq _ _ _ _) _).trans ((pay7_apply _ _ _ _ r j).trans (congrFun (row_eq m c dres t 256 (by omega) _ _ r _ (by show t.val * 512 + (256 + r.val) = _; omega)) j))

theorem final4 (c : Dev nD) (i : Fin 2048) (j : Fin 768) : ((dats m 0 c).arrAt 4 cfg0.N : S2048x768.Idx → EReal) (ix2 i j) = rowOf m c dres i j := by
  have ht : i.val / 512 < cfg0.N := by show _ < 4; omega
  refine Eq.trans (congrArg _ (eq_of_val _ i j ?_ ?_).symm) ((congrFun ((Value.blocks4 m c ⟨_, ht⟩ (flush0_4 _)).trans (Value.flushed4 m c ⟨_, ht⟩))
    (ix2 ⟨i.val % 512, Nat.mod_lt _ (by omega)⟩ j)).trans (out4_apply m c ⟨_, ht⟩ _ j i (by show i.val = i.val / 512 * 512 + i.val % 512; omega)))
  · show win0_4.index ⟨_, ht⟩ 0 * 512 + 1 * (i.val % 512) = i.val
    rw [(at4 _).1]; show i.val / 512 * 512 + _ = _; omega
  · show win0_4.index ⟨_, ht⟩ 1 * 768 + 1 * j.val = j.val
    rw [(at4 _).2]; omega

/-- The sum the points gather. -/
theorem sum5 (c : Dev nD) (t : Fin cfg0.N) (ht : t.val + 1 = cfg0.N) (j : Fin 768) :
    ((outsAt0 m c t.val t.isLt).2 : S1x768.Idx → EReal) (ix2 0 j) = ∑ i, rowOf m c dgain i j := by
  rw [Pipeline.eq_sum_fin_of_reset_step_apply_last (fun n h (j : Fin 768) => ((outsAt0 m c n h).2 : S1x768.Idx → EReal) (ix2 0 j)) 4 (fun _ => 0)
    (fun t j => halves (fun i => rowOf m c dgain i j) t.val (point t)) ?_ ?_ (by decide) t ht j]
  · rw [zero_add]
    exact halves_sum cfg0.N rfl _
  · intro t h0 j
    rw [outsAt0_A m c t h0]
    frame_out
    refine ((congrFun (pay1_eq _ _ _ _) _).trans (pay8_apply (View.ld (Val := Elt Ideal) (e' := .bf16) (iblk m c 0 t) (Rect.unit (s := S512x1024) ![256, 0] ![256, 1024] inb_S512x1024_S256x1024_256_0)) (iblk m c 1 t) (View.ld (Val := Elt Ideal) (e' := .f32) (X0_2 m c t) (Rect.unit (s := S512x768) ![256, 0] ![256, 768] inb_S512x768_S256x768_256_0)) (iblk m c 3 t) _ j)).trans ?_
    refine (congrArg₂ (· + ·) (pay8_apply (View.ld (Val := Elt Ideal) (e' := .bf16) (iblk m c 0 t) (Rect.unit (s := S512x1024) ![0, 0] ![256, 1024] inb_S512x1024_S256x1024_0_0)) (iblk m c 1 t) (View.ld (Val := Elt Ideal) (e' := .f32) (X0_2 m c t) (Rect.unit (s := S512x768) ![0, 0] ![256, 768] inb_S512x768_S256x768_0_0)) (iblk m c 3 t) _ j) rfl).trans ?_
    refine (add_assoc _ _ _).trans (congrArg₂ (· + ·) ?_ (congrArg₂ (· + ·) (Finset.sum_congr rfl fun r _ => ?_) (Finset.sum_congr rfl fun r _ => ?_)))
    · exact Ideal.ofBits_zero_f32
    · exact congrFun (row_eq m c dgain t 0 (by omega) inb_S512x1024_S256x1024_0_0 _ r _ rfl) j
    · exact congrFun (row_eq m c dgain t 256 (by omega) inb_S512x1024_S256x1024_256_0 _ r _ rfl) j
  · intro t h0 j
    rw [outsAt0_B m c t h0]
    frame_out
    refine ((congrFun (pay1_eq _ _ _ _) _).trans (pay8_apply (View.ld (Val := Elt Ideal) (e' := .bf16) (iblk m c 0 t) (Rect.unit (s := S512x1024) ![256, 0] ![256, 1024] inb_S512x1024_S256x1024_256_0)) (iblk m c 1 t) (View.ld (Val := Elt Ideal) (e' := .f32) (X0_2 m c t) (Rect.unit (s := S512x768) ![256, 0] ![256, 768] inb_S512x768_S256x768_256_0)) (iblk m c 3 t) _ j)).trans ?_
    refine (congrArg₂ (· + ·) (pay8_apply (View.ld (Val := Elt Ideal) (e' := .bf16) (iblk m c 0 t) (Rect.unit (s := S512x1024) ![0, 0] ![256, 1024] inb_S512x1024_S256x1024_0_0)) (iblk m c 1 t) (View.ld (Val := Elt Ideal) (e' := .f32) (X0_2 m c t) (Rect.unit (s := S512x768) ![0, 0] ![256, 768] inb_S512x768_S256x768_0_0)) (iblk m c 3 t) _ j) rfl).trans ?_
    refine (add_assoc _ _ _).trans (congrArg₂ (· + ·) ?_ (congrArg₂ (· + ·) (Finset.sum_congr rfl fun r _ => ?_) (Finset.sum_congr rfl fun r _ => ?_)))
    · rfl
    · exact congrFun (row_eq m c dgain t 0 (by omega) inb_S512x1024_S256x1024_0_0 _ r _ rfl) j
    · exact congrFun (row_eq m c dgain t 256 (by omega) inb_S512x1024_S256x1024_256_0 _ r _ rfl) j

theorem final5 (c : Dev nD) (i : Fin 1) (j : Fin 768) : ((dats m 0 c).arrAt 5 cfg0.N : S1x768.Idx → EReal) (ix2 i j) = ∑ i, rowOf m c dgain i j := by
  have h3 : 3 < cfg0.N := by decide
  have hf : (cfg0.win 5).flush ⟨3, h3⟩ = true := (flush0_5 _).2 rfl
  have hd : ∀ t t' : Fin cfg0.N, (cfg0.win 5).flush t = true → (cfg0.win 5).flush t' = true → t ≠ t' → Disjoint ((cfg0.win 5).blk t).view.set ((cfg0.win 5).blk t').view.set := by
    intro t t' h h' hne
    have h4 : t.val < 4 := t.isLt
    have h4' : t'.val < 4 := t'.isLt
    exact absurd (Fin.ext (by have := (flush0_5 t).1 h; have := (flush0_5 t').1 h'; omega)) hne
  refine Eq.trans (congrArg _ (eq_of_val _ i j ?_ ?_).symm) ((congrFun (((dats m 0 c).read_blk_arrAt_eq_flushed 5 hd cfg0.N ⟨3, h3⟩ h3 hf).trans (Value.flushed5 m c ⟨3, h3⟩))
    (ix2 0 j)).trans (sum5 m c ⟨3, h3⟩ rfl j))
  · show win0_5.index ⟨3, h3⟩ 0 * 1 + 1 * 0 = i.val
    rw [(at5 _).1]; omega
  · show win0_5.index ⟨3, h3⟩ 1 * 768 + 1 * j.val = j.val
    rw [(at5 _).2]; omega

section Reference
open Cert.Reference26Ideal.Read
variable (x0 : S2048x1024.Idx → EReal) (x1 : S768x1024.Idx → EReal) (x2 : S2048x3200.Idx → EReal) (g : S1x768.Idx → EReal) (i : Fin 2048) (j : Fin 768)

theorem first_read : val_main_v0 (F := Ideal) x2 = fun q => first x2 (q 0) (q 1) := by
  refine Blocks.ext _ _ fun i j => ?_
  exact (val_main_v0_apply (F := Ideal) x2 (ix2 i j)).trans (congrArg x2 (eq_of_val (idx_main_v0 (ix2 i j)) i ⟨j.val, by omega⟩ rfl rfl))

theorem product_read : val_main_v19 (F := Ideal) x0 x1 = fun q => mulNT x0 x1 (q 0) (q 1) := by
  refine Blocks.ext _ _ fun i j => ?_
  simp only [val_main_v19, val_main_v18, val_main_v16, pointwise, zero_add]
  rfl

theorem gain_read (i : Fin 1) : val_main_v22 (F := Ideal) x0 x1 x2 (ix2 i j) = ∑ i, dgain g (mulNT x0 x1 i) (first x2 i) j := by
  simp only [val_main_v22, val_main_v21, val_main_v20, val_main_v8, val_main_v7, val_main_v6, val_main_v5, val_main_v4, val_main_v3, val_main_v2, val_main_v1, val_main_v13, val_main_v12, val_main_cst, val_main_cst_0, val_main_cst_1, val_main_cst_2, val_main_cst_3, val_main_cst_4, val_main_cst_5, val_main_cst_6, product_read, first_read, pointwise, zero_add]
  exact Finset.sum_congr rfl fun i _ => mul_comm _ _

theorem dres_read (h0 : Num x0) (h1 : Num x1) (h2 : Num x2) (hg : Num g) :
    val_main_v39 (F := Ideal) x0 x1 x2 g (ix2 i j) = dres g (mulNT x0 x1 i) (first x2 i) j := by
  have hx : Num (first x2 i) := num_comp h2 fun k : Fin 768 => ix2 i ⟨k.val, by omega⟩
  have hd := num_mul (mulNT_num h0 h1 i) (num_comp hg fun k : Fin 768 => ix2 0 k)
  unfold dres
  rw [← pullOf_eq word_768 (by norm_num) hx hd j]
  simp only [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, product_read, first_read, pointwise, zero_add, Fin.sum_univ_one]
  rfl
end Reference

theorem frame_reference : Cert.quiescent_Reference26Ideal := fun m g _ =>
  (θ_run Cert.Reference26Ideal.defs _ _).mono
    (fun r h => ⟨fun c => (h c).2.2, Idealize.ShloMosaic.sem_eq_zero_of_no_sems (by decide) r.2⟩)
    (Cert.Reference26Ideal.Value.run (F := Ideal) m g)

/-- What the precondition says of the arguments. -/
theorem numbers (m : (ℓ : Loc nD τ sig) → Buf (Elt Ideal) ℓ) (hp : Cert.Pre_Kernel26Ideal_finite26 m) (c : Dev nD) :
    Num (m ((c : Thread nD τ).loc main_arg0) : S2048x1024.Idx → EReal)
      ∧ Num (m ((c : Thread nD τ).loc main_arg1) : S768x1024.Idx → EReal)
      ∧ Num (m ((c : Thread nD τ).loc main_arg2) : S2048x3200.Idx → EReal)
      ∧ Num (m ((c : Thread nD τ).loc main_arg3) : S1x768.Idx → EReal) := by
  have h := congrFun (hp c) (Shape.Idx.first Cert.Pre_finite26.Gen.h_S_)
  dsimp only [Cert.Pre_finite26.fn, Cert.Pre_finite26.fn_part1] at h
  obtain ⟨h, h3⟩ := and_one h
  obtain ⟨h, h2⟩ := and_one h
  obtain ⟨h0, h1⟩ := and_one h
  exact ⟨num_of_all _ _ (fun _ => rfl) _ _ _ _ h0, num_of_all _ _ (fun _ => rfl) _ _ _ _ h1, num_of_all _ _ (fun _ => rfl) _ _ _ _ h2, num_of_all _ _ (fun _ => rfl) _ _ _ _ h3⟩

/-- From memories that agree on the arguments, which are numbers, the call and its reference leave the same results. -/
theorem algebraic : Cert.algebraic_Kernel26Ideal_Reference26Ideal_pre_finite26 := by
  intro m g m' g' hp hargs
  refine ⟨_, _, (θ_run _ _ _).mono (fun r h c => h c) (Cert.Kernel26Ideal.Value.run_blocks m g),
    (θ_run _ _ _).mono (fun r h c => ⟨(h c).1.trans ?_, (h c).2.1.trans ?_, (h c).2.2⟩) (Cert.Reference26Ideal.Value.run m' g')⟩
  · obtain ⟨h0, h1, h2, h3⟩ := numbers m hp c
    rw [Cert.Reference26Ideal.Read.val_main_v39_eq m' c, (hargs c).1, (hargs c).2.1, (hargs c).2.2.1, (hargs c).2.2.2]
    exact Blocks.ext _ _ fun i j => (dres_read _ _ _ _ i j h0 h1 h2 h3).trans (final4 m c i j).symm
  · obtain ⟨h0, h1, h2, h3⟩ := numbers m hp c
    rw [Cert.Reference26Ideal.Read.val_main_v22_eq, (hargs c).1, (hargs c).2.1, (hargs c).2.2.1]
    exact Blocks.ext _ _ fun i j => (gain_read _ _ _ (m ((c : Thread nD τ).loc main_arg3)) j i).trans (final5 m c i j).symm
end Cert.Proof.QueryDx

end
-- ==== Proof.LatentDx.lean ====
/- The gradient of the values' product, added to the keys' one, and of the norm of the latent rows in front of both. -/
module

public import proofs.«01_k».proof.Proof.Gen.Kernel27Ideal.Value
public import proofs.«01_k».proof.Proof.Gen.Reference27Ideal.Run
public import proofs.«01_k».proof.Proof.Gen.Reference27Ideal.Read
public import proofs.«01_k».proof.Proof.NormGrad
public import proofs.«01_k».proof.Defs
public import proofs.«01_k».proof.Proof.Gen.Pre_finite27
public import Idealize.ShloMosaic.Lib.Pipeline.ValueKit.Acc

@[expose] public section

set_option maxRecDepth 16384

noncomputable section

namespace Cert.Proof.LatentDx

open Cert.Kernel27Ideal Cert.Kernel27Ideal.Gen Idealize.ShloMosaic Idealize.ShloMosaic.TcCoe Idealize.SL.Sem
open Idealize.ShloMosaic.Pipeline (Dat)
open Cert.Proof.Blocks Cert.Proof.Numbers Cert.Proof.Norms Cert.Proof.NormGrad

/-! Blocks of 1024 rows, in four stripes of 256. -/

/-- A sum over the 1024 rows of point `t`, in four stripes. -/
def quarters {M : Type} [AddCommMonoid M] (g : Fin 2048 → M) (t : Nat) (ht : t < 2) : M :=
  ∑ r : Fin 256, g ⟨t * 1024 + 0 + r.val, by omega⟩ + ∑ r : Fin 256, g ⟨t * 1024 + 256 + r.val, by omega⟩
    + ∑ r : Fin 256, g ⟨t * 1024 + 512 + r.val, by omega⟩ + ∑ r : Fin 256, g ⟨t * 1024 + 768 + r.val, by omega⟩

theorem quarters_sum {M : Type} [AddCommMonoid M] (N : Nat) (hN : N = 2) (g : Fin 2048 → M) : ∑ t : Fin N, quarters g t.val (hN ▸ t.isLt) = ∑ i, g i := by
  subst hN
  rw [← Fin.sum_mul_add_fin 8 256 g (by norm_num), Fin.sum_univ_two, Fin.sum_univ_eight]
  unfold quarters
  simp only [← add_assoc]
  rfl

/-- A row of a stripe, from row `o` on. -/
theorem ld_stripe {C : Nat} {e : EltTy} (x : (Mat 1024 C).Idx → Elt Ideal e) (o : Nat)
    (inb : ∀ a, (![o, 0] : Fin 2 → Nat) a + (![256, C] : Fin 2 → Nat) a ≤ (Mat 1024 C).size a) (r : Fin 256) (i : Fin 1024) (hi : i.val = o + r.val) (k : Fin C) :
    (View.ld (Val := Elt Ideal) (e' := e) x (Rect.unit (s := Mat 1024 C) ![o, 0] ![256, C] inb) : (Mat 256 C).Idx → Elt Ideal e) (ix2 r k) = x (ix2 i k) :=
  congrArg x (eq_of_val _ _ _ (by show o + 1 * r.val = i.val; omega) (by show 0 + 1 * k.val = k.val; omega))

/-- A block stored stripe by stripe. -/
theorem canon_four {C : Nat} {e : EltTy} (G : Fin 1024 → Fin C → Elt Ideal e)
    {inb : ∀ o : Fin 4, ∀ a, (![o.val * 256, 0] : Fin 2 → Nat) a + (![256, C] : Fin 2 → Nat) a ≤ (Mat 1024 C).size a}
    (v : Fin 4 → (Mat 256 C).Idx → Elt Ideal e)
    (h : ∀ (o : Fin 4) (r : Fin 256) (j : Fin C), v o (ix2 r j) = G ⟨o.val * 256 + r.val, by omega⟩ j) (i : Fin 1024) (j : Fin C) :
    View.canon (Val := Elt Ideal) (s := Mat 1024 C) (e := e) [⟨Rect.unit (s := Mat 1024 C) ![768, 0] ![256, C] (inb 3), v 3⟩, ⟨Rect.unit (s := Mat 1024 C) ![512, 0] ![256, C] (inb 2), v 2⟩,
      ⟨Rect.unit (s := Mat 1024 C) ![256, 0] ![256, C] (inb 1), v 1⟩, ⟨Rect.unit (s := Mat 1024 C) ![0, 0] ![256, C] (inb 0), v 0⟩] (ix2 i j) = G i j := by
  have mem : ∀ o : Fin 4, (⟨Rect.unit (s := Mat 1024 C) ![o.val * 256, 0] ![256, C] (inb o), v o⟩ : View.Piece (Elt Ideal) (Mat 1024 C) e) ∈
      ([⟨Rect.unit (s := Mat 1024 C) ![768, 0] ![256, C] (inb 3), v 3⟩, ⟨Rect.unit (s := Mat 1024 C) ![512, 0] ![256, C] (inb 2), v 2⟩,
      ⟨Rect.unit (s := Mat 1024 C) ![256, 0] ![256, C] (inb 1), v 1⟩, ⟨Rect.unit (s := Mat 1024 C) ![0, 0] ![256, C] (inb 0), v 0⟩] : List (View.Piece (Elt Ideal) (Mat 1024 C) e)) := by
    intro o; fin_cases o
    · exact List.mem_cons_of_mem _ (List.mem_cons_of_mem _ (List.mem_cons_of_mem _ (List.mem_cons_self ..)))
    · exact List.mem_cons_of_mem _ (List.mem_cons_of_mem _ (List.mem_cons_self ..))
    · exact List.mem_cons_of_mem _ (List.mem_cons_self ..)
    · exact List.mem_cons_self ..
  refine View.canon_apply_of_pieces (Val := Elt Ideal) (e := e) (fun z : (Mat 1024 C).Idx => G (z 0) (z 1)) _ ?_ _ ?_
  · intro p hp
    have piece : ∀ (o : Fin 4) (y : (Mat 256 C).Idx), v o y = G ⟨o.val * 256 + 1 * (y 0).val, by have : (y 0).val < 256 := (y 0).isLt; omega⟩ ⟨0 + 1 * (y 1).val, by have : (y 1).val < C := (y 1).isLt; omega⟩ := fun o y =>
      (congrArg (v o) (ValueIdx.eq_ix2 (n0 := 256) (n1 := C) y)).trans ((h o (y 0) (y 1)).trans (congrArg₂ G (Fin.ext (congrArg (o.val * 256 + ·) (Nat.one_mul _).symm)) (Fin.ext (by show (y 1).val = 0 + 1 * (y 1).val; rw [Nat.one_mul, Nat.zero_add]))))
    simp only [List.mem_cons, List.not_mem_nil, or_false] at hp
    rcases hp with rfl | rfl | rfl | rfl
    · exact piece 3
    · exact piece 2
    · exact piece 1
    · exact piece 0
  · have hj := j.isLt
    have hi : i.val / 256 < 4 := by omega
    refine ⟨_, mem ⟨i.val / 256, hi⟩, (Rect.mem_set_unit (inb := inb ⟨i.val / 256, hi⟩)).2 fun a => ?_⟩
    fin_cases a
    · exact ⟨by show i.val / 256 * 256 ≤ i.val; omega, by show i.val < i.val / 256 * 256 + 256; omega⟩
    · exact ⟨Nat.zero_le _, by show j.val < 0 + C; omega⟩

/-! A row of the results, from the row `d` of the gradient of the normalised row and the row `x` of the norm's argument. -/

/-- The gradient of the row `x`. -/
def dres (g : (Mat 1 256).Idx → EReal) (d x : Fin 256 → EReal) (j : Fin 256) : EReal :=
  normBackOf 0x43800000#32 x (fun k => d k * g (ix2 0 k)) j

/-- The row's part of the gradient of the norm's gain. -/
def dgain (g : (Mat 1 256).Idx → EReal) (d x : Fin 256 → EReal) (j : Fin 256) : EReal := d j * (x j * rstdOf 0x43800000#32 x)

theorem word_256 : Ideal.ofBits FTy.f32 0x43800000#32 = ((256 : ℝ) : EReal) := by
  simp [Ideal.ofBits, Ideal.ieee]
  rw [← EReal.coe_mul]; norm_num

section Payloads
variable (a w : S256x512.Idx → EReal) (h x : S256x256.Idx → EReal) (g acc : S1x256.Idx → EReal) (i : Fin 256) (j : Fin 256)

/-- A row of the product's gradient and of the one it is added to. -/
def both {R : Nat} (a : (Mat R 512).Idx → EReal) (w : S256x512.Idx → EReal) (h : (Mat R 256).Idx → EReal) (i : Fin R) (j : Fin 256) : EReal :=
  mulNT a w i j + h (ix2 i j)

theorem pay4_eq : k0_pay4 (F := Ideal) a w h = fun q => both a w h (q 0) (q 1) := by
  refine Blocks.ext _ _ fun i j => ?_
  simp only [k0_pay4, pointwise, zero_add]
  rfl

theorem pay9_apply : k0_pay9 (F := Ideal) (k0_pay7 a w h x g) (ix2 i j) = dres g (both a w h i) (fun k => x (ix2 i k)) j := by
  simp only [k0_pay9, k0_pay7, k0_pay6, k0_pay5, pay4_eq, pointwise, zero_add]
  rfl

/-- The sum over 256 rows, added to what was there. -/
theorem pay10_apply : k0_pay10 (F := Ideal) (k0_pay8 a w h x) acc (ix2 0 j)
    = acc (ix2 0 j) + ∑ r : Fin 256, dgain g (both a w h r) (fun k => x (ix2 r k)) j := by
  simp only [k0_pay10, k0_pay8, k0_pay6, k0_pay5, pay4_eq, pointwise, zero_add]
  rfl

/-! The other three stripes run the same terms. -/

theorem pay16_eq : k0_pay16 (F := Ideal) (k0_pay14 a w h x g) = k0_pay9 (k0_pay7 a w h x g) := rfl
theorem pay22_eq : k0_pay22 (F := Ideal) (k0_pay19 x) (k0_pay21 a w h x g) = k0_pay9 (k0_pay7 a w h x g) := rfl
theorem pay1_eq : k0_pay1 (F := Ideal) (k0_pay25 x) (k0_pay26 x) (k0_pay27 a w h g) (k0_pay28 a w h x g) = k0_pay9 (k0_pay7 a w h x g) := rfl
theorem pay17_eq : k0_pay17 (F := Ideal) (k0_pay15 a w h x) acc = k0_pay10 (k0_pay8 a w h x) acc := rfl
theorem pay23_eq : k0_pay23 (F := Ideal) (k0_pay18 a w h) (k0_pay20 x) acc = k0_pay10 (k0_pay8 a w h x) acc := rfl
theorem pay2_eq : k0_pay2 (F := Ideal) (k0_pay24 a w h) (k0_pay26 x) acc = k0_pay10 (k0_pay8 a w h x) acc := rfl
end Payloads

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 3 := by decide +kernel
theorem at4 : ∀ t : Fin cfg0.N, win0_4.index t 0 = 0 ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = 0 ∧ win0_6.index t 1 = 0 := by decide +kernel

theorem point (t : Fin cfg0.N) : t.val < 2 := t.isLt

variable (m : (ℓ : Loc nD τ sig) → Buf (Elt Ideal) ℓ)

theorem entry0 (c : Dev nD) (t : Fin cfg0.N) (i : Fin 1024) (k : Fin 512) (i' : Fin 2048) (k' : Fin 512) (hi : i'.val = t.val * 1024 + i.val) (hk : k'.val = 0 * 512 + k.val) :
    (iblk m c 0 t : S1024x512.Idx → EReal) (ix2 i k) = (m ((c : Thread nD τ).loc main_arg0) : S2048x512.Idx → EReal) (ix2 i' k') := by
  rw [← V_main_arg0 m c]
  refine congrArg (V m c main_arg0) (eq_of_val _ _ _ ?_ ?_)
  · show win0_0.index t 0 * 1024 + 1 * i.val = i'.val
    rw [(at0 t).1, hi]; omega
  · show win0_0.index t 1 * 512 + 1 * k.val = k'.val
    rw [(at0 t).2, hk]; omega

theorem entry1 (c : Dev nD) (t : Fin cfg0.N) (i : Fin 256) (k : Fin 512) (i' : Fin 256) (k' : Fin 512) (hi : i'.val = 0 * 256 + i.val) (hk : k'.val = 0 * 512 + k.val) :
    (iblk m c 1 t : S256x512.Idx → EReal) (ix2 i k) = (m ((c : Thread nD τ).loc main_arg1) : S256x512.Idx → EReal) (ix2 i' k') := by
  rw [← V_main_arg1 m c]
  refine congrArg (V m c main_arg1) (eq_of_val _ _ _ ?_ ?_)
  · show win0_1.index t 0 * 256 + 1 * i.val = i'.val
    rw [(at1 t).1, hi]; omega
  · show win0_1.index t 1 * 512 + 1 * k.val = k'.val
    rw [(at1 t).2, hk]; omega

theorem entry2 (c : Dev nD) (t : Fin cfg0.N) (i : Fin 1024) (k : Fin 256) (i' : Fin 2048) (k' : Fin 256) (hi : i'.val = t.val * 1024 + i.val) (hk : k'.val = 0 * 256 + k.val) :
    (iblk m c 2 t : S1024x256.Idx → EReal) (ix2 i k) = (m ((c : Thread nD τ).loc main_arg2) : S2048x256.Idx → EReal) (ix2 i' k') := by
  rw [← V_main_arg2 m c]
  refine congrArg (V m c main_arg2) (eq_of_val _ _ _ ?_ ?_)
  · show win0_2.index t 0 * 1024 + 1 * i.val = i'.val
    rw [(at2 t).1, hi]; omega
  · show win0_2.index t 1 * 256 + 1 * k.val = k'.val
    rw [(at2 t).2, hk]; omega

theorem entry3 (c : Dev nD) (t : Fin cfg0.N) (i : Fin 1024) (k : Fin 256) (i' : Fin 2048) (k' : Fin 3200) (hi : i'.val = t.val * 1024 + i.val) (hk : k'.val = 3 * 256 + k.val) :
    (X0_3 m c t : S1024x256.Idx → EReal) (ix2 i k) = (m ((c : Thread nD τ).loc main_arg3) : S2048x3200.Idx → EReal) (ix2 i' k') := by
  rw [← V_main_arg3 m c]
  unfold X0_3 Pipeline.Window.fill
  rw [dif_pos (moved0_3 t _)]
  refine congrArg (V m c main_arg3) (eq_of_val _ _ _ ?_ ?_)
  · show win0_3.index t 0 * 1024 + 1 * i.val = i'.val
    rw [(at3 t).1, hi]; omega
  · show win0_3.index t 1 * 256 + 1 * k.val = k'.val
    rw [(at3 t).2, hk]; omega

theorem entry4 (c : Dev nD) (t : Fin cfg0.N) (i : Fin 1) (k : Fin 256) (i' : Fin 1) (k' : Fin 256) (hi : i'.val = 0 * 1 + i.val) (hk : k'.val = 0 * 256 + k.val) :
    (iblk m c 4 t : S1x256.Idx → EReal) (ix2 i k) = (m ((c : Thread nD τ).loc main_arg4) : S1x256.Idx → EReal) (ix2 i' k') := by
  rw [← V_main_arg4 m c]
  refine congrArg (V m c main_arg4) (eq_of_val _ _ _ ?_ ?_)
  · show win0_4.index t 0 * 1 + 1 * i.val = i'.val
    rw [(at4 t).1, hi]; omega
  · show win0_4.index t 1 * 256 + 1 * k.val = k'.val
    rw [(at4 t).2, hk]; omega

theorem whole1 (c : Dev nD) (t : Fin cfg0.N) : (iblk m c 1 t : S256x512.Idx → EReal) = m ((c : Thread nD τ).loc main_arg1) :=
  Blocks.ext _ _ fun a b => entry1 m c t a b a b (by omega) (by omega)

theorem whole4 (c : Dev nD) (t : Fin cfg0.N) : (iblk m c 4 t : S1x256.Idx → EReal) = m ((c : Thread nD τ).loc main_arg4) :=
  Blocks.ext _ _ fun a b => entry4 m c t a b a b (by omega) (by omega)

/-- The columns 768 to 1023 of a row. -/
def latent (y : S2048x3200.Idx → EReal) (i : Fin 2048) : Fin 256 → EReal := fun k => y (ix2 i ⟨768 + k.val, by omega⟩)

/-- A row function, of the arguments' row `i`. -/
def rowOf (c : Dev nD) (f : (g : (Mat 1 256).Idx → EReal) → (d x : Fin 256 → EReal) → Fin 256 → EReal) (i : Fin 2048) : Fin 256 → EReal :=
  f (m ((c : Thread nD τ).loc main_arg4)) (both (m ((c : Thread nD τ).loc main_arg0)) (m ((c : Thread nD τ).loc main_arg1)) (m ((c : Thread nD τ).loc main_arg2)) i) (latent (m ((c : Thread nD τ).loc main_arg3)) i)

/-- A row function, of row `r` of a stripe of the point's blocks. -/
theorem row_eq (c : Dev nD) (f : (g : (Mat 1 256).Idx → EReal) → (d x : Fin 256 → EReal) → Fin 256 → EReal) (t : Fin cfg0.N) (o : Nat) (ho : o ≤ 768)
    (inb : ∀ a, (![o, 0] : Fin 2 → Nat) a + (![256, 512] : Fin 2 → Nat) a ≤ S1024x512.size a)
    (inb' : ∀ a, (![o, 0] : Fin 2 → Nat) a + (![256, 256] : Fin 2 → Nat) a ≤ S1024x256.size a) (r : Fin 256) (i : Fin 2048) (hi : i.val = t.val * 1024 + o + r.val) :
    f (iblk m c 4 t) (both (R := 256) (View.ld (Val := Elt Ideal) (e' := .bf16) (iblk m c 0 t) (Rect.unit (s := S1024x512) ![o, 0] ![256, 512] inb)) (iblk m c 1 t) (View.ld (Val := Elt Ideal) (e' := .f32) (iblk m c 2 t) (Rect.unit (s := S1024x256) ![o, 0] ![256, 256] inb')) r) (fun k => ((View.ld (Val := Elt Ideal) (e' := .f32) (X0_3 m c t) (Rect.unit (s := S1024x256) ![o, 0] ![256, 256] inb')) : S256x256.Idx → EReal) (ix2 r k))
      = rowOf m c f i := by
  unfold rowOf both
  have hr : o + r.val < 1024 := by omega
  have hv : i.val = t.val * 1024 + (⟨o + r.val, hr⟩ : Fin 1024).val := by show i.val = t.val * 1024 + (o + r.val); omega
  rw [whole1 m c t, whole4 m c t]
  refine congr (congrArg _ (funext fun j => congrArg₂ (· + ·) (mulNT_congr (fun k => ?_) (fun _ => rfl)) ?_)) (funext fun k => ?_)
  · exact (ld_stripe (e := .bf16) (iblk m c 0 t) o inb r ⟨_, hr⟩ rfl k).trans (entry0 m c t _ k i k hv (by omega))
  · exact (ld_stripe (e := .f32) (iblk m c 2 t) o inb' r ⟨_, hr⟩ rfl j).trans (entry2 m c t _ j i j hv (by omega))
  · exact (ld_stripe (e := .f32) (X0_3 m c t) o inb' r ⟨_, hr⟩ rfl k).trans (entry3 m c t _ k i ⟨768 + k.val, by omega⟩ hv (by show 768 + k.val = 3 * 256 + k.val; omega))

/-- What point `t` leaves in its block. -/
theorem out5_apply (c : Dev nD) (t : Fin cfg0.N) (i : Fin 1024) (j : Fin 256) (i' : Fin 2048) (hi : i'.val = t.val * 1024 + i.val) :
    ((outsAt0 m c t.val t.isLt).1 : S1024x256.Idx → EReal) (ix2 i j) = rowOf m c dres i' j := by
  have ht : t.val < 2 := t.isLt
  have hb : t.val * 1024 + i.val < 2048 := by omega
  obtain rfl : i' = ⟨t.val * 1024 + i.val, hb⟩ := Fin.ext hi
  by_cases h0 : t.val % 2 = 0
  · rw [outsAt0_A m c t h0]
    frame_out
    rw [pay16_eq, pay22_eq, pay1_eq]
    refine canon_four (e := .bf16) (inb := fun o a => by fin_cases o <;> fin_cases a <;> decide) (fun i j => rowOf m c dres ⟨t.val * 1024 + i.val, by omega⟩ j)
      ![k0_pay9 (k0_pay7 (View.ld (Val := Elt Ideal) (e' := .bf16) (iblk m c 0 t) (Rect.unit (s := S1024x512) ![0, 0] ![256, 512] inb_S1024x512_S256x512_0_0)) (iblk m c 1 t) (View.ld (Val := Elt Ideal) (e' := .f32) (iblk m c 2 t) (Rect.unit (s := S1024x256) ![0, 0] ![256, 256] inb_S1024x256_S256x256_0_0)) (View.ld (Val := Elt Ideal) (e' := .f32) (X0_3 m c t) (Rect.unit (s := S1024x256) ![0, 0] ![256, 256] inb_S1024x256_S256x256_0_0)) (iblk m c 4 t)), k0_pay9 (k0_pay7 (View.ld (Val := Elt Ideal) (e' := .bf16) (iblk m c 0 t) (Rect.unit (s := S1024x512) ![256, 0] ![256, 512] inb_S1024x512_S256x512_256_0)) (iblk m c 1 t) (View.ld (Val := Elt Ideal) (e' := .f32) (iblk m c 2 t) (Rect.unit (s := S1024x256) ![256, 0] ![256, 256] inb_S1024x256_S256x256_256_0)) (View.ld (Val := Elt Ideal) (e' := .f32) (X0_3 m c t) (Rect.unit (s := S1024x256) ![256, 0] ![256, 256] inb_S1024x256_S256x256_256_0)) (iblk m c 4 t)), k0_pay9 (k0_pay7 (View.ld (Val := Elt Ideal) (e' := .bf16) (iblk m c 0 t) (Rect.unit (s := S1024x512) ![512, 0] ![256, 512] inb_S1024x512_S256x512_512_0)) (iblk m c 1 t) (View.ld (Val := Elt Ideal) (e' := .f32) (iblk m c 2 t) (Rect.unit (s := S1024x256) ![512, 0] ![256, 256] inb_S1024x256_S256x256_512_0)) (View.ld (Val := Elt Ideal) (e' := .f32) (X0_3 m c t) (Rect.unit (s := S1024x256) ![512, 0] ![256, 256] inb_S1024x256_S256x256_512_0)) (iblk m c 4 t)), k0_pay9 (k0_pay7 (View.ld (Val := Elt Ideal) (e' := .bf16) (iblk m c 0 t) (Rect.unit (s := S1024x512) ![768, 0] ![256, 512] inb_S1024x512_S256x512_768_0)) (iblk m c 1 t) (View.ld (Val := Elt Ideal) (e' := .f32) (iblk m c 2 t) (Rect.unit (s := S1024x256) ![768, 0] ![256, 256] inb_S1024x256_S256x256_768_0)) (View.ld (Val := Elt Ideal) (e' := .f32) (X0_3 m c t) (Rect.unit (s := S1024x256) ![768, 0] ![256, 256] inb_S1024x256_S256x256_768_0)) (iblk m c 4 t))] (fun o r j => ?_) i j
    fin_cases o
    · exact (pay9_apply _ _ _ _ _ r j).trans (congrFun (row_eq m c dres t 0 (by omega) _ _ r _ (by show t.val * 1024 + (0 * 256 + r.val) = _; omega)) j)
    · exact (pay9_apply _ _ _ _ _ r j).trans (congrFun (row_eq m c dres t 256 (by omega) _ _ r _ (by show t.val * 1024 + (1 * 256 + r.val) = _; omega)) j)
    · exact (pay9_apply _ _ _ _ _ r j).trans (congrFun (row_eq m c dres t 512 (by omega) _ _ r _ (by show t.val * 1024 + (2 * 256 + r.val) = _; omega)) j)
    · exact (pay9_apply _ _ _ _ _ r j).trans (congrFun (row_eq m c dres t 768 (by omega) _ _ r _ (by show t.val * 1024 + (3 * 256 + r.val) = _; omega)) j)
  · rw [outsAt0_B m c t h0]
    frame_out
    rw [pay16_eq, pay22_eq, pay1_eq]
    refine canon_four (e := .bf16) (inb := fun o a => by fin_cases o <;> fin_cases a <;> decide) (fun i j => rowOf m c dres ⟨t.val * 1024 + i.val, by omega⟩ j)
      ![k0_pay9 (k0_pay7 (View.ld (Val := Elt Ideal) (e' := .bf16) (iblk m c 0 t) (Rect.unit (s := S1024x512) ![0, 0] ![256, 512] inb_S1024x512_S256x512_0_0)) (iblk m c 1 t) (View.ld (Val := Elt Ideal) (e' := .f32) (iblk m c 2 t) (Rect.unit (s := S1024x256) ![0, 0] ![256, 256] inb_S1024x256_S256x256_0_0)) (View.ld (Val := Elt Ideal) (e' := .f32) (X0_3 m c t) (Rect.unit (s := S1024x256) ![0, 0] ![256, 256] inb_S1024x256_S256x256_0_0)) (iblk m c 4 t)), k0_pay9 (k0_pay7 (View.ld (Val := Elt Ideal) (e' := .bf16) (iblk m c 0 t) (Rect.unit (s := S1024x512) ![256, 0] ![256, 512] inb_S1024x512_S256x512_256_0)) (iblk m c 1 t) (View.ld (Val := Elt Ideal) (e' := .f32) (iblk m c 2 t) (Rect.unit (s := S1024x256) ![256, 0] ![256, 256] inb_S1024x256_S256x256_256_0)) (View.ld (Val := Elt Ideal) (e' := .f32) (X0_3 m c t) (Rect.unit (s := S1024x256) ![256, 0] ![256, 256] inb_S1024x256_S256x256_256_0)) (iblk m c 4 t)), k0_pay9 (k0_pay7 (View.ld (Val := Elt Ideal) (e' := .bf16) (iblk m c 0 t) (Rect.unit (s := S1024x512) ![512, 0] ![256, 512] inb_S1024x512_S256x512_512_0)) (iblk m c 1 t) (View.ld (Val := Elt Ideal) (e' := .f32) (iblk m c 2 t) (Rect.unit (s := S1024x256) ![512, 0] ![256, 256] inb_S1024x256_S256x256_512_0)) (View.ld (Val := Elt Ideal) (e' := .f32) (X0_3 m c t) (Rect.unit (s := S1024x256) ![512, 0] ![256, 256] inb_S1024x256_S256x256_512_0)) (iblk m c 4 t)), k0_pay9 (k0_pay7 (View.ld (Val := Elt Ideal) (e' := .bf16) (iblk m c 0 t) (Rect.unit (s := S1024x512) ![768, 0] ![256, 512] inb_S1024x512_S256x512_768_0)) (iblk m c 1 t) (View.ld (Val := Elt Ideal) (e' := .f32) (iblk m c 2 t) (Rect.unit (s := S1024x256) ![768, 0] ![256, 256] inb_S1024x256_S256x256_768_0)) (View.ld (Val := Elt Ideal) (e' := .f32) (X0_3 m c t) (Rect.unit (s := S1024x256) ![768, 0] ![256, 256] inb_S1024x256_S256x256_768_0)) (iblk m c 4 t))] (fun o r j => ?_) i j
    fin_cases o
    · exact (pay9_apply _ _ _ _ _ r j).trans (congrFun (row_eq m c dres t 0 (by omega) _ _ r _ (by show t.val * 1024 + (0 * 256 + r.val) = _; omega)) j)
    · exact (pay9_apply _ _ _ _ _ r j).trans (congrFun (row_eq m c dres t 256 (by omega) _ _ r _ (by show t.val * 1024 + (1 * 256 + r.val) = _; omega)) j)
    · exact (pay9_apply _ _ _ _ _ r j).trans (congrFun (row_eq m c dres t 512 (by omega) _ _ r _ (by show t.val * 1024 + (2 * 256 + r.val) = _; omega)) j)
    · exact (pay9_apply _ _ _ _ _ r j).trans (congrFun (row_eq m c dres t 768 (by omega) _ _ r _ (by show t.val * 1024 + (3 * 256 + r.val) = _; omega)) j)

theorem final5 (c : Dev nD) (i : Fin 2048) (j : Fin 256) : ((dats m 0 c).arrAt 5 cfg0.N : S2048x256.Idx → EReal) (ix2 i j) = rowOf m c dres i j := by
  have ht : i.val / 1024 < cfg0.N := by show _ < 2; omega
  refine Eq.trans (congrArg _ (eq_of_val _ i j ?_ ?_).symm) ((congrFun ((Value.blocks5 m c ⟨_, ht⟩ (flush0_5 _)).trans (Value.flushed5 m c ⟨_, ht⟩))
    (ix2 ⟨i.val % 1024, Nat.mod_lt _ (by omega)⟩ j)).trans (out5_apply m c ⟨_, ht⟩ _ j i (by show i.val = i.val / 1024 * 1024 + i.val % 1024; omega)))
  · show win0_5.index ⟨_, ht⟩ 0 * 1024 + 1 * (i.val % 1024) = i.val
    rw [(at5 _).1]; show i.val / 1024 * 1024 + _ = _; omega
  · show win0_5.index ⟨_, ht⟩ 1 * 256 + 1 * j.val = j.val
    rw [(at5 _).2]; omega

theorem stripes (z a b c d : EReal) : z + a + b + c + d = z + (a + b + c + d) := by simp only [add_assoc]

/-- The sum the points gather. -/
theorem sum6 (c : Dev nD) (t : Fin cfg0.N) (ht : t.val + 1 = cfg0.N) (j : Fin 256) :
    ((outsAt0 m c t.val t.isLt).2 : S1x256.Idx → EReal) (ix2 0 j) = ∑ i, rowOf m c dgain i j := by
  rw [Pipeline.eq_sum_fin_of_reset_step_apply_last (fun n h (j : Fin 256) => ((outsAt0 m c n h).2 : S1x256.Idx → EReal) (ix2 0 j)) 2 (fun _ => 0)
    (fun t j => quarters (fun i => rowOf m c dgain i j) t.val (point t)) ?_ ?_ (by decide) t ht j]
  · rw [zero_add]
    exact quarters_sum cfg0.N rfl _
  · intro t h0 j
    rw [outsAt0_A m c t h0]
    frame_out
    refine ((congrFun (pay2_eq _ _ _ _ _) _).trans (pay10_apply (View.ld (Val := Elt Ideal) (e' := .bf16) (iblk m c 0 t) (Rect.unit (s := S1024x512) ![768, 0] ![256, 512] inb_S1024x512_S256x512_768_0)) (iblk m c 1 t) (View.ld (Val := Elt Ideal) (e' := .f32) (iblk m c 2 t) (Rect.unit (s := S1024x256) ![768, 0] ![256, 256] inb_S1024x256_S256x256_768_0)) (View.ld (Val := Elt Ideal) (e' := .f32) (X0_3 m c t) (Rect.unit (s := S1024x256) ![768, 0] ![256, 256] inb_S1024x256_S256x256_768_0)) (iblk m c 4 t) _ j)).trans ?_
    refine (congrArg₂ (· + ·) ((congrFun (pay23_eq _ _ _ _ _) _).trans (pay10_apply (View.ld (Val := Elt Ideal) (e' := .bf16) (iblk m c 0 t) (Rect.unit (s := S1024x512) ![512, 0] ![256, 512] inb_S1024x512_S256x512_512_0)) (iblk m c 1 t) (View.ld (Val := Elt Ideal) (e' := .f32) (iblk m c 2 t) (Rect.unit (s := S1024x256) ![512, 0] ![256, 256] inb_S1024x256_S256x256_512_0)) (View.ld (Val := Elt Ideal) (e' := .f32) (X0_3 m c t) (Rect.unit (s := S1024x256) ![512, 0] ![256, 256] inb_S1024x256_S256x256_512_0)) (iblk m c 4 t) _ j)) rfl).trans ?_
    refine (congrArg₂ (· + ·) (congrArg₂ (· + ·) ((congrFun (pay17_eq _ _ _ _ _) _).trans (pay10_apply (View.ld (Val := Elt Ideal) (e' := .bf16) (iblk m c 0 t) (Rect.unit (s := S1024x512) ![256, 0] ![256, 512] inb_S1024x512_S256x512_256_0)) (iblk m c 1 t) (View.ld (Val := Elt Ideal) (e' := .f32) (iblk m c 2 t) (Rect.unit (s := S1024x256) ![256, 0] ![256, 256] inb_S1024x256_S256x256_256_0)) (View.ld (Val := Elt Ideal) (e' := .f32) (X0_3 m c t) (Rect.unit (s := S1024x256) ![256, 0] ![256, 256] inb_S1024x256_S256x256_256_0)) (iblk m c 4 t) _ j)) rfl) rfl).trans ?_
    refine (congrArg₂ (· + ·) (congrArg₂ (· + ·) (congrArg₂ (· + ·) (pay10_apply (View.ld (Val := Elt Ideal) (e' := .bf16) (iblk m c 0 t) (Rect.unit (s := S1024x512) ![0, 0] ![256, 512] inb_S1024x512_S256x512_0_0)) (iblk m c 1 t) (View.ld (Val := Elt Ideal) (e' := .f32) (iblk m c 2 t) (Rect.unit (s := S1024x256) ![0, 0] ![256, 256] inb_S1024x256_S256x256_0_0)) (View.ld (Val := Elt Ideal) (e' := .f32) (X0_3 m c t) (Rect.unit (s := S1024x256) ![0, 0] ![256, 256] inb_S1024x256_S256x256_0_0)) (iblk m c 4 t) _ j) rfl) rfl) rfl).trans ?_
    refine (congrArg₂ (· + ·) (congrArg₂ (· + ·) (congrArg₂ (· + ·) (congrArg₂ (· + ·) ?_ (Finset.sum_congr rfl fun r _ => congrFun (row_eq m c dgain t 0 (by omega) inb_S1024x512_S256x512_0_0 _ r _ rfl) j))
      (Finset.sum_congr rfl fun r _ => congrFun (row_eq m c dgain t 256 (by omega) inb_S1024x512_S256x512_256_0 _ r _ rfl) j))
      (Finset.sum_congr rfl fun r _ => congrFun (row_eq m c dgain t 512 (by omega) inb_S1024x512_S256x512_512_0 _ r _ rfl) j))
      (Finset.sum_congr rfl fun r _ => congrFun (row_eq m c dgain t 768 (by omega) inb_S1024x512_S256x512_768_0 _ r _ rfl) j)).trans (stripes _ _ _ _ _)
    exact Ideal.ofBits_zero_f32
  · intro t h0 j
    rw [outsAt0_B m c t h0]
    frame_out
    refine ((congrFun (pay2_eq _ _ _ _ _) _).trans (pay10_apply (View.ld (Val := Elt Ideal) (e' := .bf16) (iblk m c 0 t) (Rect.unit (s := S1024x512) ![768, 0] ![256, 512] inb_S1024x512_S256x512_768_0)) (iblk m c 1 t) (View.ld (Val := Elt Ideal) (e' := .f32) (iblk m c 2 t) (Rect.unit (s := S1024x256) ![768, 0] ![256, 256] inb_S1024x256_S256x256_768_0)) (View.ld (Val := Elt Ideal) (e' := .f32) (X0_3 m c t) (Rect.unit (s := S1024x256) ![768, 0] ![256, 256] inb_S1024x256_S256x256_768_0)) (iblk m c 4 t) _ j)).trans ?_
    refine (congrArg₂ (· + ·) ((congrFun (pay23_eq _ _ _ _ _) _).trans (pay10_apply (View.ld (Val := Elt Ideal) (e' := .bf16) (iblk m c 0 t) (Rect.unit (s := S1024x512) ![512, 0] ![256, 512] inb_S1024x512_S256x512_512_0)) (iblk m c 1 t) (View.ld (Val := Elt Ideal) (e' := .f32) (iblk m c 2 t) (Rect.unit (s := S1024x256) ![512, 0] ![256, 256] inb_S1024x256_S256x256_512_0)) (View.ld (Val := Elt Ideal) (e' := .f32) (X0_3 m c t) (Rect.unit (s := S1024x256) ![512, 0] ![256, 256] inb_S1024x256_S256x256_512_0)) (iblk m c 4 t) _ j)) rfl).trans ?_
    refine (congrArg₂ (· + ·) (congrArg₂ (· + ·) ((congrFun (pay17_eq _ _ _ _ _) _).trans (pay10_apply (View.ld (Val := Elt Ideal) (e' := .bf16) (iblk m c 0 t) (Rect.unit (s := S1024x512) ![256, 0] ![256, 512] inb_S1024x512_S256x512_256_0)) (iblk m c 1 t) (View.ld (Val := Elt Ideal) (e' := .f32) (iblk m c 2 t) (Rect.unit (s := S1024x256) ![256, 0] ![256, 256] inb_S1024x256_S256x256_256_0)) (View.ld (Val := Elt Ideal) (e' := .f32) (X0_3 m c t) (Rect.unit (s := S1024x256) ![256, 0] ![256, 256] inb_S1024x256_S256x256_256_0)) (iblk m c 4 t) _ j)) rfl) rfl).trans ?_
    refine (congrArg₂ (· + ·) (congrArg₂ (· + ·) (congrArg₂ (· + ·) (pay10_apply (View.ld (Val := Elt Ideal) (e' := .bf16) (iblk m c 0 t) (Rect.unit (s := S1024x512) ![0, 0] ![256, 512] inb_S1024x512_S256x512_0_0)) (iblk m c 1 t) (View.ld (Val := Elt Ideal) (e' := .f32) (iblk m c 2 t) (Rect.unit (s := S1024x256) ![0, 0] ![256, 256] inb_S1024x256_S256x256_0_0)) (View.ld (Val := Elt Ideal) (e' := .f32) (X0_3 m c t) (Rect.unit (s := S1024x256) ![0, 0] ![256, 256] inb_S1024x256_S256x256_0_0)) (iblk m c 4 t) _ j) rfl) rfl) rfl).trans ?_
    refine (congrArg₂ (· + ·) (congrArg₂ (· + ·) (congrArg₂ (· + ·) (congrArg₂ (· + ·) ?_ (Finset.sum_congr rfl fun r _ => congrFun (row_eq m c dgain t 0 (by omega) inb_S1024x512_S256x512_0_0 _ r _ rfl) j))
      (Finset.sum_congr rfl fun r _ => congrFun (row_eq m c dgain t 256 (by omega) inb_S1024x512_S256x512_256_0 _ r _ rfl) j))
      (Finset.sum_congr rfl fun r _ => congrFun (row_eq m c dgain t 512 (by omega) inb_S1024x512_S256x512_512_0 _ r _ rfl) j))
      (Finset.sum_congr rfl fun r _ => congrFun (row_eq m c dgain t 768 (by omega) inb_S1024x512_S256x512_768_0 _ r _ rfl) j)).trans (stripes _ _ _ _ _)
    rfl

theorem final6 (c : Dev nD) (i : Fin 1) (j : Fin 256) : ((dats m 0 c).arrAt 6 cfg0.N : S1x256.Idx → EReal) (ix2 i j) = ∑ i, rowOf m c dgain i j := by
  have h3 : 1 < cfg0.N := by decide
  have hf : (cfg0.win 6).flush ⟨1, h3⟩ = true := (flush0_6 _).2 rfl
  have hd : ∀ t t' : Fin cfg0.N, (cfg0.win 6).flush t = true → (cfg0.win 6).flush t' = true → t ≠ t' → Disjoint ((cfg0.win 6).blk t).view.set ((cfg0.win 6).blk t').view.set := by
    intro t t' h h' hne
    have h4 : t.val < 2 := t.isLt
    have h4' : t'.val < 2 := t'.isLt
    exact absurd (Fin.ext (by have := (flush0_6 t).1 h; have := (flush0_6 t').1 h'; omega)) hne
  refine Eq.trans (congrArg _ (eq_of_val _ i j ?_ ?_).symm) ((congrFun (((dats m 0 c).read_blk_arrAt_eq_flushed 6 hd cfg0.N ⟨1, h3⟩ h3 hf).trans (Value.flushed6 m c ⟨1, h3⟩))
    (ix2 0 j)).trans (sum6 m c ⟨1, h3⟩ rfl j))
  · show win0_6.index ⟨1, h3⟩ 0 * 1 + 1 * 0 = i.val
    rw [(at6 _).1]; omega
  · show win0_6.index ⟨1, h3⟩ 1 * 256 + 1 * j.val = j.val
    rw [(at6 _).2]; omega

section Reference
open Cert.Reference27Ideal.Read
variable (x0 : S2048x512.Idx → EReal) (x1 : S256x512.Idx → EReal) (x2 : S2048x256.Idx → EReal) (x3 : S2048x3200.Idx → EReal) (g : S1x256.Idx → EReal) (i : Fin 2048) (j : Fin 256)

theorem latent_read : val_main_v0 (F := Ideal) x3 = fun q => latent x3 (q 0) (q 1) := by
  refine Blocks.ext _ _ fun i j => ?_
  exact (val_main_v0_apply (F := Ideal) x3 (ix2 i j)).trans (congrArg x3 (eq_of_val (idx_main_v0 (ix2 i j)) i ⟨768 + j.val, by omega⟩ rfl (by first | rfl | exact Nat.add_comm _ _)))

theorem product_read : val_main_v20 (F := Ideal) x0 x1 x2 = fun q => both x0 x1 x2 (q 0) (q 1) := by
  refine Blocks.ext _ _ fun i j => ?_
  simp only [val_main_v20, val_main_v19, val_main_v18, val_main_v16, pointwise, zero_add]
  exact add_comm _ _

theorem gain_read (i : Fin 1) : val_main_v23 (F := Ideal) x0 x1 x2 x3 (ix2 i j) = ∑ i, dgain g (both x0 x1 x2 i) (latent x3 i) j := by
  simp only [val_main_v23, val_main_v22, val_main_v21, val_main_v8, val_main_v7, val_main_v6, val_main_v5, val_main_v4, val_main_v3, val_main_v2, val_main_v1, val_main_v13, val_main_v12, val_main_cst, val_main_cst_0, val_main_cst_1, val_main_cst_2, val_main_cst_3, val_main_cst_4, val_main_cst_5, val_main_cst_6, product_read, latent_read, pointwise, zero_add]
  exact Finset.sum_congr rfl fun i _ => mul_comm _ _

theorem dres_read (h0 : Num x0) (h1 : Num x1) (h2 : Num x2) (h3 : Num x3) (hg : Num g) :
    val_main_v40 (F := Ideal) x0 x1 x2 x3 g (ix2 i j) = dres g (both x0 x1 x2 i) (latent x3 i) j := by
  have hx : Num (latent x3 i) := num_comp h3 fun k : Fin 256 => ix2 i ⟨768 + k.val, by omega⟩
  have hb : Num (both x0 x1 x2 i) := num_add (mulNT_num h0 h1 i) (num_comp h2 fun k : Fin 256 => ix2 i k)
  have hd := num_mul hb (num_comp hg fun k : Fin 256 => ix2 0 k)
  unfold dres
  rw [← pullOf_eq word_256 (by norm_num) hx hd j]
  simp only [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, product_read, latent_read, pointwise, zero_add, Fin.sum_univ_one]
  rfl
end Reference

theorem frame_reference : Cert.quiescent_Reference27Ideal := fun m g _ =>
  (θ_run Cert.Reference27Ideal.defs _ _).mono
    (fun r h => ⟨fun c => (h c).2.2, Idealize.ShloMosaic.sem_eq_zero_of_no_sems (by decide) r.2⟩)
    (Cert.Reference27Ideal.Value.run (F := Ideal) m g)

/-- What the precondition says of the arguments. -/
theorem numbers (m : (ℓ : Loc nD τ sig) → Buf (Elt Ideal) ℓ) (hp : Cert.Pre_Kernel27Ideal_finite27 m) (c : Dev nD) :
    Num (m ((c : Thread nD τ).loc main_arg0) : S2048x512.Idx → EReal)
      ∧ Num (m ((c : Thread nD τ).loc main_arg1) : S256x512.Idx → EReal)
      ∧ Num (m ((c : Thread nD τ).loc main_arg2) : S2048x256.Idx → EReal)
      ∧ Num (m ((c : Thread nD τ).loc main_arg3) : S2048x3200.Idx → EReal)
      ∧ Num (m ((c : Thread nD τ).loc main_arg4) : S1x256.Idx → EReal) := by
  have h := congrFun (hp c) (Shape.Idx.first Cert.Pre_finite27.Gen.h_S_)
  dsimp only [Cert.Pre_finite27.fn, Cert.Pre_finite27.fn_part1] at h
  obtain ⟨h, h4⟩ := and_one h
  obtain ⟨h, h3⟩ := and_one h
  obtain ⟨h, h2⟩ := and_one h
  obtain ⟨h0, h1⟩ := and_one h
  exact ⟨num_of_all _ _ (fun _ => rfl) _ _ _ _ h0, num_of_all _ _ (fun _ => rfl) _ _ _ _ h1, num_of_all _ _ (fun _ => rfl) _ _ _ _ h2, num_of_all _ _ (fun _ => rfl) _ _ _ _ h3, num_of_all _ _ (fun _ => rfl) _ _ _ _ h4⟩

/-- From memories that agree on the arguments, which are numbers, the call and its reference leave the same results. -/
theorem algebraic : Cert.algebraic_Kernel27Ideal_Reference27Ideal_pre_finite27 := by
  intro m g m' g' hp hargs
  refine ⟨_, _, (θ_run _ _ _).mono (fun r h c => h c) (Cert.Kernel27Ideal.Value.run_blocks m g),
    (θ_run _ _ _).mono (fun r h c => ⟨(h c).1.trans ?_, (h c).2.1.trans ?_, (h c).2.2⟩) (Cert.Reference27Ideal.Value.run m' g')⟩
  · obtain ⟨h0, h1, h2, h3, h4⟩ := numbers m hp c
    rw [Cert.Reference27Ideal.Read.val_main_v40_eq m' c, (hargs c).1, (hargs c).2.1, (hargs c).2.2.1, (hargs c).2.2.2.1, (hargs c).2.2.2.2]
    exact Blocks.ext _ _ fun i j => (dres_read _ _ _ _ _ i j h0 h1 h2 h3 h4).trans (final5 m c i j).symm
  · obtain ⟨h0, h1, h2, h3, h4⟩ := numbers m hp c
    rw [Cert.Reference27Ideal.Read.val_main_v23_eq, (hargs c).1, (hargs c).2.1, (hargs c).2.2.1, (hargs c).2.2.2.1]
    exact Blocks.ext _ _ fun i j => (gain_read _ _ _ _ (m ((c : Thread nD τ).loc main_arg4)) j i).trans (final6 m c i j).symm
end Cert.Proof.LatentDx

end
-- ==== Proof.AdaWeight.lean ====
/- The update of the modulation's weight: its gradient, a sum of eight outer products, and the AdamW step. -/
module

public import proofs.«01_k».proof.Proof.Gen.Kernel28Ideal.Value
public import proofs.«01_k».proof.Proof.Gen.Reference28Ideal.Run
public import proofs.«01_k».proof.Proof.Gen.Reference28Ideal.Read
public import proofs.«01_k».proof.Proof.Blocks
public import proofs.«01_k».proof.Defs

@[expose] public section

set_option maxRecDepth 16384

noncomputable section

namespace Cert.Proof.AdaWeight

open Cert.Kernel28Ideal Cert.Kernel28Ideal.Gen Idealize.ShloMosaic Idealize.ShloMosaic.TcCoe Idealize.SL.Sem
open Idealize.ShloMosaic.Pipeline (Dat)
open Cert.Proof.Blocks

/-! The step on one entry, with its constants as they are printed. -/

def grad {R C : Nat} (s : (Mat R 8).Idx → EReal) (d : (Mat 8 C).Idx → EReal) (i : Fin R) (j : Fin C) : EReal :=
  ∑ b : Fin 8, s (ix2 i b) * d (ix2 b j)

theorem grad_congr {R C R' C' : Nat} {s : (Mat R 8).Idx → EReal} {d : (Mat 8 C).Idx → EReal} {s' : (Mat R' 8).Idx → EReal} {d' : (Mat 8 C').Idx → EReal}
    {i : Fin R} {j : Fin C} {i' : Fin R'} {j' : Fin C'} (hs : ∀ b, s (ix2 i b) = s' (ix2 i' b)) (hd : ∀ b, d (ix2 b j) = d' (ix2 b j')) :
    grad s d i j = grad s' d' i' j' :=
  Finset.sum_congr rfl fun b _ => congrArg₂ (· * ·) (hs b) (hd b)

def first (m g : EReal) : EReal := Ideal.ofBits FTy.f32 0x3F666666#32 * m + Ideal.ofBits FTy.f32 0x3DCCCCCD#32 * g

def second (v g : EReal) : EReal := Ideal.ofBits FTy.f32 0x3F7FBE77#32 * v + Ideal.ofBits FTy.f32 0x3A83126F#32 * (g * g)

def change (w m v : EReal) : EReal :=
  Ideal.ofBits FTy.f32 0xBA83126F#32
    * (Ideal.div (Ideal.div m (Ideal.ofBits FTy.f32 0x3F26BD02#32))
        (Ideal.sqrt (Ideal.div v (Ideal.ofBits FTy.f32 0x3C231ACC#32)) + Ideal.ofBits FTy.f32 0x322BCC77#32)
      + Ideal.ofBits FTy.f32 0x3C23D70A#32 * w)

theorem shift (n : Nat) : 0 + 1 * n = n := by omega

section Block
variable (w m v : S256x768.Idx → EReal) (s : S256x8.Idx → EReal) (d : S8x768.Idx → EReal)

/-- The payload of the gradient: the eight products, one after another. -/
theorem grad_apply (i : Fin 256) (j : Fin 768) :
    k0_pay3 (F := Ideal) (k0_pay7 w m v s d) (View.ld s r0_12) (View.ld d r0_13) (View.ld s r0_14) (View.ld d r0_15) (ix2 i j) = grad s d i j := by
  unfold grad
  rw [Fin.sum_univ_eight]
  simp only [k0_pay3, k0_pay7, k0_pay2, pointwise]
  exact congrArg₂ (· + ·) (congrArg₂ (· + ·) (congrArg₂ (· + ·) (congrArg₂ (· + ·) (congrArg₂ (· + ·) (congrArg₂ (· + ·) (congrArg₂ (· + ·) (congrArg₂ (· * ·) (congrArg s (eq_of_val _ _ _ (shift i.val) rfl)) (congrArg d (eq_of_val _ _ _ rfl (shift j.val))))
    (congrArg₂ (· * ·) (congrArg s (eq_of_val _ _ _ (shift i.val) rfl)) (congrArg d (eq_of_val _ _ _ rfl (shift j.val)))))
    (congrArg₂ (· * ·) (congrArg s (eq_of_val _ _ _ (shift i.val) rfl)) (congrArg d (eq_of_val _ _ _ rfl (shift j.val)))))
    (congrArg₂ (· * ·) (congrArg s (eq_of_val _ _ _ (shift i.val) rfl)) (congrArg d (eq_of_val _ _ _ rfl (shift j.val)))))
    (congrArg₂ (· * ·) (congrArg s (eq_of_val _ _ _ (shift i.val) rfl)) (congrArg d (eq_of_val _ _ _ rfl (shift j.val)))))
    (congrArg₂ (· * ·) (congrArg s (eq_of_val _ _ _ (shift i.val) rfl)) (congrArg d (eq_of_val _ _ _ rfl (shift j.val)))))
    (congrArg₂ (· * ·) (congrArg s (eq_of_val _ _ _ (shift i.val) rfl)) (congrArg d (eq_of_val _ _ _ rfl (shift j.val)))))
    (congrArg₂ (· * ·) (congrArg s (eq_of_val _ _ _ (shift i.val) rfl)) (congrArg d (eq_of_val _ _ _ rfl (shift j.val))))

theorem first_apply (i : Fin 256) (j : Fin 768) :
    k0_pay4 (F := Ideal) (k0_pay7 w m v s d) (View.ld s r0_12) (View.ld d r0_13) (View.ld s r0_14) (View.ld d r0_15) (View.ld (Val := Elt Ideal) (e' := .f32) m r0_16) (ix2 i j) = first (m (ix2 i j)) (grad s d i j) := by
  simp only [k0_pay4, pointwise, grad_apply, View.ld_unit_zero (Val := Elt Ideal) (e := .f32) hz _ m]
  rfl

theorem second_apply (i : Fin 256) (j : Fin 768) :
    k0_pay5 (F := Ideal) (k0_pay7 w m v s d) (View.ld s r0_12) (View.ld d r0_13) (View.ld s r0_14) (View.ld d r0_15) (View.ld (Val := Elt Ideal) (e' := .f32) v r0_16) (ix2 i j) = second (v (ix2 i j)) (grad s d i j) := by
  simp only [k0_pay5, pointwise, grad_apply, View.ld_unit_zero (Val := Elt Ideal) (e := .f32) hz _ v]
  rfl

theorem change_apply (i : Fin 256) (j : Fin 768) :
    k0_pay1 (F := Ideal) (View.ld (Val := Elt Ideal) (e' := .f32) w r0_16) (k0_pay6 (k0_pay7 w m v s d) (View.ld s r0_12) (View.ld d r0_13) (View.ld s r0_14) (View.ld d r0_15) (View.ld (Val := Elt Ideal) (e' := .f32) m r0_16)
      (View.ld (Val := Elt Ideal) (e' := .f32) v r0_16)) (Scalar.ofBits .f32 0x3C23D70A#32) (ix2 i j)
      = change (w (ix2 i j)) (first (m (ix2 i j)) (grad s d i j)) (second (v (ix2 i j)) (grad s d i j)) := by
  simp only [k0_pay1, k0_pay6, pointwise, first_apply, second_apply, View.ld_unit_zero (Val := Elt Ideal) (e := .f32) hz _ w]
  rfl

/-- A block stored whole is read as it was stored. -/
theorem whole (p : S256x768.Idx → EReal) (i : Fin 256) (j : Fin 768) :
    View.canon (Val := Elt Ideal) (e := .f32) [(⟨r0_16, p⟩ : View.Piece (Elt Ideal) S256x768 .f32)] (ix2 i j) = p (ix2 i j) := by
  refine View.canon_apply_of_pieces (Val := Elt Ideal) (e := .f32) p _ ?_ _ (cover0_5 _ _)
  intro q hq y
  rcases List.mem_singleton.1 hq with rfl
  refine (congrArg p (ValueIdx.eq_ix2 (n0 := 256) (n1 := 768) y)).trans (congrArg p (eq_of_val _ _ _ ?_ ?_)).symm
  · show 0 + 1 * (y 0).val = (y 0).val; omega
  · show 0 + 1 * (y 1).val = (y 1).val; omega

theorem out5_apply (i : Fin 256) (j : Fin 768) : out0_5 (F := Ideal) w m v s d (ix2 i j) = grad s d i j :=
  (whole _ i j).trans (grad_apply w m v s d i j)

theorem out6_apply (i : Fin 256) (j : Fin 768) : out0_6 (F := Ideal) w m v s d (ix2 i j) = change (w (ix2 i j)) (first (m (ix2 i j)) (grad s d i j)) (second (v (ix2 i j)) (grad s d i j)) :=
  (whole _ i j).trans (change_apply w m v s d i j)

theorem out7_apply (i : Fin 256) (j : Fin 768) : out0_7 (F := Ideal) w m v s d (ix2 i j) = first (m (ix2 i j)) (grad s d i j) :=
  (whole _ i j).trans (first_apply w m v s d i j)

theorem out8_apply (i : Fin 256) (j : Fin 768) : out0_8 (F := Ideal) w m v s d (ix2 i j) = second (v (ix2 i j)) (grad s d i j) :=
  (whole _ i j).trans (second_apply w m v s d i j)

end Block

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = t.val ∧ win0_8.index t 1 = 0 := by decide +kernel
theorem at4 : ∀ t : Fin cfg0.N, win0_4.index t 0 = 0 ∧ win0_4.index t 1 = 0 := by decide +kernel

variable (m : (ℓ : Loc nD τ sig) → Buf (Elt Ideal) ℓ)

theorem entry0 (c : Dev nD) (t : Fin cfg0.N) (i : Fin 256) (k : Fin 768) (i' : Fin 1024) (k' : Fin 768) (hi : i'.val = t.val * 256 + i.val) (hk : k'.val = 0 * 768 + k.val) :
    (iblk m c 0 t : S256x768.Idx → EReal) (ix2 i k) = (m ((c : Thread nD τ).loc main_arg0) : S1024x768.Idx → EReal) (ix2 i' k') := by
  rw [← V_main_arg0 m c]
  refine congrArg (V m c main_arg0) (eq_of_val _ _ _ ?_ ?_)
  · show win0_0.index t 0 * 256 + 1 * i.val = i'.val
    rw [(at0 t).1, hi]; omega
  · show win0_0.index t 1 * 768 + 1 * k.val = k'.val
    rw [(at0 t).2, hk]; omega

theorem entry1 (c : Dev nD) (t : Fin cfg0.N) (i : Fin 256) (k : Fin 768) (i' : Fin 1024) (k' : Fin 768) (hi : i'.val = t.val * 256 + i.val) (hk : k'.val = 0 * 768 + k.val) :
    (iblk m c 1 t : S256x768.Idx → EReal) (ix2 i k) = (m ((c : Thread nD τ).loc main_arg1) : S1024x768.Idx → EReal) (ix2 i' k') := by
  rw [← V_main_arg1 m c]
  refine congrArg (V m c main_arg1) (eq_of_val _ _ _ ?_ ?_)
  · show win0_1.index t 0 * 256 + 1 * i.val = i'.val
    rw [(at1 t).1, hi]; omega
  · show win0_1.index t 1 * 768 + 1 * k.val = k'.val
    rw [(at1 t).2, hk]; omega

theorem entry2 (c : Dev nD) (t : Fin cfg0.N) (i : Fin 256) (k : Fin 768) (i' : Fin 1024) (k' : Fin 768) (hi : i'.val = t.val * 256 + i.val) (hk : k'.val = 0 * 768 + k.val) :
    (iblk m c 2 t : S256x768.Idx → EReal) (ix2 i k) = (m ((c : Thread nD τ).loc main_arg2) : S1024x768.Idx → EReal) (ix2 i' k') := by
  rw [← V_main_arg2 m c]
  refine congrArg (V m c main_arg2) (eq_of_val _ _ _ ?_ ?_)
  · show win0_2.index t 0 * 256 + 1 * i.val = i'.val
    rw [(at2 t).1, hi]; omega
  · show win0_2.index t 1 * 768 + 1 * k.val = k'.val
    rw [(at2 t).2, hk]; omega

theorem entry3 (c : Dev nD) (t : Fin cfg0.N) (i : Fin 256) (k : Fin 8) (i' : Fin 1024) (k' : Fin 8) (hi : i'.val = t.val * 256 + i.val) (hk : k'.val = 0 * 8 + k.val) :
    (iblk m c 3 t : S256x8.Idx → EReal) (ix2 i k) = (m ((c : Thread nD τ).loc main_arg3) : S1024x8.Idx → EReal) (ix2 i' k') := by
  rw [← V_main_arg3 m c]
  refine congrArg (V m c main_arg3) (eq_of_val _ _ _ ?_ ?_)
  · show win0_3.index t 0 * 256 + 1 * i.val = i'.val
    rw [(at3 t).1, hi]; omega
  · show win0_3.index t 1 * 8 + 1 * k.val = k'.val
    rw [(at3 t).2, hk]; omega

theorem entry4 (c : Dev nD) (t : Fin cfg0.N) (i : Fin 8) (k : Fin 768) (i' : Fin 8) (k' : Fin 768) (hi : i'.val = 0 * 8 + i.val) (hk : k'.val = 0 * 768 + k.val) :
    (iblk m c 4 t : S8x768.Idx → EReal) (ix2 i k) = (m ((c : Thread nD τ).loc main_arg4) : S8x768.Idx → EReal) (ix2 i' k') := by
  rw [← V_main_arg4 m c]
  refine congrArg (V m c main_arg4) (eq_of_val _ _ _ ?_ ?_)
  · show win0_4.index t 0 * 8 + 1 * i.val = i'.val
    rw [(at4 t).1, hi]; omega
  · show win0_4.index t 1 * 768 + 1 * k.val = k'.val
    rw [(at4 t).2, hk]; omega

/-- A block's gradient is that of the rows it stands at. -/
theorem grad_block (c : Dev nD) (t : Fin cfg0.N) (i : Fin 256) (j : Fin 768) (i' : Fin 1024) (hi : i'.val = t.val * 256 + i.val) :
    grad (iblk m c 3 t : S256x8.Idx → EReal) (iblk m c 4 t : S8x768.Idx → EReal) i j = grad (m ((c : Thread nD τ).loc main_arg3) : S1024x8.Idx → EReal) (m ((c : Thread nD τ).loc main_arg4) : S8x768.Idx → EReal) i' j :=
  grad_congr (fun b => entry3 m c t i b i' b hi (by omega)) (fun b => entry4 m c t b j b j (by omega) (by omega))

theorem final5 (c : Dev nD) (i : Fin 1024) (j : Fin 768) : ((dats m 0 c).arrAt 5 cfg0.N : S1024x768.Idx → EReal) (ix2 i j)
    = grad (m ((c : Thread nD τ).loc main_arg3) : S1024x8.Idx → EReal) (m ((c : Thread nD τ).loc main_arg4) : S8x768.Idx → EReal) i j := by
  have ht : i.val / 256 < cfg0.N := by show _ < 4; omega
  have hi : i.val = (⟨i.val / 256, ht⟩ : Fin cfg0.N).val * 256 + (⟨i.val % 256, Nat.mod_lt _ (by omega)⟩ : Fin 256).val := by
    show i.val = i.val / 256 * 256 + i.val % 256; omega
  have hj : j.val = 0 * 768 + j.val := by omega
  refine Eq.trans (congrArg _ (eq_of_val _ i j ?_ ?_).symm) ((congrFun ((Value.blocks5 m c ⟨_, ht⟩ (flush0_5 _)).trans (Value.flushed5 m c ⟨_, ht⟩))
    (ix2 ⟨i.val % 256, Nat.mod_lt _ (by omega)⟩ j)).trans ((out5_apply _ _ _ _ _ _ j).trans (grad_block m c _ _ j i hi)))
  · show win0_5.index ⟨_, ht⟩ 0 * 256 + 1 * (i.val % 256) = i.val
    rw [(at5 _).1]; show i.val / 256 * 256 + _ = _; omega
  · show win0_5.index ⟨_, ht⟩ 1 * 768 + 1 * j.val = j.val
    rw [(at5 _).2]; omega

theorem final6 (c : Dev nD) (i : Fin 1024) (j : Fin 768) : ((dats m 0 c).arrAt 6 cfg0.N : S1024x768.Idx → EReal) (ix2 i j)
    = change ((m ((c : Thread nD τ).loc main_arg0) : S1024x768.Idx → EReal) (ix2 i j)) (first ((m ((c : Thread nD τ).loc main_arg1) : S1024x768.Idx → EReal) (ix2 i j)) (grad (m ((c : Thread nD τ).loc main_arg3) : S1024x8.Idx → EReal) (m ((c : Thread nD τ).loc main_arg4) : S8x768.Idx → EReal) i j)) (second ((m ((c : Thread nD τ).loc main_arg2) : S1024x768.Idx → EReal) (ix2 i j)) (grad (m ((c : Thread nD τ).loc main_arg3) : S1024x8.Idx → EReal) (m ((c : Thread nD τ).loc main_arg4) : S8x768.Idx → EReal) i j)) := by
  have ht : i.val / 256 < cfg0.N := by show _ < 4; omega
  have hi : i.val = (⟨i.val / 256, ht⟩ : Fin cfg0.N).val * 256 + (⟨i.val % 256, Nat.mod_lt _ (by omega)⟩ : Fin 256).val := by
    show i.val = i.val / 256 * 256 + i.val % 256; omega
  have hj : j.val = 0 * 768 + j.val := by omega
  refine Eq.trans (congrArg _ (eq_of_val _ i j ?_ ?_).symm) ((congrFun ((Value.blocks6 m c ⟨_, ht⟩ (flush0_6 _)).trans (Value.flushed6 m c ⟨_, ht⟩))
    (ix2 ⟨i.val % 256, Nat.mod_lt _ (by omega)⟩ j)).trans ((out6_apply _ _ _ _ _ _ j).trans (by rw [entry0 m c _ _ j i j hi hj, entry1 m c _ _ j i j hi hj, entry2 m c _ _ j i j hi hj, grad_block m c _ _ j i hi])))
  · show win0_6.index ⟨_, ht⟩ 0 * 256 + 1 * (i.val % 256) = i.val
    rw [(at6 _).1]; show i.val / 256 * 256 + _ = _; omega
  · show win0_6.index ⟨_, ht⟩ 1 * 768 + 1 * j.val = j.val
    rw [(at6 _).2]; omega

theorem final7 (c : Dev nD) (i : Fin 1024) (j : Fin 768) : ((dats m 0 c).arrAt 7 cfg0.N : S1024x768.Idx → EReal) (ix2 i j)
    = first ((m ((c : Thread nD τ).loc main_arg1) : S1024x768.Idx → EReal) (ix2 i j)) (grad (m ((c : Thread nD τ).loc main_arg3) : S1024x8.Idx → EReal) (m ((c : Thread nD τ).loc main_arg4) : S8x768.Idx → EReal) i j) := by
  have ht : i.val / 256 < cfg0.N := by show _ < 4; omega
  have hi : i.val = (⟨i.val / 256, ht⟩ : Fin cfg0.N).val * 256 + (⟨i.val % 256, Nat.mod_lt _ (by omega)⟩ : Fin 256).val := by
    show i.val = i.val / 256 * 256 + i.val % 256; omega
  have hj : j.val = 0 * 768 + j.val := by omega
  refine Eq.trans (congrArg _ (eq_of_val _ i j ?_ ?_).symm) ((congrFun ((Value.blocks7 m c ⟨_, ht⟩ (flush0_7 _)).trans (Value.flushed7 m c ⟨_, ht⟩))
    (ix2 ⟨i.val % 256, Nat.mod_lt _ (by omega)⟩ j)).trans ((out7_apply _ _ _ _ _ _ j).trans (congrArg₂ first (entry1 m c _ _ j i j hi hj) (grad_block m c _ _ j i hi))))
  · show win0_7.index ⟨_, ht⟩ 0 * 256 + 1 * (i.val % 256) = i.val
    rw [(at7 _).1]; show i.val / 256 * 256 + _ = _; omega
  · show win0_7.index ⟨_, ht⟩ 1 * 768 + 1 * j.val = j.val
    rw [(at7 _).2]; omega

theorem final8 (c : Dev nD) (i : Fin 1024) (j : Fin 768) : ((dats m 0 c).arrAt 8 cfg0.N : S1024x768.Idx → EReal) (ix2 i j)
    = second ((m ((c : Thread nD τ).loc main_arg2) : S1024x768.Idx → EReal) (ix2 i j)) (grad (m ((c : Thread nD τ).loc main_arg3) : S1024x8.Idx → EReal) (m ((c : Thread nD τ).loc main_arg4) : S8x768.Idx → EReal) i j) := by
  have ht : i.val / 256 < cfg0.N := by show _ < 4; omega
  have hi : i.val = (⟨i.val / 256, ht⟩ : Fin cfg0.N).val * 256 + (⟨i.val % 256, Nat.mod_lt _ (by omega)⟩ : Fin 256).val := by
    show i.val = i.val / 256 * 256 + i.val % 256; omega
  have hj : j.val = 0 * 768 + j.val := by omega
  refine Eq.trans (congrArg _ (eq_of_val _ i j ?_ ?_).symm) ((congrFun ((Value.blocks8 m c ⟨_, ht⟩ (flush0_8 _)).trans (Value.flushed8 m c ⟨_, ht⟩))
    (ix2 ⟨i.val % 256, Nat.mod_lt _ (by omega)⟩ j)).trans ((out8_apply _ _ _ _ _ _ j).trans (congrArg₂ second (entry2 m c _ _ j i j hi hj) (grad_block m c _ _ j i hi))))
  · show win0_8.index ⟨_, ht⟩ 0 * 256 + 1 * (i.val % 256) = i.val
    rw [(at8 _).1]; show i.val / 256 * 256 + _ = _; omega
  · show win0_8.index ⟨_, ht⟩ 1 * 768 + 1 * j.val = j.val
    rw [(at8 _).2]; omega

section Reference
open Cert.Reference28Ideal.Read

variable (w x v : S1024x768.Idx → EReal) (s : S1024x8.Idx → EReal) (d : S8x768.Idx → EReal)

/-- The reference's gradient is a product, transposed. -/
theorem grad_read (i : Fin 1024) (j : Fin 768) : val_main_v3 (F := Ideal) s d (ix2 i j) = grad s d i j := by
  rw [val_main_v3_apply, val_main_v2_apply]
  refine Finset.sum_congr rfl fun b _ => ?_
  rw [val_main_v0_apply, mul_comm]
  exact congrArg₂ (· * ·) (congrArg s (eq_of_val _ _ _ rfl rfl)) (congrArg d (eq_of_val _ _ _ rfl rfl))

theorem first_read (i : Fin 1024) (j : Fin 768) : val_main_v8 (F := Ideal) x s d (ix2 i j) = first (x (ix2 i j)) (grad s d i j) := by
  rw [← grad_read s d]
  simp only [val_main_v8_apply, val_main_v7_apply, val_main_v6_apply, val_main_v5_apply, val_main_v4_apply]
  rfl

theorem second_read (i : Fin 1024) (j : Fin 768) : val_main_v14 (F := Ideal) v s d (ix2 i j) = second (v (ix2 i j)) (grad s d i j) := by
  rw [← grad_read s d]
  simp only [val_main_v14_apply, val_main_v13_apply, val_main_v12_apply, val_main_v11_apply, val_main_v10_apply, val_main_v9_apply]
  rfl

theorem change_read (i : Fin 1024) (j : Fin 768) : val_main_v27 (F := Ideal) w x v s d (ix2 i j)
    = change (w (ix2 i j)) (first (x (ix2 i j)) (grad s d i j)) (second (v (ix2 i j)) (grad s d i j)) := by
  rw [← first_read x s d, ← second_read v s d]
  simp only [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply]
  rfl

end Reference

theorem frame_reference : Cert.quiescent_Reference28Ideal := fun m g _ =>
  (θ_run Cert.Reference28Ideal.defs _ _).mono
    (fun r h => ⟨fun c => (h c).2.2.2.2, Idealize.ShloMosaic.sem_eq_zero_of_no_sems (by decide) r.2⟩)
    (Cert.Reference28Ideal.Value.run (F := Ideal) m g)

/-- From memories that agree on the arguments the call and its reference leave the same results. -/
theorem algebraic : Cert.algebraic_Kernel28Ideal_Reference28Ideal := by
  intro m g m' g' _ hargs
  refine ⟨_, _, _, _, (θ_run _ _ _).mono (fun r h c => h c) (Cert.Kernel28Ideal.Value.run_blocks m g),
    (θ_run _ _ _).mono (fun r h c => ⟨(h c).1.trans ?_, (h c).2.1.trans ?_, (h c).2.2.1.trans ?_, (h c).2.2.2.1.trans ?_, (h c).2.2.2.2⟩)
      (Cert.Reference28Ideal.Value.run m' g')⟩
  · rw [Cert.Reference28Ideal.Read.val_main_v3_eq, (hargs c).2.2.2.1, (hargs c).2.2.2.2]
    exact Blocks.ext _ _ fun i j => (grad_read _ _ i j).trans (final5 m c i j).symm
  · rw [Cert.Reference28Ideal.Read.val_main_v27_eq, (hargs c).1, (hargs c).2.1, (hargs c).2.2.1, (hargs c).2.2.2.1, (hargs c).2.2.2.2]
    exact Blocks.ext _ _ fun i j => (change_read _ _ _ _ _ i j).trans (final6 m c i j).symm
  · rw [Cert.Reference28Ideal.Read.val_main_v8_eq, (hargs c).2.1, (hargs c).2.2.2.1, (hargs c).2.2.2.2]
    exact Blocks.ext _ _ fun i j => (first_read _ _ _ i j).trans (final7 m c i j).symm
  · rw [Cert.Reference28Ideal.Read.val_main_v14_eq, (hargs c).2.2.1, (hargs c).2.2.2.1, (hargs c).2.2.2.2]
    exact Blocks.ext _ _ fun i j => (second_read _ _ _ i j).trans (final8 m c i j).symm

end Cert.Proof.AdaWeight

end
-- ==== Proof.Modulation.lean ====
/- The modulation: silu of the condition, and its product with the columns of w_ada. -/
module

public import proofs.«01_k».proof.Proof.Gen.Kernel29Ideal.Value
public import proofs.«01_k».proof.Proof.Gen.Reference29Ideal.Run
public import proofs.«01_k».proof.Proof.Gen.Reference29Ideal.Read
public import proofs.«01_k».proof.Proof.Blocks
public import proofs.«01_k».proof.Proof.Numbers
public import proofs.«01_k».proof.Defs

@[expose] public section

set_option maxRecDepth 16384

noncomputable section

namespace Cert.Proof.Modulation

open Cert.Kernel29Ideal Cert.Kernel29Ideal.Gen Idealize.ShloMosaic Idealize.ShloMosaic.TcCoe Idealize.SL.Sem
open Cert.Proof.Blocks Cert.Proof.Numbers

/-- One entry of silu. -/
def silu (c : EReal) : EReal := c * gate c

variable (c : S8x1024.Idx → EReal) (w : S1024x768.Idx → EReal) (b : S1x768.Idx → EReal)

/-- What is stored of the condition. -/
theorem silu_apply (p : S8x1024.Idx) : k0_pay1 (F := Ideal) c p = silu (c p) := by
  simp only [k0_pay1, pointwise, zero_sub]
  rfl

/-- What is stored of the product. -/
theorem modulation_apply (i : Fin 8) (j : Fin 768) :
    k0_pay2 (F := Ideal) c w b (ix2 i j) = mulNN (fun p => silu (c p)) w i j + b (ix2 0 j) := by
  rw [← funext (silu_apply c)]
  simp only [k0_pay2, pointwise, zero_add]
  rfl

section Reference
open Cert.Reference29Ideal.Read

theorem silu_read (p : S8x1024.Idx) : val_main_v0 (F := Ideal) c p = silu (c p) := by
  rw [val_main_v0_apply, val_main_call0_v5_apply, val_main_call0_v4_apply, val_main_call0_v3_apply, val_main_call0_v2_apply, val_main_call0_v1_apply,
    val_main_call0_v0_apply]
  unfold silu gate
  rw [← Ideal.ofBits_one_f32]
  rfl

theorem modulation_read (i : Fin 8) (j : Fin 768) :
    val_main_v3 (F := Ideal) c w b (ix2 i j) = mulNN (fun p => silu (c p)) w i j + b (ix2 0 j) := by
  rw [← funext (silu_read c), val_main_v3_apply, val_main_v1_apply, val_main_v2_apply]
  refine congrArg₂ (· + ·) (Finset.sum_congr rfl fun k _ => ?_) (congrArg b (eq_of_val _ _ _ rfl rfl))
  exact congrArg₂ (· * ·) (congrArg _ (eq_of_val _ _ _ rfl rfl)) (congrArg w (eq_of_val _ _ _ rfl rfl))

end Reference

theorem frame_reference : Cert.quiescent_Reference29Ideal := fun m g _ =>
  (θ_run Cert.Reference29Ideal.defs _ _).mono
    (fun r h => ⟨fun c => (h c).2.2, Idealize.ShloMosaic.sem_eq_zero_of_no_sems (by decide) r.2⟩)
    (Cert.Reference29Ideal.Value.run (F := Ideal) m g)

/-- From memories that agree on the arguments the call and its reference leave the same results. -/
theorem algebraic : Cert.algebraic_Kernel29Ideal_Reference29Ideal := by
  intro m g m' g' _ hargs
  refine ⟨_, _, (θ_run _ _ _).mono (fun r h c => h c) (Cert.Kernel29Ideal.Value.run m g),
    (θ_run _ _ _).mono (fun r h c => ⟨(h c).1.trans ?_, (h c).2.1.trans ?_, (h c).2.2⟩) (Cert.Reference29Ideal.Value.run m' g')⟩
  · rw [Cert.Reference29Ideal.Read.val_main_v3_eq, (hargs c).1, (hargs c).2.1, (hargs c).2.2]
    exact Blocks.ext _ _ fun i j => (modulation_read _ _ _ i j).trans (modulation_apply _ _ _ i j).symm
  · rw [Cert.Reference29Ideal.Read.val_main_v0_eq, (hargs c).1]
    exact funext fun p => (silu_read _ p).trans (silu_apply _ p).symm

end Cert.Proof.Modulation

end
-- ==== Proof.lean ====
/- The proof of the certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Pre_finite26
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Pre_finite27
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.GatesClaim
public import proofs.«01_k».proof.Proof.FfnOutDx
public import proofs.«01_k».proof.Proof.FfnOutDw
public import proofs.«01_k».proof.Proof.FfnInDw
public import proofs.«01_k».proof.Proof.FfnInDx
public import proofs.«01_k».proof.Proof.FfnIn
public import proofs.«01_k».proof.Proof.InProjADw
public import proofs.«01_k».proof.Proof.InProjBDw
public import proofs.«01_k».proof.Proof.InProjADx
public import proofs.«01_k».proof.Proof.InProjBDx
public import proofs.«01_k».proof.Proof.InProjB
public import proofs.«01_k».proof.Proof.InProjA
public import proofs.«01_k».proof.Proof.FfnOut
public import proofs.«01_k».proof.Proof.OutProj
public import proofs.«01_k».proof.Proof.OutProjDx
public import proofs.«01_k».proof.Proof.OutProjDw
public import proofs.«01_k».proof.Proof.Proj
public import proofs.«01_k».proof.Proof.ProjMerge
public import proofs.«01_k».proof.Proof.ProjDx
public import proofs.«01_k».proof.Proof.ProjDw
public import proofs.«01_k».proof.Proof.QueryDw
public import proofs.«01_k».proof.Proof.KeyDw
public import proofs.«01_k».proof.Proof.ValueDw
public import proofs.«01_k».proof.Proof.ValueUp
public import proofs.«01_k».proof.Proof.KeyDx
public import proofs.«01_k».proof.Proof.QueryDx
public import proofs.«01_k».proof.Proof.LatentDx
public import proofs.«01_k».proof.Proof.AdaWeight
public import proofs.«01_k».proof.Proof.Modulation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts, Cert.Reference25Ideal.Gen.facts, Cert.Kernel26.Gen.facts,
  Cert.Kernel26Ideal.Gen.facts, Cert.Reference26Ideal.Gen.facts, Cert.Kernel27.Gen.facts, Cert.Kernel27Ideal.Gen.facts,
  Cert.Reference27Ideal.Gen.facts, Cert.Kernel28.Gen.facts, Cert.Kernel28Ideal.Gen.facts, Cert.Reference28Ideal.Gen.facts,
  Cert.Kernel29.Gen.facts, Cert.Kernel29Ideal.Gen.facts, Cert.Reference29Ideal.Gen.facts, Cert.Pre_finite2.Gen.facts,
  Cert.Pre_finite5.Gen.facts, Cert.Pre_finite10.Gen.facts, Cert.Pre_finite13.Gen.facts, Cert.Pre_finite26.Gen.facts,
  Cert.Pre_finite27.Gen.facts,
  fun m ρ _ => Cert.Kernel.Gen.frame m ρ,
  fun m ρ _ => Cert.KernelIdeal.Gen.frame m ρ,
  Gates.frame_reference,
  fun m ρ _ => Cert.Kernel2.Gen.frame m ρ,
  fun m ρ _ => Cert.Kernel2Ideal.Gen.frame m ρ,
  fun m ρ _ => Cert.Kernel2Ideal.Gen.frame m ρ,
  FfnOutDx.frame_reference,
  fun m g _ => FfnOutDx.frame_reference m g trivial,
  fun m ρ _ => Cert.Kernel3.Gen.frame m ρ,
  fun m ρ _ => Cert.Kernel3Ideal.Gen.frame m ρ,
  FfnOutDw.frame_reference,
  fun m ρ _ => Cert.Kernel4.Gen.frame m ρ,
  fun m ρ _ => Cert.Kernel4Ideal.Gen.frame m ρ,
  FfnInDw.frame_reference,
  fun m ρ _ => Cert.Kernel5.Gen.frame m ρ,
  fun m ρ _ => Cert.Kernel5Ideal.Gen.frame m ρ,
  fun m ρ _ => Cert.Kernel5Ideal.Gen.frame m ρ,
  FfnInDx.frame_reference,
  fun m g _ => FfnInDx.frame_reference m g trivial,
  fun m ρ _ => Cert.Kernel6.Gen.frame m ρ,
  fun m ρ _ => Cert.Kernel6Ideal.Gen.frame m ρ,
  FfnIn.frame_reference,
  fun m ρ _ => Cert.Kernel7.Gen.frame m ρ,
  fun m ρ _ => Cert.Kernel7Ideal.Gen.frame m ρ,
  InProjADw.frame_reference,
  fun m ρ _ => Cert.Kernel8.Gen.frame m ρ,
  fun m ρ _ => Cert.Kernel8Ideal.Gen.frame m ρ,
  InProjBDw.frame_reference,
  fun m ρ _ => Cert.Kernel9.Gen.frame m ρ,
  fun m ρ _ => Cert.Kernel9Ideal.Gen.frame m ρ,
  InProjADx.frame_reference,
  fun m ρ _ => Cert.Kernel10.Gen.frame m ρ,
  fun m ρ _ => Cert.Kernel10Ideal.Gen.frame m ρ,
  fun m ρ _ => Cert.Kernel10Ideal.Gen.frame m ρ,
  InProjBDx.frame_reference,
  fun m g _ => InProjBDx.frame_reference m g trivial,
  fun m ρ _ => Cert.Kernel11.Gen.frame m ρ,
  fun m ρ _ => Cert.Kernel11Ideal.Gen.frame m ρ,
  InProjB.frame_reference,
  fun m ρ _ => Cert.Kernel12.Gen.frame m ρ,
  fun m ρ _ => Cert.Kernel12Ideal.Gen.frame m ρ,
  InProjA.frame_reference,
  fun m ρ _ => Cert.Kernel13.Gen.frame m ρ,
  fun m ρ _ => Cert.Kernel13Ideal.Gen.frame m ρ,
  fun m ρ _ => Cert.Kernel13Ideal.Gen.frame m ρ,
  FfnOut.frame_reference,
  fun m g _ => FfnOut.frame_reference m g trivial,
  fun m ρ _ => Cert.Kernel14.Gen.frame m ρ,
  fun m ρ _ => Cert.Kernel14Ideal.Gen.frame m ρ,
  OutProj.frame_reference,
  fun m ρ _ => Cert.Kernel15.Gen.frame m ρ,
  fun m ρ _ => Cert.Kernel15Ideal.Gen.frame m ρ,
  OutProjDx.frame_reference,
  fun m ρ _ => Cert.Kernel16.Gen.frame m ρ,
  fun m ρ _ => Cert.Kernel16Ideal.Gen.frame m ρ,
  OutProjDw.frame_reference,
  fun m ρ _ => Cert.Kernel17.Gen.frame m ρ,
  fun m ρ _ => Cert.Kernel17Ideal.Gen.frame m ρ,
  Proj.frame_reference,
  fun m ρ _ => Cert.Kernel18.Gen.frame m ρ,
  fun m ρ _ => Cert.Kernel18Ideal.Gen.frame m ρ,
  ProjMerge.frame_reference,
  fun m ρ _ => Cert.Kernel19.Gen.frame m ρ,
  fun m ρ _ => Cert.Kernel19Ideal.Gen.frame m ρ,
  ProjDx.frame_reference,
  fun m ρ _ => Cert.Kernel20.Gen.frame m ρ,
  fun m ρ _ => Cert.Kernel20Ideal.Gen.frame m ρ,
  ProjDw.frame_reference,
  fun m ρ _ => Cert.Kernel21.Gen.frame m ρ,
  fun m ρ _ => Cert.Kernel21Ideal.Gen.frame m ρ,
  QueryDw.frame_reference,
  fun m ρ _ => Cert.Kernel22.Gen.frame m ρ,
  fun m ρ _ => Cert.Kernel22Ideal.Gen.frame m ρ,
  KeyDw.frame_reference,
  fun m ρ _ => Cert.Kernel23.Gen.frame m ρ,
  fun m ρ _ => Cert.Kernel23Ideal.Gen.frame m ρ,
  ValueDw.frame_reference,
  fun m ρ _ => Cert.Kernel24.Gen.frame m ρ,
  fun m ρ _ => Cert.Kernel24Ideal.Gen.frame m ρ,
  ValueUp.frame_reference,
  fun m ρ _ => Cert.Kernel25.Gen.frame m ρ,
  fun m ρ _ => Cert.Kernel25Ideal.Gen.frame m ρ,
  KeyDx.frame_reference,
  fun m ρ _ => Cert.Kernel26.Gen.frame m ρ,
  fun m ρ _ => Cert.Kernel26Ideal.Gen.frame m ρ,
  fun m ρ _ => Cert.Kernel26Ideal.Gen.frame m ρ,
  QueryDx.frame_reference,
  fun m g _ => QueryDx.frame_reference m g trivial,
  fun m ρ _ => Cert.Kernel27.Gen.frame m ρ,
  fun m ρ _ => Cert.Kernel27Ideal.Gen.frame m ρ,
  fun m ρ _ => Cert.Kernel27Ideal.Gen.frame m ρ,
  LatentDx.frame_reference,
  fun m g _ => LatentDx.frame_reference m g trivial,
  fun m ρ _ => Cert.Kernel28.Gen.frame m ρ,
  fun m ρ _ => Cert.Kernel28Ideal.Gen.frame m ρ,
  AdaWeight.frame_reference,
  fun m ρ _ => Cert.Kernel29.Gen.frame m ρ,
  fun m ρ _ => Cert.Kernel29Ideal.Gen.frame m ρ,
  Modulation.frame_reference,
  trivial,
  Gates.algebraic,
  trivial,
  FfnOutDx.algebraic,
  trivial,
  FfnOutDw.algebraic,
  trivial,
  FfnInDw.algebraic,
  trivial,
  FfnInDx.algebraic,
  trivial,
  FfnIn.algebraic,
  trivial,
  InProjADw.algebraic,
  trivial,
  InProjBDw.algebraic,
  trivial,
  InProjADx.algebraic,
  trivial,
  InProjBDx.algebraic,
  trivial,
  InProjB.algebraic,
  trivial,
  InProjA.algebraic,
  trivial,
  FfnOut.algebraic,
  trivial,
  OutProj.algebraic,
  trivial,
  OutProjDx.algebraic,
  trivial,
  OutProjDw.algebraic,
  trivial,
  Proj.algebraic,
  trivial,
  ProjMerge.algebraic,
  trivial,
  ProjDx.algebraic,
  trivial,
  ProjDw.algebraic,
  trivial,
  QueryDw.algebraic,
  trivial,
  KeyDw.algebraic,
  trivial,
  ValueDw.algebraic,
  trivial,
  ValueUp.algebraic,
  trivial,
  KeyDx.algebraic,
  trivial,
  QueryDx.algebraic,
  trivial,
  LatentDx.algebraic,
  trivial,
  AdaWeight.algebraic,
  trivial,
  Modulation.algebraic⟩

end Cert.Proof

end
